-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DnFfn (m : (ℓ : Loc Cert.DnFfn.nD Cert.DnFfn.τ Cert.DnFfn.sig) → Buf (Elt Bits) ℓ) : Prop :=
  True

def Pre_DnFfnIdeal (m : (ℓ : Loc Cert.DnFfnIdeal.nD Cert.DnFfnIdeal.τ Cert.DnFfnIdeal.sig) → Buf (Elt Ideal) ℓ) : Prop :=
  True

def Pre_DnFfnRefIdeal (m : (ℓ : Loc Cert.DnFfnRefIdeal.nD Cert.DnFfnRefIdeal.τ Cert.DnFfnRefIdeal.sig) → Buf (Elt Ideal) ℓ) : Prop :=
  True

def Pre_DnIn (m : (ℓ : Loc Cert.DnIn.nD Cert.DnIn.τ Cert.DnIn.sig) → Buf (Elt Bits) ℓ) : Prop :=
  True

def Pre_DnInIdeal (m : (ℓ : Loc Cert.DnInIdeal.nD Cert.DnInIdeal.τ Cert.DnInIdeal.sig) → Buf (Elt Ideal) ℓ) : Prop :=
  True

def Pre_DnInRefIdeal (m : (ℓ : Loc Cert.DnInRefIdeal.nD Cert.DnInRefIdeal.τ Cert.DnInRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetRefIdeal (m : (ℓ : Loc Cert.ForgetRefIdeal.nD Cert.ForgetRefIdeal.τ Cert.ForgetRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwPool (m : (ℓ : Loc Cert.DwPool.nD Cert.DwPool.τ Cert.DwPool.sig) → Buf (Elt Bits) ℓ) : Prop :=
  True

def Pre_DwPoolIdeal (m : (ℓ : Loc Cert.DwPoolIdeal.nD Cert.DwPoolIdeal.τ Cert.DwPoolIdeal.sig) → Buf (Elt Ideal) ℓ) : Prop :=
  True

def Pre_DwPoolRefIdeal (m : (ℓ : Loc Cert.DwPoolRefIdeal.nD Cert.DwPoolRefIdeal.τ Cert.DwPoolRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_SumLittle (m : (ℓ : Loc Cert.SumLittle.nD Cert.SumLittle.τ Cert.SumLittle.sig) → Buf (Elt Bits) ℓ) : Prop :=
  True

def Pre_SumLittleIdeal (m : (ℓ : Loc Cert.SumLittleIdeal.nD Cert.SumLittleIdeal.τ Cert.SumLittleIdeal.sig) → Buf (Elt Ideal) ℓ) : Prop :=
  True

def Pre_SumLittleRefIdeal (m : (ℓ : Loc Cert.SumLittleRefIdeal.nD Cert.SumLittleRefIdeal.τ Cert.SumLittleRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attn [hPre_finite_attn : Cert.Pre_finite_attn.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attn.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attn [hPre_finite_attn : Cert.Pre_finite_attn.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attn.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))) = (fun _ => 1#1)

def Pre_RmsEven (m : (ℓ : Loc Cert.RmsEven.nD Cert.RmsEven.τ Cert.RmsEven.sig) → Buf (Elt Bits) ℓ) : Prop :=
  True

def Pre_RmsEvenIdeal (m : (ℓ : Loc Cert.RmsEvenIdeal.nD Cert.RmsEvenIdeal.τ Cert.RmsEvenIdeal.sig) → Buf (Elt Ideal) ℓ) : Prop :=
  True

def Pre_RmsEvenRefIdeal (m : (ℓ : Loc Cert.RmsEvenRefIdeal.nD Cert.RmsEvenRefIdeal.τ Cert.RmsEvenRefIdeal.sig) → Buf (Elt Ideal) ℓ) : Prop :=
  True

def Pre_RmsFfn (m : (ℓ : Loc Cert.RmsFfn.nD Cert.RmsFfn.τ Cert.RmsFfn.sig) → Buf (Elt Bits) ℓ) : Prop :=
  True

def Pre_RmsFfnIdeal (m : (ℓ : Loc Cert.RmsFfnIdeal.nD Cert.RmsFfnIdeal.τ Cert.RmsFfnIdeal.sig) → Buf (Elt Ideal) ℓ) : Prop :=
  True

def Pre_RmsFfnRefIdeal (m : (ℓ : Loc Cert.RmsFfnRefIdeal.nD Cert.RmsFfnRefIdeal.τ Cert.RmsFfnRefIdeal.sig) → Buf (Elt Ideal) ℓ) : Prop :=
  True

def Pre_RmsOdd (m : (ℓ : Loc Cert.RmsOdd.nD Cert.RmsOdd.τ Cert.RmsOdd.sig) → Buf (Elt Bits) ℓ) : Prop :=
  True

def Pre_RmsOddIdeal (m : (ℓ : Loc Cert.RmsOddIdeal.nD Cert.RmsOddIdeal.τ Cert.RmsOddIdeal.sig) → Buf (Elt Ideal) ℓ) : Prop :=
  True

def Pre_RmsOddRefIdeal (m : (ℓ : Loc Cert.RmsOddRefIdeal.nD Cert.RmsOddRefIdeal.τ Cert.RmsOddRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_TCat (m : (ℓ : Loc Cert.TCat.nD Cert.TCat.τ Cert.TCat.sig) → Buf (Elt Bits) ℓ) : Prop :=
  True

def Pre_TCatIdeal (m : (ℓ : Loc Cert.TCatIdeal.nD Cert.TCatIdeal.τ Cert.TCatIdeal.sig) → Buf (Elt Ideal) ℓ) : Prop :=
  True

def Pre_TCatRefIdeal (m : (ℓ : Loc Cert.TCatRefIdeal.nD Cert.TCatRefIdeal.τ Cert.TCatRefIdeal.sig) → Buf (Elt Ideal) ℓ) : Prop :=
  True

def Pre_TDf (m : (ℓ : Loc Cert.TDf.nD Cert.TDf.τ Cert.TDf.sig) → Buf (Elt Bits) ℓ) : Prop :=
  True

def Pre_TDfIdeal (m : (ℓ : Loc Cert.TDfIdeal.nD Cert.TDfIdeal.τ Cert.TDfIdeal.sig) → Buf (Elt Ideal) ℓ) : Prop :=
  True

def Pre_TDfRefIdeal (m : (ℓ : Loc Cert.TDfRefIdeal.nD Cert.TDfRefIdeal.τ Cert.TDfRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DnFfn [hDnFfn : Cert.DnFfn.Facts] : Prop :=
  ∀ (m : (ℓ : Loc Cert.DnFfn.nD Cert.DnFfn.τ Cert.DnFfn.sig) → Buf (Elt Bits) ℓ) (g : Dev Cert.DnFfn.nD → PrngReg), Pre_DnFfn m →
    θ_run (Cert.DnFfn.defs (F := Bits)) (onTc (τ := Cert.DnFfn.τ) (Cert.DnFfn.main (F := Bits))) ⟨m, fun _ => 0, g⟩ (fun r => (∀ c : Dev Cert.DnFfn.nD,
      r.2.mem ((c.tc : Thread Cert.DnFfn.nD Cert.DnFfn.τ).loc Cert.DnFfn.main_arg0) = m ((c.tc : Thread Cert.DnFfn.nD Cert.DnFfn.τ).loc Cert.DnFfn.main_arg0)
      ∧ r.2.mem ((c.tc : Thread Cert.DnFfn.nD Cert.DnFfn.τ).loc Cert.DnFfn.main_arg1) = m ((c.tc : Thread Cert.DnFfn.nD Cert.DnFfn.τ).loc Cert.DnFfn.main_arg1)
      ∧ r.2.mem ((c.tc : Thread Cert.DnFfn.nD Cert.DnFfn.τ).loc Cert.DnFfn.main_arg2) = m ((c.tc : Thread Cert.DnFfn.nD Cert.DnFfn.τ).loc Cert.DnFfn.main_arg2)
      ∧ r.2.mem ((c.tc : Thread Cert.DnFfn.nD Cert.DnFfn.τ).loc Cert.DnFfn.main_arg3) = m ((c.tc : Thread Cert.DnFfn.nD Cert.DnFfn.τ).loc Cert.DnFfn.main_arg3)
      ∧ r.2.mem ((c.tc : Thread Cert.DnFfn.nD Cert.DnFfn.τ).loc Cert.DnFfn.main_arg4) = m ((c.tc : Thread Cert.DnFfn.nD Cert.DnFfn.τ).loc Cert.DnFfn.main_arg4))
      ∧ r.2.sem = fun _ => 0)

def quiescent_DnFfnIdeal [hDnFfnIdeal : Cert.DnFfnIdeal.Facts] : Prop :=
  ∀ (m : (ℓ : Loc Cert.DnFfnIdeal.nD Cert.DnFfnIdeal.τ Cert.DnFfnIdeal.sig) → Buf (Elt Ideal) ℓ) (g : Dev Cert.DnFfnIdeal.nD → PrngReg), Pre_DnFfnIdeal m →
    θ_run (Cert.DnFfnIdeal.defs (F := Ideal)) (onTc (τ := Cert.DnFfnIdeal.τ) (Cert.DnFfnIdeal.main (F := Ideal))) ⟨m, fun _ => 0, g⟩ (fun r => (∀ c : Dev Cert.DnFfnIdeal.nD,
      r.2.mem ((c.tc : Thread Cert.DnFfnIdeal.nD Cert.DnFfnIdeal.τ).loc Cert.DnFfnIdeal.main_arg0) = m ((c.tc : Thread Cert.DnFfnIdeal.nD Cert.DnFfnIdeal.τ).loc Cert.DnFfnIdeal.main_arg0)
      ∧ r.2.mem ((c.tc : Thread Cert.DnFfnIdeal.nD Cert.DnFfnIdeal.τ).loc Cert.DnFfnIdeal.main_arg1) = m ((c.tc : Thread Cert.DnFfnIdeal.nD Cert.DnFfnIdeal.τ).loc Cert.DnFfnIdeal.main_arg1)
      ∧ r.2.mem ((c.tc : Thread Cert.DnFfnIdeal.nD Cert.DnFfnIdeal.τ).loc Cert.DnFfnIdeal.main_arg2) = m ((c.tc : Thread Cert.DnFfnIdeal.nD Cert.DnFfnIdeal.τ).loc Cert.DnFfnIdeal.main_arg2)
      ∧ r.2.mem ((c.tc : Thread Cert.DnFfnIdeal.nD Cert.DnFfnIdeal.τ).loc Cert.DnFfnIdeal.main_arg3) = m ((c.tc : Thread Cert.DnFfnIdeal.nD Cert.DnFfnIdeal.τ).loc Cert.DnFfnIdeal.main_arg3)
      ∧ r.2.mem ((c.tc : Thread Cert.DnFfnIdeal.nD Cert.DnFfnIdeal.τ).loc Cert.DnFfnIdeal.main_arg4) = m ((c.tc : Thread Cert.DnFfnIdeal.nD Cert.DnFfnIdeal.τ).loc Cert.DnFfnIdeal.main_arg4))
      ∧ r.2.sem = fun _ => 0)

def quiescent_DnFfnRefIdeal [hDnFfnRefIdeal : Cert.DnFfnRefIdeal.Facts] : Prop :=
  ∀ (m : (ℓ : Loc Cert.DnFfnRefIdeal.nD Cert.DnFfnRefIdeal.τ Cert.DnFfnRefIdeal.sig) → Buf (Elt Ideal) ℓ) (g : Dev Cert.DnFfnRefIdeal.nD → PrngReg), Pre_DnFfnRefIdeal m →
    θ_run (Cert.DnFfnRefIdeal.defs (F := Ideal)) (onTc (τ := Cert.DnFfnRefIdeal.τ) (Cert.DnFfnRefIdeal.main (F := Ideal))) ⟨m, fun _ => 0, g⟩ (fun r => (∀ c : Dev Cert.DnFfnRefIdeal.nD,
      r.2.mem ((c.tc : Thread Cert.DnFfnRefIdeal.nD Cert.DnFfnRefIdeal.τ).loc Cert.DnFfnRefIdeal.main_arg0) = m ((c.tc : Thread Cert.DnFfnRefIdeal.nD Cert.DnFfnRefIdeal.τ).loc Cert.DnFfnRefIdeal.main_arg0)
      ∧ r.2.mem ((c.tc : Thread Cert.DnFfnRefIdeal.nD Cert.DnFfnRefIdeal.τ).loc Cert.DnFfnRefIdeal.main_arg1) = m ((c.tc : Thread Cert.DnFfnRefIdeal.nD Cert.DnFfnRefIdeal.τ).loc Cert.DnFfnRefIdeal.main_arg1)
      ∧ r.2.mem ((c.tc : Thread Cert.DnFfnRefIdeal.nD Cert.DnFfnRefIdeal.τ).loc Cert.DnFfnRefIdeal.main_arg2) = m ((c.tc : Thread Cert.DnFfnRefIdeal.nD Cert.DnFfnRefIdeal.τ).loc Cert.DnFfnRefIdeal.main_arg2)
      ∧ r.2.mem ((c.tc : Thread Cert.DnFfnRefIdeal.nD Cert.DnFfnRefIdeal.τ).loc Cert.DnFfnRefIdeal.main_arg3) = m ((c.tc : Thread Cert.DnFfnRefIdeal.nD Cert.DnFfnRefIdeal.τ).loc Cert.DnFfnRefIdeal.main_arg3)
      ∧ r.2.mem ((c.tc : Thread Cert.DnFfnRefIdeal.nD Cert.DnFfnRefIdeal.τ).loc Cert.DnFfnRefIdeal.main_arg4) = m ((c.tc : Thread Cert.DnFfnRefIdeal.nD Cert.DnFfnRefIdeal.τ).loc Cert.DnFfnRefIdeal.main_arg4))
      ∧ r.2.sem = fun _ => 0)

def quiescent_DnIn [hDnIn : Cert.DnIn.Facts] : Prop :=
  ∀ (m : (ℓ : Loc Cert.DnIn.nD Cert.DnIn.τ Cert.DnIn.sig) → Buf (Elt Bits) ℓ) (g : Dev Cert.DnIn.nD → PrngReg), Pre_DnIn m →
    θ_run (Cert.DnIn.defs (F := Bits)) (onTc (τ := Cert.DnIn.τ) (Cert.DnIn.main (F := Bits))) ⟨m, fun _ => 0, g⟩ (fun r => (∀ c : Dev Cert.DnIn.nD,
      r.2.mem ((c.tc : Thread Cert.DnIn.nD Cert.DnIn.τ).loc Cert.DnIn.main_arg0) = m ((c.tc : Thread Cert.DnIn.nD Cert.DnIn.τ).loc Cert.DnIn.main_arg0)
      ∧ r.2.mem ((c.tc : Thread Cert.DnIn.nD Cert.DnIn.τ).loc Cert.DnIn.main_arg1) = m ((c.tc : Thread Cert.DnIn.nD Cert.DnIn.τ).loc Cert.DnIn.main_arg1)
      ∧ r.2.mem ((c.tc : Thread Cert.DnIn.nD Cert.DnIn.τ).loc Cert.DnIn.main_arg2) = m ((c.tc : Thread Cert.DnIn.nD Cert.DnIn.τ).loc Cert.DnIn.main_arg2)
      ∧ r.2.mem ((c.tc : Thread Cert.DnIn.nD Cert.DnIn.τ).loc Cert.DnIn.main_arg3) = m ((c.tc : Thread Cert.DnIn.nD Cert.DnIn.τ).loc Cert.DnIn.main_arg3)
      ∧ r.2.mem ((c.tc : Thread Cert.DnIn.nD Cert.DnIn.τ).loc Cert.DnIn.main_arg4) = m ((c.tc : Thread Cert.DnIn.nD Cert.DnIn.τ).loc Cert.DnIn.main_arg4)
      ∧ r.2.mem ((c.tc : Thread Cert.DnIn.nD Cert.DnIn.τ).loc Cert.DnIn.main_arg5) = m ((c.tc : Thread Cert.DnIn.nD Cert.DnIn.τ).loc Cert.DnIn.main_arg5))
      ∧ r.2.sem = fun _ => 0)

def quiescent_DnInIdeal [hDnInIdeal : Cert.DnInIdeal.Facts] : Prop :=
  ∀ (m : (ℓ : Loc Cert.DnInIdeal.nD Cert.DnInIdeal.τ Cert.DnInIdeal.sig) → Buf (Elt Ideal) ℓ) (g : Dev Cert.DnInIdeal.nD → PrngReg), Pre_DnInIdeal m →
    θ_run (Cert.DnInIdeal.defs (F := Ideal)) (onTc (τ := Cert.DnInIdeal.τ) (Cert.DnInIdeal.main (F := Ideal))) ⟨m, fun _ => 0, g⟩ (fun r => (∀ c : Dev Cert.DnInIdeal.nD,
      r.2.mem ((c.tc : Thread Cert.DnInIdeal.nD Cert.DnInIdeal.τ).loc Cert.DnInIdeal.main_arg0) = m ((c.tc : Thread Cert.DnInIdeal.nD Cert.DnInIdeal.τ).loc Cert.DnInIdeal.main_arg0)
      ∧ r.2.mem ((c.tc : Thread Cert.DnInIdeal.nD Cert.DnInIdeal.τ).loc Cert.DnInIdeal.main_arg1) = m ((c.tc : Thread Cert.DnInIdeal.nD Cert.DnInIdeal.τ).loc Cert.DnInIdeal.main_arg1)
      ∧ r.2.mem ((c.tc : Thread Cert.DnInIdeal.nD Cert.DnInIdeal.τ).loc Cert.DnInIdeal.main_arg2) = m ((c.tc : Thread Cert.DnInIdeal.nD Cert.DnInIdeal.τ).loc Cert.DnInIdeal.main_arg2)
      ∧ r.2.mem ((c.tc : Thread Cert.DnInIdeal.nD Cert.DnInIdeal.τ).loc Cert.DnInIdeal.main_arg3) = m ((c.tc : Thread Cert.DnInIdeal.nD Cert.DnInIdeal.τ).loc Cert.DnInIdeal.main_arg3)
      ∧ r.2.mem ((c.tc : Thread Cert.DnInIdeal.nD Cert.DnInIdeal.τ).loc Cert.DnInIdeal.main_arg4) = m ((c.tc : Thread Cert.DnInIdeal.nD Cert.DnInIdeal.τ).loc Cert.DnInIdeal.main_arg4)
      ∧ r.2.mem ((c.tc : Thread Cert.DnInIdeal.nD Cert.DnInIdeal.τ).loc Cert.DnInIdeal.main_arg5) = m ((c.tc : Thread Cert.DnInIdeal.nD Cert.DnInIdeal.τ).loc Cert.DnInIdeal.main_arg5))
      ∧ r.2.sem = fun _ => 0)

def quiescent_DnInRefIdeal [hDnInRefIdeal : Cert.DnInRefIdeal.Facts] : Prop :=
  ∀ (m : (ℓ : Loc Cert.DnInRefIdeal.nD Cert.DnInRefIdeal.τ Cert.DnInRefIdeal.sig) → Buf (Elt Ideal) ℓ) (g : Dev Cert.DnInRefIdeal.nD → PrngReg), Pre_DnInRefIdeal m →
    θ_run (Cert.DnInRefIdeal.defs (F := Ideal)) (onTc (τ := Cert.DnInRefIdeal.τ) (Cert.DnInRefIdeal.main (F := Ideal))) ⟨m, fun _ => 0, g⟩ (fun r => (∀ c : Dev Cert.DnInRefIdeal.nD,
      r.2.mem ((c.tc : Thread Cert.DnInRefIdeal.nD Cert.DnInRefIdeal.τ).loc Cert.DnInRefIdeal.main_arg0) = m ((c.tc : Thread Cert.DnInRefIdeal.nD Cert.DnInRefIdeal.τ).loc Cert.DnInRefIdeal.main_arg0)
      ∧ r.2.mem ((c.tc : Thread Cert.DnInRefIdeal.nD Cert.DnInRefIdeal.τ).loc Cert.DnInRefIdeal.main_arg1) = m ((c.tc : Thread Cert.DnInRefIdeal.nD Cert.DnInRefIdeal.τ).loc Cert.DnInRefIdeal.main_arg1)
      ∧ r.2.mem ((c.tc : Thread Cert.DnInRefIdeal.nD Cert.DnInRefIdeal.τ).loc Cert.DnInRefIdeal.main_arg2) = m ((c.tc : Thread Cert.DnInRefIdeal.nD Cert.DnInRefIdeal.τ).loc Cert.DnInRefIdeal.main_arg2)
      ∧ r.2.mem ((c.tc : Thread Cert.DnInRefIdeal.nD Cert.DnInRefIdeal.τ).loc Cert.DnInRefIdeal.main_arg3) = m ((c.tc : Thread Cert.DnInRefIdeal.nD Cert.DnInRefIdeal.τ).loc Cert.DnInRefIdeal.main_arg3)
      ∧ r.2.mem ((c.tc : Thread Cert.DnInRefIdeal.nD Cert.DnInRefIdeal.τ).loc Cert.DnInRefIdeal.main_arg4) = m ((c.tc : Thread Cert.DnInRefIdeal.nD Cert.DnInRefIdeal.τ).loc Cert.DnInRefIdeal.main_arg4)
      ∧ r.2.mem ((c.tc : Thread Cert.DnInRefIdeal.nD Cert.DnInRefIdeal.τ).loc Cert.DnInRefIdeal.main_arg5) = m ((c.tc : Thread Cert.DnInRefIdeal.nD Cert.DnInRefIdeal.τ).loc Cert.DnInRefIdeal.main_arg5))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwPool [hDwPool : Cert.DwPool.Facts] : Prop :=
  ∀ (m : (ℓ : Loc Cert.DwPool.nD Cert.DwPool.τ Cert.DwPool.sig) → Buf (Elt Bits) ℓ) (g : Dev Cert.DwPool.nD → PrngReg), Pre_DwPool m →
    θ_run (Cert.DwPool.defs (F := Bits)) (onTc (τ := Cert.DwPool.τ) (Cert.DwPool.main (F := Bits))) ⟨m, fun _ => 0, g⟩ (fun r => (∀ c : Dev Cert.DwPool.nD,
      r.2.mem ((c.tc : Thread Cert.DwPool.nD Cert.DwPool.τ).loc Cert.DwPool.main_arg0) = m ((c.tc : Thread Cert.DwPool.nD Cert.DwPool.τ).loc Cert.DwPool.main_arg0)
      ∧ r.2.mem ((c.tc : Thread Cert.DwPool.nD Cert.DwPool.τ).loc Cert.DwPool.main_arg1) = m ((c.tc : Thread Cert.DwPool.nD Cert.DwPool.τ).loc Cert.DwPool.main_arg1))
      ∧ r.2.sem = fun _ => 0)

def quiescent_DwPoolIdeal [hDwPoolIdeal : Cert.DwPoolIdeal.Facts] : Prop :=
  ∀ (m : (ℓ : Loc Cert.DwPoolIdeal.nD Cert.DwPoolIdeal.τ Cert.DwPoolIdeal.sig) → Buf (Elt Ideal) ℓ) (g : Dev Cert.DwPoolIdeal.nD → PrngReg), Pre_DwPoolIdeal m →
    θ_run (Cert.DwPoolIdeal.defs (F := Ideal)) (onTc (τ := Cert.DwPoolIdeal.τ) (Cert.DwPoolIdeal.main (F := Ideal))) ⟨m, fun _ => 0, g⟩ (fun r => (∀ c : Dev Cert.DwPoolIdeal.nD,
      r.2.mem ((c.tc : Thread Cert.DwPoolIdeal.nD Cert.DwPoolIdeal.τ).loc Cert.DwPoolIdeal.main_arg0) = m ((c.tc : Thread Cert.DwPoolIdeal.nD Cert.DwPoolIdeal.τ).loc Cert.DwPoolIdeal.main_arg0)
      ∧ r.2.mem ((c.tc : Thread Cert.DwPoolIdeal.nD Cert.DwPoolIdeal.τ).loc Cert.DwPoolIdeal.main_arg1) = m ((c.tc : Thread Cert.DwPoolIdeal.nD Cert.DwPoolIdeal.τ).loc Cert.DwPoolIdeal.main_arg1))
      ∧ r.2.sem = fun _ => 0)

def quiescent_DwPoolRefIdeal [hDwPoolRefIdeal : Cert.DwPoolRefIdeal.Facts] : Prop :=
  ∀ (m : (ℓ : Loc Cert.DwPoolRefIdeal.nD Cert.DwPoolRefIdeal.τ Cert.DwPoolRefIdeal.sig) → Buf (Elt Ideal) ℓ) (g : Dev Cert.DwPoolRefIdeal.nD → PrngReg), Pre_DwPoolRefIdeal m →
    θ_run (Cert.DwPoolRefIdeal.defs (F := Ideal)) (onTc (τ := Cert.DwPoolRefIdeal.τ) (Cert.DwPoolRefIdeal.main (F := Ideal))) ⟨m, fun _ => 0, g⟩ (fun r => (∀ c : Dev Cert.DwPoolRefIdeal.nD,
      r.2.mem ((c.tc : Thread Cert.DwPoolRefIdeal.nD Cert.DwPoolRefIdeal.τ).loc Cert.DwPoolRefIdeal.main_arg0) = m ((c.tc : Thread Cert.DwPoolRefIdeal.nD Cert.DwPoolRefIdeal.τ).loc Cert.DwPoolRefIdeal.main_arg0)
      ∧ r.2.mem ((c.tc : Thread Cert.DwPoolRefIdeal.nD Cert.DwPoolRefIdeal.τ).loc Cert.DwPoolRefIdeal.main_arg1) = m ((c.tc : Thread Cert.DwPoolRefIdeal.nD Cert.DwPoolRefIdeal.τ).loc Cert.DwPoolRefIdeal.main_arg1))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5)
      ∧ r.2.mem ((c.tc : Thread Cert.AdamUp.nD Cert.AdamUp.τ).loc Cert.AdamUp.main_arg6) = m ((c.tc : Thread Cert.AdamUp.nD Cert.AdamUp.τ).loc Cert.AdamUp.main_arg6))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
      ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5)
      ∧ r.2.mem ((c.tc : Thread Cert.AdamUpRefIdeal.nD Cert.AdamUpRefIdeal.τ).loc Cert.AdamUpRefIdeal.main_arg6) = m ((c.tc : Thread Cert.AdamUpRefIdeal.nD Cert.AdamUpRefIdeal.τ).loc Cert.AdamUpRefIdeal.main_arg6))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5)
      ∧ r.2.mem ((c.tc : Thread Cert.AdamDown.nD Cert.AdamDown.τ).loc Cert.AdamDown.main_arg6) = m ((c.tc : Thread Cert.AdamDown.nD Cert.AdamDown.τ).loc Cert.AdamDown.main_arg6))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
      ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5)
      ∧ r.2.mem ((c.tc : Thread Cert.AdamDownRefIdeal.nD Cert.AdamDownRefIdeal.τ).loc Cert.AdamDownRefIdeal.main_arg6) = m ((c.tc : Thread Cert.AdamDownRefIdeal.nD Cert.AdamDownRefIdeal.τ).loc Cert.AdamDownRefIdeal.main_arg6))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3)
      ∧ r.2.mem ((c.tc : Thread Cert.AdamPool.nD Cert.AdamPool.τ).loc Cert.AdamPool.main_arg4) = m ((c.tc : Thread Cert.AdamPool.nD Cert.AdamPool.τ).loc Cert.AdamPool.main_arg4))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
      ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3)
      ∧ r.2.mem ((c.tc : Thread Cert.AdamPoolRefIdeal.nD Cert.AdamPoolRefIdeal.τ).loc Cert.AdamPoolRefIdeal.main_arg4) = m ((c.tc : Thread Cert.AdamPoolRefIdeal.nD Cert.AdamPoolRefIdeal.τ).loc Cert.AdamPoolRefIdeal.main_arg4))
      ∧ r.2.sem = fun _ => 0)

def quiescent_SumLittle [hSumLittle : Cert.SumLittle.Facts] : Prop :=
  ∀ (m : (ℓ : Loc Cert.SumLittle.nD Cert.SumLittle.τ Cert.SumLittle.sig) → Buf (Elt Bits) ℓ) (g : Dev Cert.SumLittle.nD → PrngReg), Pre_SumLittle m →
    θ_run (Cert.SumLittle.defs (F := Bits)) (onTc (τ := Cert.SumLittle.τ) (Cert.SumLittle.main (F := Bits))) ⟨m, fun _ => 0, g⟩ (fun r => (∀ c : Dev Cert.SumLittle.nD,
      r.2.mem ((c.tc : Thread Cert.SumLittle.nD Cert.SumLittle.τ).loc Cert.SumLittle.main_arg0) = m ((c.tc : Thread Cert.SumLittle.nD Cert.SumLittle.τ).loc Cert.SumLittle.main_arg0)
      ∧ r.2.mem ((c.tc : Thread Cert.SumLittle.nD Cert.SumLittle.τ).loc Cert.SumLittle.main_arg1) = m ((c.tc : Thread Cert.SumLittle.nD Cert.SumLittle.τ).loc Cert.SumLittle.main_arg1))
      ∧ r.2.sem = fun _ => 0)

def quiescent_SumLittleIdeal [hSumLittleIdeal : Cert.SumLittleIdeal.Facts] : Prop :=
  ∀ (m : (ℓ : Loc Cert.SumLittleIdeal.nD Cert.SumLittleIdeal.τ Cert.SumLittleIdeal.sig) → Buf (Elt Ideal) ℓ) (g : Dev Cert.SumLittleIdeal.nD → PrngReg), Pre_SumLittleIdeal m →
    θ_run (Cert.SumLittleIdeal.defs (F := Ideal)) (onTc (τ := Cert.SumLittleIdeal.τ) (Cert.SumLittleIdeal.main (F := Ideal))) ⟨m, fun _ => 0, g⟩ (fun r => (∀ c : Dev Cert.SumLittleIdeal.nD,
      r.2.mem ((c.tc : Thread Cert.SumLittleIdeal.nD Cert.SumLittleIdeal.τ).loc Cert.SumLittleIdeal.main_arg0) = m ((c.tc : Thread Cert.SumLittleIdeal.nD Cert.SumLittleIdeal.τ).loc Cert.SumLittleIdeal.main_arg0)
      ∧ r.2.mem ((c.tc : Thread Cert.SumLittleIdeal.nD Cert.SumLittleIdeal.τ).loc Cert.SumLittleIdeal.main_arg1) = m ((c.tc : Thread Cert.SumLittleIdeal.nD Cert.SumLittleIdeal.τ).loc Cert.SumLittleIdeal.main_arg1))
      ∧ r.2.sem = fun _ => 0)

def quiescent_SumLittleRefIdeal [hSumLittleRefIdeal : Cert.SumLittleRefIdeal.Facts] : Prop :=
  ∀ (m : (ℓ : Loc Cert.SumLittleRefIdeal.nD Cert.SumLittleRefIdeal.τ Cert.SumLittleRefIdeal.sig) → Buf (Elt Ideal) ℓ) (g : Dev Cert.SumLittleRefIdeal.nD → PrngReg), Pre_SumLittleRefIdeal m →
    θ_run (Cert.SumLittleRefIdeal.defs (F := Ideal)) (onTc (τ := Cert.SumLittleRefIdeal.τ) (Cert.SumLittleRefIdeal.main (F := Ideal))) ⟨m, fun _ => 0, g⟩ (fun r => (∀ c : Dev Cert.SumLittleRefIdeal.nD,
      r.2.mem ((c.tc : Thread Cert.SumLittleRefIdeal.nD Cert.SumLittleRefIdeal.τ).loc Cert.SumLittleRefIdeal.main_arg0) = m ((c.tc : Thread Cert.SumLittleRefIdeal.nD Cert.SumLittleRefIdeal.τ).loc Cert.SumLittleRefIdeal.main_arg0)
      ∧ r.2.mem ((c.tc : Thread Cert.SumLittleRefIdeal.nD Cert.SumLittleRefIdeal.τ).loc Cert.SumLittleRefIdeal.main_arg1) = m ((c.tc : Thread Cert.SumLittleRefIdeal.nD Cert.SumLittleRefIdeal.τ).loc Cert.SumLittleRefIdeal.main_arg1))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_finite_attn [hAttnFwdIdeal : Cert.AttnFwdIdeal.Facts] [hPre_finite_attn : Cert.Pre_finite_attn.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attn m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwdRefIdeal_pre_finite_attn [hAttnFwdRefIdeal : Cert.AttnFwdRefIdeal.Facts] [hPre_finite_attn : Cert.Pre_finite_attn.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attn m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_RmsEven [hRmsEven : Cert.RmsEven.Facts] : Prop :=
  ∀ (m : (ℓ : Loc Cert.RmsEven.nD Cert.RmsEven.τ Cert.RmsEven.sig) → Buf (Elt Bits) ℓ) (g : Dev Cert.RmsEven.nD → PrngReg), Pre_RmsEven m →
    θ_run (Cert.RmsEven.defs (F := Bits)) (onTc (τ := Cert.RmsEven.τ) (Cert.RmsEven.main (F := Bits))) ⟨m, fun _ => 0, g⟩ (fun r => (∀ c : Dev Cert.RmsEven.nD,
      r.2.mem ((c.tc : Thread Cert.RmsEven.nD Cert.RmsEven.τ).loc Cert.RmsEven.main_arg0) = m ((c.tc : Thread Cert.RmsEven.nD Cert.RmsEven.τ).loc Cert.RmsEven.main_arg0)
      ∧ r.2.mem ((c.tc : Thread Cert.RmsEven.nD Cert.RmsEven.τ).loc Cert.RmsEven.main_arg1) = m ((c.tc : Thread Cert.RmsEven.nD Cert.RmsEven.τ).loc Cert.RmsEven.main_arg1)
      ∧ r.2.mem ((c.tc : Thread Cert.RmsEven.nD Cert.RmsEven.τ).loc Cert.RmsEven.main_arg2) = m ((c.tc : Thread Cert.RmsEven.nD Cert.RmsEven.τ).loc Cert.RmsEven.main_arg2))
      ∧ r.2.sem = fun _ => 0)

def quiescent_RmsEvenIdeal [hRmsEvenIdeal : Cert.RmsEvenIdeal.Facts] : Prop :=
  ∀ (m : (ℓ : Loc Cert.RmsEvenIdeal.nD Cert.RmsEvenIdeal.τ Cert.RmsEvenIdeal.sig) → Buf (Elt Ideal) ℓ) (g : Dev Cert.RmsEvenIdeal.nD → PrngReg), Pre_RmsEvenIdeal m →
    θ_run (Cert.RmsEvenIdeal.defs (F := Ideal)) (onTc (τ := Cert.RmsEvenIdeal.τ) (Cert.RmsEvenIdeal.main (F := Ideal))) ⟨m, fun _ => 0, g⟩ (fun r => (∀ c : Dev Cert.RmsEvenIdeal.nD,
      r.2.mem ((c.tc : Thread Cert.RmsEvenIdeal.nD Cert.RmsEvenIdeal.τ).loc Cert.RmsEvenIdeal.main_arg0) = m ((c.tc : Thread Cert.RmsEvenIdeal.nD Cert.RmsEvenIdeal.τ).loc Cert.RmsEvenIdeal.main_arg0)
      ∧ r.2.mem ((c.tc : Thread Cert.RmsEvenIdeal.nD Cert.RmsEvenIdeal.τ).loc Cert.RmsEvenIdeal.main_arg1) = m ((c.tc : Thread Cert.RmsEvenIdeal.nD Cert.RmsEvenIdeal.τ).loc Cert.RmsEvenIdeal.main_arg1)
      ∧ r.2.mem ((c.tc : Thread Cert.RmsEvenIdeal.nD Cert.RmsEvenIdeal.τ).loc Cert.RmsEvenIdeal.main_arg2) = m ((c.tc : Thread Cert.RmsEvenIdeal.nD Cert.RmsEvenIdeal.τ).loc Cert.RmsEvenIdeal.main_arg2))
      ∧ r.2.sem = fun _ => 0)

def quiescent_RmsEvenRefIdeal [hRmsEvenRefIdeal : Cert.RmsEvenRefIdeal.Facts] : Prop :=
  ∀ (m : (ℓ : Loc Cert.RmsEvenRefIdeal.nD Cert.RmsEvenRefIdeal.τ Cert.RmsEvenRefIdeal.sig) → Buf (Elt Ideal) ℓ) (g : Dev Cert.RmsEvenRefIdeal.nD → PrngReg), Pre_RmsEvenRefIdeal m →
    θ_run (Cert.RmsEvenRefIdeal.defs (F := Ideal)) (onTc (τ := Cert.RmsEvenRefIdeal.τ) (Cert.RmsEvenRefIdeal.main (F := Ideal))) ⟨m, fun _ => 0, g⟩ (fun r => (∀ c : Dev Cert.RmsEvenRefIdeal.nD,
      r.2.mem ((c.tc : Thread Cert.RmsEvenRefIdeal.nD Cert.RmsEvenRefIdeal.τ).loc Cert.RmsEvenRefIdeal.main_arg0) = m ((c.tc : Thread Cert.RmsEvenRefIdeal.nD Cert.RmsEvenRefIdeal.τ).loc Cert.RmsEvenRefIdeal.main_arg0)
      ∧ r.2.mem ((c.tc : Thread Cert.RmsEvenRefIdeal.nD Cert.RmsEvenRefIdeal.τ).loc Cert.RmsEvenRefIdeal.main_arg1) = m ((c.tc : Thread Cert.RmsEvenRefIdeal.nD Cert.RmsEvenRefIdeal.τ).loc Cert.RmsEvenRefIdeal.main_arg1)
      ∧ r.2.mem ((c.tc : Thread Cert.RmsEvenRefIdeal.nD Cert.RmsEvenRefIdeal.τ).loc Cert.RmsEvenRefIdeal.main_arg2) = m ((c.tc : Thread Cert.RmsEvenRefIdeal.nD Cert.RmsEvenRefIdeal.τ).loc Cert.RmsEvenRefIdeal.main_arg2))
      ∧ r.2.sem = fun _ => 0)

def quiescent_RmsFfn [hRmsFfn : Cert.RmsFfn.Facts] : Prop :=
  ∀ (m : (ℓ : Loc Cert.RmsFfn.nD Cert.RmsFfn.τ Cert.RmsFfn.sig) → Buf (Elt Bits) ℓ) (g : Dev Cert.RmsFfn.nD → PrngReg), Pre_RmsFfn m →
    θ_run (Cert.RmsFfn.defs (F := Bits)) (onTc (τ := Cert.RmsFfn.τ) (Cert.RmsFfn.main (F := Bits))) ⟨m, fun _ => 0, g⟩ (fun r => (∀ c : Dev Cert.RmsFfn.nD,
      r.2.mem ((c.tc : Thread Cert.RmsFfn.nD Cert.RmsFfn.τ).loc Cert.RmsFfn.main_arg0) = m ((c.tc : Thread Cert.RmsFfn.nD Cert.RmsFfn.τ).loc Cert.RmsFfn.main_arg0)
      ∧ r.2.mem ((c.tc : Thread Cert.RmsFfn.nD Cert.RmsFfn.τ).loc Cert.RmsFfn.main_arg1) = m ((c.tc : Thread Cert.RmsFfn.nD Cert.RmsFfn.τ).loc Cert.RmsFfn.main_arg1))
      ∧ r.2.sem = fun _ => 0)

def quiescent_RmsFfnIdeal [hRmsFfnIdeal : Cert.RmsFfnIdeal.Facts] : Prop :=
  ∀ (m : (ℓ : Loc Cert.RmsFfnIdeal.nD Cert.RmsFfnIdeal.τ Cert.RmsFfnIdeal.sig) → Buf (Elt Ideal) ℓ) (g : Dev Cert.RmsFfnIdeal.nD → PrngReg), Pre_RmsFfnIdeal m →
    θ_run (Cert.RmsFfnIdeal.defs (F := Ideal)) (onTc (τ := Cert.RmsFfnIdeal.τ) (Cert.RmsFfnIdeal.main (F := Ideal))) ⟨m, fun _ => 0, g⟩ (fun r => (∀ c : Dev Cert.RmsFfnIdeal.nD,
      r.2.mem ((c.tc : Thread Cert.RmsFfnIdeal.nD Cert.RmsFfnIdeal.τ).loc Cert.RmsFfnIdeal.main_arg0) = m ((c.tc : Thread Cert.RmsFfnIdeal.nD Cert.RmsFfnIdeal.τ).loc Cert.RmsFfnIdeal.main_arg0)
      ∧ r.2.mem ((c.tc : Thread Cert.RmsFfnIdeal.nD Cert.RmsFfnIdeal.τ).loc Cert.RmsFfnIdeal.main_arg1) = m ((c.tc : Thread Cert.RmsFfnIdeal.nD Cert.RmsFfnIdeal.τ).loc Cert.RmsFfnIdeal.main_arg1))
      ∧ r.2.sem = fun _ => 0)

def quiescent_RmsFfnRefIdeal [hRmsFfnRefIdeal : Cert.RmsFfnRefIdeal.Facts] : Prop :=
  ∀ (m : (ℓ : Loc Cert.RmsFfnRefIdeal.nD Cert.RmsFfnRefIdeal.τ Cert.RmsFfnRefIdeal.sig) → Buf (Elt Ideal) ℓ) (g : Dev Cert.RmsFfnRefIdeal.nD → PrngReg), Pre_RmsFfnRefIdeal m →
    θ_run (Cert.RmsFfnRefIdeal.defs (F := Ideal)) (onTc (τ := Cert.RmsFfnRefIdeal.τ) (Cert.RmsFfnRefIdeal.main (F := Ideal))) ⟨m, fun _ => 0, g⟩ (fun r => (∀ c : Dev Cert.RmsFfnRefIdeal.nD,
      r.2.mem ((c.tc : Thread Cert.RmsFfnRefIdeal.nD Cert.RmsFfnRefIdeal.τ).loc Cert.RmsFfnRefIdeal.main_arg0) = m ((c.tc : Thread Cert.RmsFfnRefIdeal.nD Cert.RmsFfnRefIdeal.τ).loc Cert.RmsFfnRefIdeal.main_arg0)
      ∧ r.2.mem ((c.tc : Thread Cert.RmsFfnRefIdeal.nD Cert.RmsFfnRefIdeal.τ).loc Cert.RmsFfnRefIdeal.main_arg1) = m ((c.tc : Thread Cert.RmsFfnRefIdeal.nD Cert.RmsFfnRefIdeal.τ).loc Cert.RmsFfnRefIdeal.main_arg1))
      ∧ r.2.sem = fun _ => 0)

def quiescent_RmsOdd [hRmsOdd : Cert.RmsOdd.Facts] : Prop :=
  ∀ (m : (ℓ : Loc Cert.RmsOdd.nD Cert.RmsOdd.τ Cert.RmsOdd.sig) → Buf (Elt Bits) ℓ) (g : Dev Cert.RmsOdd.nD → PrngReg), Pre_RmsOdd m →
    θ_run (Cert.RmsOdd.defs (F := Bits)) (onTc (τ := Cert.RmsOdd.τ) (Cert.RmsOdd.main (F := Bits))) ⟨m, fun _ => 0, g⟩ (fun r => (∀ c : Dev Cert.RmsOdd.nD,
      r.2.mem ((c.tc : Thread Cert.RmsOdd.nD Cert.RmsOdd.τ).loc Cert.RmsOdd.main_arg0) = m ((c.tc : Thread Cert.RmsOdd.nD Cert.RmsOdd.τ).loc Cert.RmsOdd.main_arg0)
      ∧ r.2.mem ((c.tc : Thread Cert.RmsOdd.nD Cert.RmsOdd.τ).loc Cert.RmsOdd.main_arg1) = m ((c.tc : Thread Cert.RmsOdd.nD Cert.RmsOdd.τ).loc Cert.RmsOdd.main_arg1))
      ∧ r.2.sem = fun _ => 0)

def quiescent_RmsOddIdeal [hRmsOddIdeal : Cert.RmsOddIdeal.Facts] : Prop :=
  ∀ (m : (ℓ : Loc Cert.RmsOddIdeal.nD Cert.RmsOddIdeal.τ Cert.RmsOddIdeal.sig) → Buf (Elt Ideal) ℓ) (g : Dev Cert.RmsOddIdeal.nD → PrngReg), Pre_RmsOddIdeal m →
    θ_run (Cert.RmsOddIdeal.defs (F := Ideal)) (onTc (τ := Cert.RmsOddIdeal.τ) (Cert.RmsOddIdeal.main (F := Ideal))) ⟨m, fun _ => 0, g⟩ (fun r => (∀ c : Dev Cert.RmsOddIdeal.nD,
      r.2.mem ((c.tc : Thread Cert.RmsOddIdeal.nD Cert.RmsOddIdeal.τ).loc Cert.RmsOddIdeal.main_arg0) = m ((c.tc : Thread Cert.RmsOddIdeal.nD Cert.RmsOddIdeal.τ).loc Cert.RmsOddIdeal.main_arg0)
      ∧ r.2.mem ((c.tc : Thread Cert.RmsOddIdeal.nD Cert.RmsOddIdeal.τ).loc Cert.RmsOddIdeal.main_arg1) = m ((c.tc : Thread Cert.RmsOddIdeal.nD Cert.RmsOddIdeal.τ).loc Cert.RmsOddIdeal.main_arg1))
      ∧ r.2.sem = fun _ => 0)

def quiescent_RmsOddRefIdeal [hRmsOddRefIdeal : Cert.RmsOddRefIdeal.Facts] : Prop :=
  ∀ (m : (ℓ : Loc Cert.RmsOddRefIdeal.nD Cert.RmsOddRefIdeal.τ Cert.RmsOddRefIdeal.sig) → Buf (Elt Ideal) ℓ) (g : Dev Cert.RmsOddRefIdeal.nD → PrngReg), Pre_RmsOddRefIdeal m →
    θ_run (Cert.RmsOddRefIdeal.defs (F := Ideal)) (onTc (τ := Cert.RmsOddRefIdeal.τ) (Cert.RmsOddRefIdeal.main (F := Ideal))) ⟨m, fun _ => 0, g⟩ (fun r => (∀ c : Dev Cert.RmsOddRefIdeal.nD,
      r.2.mem ((c.tc : Thread Cert.RmsOddRefIdeal.nD Cert.RmsOddRefIdeal.τ).loc Cert.RmsOddRefIdeal.main_arg0) = m ((c.tc : Thread Cert.RmsOddRefIdeal.nD Cert.RmsOddRefIdeal.τ).loc Cert.RmsOddRefIdeal.main_arg0)
      ∧ r.2.mem ((c.tc : Thread Cert.RmsOddRefIdeal.nD Cert.RmsOddRefIdeal.τ).loc Cert.RmsOddRefIdeal.main_arg1) = m ((c.tc : Thread Cert.RmsOddRefIdeal.nD Cert.RmsOddRefIdeal.τ).loc Cert.RmsOddRefIdeal.main_arg1))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_TCat [hTCat : Cert.TCat.Facts] : Prop :=
  ∀ (m : (ℓ : Loc Cert.TCat.nD Cert.TCat.τ Cert.TCat.sig) → Buf (Elt Bits) ℓ) (g : Dev Cert.TCat.nD → PrngReg), Pre_TCat m →
    θ_run (Cert.TCat.defs (F := Bits)) (onTc (τ := Cert.TCat.τ) (Cert.TCat.main (F := Bits))) ⟨m, fun _ => 0, g⟩ (fun r => (∀ c : Dev Cert.TCat.nD,
      r.2.mem ((c.tc : Thread Cert.TCat.nD Cert.TCat.τ).loc Cert.TCat.main_arg0) = m ((c.tc : Thread Cert.TCat.nD Cert.TCat.τ).loc Cert.TCat.main_arg0))
      ∧ r.2.sem = fun _ => 0)

def quiescent_TCatIdeal [hTCatIdeal : Cert.TCatIdeal.Facts] : Prop :=
  ∀ (m : (ℓ : Loc Cert.TCatIdeal.nD Cert.TCatIdeal.τ Cert.TCatIdeal.sig) → Buf (Elt Ideal) ℓ) (g : Dev Cert.TCatIdeal.nD → PrngReg), Pre_TCatIdeal m →
    θ_run (Cert.TCatIdeal.defs (F := Ideal)) (onTc (τ := Cert.TCatIdeal.τ) (Cert.TCatIdeal.main (F := Ideal))) ⟨m, fun _ => 0, g⟩ (fun r => (∀ c : Dev Cert.TCatIdeal.nD,
      r.2.mem ((c.tc : Thread Cert.TCatIdeal.nD Cert.TCatIdeal.τ).loc Cert.TCatIdeal.main_arg0) = m ((c.tc : Thread Cert.TCatIdeal.nD Cert.TCatIdeal.τ).loc Cert.TCatIdeal.main_arg0))
      ∧ r.2.sem = fun _ => 0)

def quiescent_TCatRefIdeal [hTCatRefIdeal : Cert.TCatRefIdeal.Facts] : Prop :=
  ∀ (m : (ℓ : Loc Cert.TCatRefIdeal.nD Cert.TCatRefIdeal.τ Cert.TCatRefIdeal.sig) → Buf (Elt Ideal) ℓ) (g : Dev Cert.TCatRefIdeal.nD → PrngReg), Pre_TCatRefIdeal m →
    θ_run (Cert.TCatRefIdeal.defs (F := Ideal)) (onTc (τ := Cert.TCatRefIdeal.τ) (Cert.TCatRefIdeal.main (F := Ideal))) ⟨m, fun _ => 0, g⟩ (fun r => (∀ c : Dev Cert.TCatRefIdeal.nD,
      r.2.mem ((c.tc : Thread Cert.TCatRefIdeal.nD Cert.TCatRefIdeal.τ).loc Cert.TCatRefIdeal.main_arg0) = m ((c.tc : Thread Cert.TCatRefIdeal.nD Cert.TCatRefIdeal.τ).loc Cert.TCatRefIdeal.main_arg0))
      ∧ r.2.sem = fun _ => 0)

def quiescent_TDf [hTDf : Cert.TDf.Facts] : Prop :=
  ∀ (m : (ℓ : Loc Cert.TDf.nD Cert.TDf.τ Cert.TDf.sig) → Buf (Elt Bits) ℓ) (g : Dev Cert.TDf.nD → PrngReg), Pre_TDf m →
    θ_run (Cert.TDf.defs (F := Bits)) (onTc (τ := Cert.TDf.τ) (Cert.TDf.main (F := Bits))) ⟨m, fun _ => 0, g⟩ (fun r => (∀ c : Dev Cert.TDf.nD,
      r.2.mem ((c.tc : Thread Cert.TDf.nD Cert.TDf.τ).loc Cert.TDf.main_arg0) = m ((c.tc : Thread Cert.TDf.nD Cert.TDf.τ).loc Cert.TDf.main_arg0))
      ∧ r.2.sem = fun _ => 0)

def quiescent_TDfIdeal [hTDfIdeal : Cert.TDfIdeal.Facts] : Prop :=
  ∀ (m : (ℓ : Loc Cert.TDfIdeal.nD Cert.TDfIdeal.τ Cert.TDfIdeal.sig) → Buf (Elt Ideal) ℓ) (g : Dev Cert.TDfIdeal.nD → PrngReg), Pre_TDfIdeal m →
    θ_run (Cert.TDfIdeal.defs (F := Ideal)) (onTc (τ := Cert.TDfIdeal.τ) (Cert.TDfIdeal.main (F := Ideal))) ⟨m, fun _ => 0, g⟩ (fun r => (∀ c : Dev Cert.TDfIdeal.nD,
      r.2.mem ((c.tc : Thread Cert.TDfIdeal.nD Cert.TDfIdeal.τ).loc Cert.TDfIdeal.main_arg0) = m ((c.tc : Thread Cert.TDfIdeal.nD Cert.TDfIdeal.τ).loc Cert.TDfIdeal.main_arg0))
      ∧ r.2.sem = fun _ => 0)

def quiescent_TDfRefIdeal [hTDfRefIdeal : Cert.TDfRefIdeal.Facts] : Prop :=
  ∀ (m : (ℓ : Loc Cert.TDfRefIdeal.nD Cert.TDfRefIdeal.τ Cert.TDfRefIdeal.sig) → Buf (Elt Ideal) ℓ) (g : Dev Cert.TDfRefIdeal.nD → PrngReg), Pre_TDfRefIdeal m →
    θ_run (Cert.TDfRefIdeal.defs (F := Ideal)) (onTc (τ := Cert.TDfRefIdeal.τ) (Cert.TDfRefIdeal.main (F := Ideal))) ⟨m, fun _ => 0, g⟩ (fun r => (∀ c : Dev Cert.TDfRefIdeal.nD,
      r.2.mem ((c.tc : Thread Cert.TDfRefIdeal.nD Cert.TDfRefIdeal.τ).loc Cert.TDfRefIdeal.main_arg0) = m ((c.tc : Thread Cert.TDfRefIdeal.nD Cert.TDfRefIdeal.τ).loc Cert.TDfRefIdeal.main_arg0))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v29) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v7) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)
      ∧ m' ((c.tc : Thread Cert.DActRefIdeal.nD Cert.DActRefIdeal.τ).loc Cert.DActRefIdeal.main_arg2) = m ((c.tc : Thread Cert.DActIdeal.nD Cert.DActIdeal.τ).loc Cert.DActIdeal.main_arg2)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v5) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1)
          ∧ r.2.mem ((c.tc : Thread Cert.DActRefIdeal.nD Cert.DActRefIdeal.τ).loc Cert.DActRefIdeal.main_arg2) = m' ((c.tc : Thread Cert.DActRefIdeal.nD Cert.DActRefIdeal.τ).loc Cert.DActRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_DnFfn_DnFfnIdeal : Prop :=
  True

def algebraic_DnFfnIdeal_DnFfnRefIdeal [hDnFfnIdeal : Cert.DnFfnIdeal.Facts] [hDnFfnRefIdeal : Cert.DnFfnRefIdeal.Facts] : Prop :=
  ∀ (m : (ℓ : Loc Cert.DnFfnIdeal.nD Cert.DnFfnIdeal.τ Cert.DnFfnIdeal.sig) → Buf (Elt Ideal) ℓ) (g : Dev Cert.DnFfnIdeal.nD → PrngReg)
    (m' : (ℓ : Loc Cert.DnFfnRefIdeal.nD Cert.DnFfnRefIdeal.τ Cert.DnFfnRefIdeal.sig) → Buf (Elt Ideal) ℓ) (g' : Dev Cert.DnFfnRefIdeal.nD → PrngReg), Pre_DnFfnIdeal m →
    (∀ c : Dev Cert.DnFfnIdeal.nD,
      m' ((c.tc : Thread Cert.DnFfnRefIdeal.nD Cert.DnFfnRefIdeal.τ).loc Cert.DnFfnRefIdeal.main_arg0) = m ((c.tc : Thread Cert.DnFfnIdeal.nD Cert.DnFfnIdeal.τ).loc Cert.DnFfnIdeal.main_arg0)
      ∧ m' ((c.tc : Thread Cert.DnFfnRefIdeal.nD Cert.DnFfnRefIdeal.τ).loc Cert.DnFfnRefIdeal.main_arg1) = m ((c.tc : Thread Cert.DnFfnIdeal.nD Cert.DnFfnIdeal.τ).loc Cert.DnFfnIdeal.main_arg1)
      ∧ m' ((c.tc : Thread Cert.DnFfnRefIdeal.nD Cert.DnFfnRefIdeal.τ).loc Cert.DnFfnRefIdeal.main_arg2) = m ((c.tc : Thread Cert.DnFfnIdeal.nD Cert.DnFfnIdeal.τ).loc Cert.DnFfnIdeal.main_arg2)
      ∧ m' ((c.tc : Thread Cert.DnFfnRefIdeal.nD Cert.DnFfnRefIdeal.τ).loc Cert.DnFfnRefIdeal.main_arg3) = m ((c.tc : Thread Cert.DnFfnIdeal.nD Cert.DnFfnIdeal.τ).loc Cert.DnFfnIdeal.main_arg3)
      ∧ m' ((c.tc : Thread Cert.DnFfnRefIdeal.nD Cert.DnFfnRefIdeal.τ).loc Cert.DnFfnRefIdeal.main_arg4) = m ((c.tc : Thread Cert.DnFfnIdeal.nD Cert.DnFfnIdeal.τ).loc Cert.DnFfnIdeal.main_arg4)) →
    ∃ (v0 : (c : Dev Cert.DnFfnIdeal.nD) → Buf (Elt Ideal) ((c.tc : Thread Cert.DnFfnIdeal.nD Cert.DnFfnIdeal.τ).loc Cert.DnFfnIdeal.main_v0_0)) (v1 : (c : Dev Cert.DnFfnIdeal.nD) → Buf (Elt Ideal) ((c.tc : Thread Cert.DnFfnIdeal.nD Cert.DnFfnIdeal.τ).loc Cert.DnFfnIdeal.main_v0_1)) (v2 : (c : Dev Cert.DnFfnIdeal.nD) → Buf (Elt Ideal) ((c.tc : Thread Cert.DnFfnIdeal.nD Cert.DnFfnIdeal.τ).loc Cert.DnFfnIdeal.main_v0_2)),
      θ_run (Cert.DnFfnIdeal.defs (F := Ideal)) (onTc (τ := Cert.DnFfnIdeal.τ) (Cert.DnFfnIdeal.main (F := Ideal))) ⟨m, fun _ => 0, g⟩ (fun r => ∀ c : Dev Cert.DnFfnIdeal.nD,
          r.2.mem ((c.tc : Thread Cert.DnFfnIdeal.nD Cert.DnFfnIdeal.τ).loc Cert.DnFfnIdeal.main_v0_0) = v0 c
          ∧ r.2.mem ((c.tc : Thread Cert.DnFfnIdeal.nD Cert.DnFfnIdeal.τ).loc Cert.DnFfnIdeal.main_v0_1) = v1 c
          ∧ r.2.mem ((c.tc : Thread Cert.DnFfnIdeal.nD Cert.DnFfnIdeal.τ).loc Cert.DnFfnIdeal.main_v0_2) = v2 c
          ∧ r.2.mem ((c.tc : Thread Cert.DnFfnIdeal.nD Cert.DnFfnIdeal.τ).loc Cert.DnFfnIdeal.main_arg0) = m ((c.tc : Thread Cert.DnFfnIdeal.nD Cert.DnFfnIdeal.τ).loc Cert.DnFfnIdeal.main_arg0)
          ∧ r.2.mem ((c.tc : Thread Cert.DnFfnIdeal.nD Cert.DnFfnIdeal.τ).loc Cert.DnFfnIdeal.main_arg1) = m ((c.tc : Thread Cert.DnFfnIdeal.nD Cert.DnFfnIdeal.τ).loc Cert.DnFfnIdeal.main_arg1)
          ∧ r.2.mem ((c.tc : Thread Cert.DnFfnIdeal.nD Cert.DnFfnIdeal.τ).loc Cert.DnFfnIdeal.main_arg2) = m ((c.tc : Thread Cert.DnFfnIdeal.nD Cert.DnFfnIdeal.τ).loc Cert.DnFfnIdeal.main_arg2)
          ∧ r.2.mem ((c.tc : Thread Cert.DnFfnIdeal.nD Cert.DnFfnIdeal.τ).loc Cert.DnFfnIdeal.main_arg3) = m ((c.tc : Thread Cert.DnFfnIdeal.nD Cert.DnFfnIdeal.τ).loc Cert.DnFfnIdeal.main_arg3)
          ∧ r.2.mem ((c.tc : Thread Cert.DnFfnIdeal.nD Cert.DnFfnIdeal.τ).loc Cert.DnFfnIdeal.main_arg4) = m ((c.tc : Thread Cert.DnFfnIdeal.nD Cert.DnFfnIdeal.τ).loc Cert.DnFfnIdeal.main_arg4))
      ∧ θ_run (Cert.DnFfnRefIdeal.defs (F := Ideal)) (onTc (τ := Cert.DnFfnRefIdeal.τ) (Cert.DnFfnRefIdeal.main (F := Ideal))) ⟨m', fun _ => 0, g'⟩ (fun r => ∀ c : Dev Cert.DnFfnRefIdeal.nD,
          r.2.mem ((c.tc : Thread Cert.DnFfnRefIdeal.nD Cert.DnFfnRefIdeal.τ).loc Cert.DnFfnRefIdeal.main_v46) = v0 c
          ∧ r.2.mem ((c.tc : Thread Cert.DnFfnRefIdeal.nD Cert.DnFfnRefIdeal.τ).loc Cert.DnFfnRefIdeal.main_v48) = v1 c
          ∧ r.2.mem ((c.tc : Thread Cert.DnFfnRefIdeal.nD Cert.DnFfnRefIdeal.τ).loc Cert.DnFfnRefIdeal.main_v49) = v2 c
          ∧ r.2.mem ((c.tc : Thread Cert.DnFfnRefIdeal.nD Cert.DnFfnRefIdeal.τ).loc Cert.DnFfnRefIdeal.main_arg0) = m' ((c.tc : Thread Cert.DnFfnRefIdeal.nD Cert.DnFfnRefIdeal.τ).loc Cert.DnFfnRefIdeal.main_arg0)
          ∧ r.2.mem ((c.tc : Thread Cert.DnFfnRefIdeal.nD Cert.DnFfnRefIdeal.τ).loc Cert.DnFfnRefIdeal.main_arg1) = m' ((c.tc : Thread Cert.DnFfnRefIdeal.nD Cert.DnFfnRefIdeal.τ).loc Cert.DnFfnRefIdeal.main_arg1)
          ∧ r.2.mem ((c.tc : Thread Cert.DnFfnRefIdeal.nD Cert.DnFfnRefIdeal.τ).loc Cert.DnFfnRefIdeal.main_arg2) = m' ((c.tc : Thread Cert.DnFfnRefIdeal.nD Cert.DnFfnRefIdeal.τ).loc Cert.DnFfnRefIdeal.main_arg2)
          ∧ r.2.mem ((c.tc : Thread Cert.DnFfnRefIdeal.nD Cert.DnFfnRefIdeal.τ).loc Cert.DnFfnRefIdeal.main_arg3) = m' ((c.tc : Thread Cert.DnFfnRefIdeal.nD Cert.DnFfnRefIdeal.τ).loc Cert.DnFfnRefIdeal.main_arg3)
          ∧ r.2.mem ((c.tc : Thread Cert.DnFfnRefIdeal.nD Cert.DnFfnRefIdeal.τ).loc Cert.DnFfnRefIdeal.main_arg4) = m' ((c.tc : Thread Cert.DnFfnRefIdeal.nD Cert.DnFfnRefIdeal.τ).loc Cert.DnFfnRefIdeal.main_arg4))

def preserves_DnIn_DnInIdeal : Prop :=
  True

def algebraic_DnInIdeal_DnInRefIdeal [hDnInIdeal : Cert.DnInIdeal.Facts] [hDnInRefIdeal : Cert.DnInRefIdeal.Facts] : Prop :=
  ∀ (m : (ℓ : Loc Cert.DnInIdeal.nD Cert.DnInIdeal.τ Cert.DnInIdeal.sig) → Buf (Elt Ideal) ℓ) (g : Dev Cert.DnInIdeal.nD → PrngReg)
    (m' : (ℓ : Loc Cert.DnInRefIdeal.nD Cert.DnInRefIdeal.τ Cert.DnInRefIdeal.sig) → Buf (Elt Ideal) ℓ) (g' : Dev Cert.DnInRefIdeal.nD → PrngReg), Pre_DnInIdeal m →
    (∀ c : Dev Cert.DnInIdeal.nD,
      m' ((c.tc : Thread Cert.DnInRefIdeal.nD Cert.DnInRefIdeal.τ).loc Cert.DnInRefIdeal.main_arg0) = m ((c.tc : Thread Cert.DnInIdeal.nD Cert.DnInIdeal.τ).loc Cert.DnInIdeal.main_arg0)
      ∧ m' ((c.tc : Thread Cert.DnInRefIdeal.nD Cert.DnInRefIdeal.τ).loc Cert.DnInRefIdeal.main_arg1) = m ((c.tc : Thread Cert.DnInIdeal.nD Cert.DnInIdeal.τ).loc Cert.DnInIdeal.main_arg1)
      ∧ m' ((c.tc : Thread Cert.DnInRefIdeal.nD Cert.DnInRefIdeal.τ).loc Cert.DnInRefIdeal.main_arg2) = m ((c.tc : Thread Cert.DnInIdeal.nD Cert.DnInIdeal.τ).loc Cert.DnInIdeal.main_arg2)
      ∧ m' ((c.tc : Thread Cert.DnInRefIdeal.nD Cert.DnInRefIdeal.τ).loc Cert.DnInRefIdeal.main_arg3) = m ((c.tc : Thread Cert.DnInIdeal.nD Cert.DnInIdeal.τ).loc Cert.DnInIdeal.main_arg3)
      ∧ m' ((c.tc : Thread Cert.DnInRefIdeal.nD Cert.DnInRefIdeal.τ).loc Cert.DnInRefIdeal.main_arg4) = m ((c.tc : Thread Cert.DnInIdeal.nD Cert.DnInIdeal.τ).loc Cert.DnInIdeal.main_arg4)
      ∧ m' ((c.tc : Thread Cert.DnInRefIdeal.nD Cert.DnInRefIdeal.τ).loc Cert.DnInRefIdeal.main_arg5) = m ((c.tc : Thread Cert.DnInIdeal.nD Cert.DnInIdeal.τ).loc Cert.DnInIdeal.main_arg5)) →
    ∃ (v0 : (c : Dev Cert.DnInIdeal.nD) → Buf (Elt Ideal) ((c.tc : Thread Cert.DnInIdeal.nD Cert.DnInIdeal.τ).loc Cert.DnInIdeal.main_v0_0)) (v1 : (c : Dev Cert.DnInIdeal.nD) → Buf (Elt Ideal) ((c.tc : Thread Cert.DnInIdeal.nD Cert.DnInIdeal.τ).loc Cert.DnInIdeal.main_v0_1)) (v2 : (c : Dev Cert.DnInIdeal.nD) → Buf (Elt Ideal) ((c.tc : Thread Cert.DnInIdeal.nD Cert.DnInIdeal.τ).loc Cert.DnInIdeal.main_v0_2)),
      θ_run (Cert.DnInIdeal.defs (F := Ideal)) (onTc (τ := Cert.DnInIdeal.τ) (Cert.DnInIdeal.main (F := Ideal))) ⟨m, fun _ => 0, g⟩ (fun r => ∀ c : Dev Cert.DnInIdeal.nD,
          r.2.mem ((c.tc : Thread Cert.DnInIdeal.nD Cert.DnInIdeal.τ).loc Cert.DnInIdeal.main_v0_0) = v0 c
          ∧ r.2.mem ((c.tc : Thread Cert.DnInIdeal.nD Cert.DnInIdeal.τ).loc Cert.DnInIdeal.main_v0_1) = v1 c
          ∧ r.2.mem ((c.tc : Thread Cert.DnInIdeal.nD Cert.DnInIdeal.τ).loc Cert.DnInIdeal.main_v0_2) = v2 c
          ∧ r.2.mem ((c.tc : Thread Cert.DnInIdeal.nD Cert.DnInIdeal.τ).loc Cert.DnInIdeal.main_arg0) = m ((c.tc : Thread Cert.DnInIdeal.nD Cert.DnInIdeal.τ).loc Cert.DnInIdeal.main_arg0)
          ∧ r.2.mem ((c.tc : Thread Cert.DnInIdeal.nD Cert.DnInIdeal.τ).loc Cert.DnInIdeal.main_arg1) = m ((c.tc : Thread Cert.DnInIdeal.nD Cert.DnInIdeal.τ).loc Cert.DnInIdeal.main_arg1)
          ∧ r.2.mem ((c.tc : Thread Cert.DnInIdeal.nD Cert.DnInIdeal.τ).loc Cert.DnInIdeal.main_arg2) = m ((c.tc : Thread Cert.DnInIdeal.nD Cert.DnInIdeal.τ).loc Cert.DnInIdeal.main_arg2)
          ∧ r.2.mem ((c.tc : Thread Cert.DnInIdeal.nD Cert.DnInIdeal.τ).loc Cert.DnInIdeal.main_arg3) = m ((c.tc : Thread Cert.DnInIdeal.nD Cert.DnInIdeal.τ).loc Cert.DnInIdeal.main_arg3)
          ∧ r.2.mem ((c.tc : Thread Cert.DnInIdeal.nD Cert.DnInIdeal.τ).loc Cert.DnInIdeal.main_arg4) = m ((c.tc : Thread Cert.DnInIdeal.nD Cert.DnInIdeal.τ).loc Cert.DnInIdeal.main_arg4)
          ∧ r.2.mem ((c.tc : Thread Cert.DnInIdeal.nD Cert.DnInIdeal.τ).loc Cert.DnInIdeal.main_arg5) = m ((c.tc : Thread Cert.DnInIdeal.nD Cert.DnInIdeal.τ).loc Cert.DnInIdeal.main_arg5))
      ∧ θ_run (Cert.DnInRefIdeal.defs (F := Ideal)) (onTc (τ := Cert.DnInRefIdeal.τ) (Cert.DnInRefIdeal.main (F := Ideal))) ⟨m', fun _ => 0, g'⟩ (fun r => ∀ c : Dev Cert.DnInRefIdeal.nD,
          r.2.mem ((c.tc : Thread Cert.DnInRefIdeal.nD Cert.DnInRefIdeal.τ).loc Cert.DnInRefIdeal.main_v41) = v0 c
          ∧ r.2.mem ((c.tc : Thread Cert.DnInRefIdeal.nD Cert.DnInRefIdeal.τ).loc Cert.DnInRefIdeal.main_v43) = v1 c
          ∧ r.2.mem ((c.tc : Thread Cert.DnInRefIdeal.nD Cert.DnInRefIdeal.τ).loc Cert.DnInRefIdeal.main_v44) = v2 c
          ∧ r.2.mem ((c.tc : Thread Cert.DnInRefIdeal.nD Cert.DnInRefIdeal.τ).loc Cert.DnInRefIdeal.main_arg0) = m' ((c.tc : Thread Cert.DnInRefIdeal.nD Cert.DnInRefIdeal.τ).loc Cert.DnInRefIdeal.main_arg0)
          ∧ r.2.mem ((c.tc : Thread Cert.DnInRefIdeal.nD Cert.DnInRefIdeal.τ).loc Cert.DnInRefIdeal.main_arg1) = m' ((c.tc : Thread Cert.DnInRefIdeal.nD Cert.DnInRefIdeal.τ).loc Cert.DnInRefIdeal.main_arg1)
          ∧ r.2.mem ((c.tc : Thread Cert.DnInRefIdeal.nD Cert.DnInRefIdeal.τ).loc Cert.DnInRefIdeal.main_arg2) = m' ((c.tc : Thread Cert.DnInRefIdeal.nD Cert.DnInRefIdeal.τ).loc Cert.DnInRefIdeal.main_arg2)
          ∧ r.2.mem ((c.tc : Thread Cert.DnInRefIdeal.nD Cert.DnInRefIdeal.τ).loc Cert.DnInRefIdeal.main_arg3) = m' ((c.tc : Thread Cert.DnInRefIdeal.nD Cert.DnInRefIdeal.τ).loc Cert.DnInRefIdeal.main_arg3)
          ∧ r.2.mem ((c.tc : Thread Cert.DnInRefIdeal.nD Cert.DnInRefIdeal.τ).loc Cert.DnInRefIdeal.main_arg4) = m' ((c.tc : Thread Cert.DnInRefIdeal.nD Cert.DnInRefIdeal.τ).loc Cert.DnInRefIdeal.main_arg4)
          ∧ r.2.mem ((c.tc : Thread Cert.DnInRefIdeal.nD Cert.DnInRefIdeal.τ).loc Cert.DnInRefIdeal.main_arg5) = m' ((c.tc : Thread Cert.DnInRefIdeal.nD Cert.DnInRefIdeal.τ).loc Cert.DnInRefIdeal.main_arg5))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v30) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v3) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Forget_ForgetIdeal : Prop :=
  True

def algebraic_ForgetIdeal_ForgetRefIdeal [hForgetIdeal : Cert.ForgetIdeal.Facts] [hForgetRefIdeal : Cert.ForgetRefIdeal.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)) →
    ∃ (v0 : (c : Dev Cert.ForgetIdeal.nD) → Buf (Elt Ideal) ((c.tc : Thread Cert.ForgetIdeal.nD Cert.ForgetIdeal.τ).loc Cert.ForgetIdeal.main_v0)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v0) = v0 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v4) = v0 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwPool_DwPoolIdeal : Prop :=
  True

def algebraic_DwPoolIdeal_DwPoolRefIdeal [hDwPoolIdeal : Cert.DwPoolIdeal.Facts] [hDwPoolRefIdeal : Cert.DwPoolRefIdeal.Facts] : Prop :=
  ∀ (m : (ℓ : Loc Cert.DwPoolIdeal.nD Cert.DwPoolIdeal.τ Cert.DwPoolIdeal.sig) → Buf (Elt Ideal) ℓ) (g : Dev Cert.DwPoolIdeal.nD → PrngReg)
    (m' : (ℓ : Loc Cert.DwPoolRefIdeal.nD Cert.DwPoolRefIdeal.τ Cert.DwPoolRefIdeal.sig) → Buf (Elt Ideal) ℓ) (g' : Dev Cert.DwPoolRefIdeal.nD → PrngReg), Pre_DwPoolIdeal m →
    (∀ c : Dev Cert.DwPoolIdeal.nD,
      m' ((c.tc : Thread Cert.DwPoolRefIdeal.nD Cert.DwPoolRefIdeal.τ).loc Cert.DwPoolRefIdeal.main_arg0) = m ((c.tc : Thread Cert.DwPoolIdeal.nD Cert.DwPoolIdeal.τ).loc Cert.DwPoolIdeal.main_arg0)
      ∧ m' ((c.tc : Thread Cert.DwPoolRefIdeal.nD Cert.DwPoolRefIdeal.τ).loc Cert.DwPoolRefIdeal.main_arg1) = m ((c.tc : Thread Cert.DwPoolIdeal.nD Cert.DwPoolIdeal.τ).loc Cert.DwPoolIdeal.main_arg1)) →
    ∃ (v0 : (c : Dev Cert.DwPoolIdeal.nD) → Buf (Elt Ideal) ((c.tc : Thread Cert.DwPoolIdeal.nD Cert.DwPoolIdeal.τ).loc Cert.DwPoolIdeal.main_v0)),
      θ_run (Cert.DwPoolIdeal.defs (F := Ideal)) (onTc (τ := Cert.DwPoolIdeal.τ) (Cert.DwPoolIdeal.main (F := Ideal))) ⟨m, fun _ => 0, g⟩ (fun r => ∀ c : Dev Cert.DwPoolIdeal.nD,
          r.2.mem ((c.tc : Thread Cert.DwPoolIdeal.nD Cert.DwPoolIdeal.τ).loc Cert.DwPoolIdeal.main_v0) = v0 c
          ∧ r.2.mem ((c.tc : Thread Cert.DwPoolIdeal.nD Cert.DwPoolIdeal.τ).loc Cert.DwPoolIdeal.main_arg0) = m ((c.tc : Thread Cert.DwPoolIdeal.nD Cert.DwPoolIdeal.τ).loc Cert.DwPoolIdeal.main_arg0)
          ∧ r.2.mem ((c.tc : Thread Cert.DwPoolIdeal.nD Cert.DwPoolIdeal.τ).loc Cert.DwPoolIdeal.main_arg1) = m ((c.tc : Thread Cert.DwPoolIdeal.nD Cert.DwPoolIdeal.τ).loc Cert.DwPoolIdeal.main_arg1))
      ∧ θ_run (Cert.DwPoolRefIdeal.defs (F := Ideal)) (onTc (τ := Cert.DwPoolRefIdeal.τ) (Cert.DwPoolRefIdeal.main (F := Ideal))) ⟨m', fun _ => 0, g'⟩ (fun r => ∀ c : Dev Cert.DwPoolRefIdeal.nD,
          r.2.mem ((c.tc : Thread Cert.DwPoolRefIdeal.nD Cert.DwPoolRefIdeal.τ).loc Cert.DwPoolRefIdeal.main_v12) = v0 c
          ∧ r.2.mem ((c.tc : Thread Cert.DwPoolRefIdeal.nD Cert.DwPoolRefIdeal.τ).loc Cert.DwPoolRefIdeal.main_arg0) = m' ((c.tc : Thread Cert.DwPoolRefIdeal.nD Cert.DwPoolRefIdeal.τ).loc Cert.DwPoolRefIdeal.main_arg0)
          ∧ r.2.mem ((c.tc : Thread Cert.DwPoolRefIdeal.nD Cert.DwPoolRefIdeal.τ).loc Cert.DwPoolRefIdeal.main_arg1) = m' ((c.tc : Thread Cert.DwPoolRefIdeal.nD Cert.DwPoolRefIdeal.τ).loc Cert.DwPoolRefIdeal.main_arg1))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)
      ∧ m' ((c.tc : Thread Cert.AdamUpRefIdeal.nD Cert.AdamUpRefIdeal.τ).loc Cert.AdamUpRefIdeal.main_arg6) = m ((c.tc : Thread Cert.AdamUpIdeal.nD Cert.AdamUpIdeal.τ).loc Cert.AdamUpIdeal.main_arg6)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
          ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v10) = v0 c
          ∧ r.2.mem ((c.tc : Thread Cert.AdamUpRefIdeal.nD Cert.AdamUpRefIdeal.τ).loc Cert.AdamUpRefIdeal.main_v34) = v1 c
          ∧ r.2.mem ((c.tc : Thread Cert.AdamUpRefIdeal.nD Cert.AdamUpRefIdeal.τ).loc Cert.AdamUpRefIdeal.main_v15) = v2 c
          ∧ r.2.mem ((c.tc : Thread Cert.AdamUpRefIdeal.nD Cert.AdamUpRefIdeal.τ).loc Cert.AdamUpRefIdeal.main_v21) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5)
          ∧ r.2.mem ((c.tc : Thread Cert.AdamUpRefIdeal.nD Cert.AdamUpRefIdeal.τ).loc Cert.AdamUpRefIdeal.main_arg6) = m' ((c.tc : Thread Cert.AdamUpRefIdeal.nD Cert.AdamUpRefIdeal.τ).loc Cert.AdamUpRefIdeal.main_arg6))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)
      ∧ m' ((c.tc : Thread Cert.AdamDownRefIdeal.nD Cert.AdamDownRefIdeal.τ).loc Cert.AdamDownRefIdeal.main_arg6) = m ((c.tc : Thread Cert.AdamDownIdeal.nD Cert.AdamDownIdeal.τ).loc Cert.AdamDownIdeal.main_arg6)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
          ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v10) = v0 c
          ∧ r.2.mem ((c.tc : Thread Cert.AdamDownRefIdeal.nD Cert.AdamDownRefIdeal.τ).loc Cert.AdamDownRefIdeal.main_v34) = v1 c
          ∧ r.2.mem ((c.tc : Thread Cert.AdamDownRefIdeal.nD Cert.AdamDownRefIdeal.τ).loc Cert.AdamDownRefIdeal.main_v15) = v2 c
          ∧ r.2.mem ((c.tc : Thread Cert.AdamDownRefIdeal.nD Cert.AdamDownRefIdeal.τ).loc Cert.AdamDownRefIdeal.main_v21) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5)
          ∧ r.2.mem ((c.tc : Thread Cert.AdamDownRefIdeal.nD Cert.AdamDownRefIdeal.τ).loc Cert.AdamDownRefIdeal.main_arg6) = m' ((c.tc : Thread Cert.AdamDownRefIdeal.nD Cert.AdamDownRefIdeal.τ).loc Cert.AdamDownRefIdeal.main_arg6))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v4) = v0 c
          ∧ r.2.mem ((c.tc : Thread Cert.AdamInRefIdeal.nD Cert.AdamInRefIdeal.τ).loc Cert.AdamInRefIdeal.main_v28) = v1 c
          ∧ r.2.mem ((c.tc : Thread Cert.AdamInRefIdeal.nD Cert.AdamInRefIdeal.τ).loc Cert.AdamInRefIdeal.main_v9) = v2 c
          ∧ r.2.mem ((c.tc : Thread Cert.AdamInRefIdeal.nD Cert.AdamInRefIdeal.τ).loc Cert.AdamInRefIdeal.main_v15) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v4) = v0 c
          ∧ r.2.mem ((c.tc : Thread Cert.AdamOutRefIdeal.nD Cert.AdamOutRefIdeal.τ).loc Cert.AdamOutRefIdeal.main_v28) = v1 c
          ∧ r.2.mem ((c.tc : Thread Cert.AdamOutRefIdeal.nD Cert.AdamOutRefIdeal.τ).loc Cert.AdamOutRefIdeal.main_v9) = v2 c
          ∧ r.2.mem ((c.tc : Thread Cert.AdamOutRefIdeal.nD Cert.AdamOutRefIdeal.τ).loc Cert.AdamOutRefIdeal.main_v15) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)
      ∧ m' ((c.tc : Thread Cert.AdamPoolRefIdeal.nD Cert.AdamPoolRefIdeal.τ).loc Cert.AdamPoolRefIdeal.main_arg4) = m ((c.tc : Thread Cert.AdamPoolIdeal.nD Cert.AdamPoolIdeal.τ).loc Cert.AdamPoolIdeal.main_arg4)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)) (v3 : (c : Dev Cert.AdamPoolIdeal.nD) → Buf (Elt Ideal) ((c.tc : Thread Cert.AdamPoolIdeal.nD Cert.AdamPoolIdeal.τ).loc Cert.AdamPoolIdeal.main_v0_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_v0_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
          ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v4) = v0 c
          ∧ r.2.mem ((c.tc : Thread Cert.AdamPoolRefIdeal.nD Cert.AdamPoolRefIdeal.τ).loc Cert.AdamPoolRefIdeal.main_v28) = v1 c
          ∧ r.2.mem ((c.tc : Thread Cert.AdamPoolRefIdeal.nD Cert.AdamPoolRefIdeal.τ).loc Cert.AdamPoolRefIdeal.main_v9) = v2 c
          ∧ r.2.mem ((c.tc : Thread Cert.AdamPoolRefIdeal.nD Cert.AdamPoolRefIdeal.τ).loc Cert.AdamPoolRefIdeal.main_v15) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3)
          ∧ r.2.mem ((c.tc : Thread Cert.AdamPoolRefIdeal.nD Cert.AdamPoolRefIdeal.τ).loc Cert.AdamPoolRefIdeal.main_arg4) = m' ((c.tc : Thread Cert.AdamPoolRefIdeal.nD Cert.AdamPoolRefIdeal.τ).loc Cert.AdamPoolRefIdeal.main_arg4))

def preserves_SumLittle_SumLittleIdeal : Prop :=
  True

def algebraic_SumLittleIdeal_SumLittleRefIdeal [hSumLittleIdeal : Cert.SumLittleIdeal.Facts] [hSumLittleRefIdeal : Cert.SumLittleRefIdeal.Facts] : Prop :=
  ∀ (m : (ℓ : Loc Cert.SumLittleIdeal.nD Cert.SumLittleIdeal.τ Cert.SumLittleIdeal.sig) → Buf (Elt Ideal) ℓ) (g : Dev Cert.SumLittleIdeal.nD → PrngReg)
    (m' : (ℓ : Loc Cert.SumLittleRefIdeal.nD Cert.SumLittleRefIdeal.τ Cert.SumLittleRefIdeal.sig) → Buf (Elt Ideal) ℓ) (g' : Dev Cert.SumLittleRefIdeal.nD → PrngReg), Pre_SumLittleIdeal m →
    (∀ c : Dev Cert.SumLittleIdeal.nD,
      m' ((c.tc : Thread Cert.SumLittleRefIdeal.nD Cert.SumLittleRefIdeal.τ).loc Cert.SumLittleRefIdeal.main_arg0) = m ((c.tc : Thread Cert.SumLittleIdeal.nD Cert.SumLittleIdeal.τ).loc Cert.SumLittleIdeal.main_arg0)
      ∧ m' ((c.tc : Thread Cert.SumLittleRefIdeal.nD Cert.SumLittleRefIdeal.τ).loc Cert.SumLittleRefIdeal.main_arg1) = m ((c.tc : Thread Cert.SumLittleIdeal.nD Cert.SumLittleIdeal.τ).loc Cert.SumLittleIdeal.main_arg1)) →
    ∃ (v0 : (c : Dev Cert.SumLittleIdeal.nD) → Buf (Elt Ideal) ((c.tc : Thread Cert.SumLittleIdeal.nD Cert.SumLittleIdeal.τ).loc Cert.SumLittleIdeal.main_v0)),
      θ_run (Cert.SumLittleIdeal.defs (F := Ideal)) (onTc (τ := Cert.SumLittleIdeal.τ) (Cert.SumLittleIdeal.main (F := Ideal))) ⟨m, fun _ => 0, g⟩ (fun r => ∀ c : Dev Cert.SumLittleIdeal.nD,
          r.2.mem ((c.tc : Thread Cert.SumLittleIdeal.nD Cert.SumLittleIdeal.τ).loc Cert.SumLittleIdeal.main_v0) = v0 c
          ∧ r.2.mem ((c.tc : Thread Cert.SumLittleIdeal.nD Cert.SumLittleIdeal.τ).loc Cert.SumLittleIdeal.main_arg0) = m ((c.tc : Thread Cert.SumLittleIdeal.nD Cert.SumLittleIdeal.τ).loc Cert.SumLittleIdeal.main_arg0)
          ∧ r.2.mem ((c.tc : Thread Cert.SumLittleIdeal.nD Cert.SumLittleIdeal.τ).loc Cert.SumLittleIdeal.main_arg1) = m ((c.tc : Thread Cert.SumLittleIdeal.nD Cert.SumLittleIdeal.τ).loc Cert.SumLittleIdeal.main_arg1))
      ∧ θ_run (Cert.SumLittleRefIdeal.defs (F := Ideal)) (onTc (τ := Cert.SumLittleRefIdeal.τ) (Cert.SumLittleRefIdeal.main (F := Ideal))) ⟨m', fun _ => 0, g'⟩ (fun r => ∀ c : Dev Cert.SumLittleRefIdeal.nD,
          r.2.mem ((c.tc : Thread Cert.SumLittleRefIdeal.nD Cert.SumLittleRefIdeal.τ).loc Cert.SumLittleRefIdeal.main_v1) = v0 c
          ∧ r.2.mem ((c.tc : Thread Cert.SumLittleRefIdeal.nD Cert.SumLittleRefIdeal.τ).loc Cert.SumLittleRefIdeal.main_arg0) = m' ((c.tc : Thread Cert.SumLittleRefIdeal.nD Cert.SumLittleRefIdeal.τ).loc Cert.SumLittleRefIdeal.main_arg0)
          ∧ r.2.mem ((c.tc : Thread Cert.SumLittleRefIdeal.nD Cert.SumLittleRefIdeal.τ).loc Cert.SumLittleRefIdeal.main_arg1) = m' ((c.tc : Thread Cert.SumLittleRefIdeal.nD Cert.SumLittleRefIdeal.τ).loc Cert.SumLittleRefIdeal.main_arg1))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_AttnFwd_AttnFwdIdeal : Prop :=
  IdealRules.named_const.Statement Cert.AttnFwdIdeal.κ "mask" .f32 0xF149F2CA#32 ⊥

def algebraic_AttnFwdIdeal_AttnFwdRefIdeal_pre_finite_attn [hAttnFwdIdeal : Cert.AttnFwdIdeal.Facts] [hAttnFwdRefIdeal : Cert.AttnFwdRefIdeal.Facts] [hPre_finite_attn : Cert.Pre_finite_attn.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attn m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v40) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_RmsEven_RmsEvenIdeal : Prop :=
  True

def algebraic_RmsEvenIdeal_RmsEvenRefIdeal [hRmsEvenIdeal : Cert.RmsEvenIdeal.Facts] [hRmsEvenRefIdeal : Cert.RmsEvenRefIdeal.Facts] : Prop :=
  ∀ (m : (ℓ : Loc Cert.RmsEvenIdeal.nD Cert.RmsEvenIdeal.τ Cert.RmsEvenIdeal.sig) → Buf (Elt Ideal) ℓ) (g : Dev Cert.RmsEvenIdeal.nD → PrngReg)
    (m' : (ℓ : Loc Cert.RmsEvenRefIdeal.nD Cert.RmsEvenRefIdeal.τ Cert.RmsEvenRefIdeal.sig) → Buf (Elt Ideal) ℓ) (g' : Dev Cert.RmsEvenRefIdeal.nD → PrngReg), Pre_RmsEvenIdeal m →
    (∀ c : Dev Cert.RmsEvenIdeal.nD,
      m' ((c.tc : Thread Cert.RmsEvenRefIdeal.nD Cert.RmsEvenRefIdeal.τ).loc Cert.RmsEvenRefIdeal.main_arg0) = m ((c.tc : Thread Cert.RmsEvenIdeal.nD Cert.RmsEvenIdeal.τ).loc Cert.RmsEvenIdeal.main_arg0)
      ∧ m' ((c.tc : Thread Cert.RmsEvenRefIdeal.nD Cert.RmsEvenRefIdeal.τ).loc Cert.RmsEvenRefIdeal.main_arg1) = m ((c.tc : Thread Cert.RmsEvenIdeal.nD Cert.RmsEvenIdeal.τ).loc Cert.RmsEvenIdeal.main_arg1)
      ∧ m' ((c.tc : Thread Cert.RmsEvenRefIdeal.nD Cert.RmsEvenRefIdeal.τ).loc Cert.RmsEvenRefIdeal.main_arg2) = m ((c.tc : Thread Cert.RmsEvenIdeal.nD Cert.RmsEvenIdeal.τ).loc Cert.RmsEvenIdeal.main_arg2)) →
    ∃ (v0 : (c : Dev Cert.RmsEvenIdeal.nD) → Buf (Elt Ideal) ((c.tc : Thread Cert.RmsEvenIdeal.nD Cert.RmsEvenIdeal.τ).loc Cert.RmsEvenIdeal.main_v0_0)) (v1 : (c : Dev Cert.RmsEvenIdeal.nD) → Buf (Elt Ideal) ((c.tc : Thread Cert.RmsEvenIdeal.nD Cert.RmsEvenIdeal.τ).loc Cert.RmsEvenIdeal.main_v0_1)),
      θ_run (Cert.RmsEvenIdeal.defs (F := Ideal)) (onTc (τ := Cert.RmsEvenIdeal.τ) (Cert.RmsEvenIdeal.main (F := Ideal))) ⟨m, fun _ => 0, g⟩ (fun r => ∀ c : Dev Cert.RmsEvenIdeal.nD,
          r.2.mem ((c.tc : Thread Cert.RmsEvenIdeal.nD Cert.RmsEvenIdeal.τ).loc Cert.RmsEvenIdeal.main_v0_0) = v0 c
          ∧ r.2.mem ((c.tc : Thread Cert.RmsEvenIdeal.nD Cert.RmsEvenIdeal.τ).loc Cert.RmsEvenIdeal.main_v0_1) = v1 c
          ∧ r.2.mem ((c.tc : Thread Cert.RmsEvenIdeal.nD Cert.RmsEvenIdeal.τ).loc Cert.RmsEvenIdeal.main_arg0) = m ((c.tc : Thread Cert.RmsEvenIdeal.nD Cert.RmsEvenIdeal.τ).loc Cert.RmsEvenIdeal.main_arg0)
          ∧ r.2.mem ((c.tc : Thread Cert.RmsEvenIdeal.nD Cert.RmsEvenIdeal.τ).loc Cert.RmsEvenIdeal.main_arg1) = m ((c.tc : Thread Cert.RmsEvenIdeal.nD Cert.RmsEvenIdeal.τ).loc Cert.RmsEvenIdeal.main_arg1)
          ∧ r.2.mem ((c.tc : Thread Cert.RmsEvenIdeal.nD Cert.RmsEvenIdeal.τ).loc Cert.RmsEvenIdeal.main_arg2) = m ((c.tc : Thread Cert.RmsEvenIdeal.nD Cert.RmsEvenIdeal.τ).loc Cert.RmsEvenIdeal.main_arg2))
      ∧ θ_run (Cert.RmsEvenRefIdeal.defs (F := Ideal)) (onTc (τ := Cert.RmsEvenRefIdeal.τ) (Cert.RmsEvenRefIdeal.main (F := Ideal))) ⟨m', fun _ => 0, g'⟩ (fun r => ∀ c : Dev Cert.RmsEvenRefIdeal.nD,
          r.2.mem ((c.tc : Thread Cert.RmsEvenRefIdeal.nD Cert.RmsEvenRefIdeal.τ).loc Cert.RmsEvenRefIdeal.main_v14) = v0 c
          ∧ r.2.mem ((c.tc : Thread Cert.RmsEvenRefIdeal.nD Cert.RmsEvenRefIdeal.τ).loc Cert.RmsEvenRefIdeal.main_v15) = v1 c
          ∧ r.2.mem ((c.tc : Thread Cert.RmsEvenRefIdeal.nD Cert.RmsEvenRefIdeal.τ).loc Cert.RmsEvenRefIdeal.main_arg0) = m' ((c.tc : Thread Cert.RmsEvenRefIdeal.nD Cert.RmsEvenRefIdeal.τ).loc Cert.RmsEvenRefIdeal.main_arg0)
          ∧ r.2.mem ((c.tc : Thread Cert.RmsEvenRefIdeal.nD Cert.RmsEvenRefIdeal.τ).loc Cert.RmsEvenRefIdeal.main_arg1) = m' ((c.tc : Thread Cert.RmsEvenRefIdeal.nD Cert.RmsEvenRefIdeal.τ).loc Cert.RmsEvenRefIdeal.main_arg1)
          ∧ r.2.mem ((c.tc : Thread Cert.RmsEvenRefIdeal.nD Cert.RmsEvenRefIdeal.τ).loc Cert.RmsEvenRefIdeal.main_arg2) = m' ((c.tc : Thread Cert.RmsEvenRefIdeal.nD Cert.RmsEvenRefIdeal.τ).loc Cert.RmsEvenRefIdeal.main_arg2))

def preserves_RmsFfn_RmsFfnIdeal : Prop :=
  True

def algebraic_RmsFfnIdeal_RmsFfnRefIdeal [hRmsFfnIdeal : Cert.RmsFfnIdeal.Facts] [hRmsFfnRefIdeal : Cert.RmsFfnRefIdeal.Facts] : Prop :=
  ∀ (m : (ℓ : Loc Cert.RmsFfnIdeal.nD Cert.RmsFfnIdeal.τ Cert.RmsFfnIdeal.sig) → Buf (Elt Ideal) ℓ) (g : Dev Cert.RmsFfnIdeal.nD → PrngReg)
    (m' : (ℓ : Loc Cert.RmsFfnRefIdeal.nD Cert.RmsFfnRefIdeal.τ Cert.RmsFfnRefIdeal.sig) → Buf (Elt Ideal) ℓ) (g' : Dev Cert.RmsFfnRefIdeal.nD → PrngReg), Pre_RmsFfnIdeal m →
    (∀ c : Dev Cert.RmsFfnIdeal.nD,
      m' ((c.tc : Thread Cert.RmsFfnRefIdeal.nD Cert.RmsFfnRefIdeal.τ).loc Cert.RmsFfnRefIdeal.main_arg0) = m ((c.tc : Thread Cert.RmsFfnIdeal.nD Cert.RmsFfnIdeal.τ).loc Cert.RmsFfnIdeal.main_arg0)
      ∧ m' ((c.tc : Thread Cert.RmsFfnRefIdeal.nD Cert.RmsFfnRefIdeal.τ).loc Cert.RmsFfnRefIdeal.main_arg1) = m ((c.tc : Thread Cert.RmsFfnIdeal.nD Cert.RmsFfnIdeal.τ).loc Cert.RmsFfnIdeal.main_arg1)) →
    ∃ (v0 : (c : Dev Cert.RmsFfnIdeal.nD) → Buf (Elt Ideal) ((c.tc : Thread Cert.RmsFfnIdeal.nD Cert.RmsFfnIdeal.τ).loc Cert.RmsFfnIdeal.main_v0_0)) (v1 : (c : Dev Cert.RmsFfnIdeal.nD) → Buf (Elt Ideal) ((c.tc : Thread Cert.RmsFfnIdeal.nD Cert.RmsFfnIdeal.τ).loc Cert.RmsFfnIdeal.main_v0_1)),
      θ_run (Cert.RmsFfnIdeal.defs (F := Ideal)) (onTc (τ := Cert.RmsFfnIdeal.τ) (Cert.RmsFfnIdeal.main (F := Ideal))) ⟨m, fun _ => 0, g⟩ (fun r => ∀ c : Dev Cert.RmsFfnIdeal.nD,
          r.2.mem ((c.tc : Thread Cert.RmsFfnIdeal.nD Cert.RmsFfnIdeal.τ).loc Cert.RmsFfnIdeal.main_v0_0) = v0 c
          ∧ r.2.mem ((c.tc : Thread Cert.RmsFfnIdeal.nD Cert.RmsFfnIdeal.τ).loc Cert.RmsFfnIdeal.main_v0_1) = v1 c
          ∧ r.2.mem ((c.tc : Thread Cert.RmsFfnIdeal.nD Cert.RmsFfnIdeal.τ).loc Cert.RmsFfnIdeal.main_arg0) = m ((c.tc : Thread Cert.RmsFfnIdeal.nD Cert.RmsFfnIdeal.τ).loc Cert.RmsFfnIdeal.main_arg0)
          ∧ r.2.mem ((c.tc : Thread Cert.RmsFfnIdeal.nD Cert.RmsFfnIdeal.τ).loc Cert.RmsFfnIdeal.main_arg1) = m ((c.tc : Thread Cert.RmsFfnIdeal.nD Cert.RmsFfnIdeal.τ).loc Cert.RmsFfnIdeal.main_arg1))
      ∧ θ_run (Cert.RmsFfnRefIdeal.defs (F := Ideal)) (onTc (τ := Cert.RmsFfnRefIdeal.τ) (Cert.RmsFfnRefIdeal.main (F := Ideal))) ⟨m', fun _ => 0, g'⟩ (fun r => ∀ c : Dev Cert.RmsFfnRefIdeal.nD,
          r.2.mem ((c.tc : Thread Cert.RmsFfnRefIdeal.nD Cert.RmsFfnRefIdeal.τ).loc Cert.RmsFfnRefIdeal.main_v14) = v0 c
          ∧ r.2.mem ((c.tc : Thread Cert.RmsFfnRefIdeal.nD Cert.RmsFfnRefIdeal.τ).loc Cert.RmsFfnRefIdeal.main_v15) = v1 c
          ∧ r.2.mem ((c.tc : Thread Cert.RmsFfnRefIdeal.nD Cert.RmsFfnRefIdeal.τ).loc Cert.RmsFfnRefIdeal.main_arg0) = m' ((c.tc : Thread Cert.RmsFfnRefIdeal.nD Cert.RmsFfnRefIdeal.τ).loc Cert.RmsFfnRefIdeal.main_arg0)
          ∧ r.2.mem ((c.tc : Thread Cert.RmsFfnRefIdeal.nD Cert.RmsFfnRefIdeal.τ).loc Cert.RmsFfnRefIdeal.main_arg1) = m' ((c.tc : Thread Cert.RmsFfnRefIdeal.nD Cert.RmsFfnRefIdeal.τ).loc Cert.RmsFfnRefIdeal.main_arg1))

def preserves_RmsOdd_RmsOddIdeal : Prop :=
  True

def algebraic_RmsOddIdeal_RmsOddRefIdeal [hRmsOddIdeal : Cert.RmsOddIdeal.Facts] [hRmsOddRefIdeal : Cert.RmsOddRefIdeal.Facts] : Prop :=
  ∀ (m : (ℓ : Loc Cert.RmsOddIdeal.nD Cert.RmsOddIdeal.τ Cert.RmsOddIdeal.sig) → Buf (Elt Ideal) ℓ) (g : Dev Cert.RmsOddIdeal.nD → PrngReg)
    (m' : (ℓ : Loc Cert.RmsOddRefIdeal.nD Cert.RmsOddRefIdeal.τ Cert.RmsOddRefIdeal.sig) → Buf (Elt Ideal) ℓ) (g' : Dev Cert.RmsOddRefIdeal.nD → PrngReg), Pre_RmsOddIdeal m →
    (∀ c : Dev Cert.RmsOddIdeal.nD,
      m' ((c.tc : Thread Cert.RmsOddRefIdeal.nD Cert.RmsOddRefIdeal.τ).loc Cert.RmsOddRefIdeal.main_arg0) = m ((c.tc : Thread Cert.RmsOddIdeal.nD Cert.RmsOddIdeal.τ).loc Cert.RmsOddIdeal.main_arg0)
      ∧ m' ((c.tc : Thread Cert.RmsOddRefIdeal.nD Cert.RmsOddRefIdeal.τ).loc Cert.RmsOddRefIdeal.main_arg1) = m ((c.tc : Thread Cert.RmsOddIdeal.nD Cert.RmsOddIdeal.τ).loc Cert.RmsOddIdeal.main_arg1)) →
    ∃ (v0 : (c : Dev Cert.RmsOddIdeal.nD) → Buf (Elt Ideal) ((c.tc : Thread Cert.RmsOddIdeal.nD Cert.RmsOddIdeal.τ).loc Cert.RmsOddIdeal.main_v0)),
      θ_run (Cert.RmsOddIdeal.defs (F := Ideal)) (onTc (τ := Cert.RmsOddIdeal.τ) (Cert.RmsOddIdeal.main (F := Ideal))) ⟨m, fun _ => 0, g⟩ (fun r => ∀ c : Dev Cert.RmsOddIdeal.nD,
          r.2.mem ((c.tc : Thread Cert.RmsOddIdeal.nD Cert.RmsOddIdeal.τ).loc Cert.RmsOddIdeal.main_v0) = v0 c
          ∧ r.2.mem ((c.tc : Thread Cert.RmsOddIdeal.nD Cert.RmsOddIdeal.τ).loc Cert.RmsOddIdeal.main_arg0) = m ((c.tc : Thread Cert.RmsOddIdeal.nD Cert.RmsOddIdeal.τ).loc Cert.RmsOddIdeal.main_arg0)
          ∧ r.2.mem ((c.tc : Thread Cert.RmsOddIdeal.nD Cert.RmsOddIdeal.τ).loc Cert.RmsOddIdeal.main_arg1) = m ((c.tc : Thread Cert.RmsOddIdeal.nD Cert.RmsOddIdeal.τ).loc Cert.RmsOddIdeal.main_arg1))
      ∧ θ_run (Cert.RmsOddRefIdeal.defs (F := Ideal)) (onTc (τ := Cert.RmsOddRefIdeal.τ) (Cert.RmsOddRefIdeal.main (F := Ideal))) ⟨m', fun _ => 0, g'⟩ (fun r => ∀ c : Dev Cert.RmsOddRefIdeal.nD,
          r.2.mem ((c.tc : Thread Cert.RmsOddRefIdeal.nD Cert.RmsOddRefIdeal.τ).loc Cert.RmsOddRefIdeal.main_v13) = v0 c
          ∧ r.2.mem ((c.tc : Thread Cert.RmsOddRefIdeal.nD Cert.RmsOddRefIdeal.τ).loc Cert.RmsOddRefIdeal.main_arg0) = m' ((c.tc : Thread Cert.RmsOddRefIdeal.nD Cert.RmsOddRefIdeal.τ).loc Cert.RmsOddRefIdeal.main_arg0)
          ∧ r.2.mem ((c.tc : Thread Cert.RmsOddRefIdeal.nD Cert.RmsOddRefIdeal.τ).loc Cert.RmsOddRefIdeal.main_arg1) = m' ((c.tc : Thread Cert.RmsOddRefIdeal.nD Cert.RmsOddRefIdeal.τ).loc Cert.RmsOddRefIdeal.main_arg1))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)) (v2 : (c : Dev Cert.RmsBwdIdeal.nD) → Buf (Elt Ideal) ((c.tc : Thread Cert.RmsBwdIdeal.nD Cert.RmsBwdIdeal.τ).loc Cert.RmsBwdIdeal.main_v0_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_v0_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v37) = v0 c
          ∧ r.2.mem ((c.tc : Thread Cert.RmsBwdRefIdeal.nD Cert.RmsBwdRefIdeal.τ).loc Cert.RmsBwdRefIdeal.main_v39) = v1 c
          ∧ r.2.mem ((c.tc : Thread Cert.RmsBwdRefIdeal.nD Cert.RmsBwdRefIdeal.τ).loc Cert.RmsBwdRefIdeal.main_v40) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_TCat_TCatIdeal : Prop :=
  True

def algebraic_TCatIdeal_TCatRefIdeal [hTCatIdeal : Cert.TCatIdeal.Facts] [hTCatRefIdeal : Cert.TCatRefIdeal.Facts] : Prop :=
  ∀ (m : (ℓ : Loc Cert.TCatIdeal.nD Cert.TCatIdeal.τ Cert.TCatIdeal.sig) → Buf (Elt Ideal) ℓ) (g : Dev Cert.TCatIdeal.nD → PrngReg)
    (m' : (ℓ : Loc Cert.TCatRefIdeal.nD Cert.TCatRefIdeal.τ Cert.TCatRefIdeal.sig) → Buf (Elt Ideal) ℓ) (g' : Dev Cert.TCatRefIdeal.nD → PrngReg), Pre_TCatIdeal m →
    (∀ c : Dev Cert.TCatIdeal.nD,
      m' ((c.tc : Thread Cert.TCatRefIdeal.nD Cert.TCatRefIdeal.τ).loc Cert.TCatRefIdeal.main_arg0) = m ((c.tc : Thread Cert.TCatIdeal.nD Cert.TCatIdeal.τ).loc Cert.TCatIdeal.main_arg0)) →
    ∃ (v0 : (c : Dev Cert.TCatIdeal.nD) → Buf (Elt Ideal) ((c.tc : Thread Cert.TCatIdeal.nD Cert.TCatIdeal.τ).loc Cert.TCatIdeal.main_v0)),
      θ_run (Cert.TCatIdeal.defs (F := Ideal)) (onTc (τ := Cert.TCatIdeal.τ) (Cert.TCatIdeal.main (F := Ideal))) ⟨m, fun _ => 0, g⟩ (fun r => ∀ c : Dev Cert.TCatIdeal.nD,
          r.2.mem ((c.tc : Thread Cert.TCatIdeal.nD Cert.TCatIdeal.τ).loc Cert.TCatIdeal.main_v0) = v0 c
          ∧ r.2.mem ((c.tc : Thread Cert.TCatIdeal.nD Cert.TCatIdeal.τ).loc Cert.TCatIdeal.main_arg0) = m ((c.tc : Thread Cert.TCatIdeal.nD Cert.TCatIdeal.τ).loc Cert.TCatIdeal.main_arg0))
      ∧ θ_run (Cert.TCatRefIdeal.defs (F := Ideal)) (onTc (τ := Cert.TCatRefIdeal.τ) (Cert.TCatRefIdeal.main (F := Ideal))) ⟨m', fun _ => 0, g'⟩ (fun r => ∀ c : Dev Cert.TCatRefIdeal.nD,
          r.2.mem ((c.tc : Thread Cert.TCatRefIdeal.nD Cert.TCatRefIdeal.τ).loc Cert.TCatRefIdeal.main_v0) = v0 c
          ∧ r.2.mem ((c.tc : Thread Cert.TCatRefIdeal.nD Cert.TCatRefIdeal.τ).loc Cert.TCatRefIdeal.main_arg0) = m' ((c.tc : Thread Cert.TCatRefIdeal.nD Cert.TCatRefIdeal.τ).loc Cert.TCatRefIdeal.main_arg0))

def preserves_TDf_TDfIdeal : Prop :=
  True

def algebraic_TDfIdeal_TDfRefIdeal [hTDfIdeal : Cert.TDfIdeal.Facts] [hTDfRefIdeal : Cert.TDfRefIdeal.Facts] : Prop :=
  ∀ (m : (ℓ : Loc Cert.TDfIdeal.nD Cert.TDfIdeal.τ Cert.TDfIdeal.sig) → Buf (Elt Ideal) ℓ) (g : Dev Cert.TDfIdeal.nD → PrngReg)
    (m' : (ℓ : Loc Cert.TDfRefIdeal.nD Cert.TDfRefIdeal.τ Cert.TDfRefIdeal.sig) → Buf (Elt Ideal) ℓ) (g' : Dev Cert.TDfRefIdeal.nD → PrngReg), Pre_TDfIdeal m →
    (∀ c : Dev Cert.TDfIdeal.nD,
      m' ((c.tc : Thread Cert.TDfRefIdeal.nD Cert.TDfRefIdeal.τ).loc Cert.TDfRefIdeal.main_arg0) = m ((c.tc : Thread Cert.TDfIdeal.nD Cert.TDfIdeal.τ).loc Cert.TDfIdeal.main_arg0)) →
    ∃ (v0 : (c : Dev Cert.TDfIdeal.nD) → Buf (Elt Ideal) ((c.tc : Thread Cert.TDfIdeal.nD Cert.TDfIdeal.τ).loc Cert.TDfIdeal.main_v0)),
      θ_run (Cert.TDfIdeal.defs (F := Ideal)) (onTc (τ := Cert.TDfIdeal.τ) (Cert.TDfIdeal.main (F := Ideal))) ⟨m, fun _ => 0, g⟩ (fun r => ∀ c : Dev Cert.TDfIdeal.nD,
          r.2.mem ((c.tc : Thread Cert.TDfIdeal.nD Cert.TDfIdeal.τ).loc Cert.TDfIdeal.main_v0) = v0 c
          ∧ r.2.mem ((c.tc : Thread Cert.TDfIdeal.nD Cert.TDfIdeal.τ).loc Cert.TDfIdeal.main_arg0) = m ((c.tc : Thread Cert.TDfIdeal.nD Cert.TDfIdeal.τ).loc Cert.TDfIdeal.main_arg0))
      ∧ θ_run (Cert.TDfRefIdeal.defs (F := Ideal)) (onTc (τ := Cert.TDfRefIdeal.τ) (Cert.TDfRefIdeal.main (F := Ideal))) ⟨m', fun _ => 0, g'⟩ (fun r => ∀ c : Dev Cert.TDfRefIdeal.nD,
          r.2.mem ((c.tc : Thread Cert.TDfRefIdeal.nD Cert.TDfRefIdeal.τ).loc Cert.TDfRefIdeal.main_v1) = v0 c
          ∧ r.2.mem ((c.tc : Thread Cert.TDfRefIdeal.nD Cert.TDfRefIdeal.τ).loc Cert.TDfRefIdeal.main_arg0) = m' ((c.tc : Thread Cert.TDfRefIdeal.nD Cert.TDfRefIdeal.τ).loc Cert.TDfRefIdeal.main_arg0))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v55) = v0 c
          ∧ r.2.mem ((c.tc : Thread Cert.LossHeadRefIdeal.nD Cert.LossHeadRefIdeal.τ).loc Cert.LossHeadRefIdeal.main_v54) = v1 c
          ∧ r.2.mem ((c.tc : Thread Cert.LossHeadRefIdeal.nD Cert.LossHeadRefIdeal.τ).loc Cert.LossHeadRefIdeal.main_v56) = v2 c
          ∧ r.2.mem ((c.tc : Thread Cert.LossHeadRefIdeal.nD Cert.LossHeadRefIdeal.τ).loc Cert.LossHeadRefIdeal.main_v57) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)) →
    ∃ (v0 : (c : Dev Cert.WInIdeal.nD) → Buf (Elt Ideal) ((c.tc : Thread Cert.WInIdeal.nD Cert.WInIdeal.τ).loc Cert.WInIdeal.main_v0)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v0) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v6) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0))

def Claim : Prop :=
  ∃ (hKernel : Cert.Kernel.Facts) (hKernelIdeal : Cert.KernelIdeal.Facts) (hReferenceIdeal : Cert.ReferenceIdeal.Facts) (hDwUp : Cert.DwUp.Facts) (hDwUpIdeal : Cert.DwUpIdeal.Facts) (hDwUpRefIdeal : Cert.DwUpRefIdeal.Facts) (hDwDown : Cert.DwDown.Facts) (hDwDownIdeal : Cert.DwDownIdeal.Facts) (hDwDownRefIdeal : Cert.DwDownRefIdeal.Facts) (hDAct : Cert.DAct.Facts) (hDActIdeal : Cert.DActIdeal.Facts) (hDActRefIdeal : Cert.DActRefIdeal.Facts) (hDown : Cert.Down.Facts) (hDownIdeal : Cert.DownIdeal.Facts) (hDownRefIdeal : Cert.DownRefIdeal.Facts) (hDnFfn : Cert.DnFfn.Facts) (hDnFfnIdeal : Cert.DnFfnIdeal.Facts) (hDnFfnRefIdeal : Cert.DnFfnRefIdeal.Facts) (hDnIn : Cert.DnIn.Facts) (hDnInIdeal : Cert.DnInIdeal.Facts) (hDnInRefIdeal : Cert.DnInRefIdeal.Facts) (hDwIn : Cert.DwIn.Facts) (hDwInIdeal : Cert.DwInIdeal.Facts) (hDwInRefIdeal : Cert.DwInRefIdeal.Facts) (hGlu : Cert.Glu.Facts) (hGluIdeal : Cert.GluIdeal.Facts) (hGluRefIdeal : Cert.GluRefIdeal.Facts) (hForget : Cert.Forget.Facts) (hForgetIdeal : Cert.ForgetIdeal.Facts) (hForgetRefIdeal : Cert.ForgetRefIdeal.Facts) (hMixOut : Cert.MixOut.Facts) (hMixOutIdeal : Cert.MixOutIdeal.Facts) (hMixOutRefIdeal : Cert.MixOutRefIdeal.Facts) (hDwOut : Cert.DwOut.Facts) (hDwOutIdeal : Cert.DwOutIdeal.Facts) (hDwOutRefIdeal : Cert.DwOutRefIdeal.Facts) (hDwPool : Cert.DwPool.Facts) (hDwPoolIdeal : Cert.DwPoolIdeal.Facts) (hDwPoolRefIdeal : Cert.DwPoolRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamPool : Cert.AdamPool.Facts) (hAdamPoolIdeal : Cert.AdamPoolIdeal.Facts) (hAdamPoolRefIdeal : Cert.AdamPoolRefIdeal.Facts) (hSumLittle : Cert.SumLittle.Facts) (hSumLittleIdeal : Cert.SumLittleIdeal.Facts) (hSumLittleRefIdeal : Cert.SumLittleRefIdeal.Facts) (hSumSmall : Cert.SumSmall.Facts) (hSumSmallIdeal : Cert.SumSmallIdeal.Facts) (hSumSmallRefIdeal : Cert.SumSmallRefIdeal.Facts) (hAttnFwd : Cert.AttnFwd.Facts) (hAttnFwdIdeal : Cert.AttnFwdIdeal.Facts) (hAttnFwdRefIdeal : Cert.AttnFwdRefIdeal.Facts) (hRmsEven : Cert.RmsEven.Facts) (hRmsEvenIdeal : Cert.RmsEvenIdeal.Facts) (hRmsEvenRefIdeal : Cert.RmsEvenRefIdeal.Facts) (hRmsFfn : Cert.RmsFfn.Facts) (hRmsFfnIdeal : Cert.RmsFfnIdeal.Facts) (hRmsFfnRefIdeal : Cert.RmsFfnRefIdeal.Facts) (hRmsOdd : Cert.RmsOdd.Facts) (hRmsOddIdeal : Cert.RmsOddIdeal.Facts) (hRmsOddRefIdeal : Cert.RmsOddRefIdeal.Facts) (hRmsBwd : Cert.RmsBwd.Facts) (hRmsBwdIdeal : Cert.RmsBwdIdeal.Facts) (hRmsBwdRefIdeal : Cert.RmsBwdRefIdeal.Facts) (hTCat : Cert.TCat.Facts) (hTCatIdeal : Cert.TCatIdeal.Facts) (hTCatRefIdeal : Cert.TCatRefIdeal.Facts) (hTDf : Cert.TDf.Facts) (hTDfIdeal : Cert.TDfIdeal.Facts) (hTDfRefIdeal : Cert.TDfRefIdeal.Facts) (hLossHead : Cert.LossHead.Facts) (hLossHeadIdeal : Cert.LossHeadIdeal.Facts) (hLossHeadRefIdeal : Cert.LossHeadRefIdeal.Facts) (hWIn : Cert.WIn.Facts) (hWInIdeal : Cert.WInIdeal.Facts) (hWInRefIdeal : Cert.WInRefIdeal.Facts) (hPre_finite : Cert.Pre_finite.Facts) (hPre_finite_attn : Cert.Pre_finite_attn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DAct (hDAct := hDAct)
    ∧ quiescent_DActIdeal (hDActIdeal := hDActIdeal)
    ∧ quiescent_DActRefIdeal (hDActRefIdeal := hDActRefIdeal)
    ∧ quiescent_Down (hDown := hDown)
    ∧ quiescent_DownIdeal (hDownIdeal := hDownIdeal)
    ∧ quiescent_DownRefIdeal (hDownRefIdeal := hDownRefIdeal)
    ∧ quiescent_DnFfn (hDnFfn := hDnFfn)
    ∧ quiescent_DnFfnIdeal (hDnFfnIdeal := hDnFfnIdeal)
    ∧ quiescent_DnFfnRefIdeal (hDnFfnRefIdeal := hDnFfnRefIdeal)
    ∧ quiescent_DnIn (hDnIn := hDnIn)
    ∧ quiescent_DnInIdeal (hDnInIdeal := hDnInIdeal)
    ∧ quiescent_DnInRefIdeal (hDnInRefIdeal := hDnInRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Glu (hGlu := hGlu)
    ∧ quiescent_GluIdeal (hGluIdeal := hGluIdeal)
    ∧ quiescent_GluRefIdeal (hGluRefIdeal := hGluRefIdeal)
    ∧ quiescent_Forget (hForget := hForget)
    ∧ quiescent_ForgetIdeal (hForgetIdeal := hForgetIdeal)
    ∧ quiescent_ForgetRefIdeal (hForgetRefIdeal := hForgetRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwPool (hDwPool := hDwPool)
    ∧ quiescent_DwPoolIdeal (hDwPoolIdeal := hDwPoolIdeal)
    ∧ quiescent_DwPoolRefIdeal (hDwPoolRefIdeal := hDwPoolRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_SumLittle (hSumLittle := hSumLittle)
    ∧ quiescent_SumLittleIdeal (hSumLittleIdeal := hSumLittleIdeal)
    ∧ quiescent_SumLittleRefIdeal (hSumLittleRefIdeal := hSumLittleRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_AttnFwd (hAttnFwd := hAttnFwd)
    ∧ quiescent_AttnFwdIdeal (hAttnFwdIdeal := hAttnFwdIdeal)
    ∧ quiescent_AttnFwdIdeal_pre_finite_attn (hAttnFwdIdeal := hAttnFwdIdeal) (hPre_finite_attn := hPre_finite_attn)
    ∧ quiescent_AttnFwdRefIdeal (hAttnFwdRefIdeal := hAttnFwdRefIdeal)
    ∧ quiescent_AttnFwdRefIdeal_pre_finite_attn (hAttnFwdRefIdeal := hAttnFwdRefIdeal) (hPre_finite_attn := hPre_finite_attn)
    ∧ quiescent_RmsEven (hRmsEven := hRmsEven)
    ∧ quiescent_RmsEvenIdeal (hRmsEvenIdeal := hRmsEvenIdeal)
    ∧ quiescent_RmsEvenRefIdeal (hRmsEvenRefIdeal := hRmsEvenRefIdeal)
    ∧ quiescent_RmsFfn (hRmsFfn := hRmsFfn)
    ∧ quiescent_RmsFfnIdeal (hRmsFfnIdeal := hRmsFfnIdeal)
    ∧ quiescent_RmsFfnRefIdeal (hRmsFfnRefIdeal := hRmsFfnRefIdeal)
    ∧ quiescent_RmsOdd (hRmsOdd := hRmsOdd)
    ∧ quiescent_RmsOddIdeal (hRmsOddIdeal := hRmsOddIdeal)
    ∧ quiescent_RmsOddRefIdeal (hRmsOddRefIdeal := hRmsOddRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_TCat (hTCat := hTCat)
    ∧ quiescent_TCatIdeal (hTCatIdeal := hTCatIdeal)
    ∧ quiescent_TCatRefIdeal (hTCatRefIdeal := hTCatRefIdeal)
    ∧ quiescent_TDf (hTDf := hTDf)
    ∧ quiescent_TDfIdeal (hTDfIdeal := hTDfIdeal)
    ∧ quiescent_TDfRefIdeal (hTDfRefIdeal := hTDfRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_WIn (hWIn := hWIn)
    ∧ quiescent_WInIdeal (hWInIdeal := hWInIdeal)
    ∧ quiescent_WInRefIdeal (hWInRefIdeal := hWInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwUp_DwUpIdeal
    ∧ algebraic_DwUpIdeal_DwUpRefIdeal (hDwUpIdeal := hDwUpIdeal) (hDwUpRefIdeal := hDwUpRefIdeal)
    ∧ preserves_DwDown_DwDownIdeal
    ∧ algebraic_DwDownIdeal_DwDownRefIdeal (hDwDownIdeal := hDwDownIdeal) (hDwDownRefIdeal := hDwDownRefIdeal)
    ∧ preserves_DAct_DActIdeal
    ∧ algebraic_DActIdeal_DActRefIdeal (hDActIdeal := hDActIdeal) (hDActRefIdeal := hDActRefIdeal)
    ∧ preserves_Down_DownIdeal
    ∧ algebraic_DownIdeal_DownRefIdeal (hDownIdeal := hDownIdeal) (hDownRefIdeal := hDownRefIdeal)
    ∧ preserves_DnFfn_DnFfnIdeal
    ∧ algebraic_DnFfnIdeal_DnFfnRefIdeal (hDnFfnIdeal := hDnFfnIdeal) (hDnFfnRefIdeal := hDnFfnRefIdeal)
    ∧ preserves_DnIn_DnInIdeal
    ∧ algebraic_DnInIdeal_DnInRefIdeal (hDnInIdeal := hDnInIdeal) (hDnInRefIdeal := hDnInRefIdeal)
    ∧ preserves_DwIn_DwInIdeal
    ∧ algebraic_DwInIdeal_DwInRefIdeal (hDwInIdeal := hDwInIdeal) (hDwInRefIdeal := hDwInRefIdeal)
    ∧ preserves_Glu_GluIdeal
    ∧ algebraic_GluIdeal_GluRefIdeal (hGluIdeal := hGluIdeal) (hGluRefIdeal := hGluRefIdeal)
    ∧ preserves_Forget_ForgetIdeal
    ∧ algebraic_ForgetIdeal_ForgetRefIdeal (hForgetIdeal := hForgetIdeal) (hForgetRefIdeal := hForgetRefIdeal)
    ∧ preserves_MixOut_MixOutIdeal
    ∧ algebraic_MixOutIdeal_MixOutRefIdeal (hMixOutIdeal := hMixOutIdeal) (hMixOutRefIdeal := hMixOutRefIdeal)
    ∧ preserves_DwOut_DwOutIdeal
    ∧ algebraic_DwOutIdeal_DwOutRefIdeal (hDwOutIdeal := hDwOutIdeal) (hDwOutRefIdeal := hDwOutRefIdeal)
    ∧ preserves_DwPool_DwPoolIdeal
    ∧ algebraic_DwPoolIdeal_DwPoolRefIdeal (hDwPoolIdeal := hDwPoolIdeal) (hDwPoolRefIdeal := hDwPoolRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_SumLittle_SumLittleIdeal
    ∧ algebraic_SumLittleIdeal_SumLittleRefIdeal (hSumLittleIdeal := hSumLittleIdeal) (hSumLittleRefIdeal := hSumLittleRefIdeal)
    ∧ preserves_SumSmall_SumSmallIdeal
    ∧ algebraic_SumSmallIdeal_SumSmallRefIdeal (hSumSmallIdeal := hSumSmallIdeal) (hSumSmallRefIdeal := hSumSmallRefIdeal)
    ∧ preserves_AttnFwd_AttnFwdIdeal
    ∧ algebraic_AttnFwdIdeal_AttnFwdRefIdeal_pre_finite_attn (hAttnFwdIdeal := hAttnFwdIdeal) (hAttnFwdRefIdeal := hAttnFwdRefIdeal) (hPre_finite_attn := hPre_finite_attn)
    ∧ preserves_RmsEven_RmsEvenIdeal
    ∧ algebraic_RmsEvenIdeal_RmsEvenRefIdeal (hRmsEvenIdeal := hRmsEvenIdeal) (hRmsEvenRefIdeal := hRmsEvenRefIdeal)
    ∧ preserves_RmsFfn_RmsFfnIdeal
    ∧ algebraic_RmsFfnIdeal_RmsFfnRefIdeal (hRmsFfnIdeal := hRmsFfnIdeal) (hRmsFfnRefIdeal := hRmsFfnRefIdeal)
    ∧ preserves_RmsOdd_RmsOddIdeal
    ∧ algebraic_RmsOddIdeal_RmsOddRefIdeal (hRmsOddIdeal := hRmsOddIdeal) (hRmsOddRefIdeal := hRmsOddRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_TCat_TCatIdeal
    ∧ algebraic_TCatIdeal_TCatRefIdeal (hTCatIdeal := hTCatIdeal) (hTCatRefIdeal := hTCatRefIdeal)
    ∧ preserves_TDf_TDfIdeal
    ∧ algebraic_TDfIdeal_TDfRefIdeal (hTDfIdeal := hTDfIdeal) (hTDfRefIdeal := hTDfRefIdeal)
    ∧ preserves_LossHead_LossHeadIdeal
    ∧ algebraic_LossHeadIdeal_LossHeadRefIdeal (hLossHeadIdeal := hLossHeadIdeal) (hLossHeadRefIdeal := hLossHeadRefIdeal)
    ∧ preserves_WIn_WInIdeal
    ∧ algebraic_WInIdeal_WInRefIdeal (hWInIdeal := hWInIdeal) (hWInRefIdeal := hWInRefIdeal)
-- ==== Pre_finite.lean ====
abbrev S2176x1536 : Shape := ⟨2, ![2176, 1536]⟩
abbrev S2176x1024 : Shape := ⟨2, ![2176, 1024]⟩
abbrev S4x2x2176 : Shape := ⟨3, ![4, 2, 2176]⟩
abbrev S8x128 : Shape := ⟨2, ![8, 128]⟩
abbrev S_ : Shape := ⟨0, ![]⟩
abbrev S2176x512 : Shape := ⟨2, ![2176, 512]⟩

class Facts : Prop where
  bitsLt_bf16_f32 : FTy.bits .bf16 < FTy.bits .f32
  bcast_S_S2176x1536 : S_.BroadcastsInDim S2176x1536 (![] : Fin 0 → Fin S2176x1536.rank)
  reducesTo_S2176x1536_S_d0_1 : S2176x1536.ReducesTo [0, 1] S_
  h_S_ : 0 < S_.numel
  slices_S2176x1024_S2176x512_0_0 : S2176x1024.Slices ![0, 0] S2176x512
  bcast_S_S2176x512 : S_.BroadcastsInDim S2176x512 (![] : Fin 0 → Fin S2176x512.rank)
  reducesTo_S2176x512_S_d0_1 : S2176x512.ReducesTo [0, 1] S_
  bcast_S_S4x2x2176 : S_.BroadcastsInDim S4x2x2176 (![] : Fin 0 → Fin S4x2x2176.rank)
  reducesTo_S4x2x2176_S_d0_1_2 : S4x2x2176.ReducesTo [0, 1, 2] S_

variable [Facts]

def fn {F : FTy → Type} [FloatOps F] (main_arg0 : FVec F S2176x1536 .bf16) (main_arg1 : FVec F S2176x1024 .f32) (main_arg2 : FVec F S4x2x2176 .f32) (main_arg3 : FVec F S8x128 .f32) : IVec S_ 1 :=
  let main_v0 : FVec F S2176x1536 .f32 := (extf .f32 · bitsLt_bf16_f32) main_arg0
  let main_v1 : FVec F S2176x1536 .f32 := Host.absf main_v0
  let main_cst : FVec F S_ .f32 := constant S_ .f32 0x7F800000#32
  let main_v2 : FVec F S2176x1536 .f32 := broadcastInDim S2176x1536 ![] bcast_S_S2176x1536 main_cst
  let main_v3 : IVec S2176x1536 1 := cmpf .olt main_v1 main_v2
  let main_c : IVec S_ 1 := constantI S_ 1 1#1
  let main_v4 : IVec S_ 1 := (fun x v => Host.reduce IntOp.andi x v reducesTo_S2176x1536_S_d0_1 h_S_) main_v3 main_c
  let main_v5 : FVec F S2176x512 .f32 := (extractStridedSlice S2176x512 ![0, 0] · slices_S2176x1024_S2176x512_0_0) main_arg1
  let main_v6 : FVec F S2176x512 .f32 := Host.absf main_v5
  let main_cst_0 : FVec F S_ .f32 := constant S_ .f32 0x7F800000#32
  let main_v7 : FVec F S2176x512 .f32 := broadcastInDim S2176x512 ![] bcast_S_S2176x512 main_cst_0
  let main_v8 : IVec S2176x512 1 := cmpf .olt main_v6 main_v7
  let main_c_1 : IVec S_ 1 := constantI S_ 1 1#1
  let main_v9 : IVec S_ 1 := (fun x v => Host.reduce IntOp.andi x v reducesTo_S2176x512_S_d0_1 h_S_) main_v8 main_c_1
  let main_v10 : IVec S_ 1 := andi main_v4 main_v9
  let main_v11 : FVec F S4x2x2176 .f32 := Host.absf main_arg2
  let main_cst_2 : FVec F S_ .f32 := constant S_ .f32 0x7F800000#32
  let main_v12 : FVec F S4x2x2176 .f32 := broadcastInDim S4x2x2176 ![] bcast_S_S4x2x2176 main_cst_2
  let main_v13 : IVec S4x2x2176 1 := cmpf .olt main_v11 main_v12
  let main_c_3 : IVec S_ 1 := constantI S_ 1 1#1
  let main_v14 : IVec S_ 1 := (fun x v => Host.reduce IntOp.andi x v reducesTo_S4x2x2176_S_d0_1_2 h_S_) main_v13 main_c_3
  let main_v15 : IVec S_ 1 := andi main_v10 main_v14
  main_v15
-- ==== Pre_finite_attn.lean ====
abbrev S2176x1536 : Shape := ⟨2, ![2176, 1536]⟩
abbrev S4x2x2176 : Shape := ⟨3, ![4, 2, 2176]⟩
abbrev S_ : Shape := ⟨0, ![]⟩

class Facts : Prop where
  bitsLt_bf16_f32 : FTy.bits .bf16 < FTy.bits .f32
  bcast_S_S2176x1536 : S_.BroadcastsInDim S2176x1536 (![] : Fin 0 → Fin S2176x1536.rank)
  reducesTo_S2176x1536_S_d0_1 : S2176x1536.ReducesTo [0, 1] S_
  h_S_ : 0 < S_.numel
  bcast_S_S4x2x2176 : S_.BroadcastsInDim S4x2x2176 (![] : Fin 0 → Fin S4x2x2176.rank)
  reducesTo_S4x2x2176_S_d0_1_2 : S4x2x2176.ReducesTo [0, 1, 2] S_

variable [Facts]

def fn {F : FTy → Type} [FloatOps F] (main_arg0 : FVec F S2176x1536 .bf16) (main_arg1 : FVec F S4x2x2176 .f32) : IVec S_ 1 :=
  let main_v0 : FVec F S2176x1536 .f32 := (extf .f32 · bitsLt_bf16_f32) main_arg0
  let main_v1 : FVec F S2176x1536 .f32 := Host.absf main_v0
  let main_cst : FVec F S_ .f32 := constant S_ .f32 0x7F800000#32
  let main_v2 : FVec F S2176x1536 .f32 := broadcastInDim S2176x1536 ![] bcast_S_S2176x1536 main_cst
  let main_v3 : IVec S2176x1536 1 := cmpf .olt main_v1 main_v2
  let main_c : IVec S_ 1 := constantI S_ 1 1#1
  let main_v4 : IVec S_ 1 := (fun x v => Host.reduce IntOp.andi x v reducesTo_S2176x1536_S_d0_1 h_S_) main_v3 main_c
  let main_v5 : FVec F S4x2x2176 .f32 := Host.absf main_arg1
  let main_cst_0 : FVec F S_ .f32 := constant S_ .f32 0x7F800000#32
  let main_v6 : FVec F S4x2x2176 .f32 := broadcastInDim S4x2x2176 ![] bcast_S_S4x2x2176 main_cst_0
  let main_v7 : IVec S4x2x2176 1 := cmpf .olt main_v5 main_v6
  let main_c_1 : IVec S_ 1 := constantI S_ 1 1#1
  let main_v8 : IVec S_ 1 := (fun x v => Host.reduce IntOp.andi x v reducesTo_S4x2x2176_S_d0_1_2 h_S_) main_v7 main_c_1
  let main_v9 : IVec S_ 1 := andi main_v4 main_v8
  main_v9
-- ==== Kernel.lean ====
abbrev S2176x1536 : Shape := ⟨2, ![2176, 1536]⟩
abbrev S2176x1024 : Shape := ⟨2, ![2176, 1024]⟩
abbrev S4x2x2176 : Shape := ⟨3, ![4, 2, 2176]⟩
abbrev S8x128 : Shape := ⟨2, ![8, 128]⟩
abbrev S2176x512 : Shape := ⟨2, ![2176, 512]⟩
abbrev S512x2176 : Shape := ⟨2, ![512, 2176]⟩
abbrev S2176x128 : Shape := ⟨2, ![2176, 128]⟩
abbrev S128x2176 : Shape := ⟨2, ![128, 2176]⟩
abbrev S1x2x2176 : Shape := ⟨3, ![1, 2, 2176]⟩
abbrev S4x2176x128 : Shape := ⟨3, ![4, 2176, 128]⟩
abbrev S128x1 : Shape := ⟨2, ![128, 1]⟩
abbrev S1x128 : Shape := ⟨2, ![1, 128]⟩
abbrev S1x2176x128 : Shape := ⟨3, ![1, 2176, 128]⟩
abbrev S2x2176 : Shape := ⟨2, ![2, 2176]⟩
abbrev S544x128 : Shape := ⟨2, ![544, 128]⟩
abbrev S128x544 : Shape := ⟨2, ![128, 544]⟩
abbrev S1x1x640 : Shape := ⟨3, ![1, 1, 640]⟩
abbrev S1x640 : Shape := ⟨2, ![1, 640]⟩
abbrev S640x128 : Shape := ⟨2, ![640, 128]⟩
abbrev S544x640 : Shape := ⟨2, ![544, 640]⟩
abbrev S544 : Shape := ⟨1, ![544]⟩
abbrev S544x1 : Shape := ⟨2, ![544, 1]⟩
abbrev S1x640x128 : Shape := ⟨3, ![1, 640, 128]⟩
abbrev S128x640 : Shape := ⟨2, ![128, 640]⟩
abbrev S640 : Shape := ⟨1, ![640]⟩
abbrev S1x1x1152 : Shape := ⟨3, ![1, 1, 1152]⟩
abbrev S1x1152 : Shape := ⟨2, ![1, 1152]⟩
abbrev S512x128 : Shape := ⟨2, ![512, 128]⟩
abbrev S544x512 : Shape := ⟨2, ![544, 512]⟩
abbrev S1x512 : Shape := ⟨2, ![1, 512]⟩
abbrev S1x512x128 : Shape := ⟨3, ![1, 512, 128]⟩
abbrev S128x512 : Shape := ⟨2, ![128, 512]⟩
abbrev S1x1x512 : Shape := ⟨3, ![1, 1, 512]⟩
abbrev S512 : Shape := ⟨1, ![512]⟩
abbrev S1x1x1664 : Shape := ⟨3, ![1, 1, 1664]⟩
abbrev S1x1664 : Shape := ⟨2, ![1, 1664]⟩
abbrev S1024x128 : Shape := ⟨2, ![1024, 128]⟩
abbrev S544x1024 : Shape := ⟨2, ![544, 1024]⟩
abbrev S1x1024 : Shape := ⟨2, ![1, 1024]⟩
abbrev S1x1024x128 : Shape := ⟨3, ![1, 1024, 128]⟩
abbrev S128x1024 : Shape := ⟨2, ![128, 1024]⟩
abbrev S1x1x1024 : Shape := ⟨3, ![1, 1, 1024]⟩
abbrev S1024 : Shape := ⟨1, ![1024]⟩
abbrev S1x1x2176 : Shape := ⟨3, ![1, 1, 2176]⟩
abbrev S1x2176 : Shape := ⟨2, ![1, 2176]⟩
abbrev S1536x128 : Shape := ⟨2, ![1536, 128]⟩
abbrev S544x1536 : Shape := ⟨2, ![544, 1536]⟩
abbrev S1x1536 : Shape := ⟨2, ![1, 1536]⟩
abbrev S1x1536x128 : Shape := ⟨3, ![1, 1536, 128]⟩
abbrev S128x1536 : Shape := ⟨2, ![128, 1536]⟩
abbrev S1x1x1536 : Shape := ⟨3, ![1, 1, 1536]⟩
abbrev S1536 : Shape := ⟨1, ![1536]⟩

abbrev nBuf : Space → Nat
  | .hbm => 13
  | .vmem => 25
  | .smem => 0
  | _ => 0

abbrev bufTy : (tb : Table) → Fin (tcTables nBuf tb) → BufTy
  | .hbm, ⟨0, _⟩ => ⟨S2176x1536, .bf16⟩
  | .hbm, ⟨1, _⟩ => ⟨S2176x1024, .f32⟩
  | .hbm, ⟨2, _⟩ => ⟨S4x2x2176, .f32⟩
  | .hbm, ⟨3, _⟩ => ⟨S8x128, .f32⟩
  | .hbm, ⟨4, _⟩ => ⟨S2176x512, .bf16⟩
  | .hbm, ⟨5, _⟩ => ⟨S512x2176, .bf16⟩
  | .hbm, ⟨6, _⟩ => ⟨S2176x512, .f32⟩
  | .hbm, ⟨7, _⟩ => ⟨S2176x512, .bf16⟩
  | .hbm, ⟨8, _⟩ => ⟨S512x2176, .bf16⟩
  | .hbm, ⟨9, _⟩ => ⟨S2176x512, .bf16⟩
  | .hbm, ⟨10, _⟩ => ⟨S2176x512, .bf16⟩
  | .hbm, ⟨11, _⟩ => ⟨S2176x512, .bf16⟩
  | .hbm, ⟨12, _⟩ => ⟨S4x2x2176, .f32⟩
  | .local _ .vmem, ⟨0, _⟩ => ⟨S2176x128, .bf16⟩
  | .local _ .vmem, ⟨1, _⟩ => ⟨S2176x128, .bf16⟩
  | .local _ .vmem, ⟨2, _⟩ => ⟨S2176x128, .bf16⟩
  | .local _ .vmem, ⟨3, _⟩ => ⟨S2176x128, .bf16⟩
  | .local _ .vmem, ⟨4, _⟩ => ⟨S2176x128, .bf16⟩
  | .local _ .vmem, ⟨5, _⟩ => ⟨S2176x128, .bf16⟩
  | .local _ .vmem, ⟨6, _⟩ => ⟨S128x2176, .bf16⟩
  | .local _ .vmem, ⟨7, _⟩ => ⟨S128x2176, .bf16⟩
  | .local _ .vmem, ⟨8, _⟩ => ⟨S2176x128, .f32⟩
  | .local _ .vmem, ⟨9, _⟩ => ⟨S2176x128, .f32⟩
  | .local _ .vmem, ⟨10, _⟩ => ⟨S128x2176, .bf16⟩
  | .local _ .vmem, ⟨11, _⟩ => ⟨S128x2176, .bf16⟩
  | .local _ .vmem, ⟨12, _⟩ => ⟨S1x2x2176, .f32⟩
  | .local _ .vmem, ⟨13, _⟩ => ⟨S1x2x2176, .f32⟩
  | .local _ .vmem, ⟨14, _⟩ => ⟨S2176x128, .bf16⟩
  | .local _ .vmem, ⟨15, _⟩ => ⟨S2176x128, .bf16⟩
  | .local _ .vmem, ⟨16, _⟩ => ⟨S2176x128, .bf16⟩
  | .local _ .vmem, ⟨17, _⟩ => ⟨S2176x128, .bf16⟩
  | .local _ .vmem, ⟨18, _⟩ => ⟨S2176x128, .bf16⟩
  | .local _ .vmem, ⟨19, _⟩ => ⟨S2176x128, .bf16⟩
  | .local _ .vmem, ⟨20, _⟩ => ⟨S1x2x2176, .f32⟩
  | .local _ .vmem, ⟨21, _⟩ => ⟨S1x2x2176, .f32⟩
  | .local _ .vmem, ⟨22, _⟩ => ⟨S128x2176, .f32⟩
  | .local _ .vmem, ⟨23, _⟩ => ⟨S128x2176, .f32⟩
  | .local _ .vmem, ⟨24, _⟩ => ⟨S4x2176x128, .bf16⟩
  | _, _ => ⟨S2176x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2176x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2176 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2176 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x2176 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2176x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2176x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2176x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x2176 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2176x1536 : Shape := ⟨2, ![2176, 1536]⟩
abbrev S2176x1024 : Shape := ⟨2, ![2176, 1024]⟩
abbrev S4x2x2176 : Shape := ⟨3, ![4, 2, 2176]⟩
abbrev S8x128 : Shape := ⟨2, ![8, 128]⟩
abbrev S2176x512 : Shape := ⟨2, ![2176, 512]⟩
abbrev S2176x8x64 : Shape := ⟨3, ![2176, 8, 64]⟩
abbrev S8x2176 : Shape := ⟨2, ![8, 2176]⟩
abbrev S2176 : Shape := ⟨1, ![2176]⟩
abbrev S8x2176x2176 : Shape := ⟨3, ![8, 2176, 2176]⟩
abbrev S_ : Shape := ⟨0, ![]⟩
abbrev S8x2176x1 : Shape := ⟨3, ![8, 2176, 1]⟩
abbrev S8x1x2176 : Shape := ⟨3, ![8, 1, 2176]⟩
abbrev S1x2176 : Shape := ⟨2, ![1, 2176]⟩
abbrev S2176x1 : Shape := ⟨2, ![2176, 1]⟩
abbrev S2176x2176 : Shape := ⟨2, ![2176, 2176]⟩
abbrev S8x64x2176 : Shape := ⟨3, ![8, 64, 2176]⟩
abbrev S8x2176x64 : Shape := ⟨3, ![8, 2176, 64]⟩

abbrev nBuf : Space → Nat
  | .hbm => 128
  | .vmem => 0
  | .smem => 0
  | _ => 0

abbrev bufTy : (tb : Table) → Fin (tcTables nBuf tb) → BufTy
  | .hbm, ⟨0, _⟩ => ⟨S2176x1536, .bf16⟩
  | .hbm, ⟨1, _⟩ => ⟨S2176x1024, .f32⟩
  | .hbm, ⟨2, _⟩ => ⟨S4x2x2176, .f32⟩
  | .hbm, ⟨3, _⟩ => ⟨S8x128, .f32⟩
  | .hbm, ⟨4, _⟩ => ⟨S2176x512, .bf16⟩
  | .hbm, ⟨5, _⟩ => ⟨S2176x512, .bf16⟩
  | .hbm, ⟨6, _⟩ => ⟨S2176x512, .bf16⟩
  | .hbm, ⟨7, _⟩ => ⟨S2176x512, .f32⟩
  | .hbm, ⟨8, _⟩ => ⟨S2176x8x64, .f32⟩
  | .hbm, ⟨9, _⟩ => ⟨S2176x512, .f32⟩
  | .hbm, ⟨10, _⟩ => ⟨S2176x8x64, .f32⟩
  | .hbm, ⟨11, _⟩ => ⟨S2176x512, .f32⟩
  | .hbm, ⟨12, _⟩ => ⟨S2176x8x64, .f32⟩
  | .hbm, ⟨13, _⟩ => ⟨S8x2176, .f32⟩
  | .hbm, ⟨14, _⟩ => ⟨S2176x512, .f32⟩
  | .hbm, ⟨15, _⟩ => ⟨S2176x512, .bf16⟩
  | .hbm, ⟨16, _⟩ => ⟨S2176x512, .f32⟩
  | .hbm, ⟨17, _⟩ => ⟨S2176x8x64, .f32⟩
  | .hbm, ⟨18, _⟩ => ⟨S2176, .i32⟩
  | .hbm, ⟨19, _⟩ => ⟨S8x2176x2176, .f32⟩
  | .hbm, ⟨20, _⟩ => ⟨S_, .f32⟩
  | .hbm, ⟨21, _⟩ => ⟨S8x2176x2176, .f32⟩
  | .hbm, ⟨22, _⟩ => ⟨S8x2176x2176, .f32⟩
  | .hbm, ⟨23, _⟩ => ⟨S8x2176x1, .f32⟩
  | .hbm, ⟨24, _⟩ => ⟨S8x2176x2176, .f32⟩
  | .hbm, ⟨25, _⟩ => ⟨S8x2176x2176, .f32⟩
  | .hbm, ⟨26, _⟩ => ⟨S8x1x2176, .f32⟩
  | .hbm, ⟨27, _⟩ => ⟨S8x2176x2176, .f32⟩
  | .hbm, ⟨28, _⟩ => ⟨S8x2176x2176, .f32⟩
  | .hbm, ⟨29, _⟩ => ⟨S1x2176, .i32⟩
  | .hbm, ⟨30, _⟩ => ⟨S2176x1, .i32⟩
  | .hbm, ⟨31, _⟩ => ⟨S2176x2176, .i32⟩
  | .hbm, ⟨32, _⟩ => ⟨S2176x2176, .i32⟩
  | .hbm, ⟨33, _⟩ => ⟨S2176x2176, .i1⟩
  | .hbm, ⟨34, _⟩ => ⟨S_, .f32⟩
  | .hbm, ⟨35, _⟩ => ⟨S_, .f32⟩
  | .hbm, ⟨36, _⟩ => ⟨S8x2176x2176, .i1⟩
  | .hbm, ⟨37, _⟩ => ⟨S8x2176x2176, .f32⟩
  | .hbm, ⟨38, _⟩ => ⟨S8x2176x2176, .f32⟩
  | .hbm, ⟨39, _⟩ => ⟨S_, .f32⟩
  | .hbm, ⟨40, _⟩ => ⟨S8x2176x2176, .f32⟩
  | .hbm, ⟨41, _⟩ => ⟨S_, .f32⟩
  | .hbm, ⟨42, _⟩ => ⟨S8x2176, .f32⟩
  | .hbm, ⟨43, _⟩ => ⟨S8x2176x1, .f32⟩
  | .hbm, ⟨44, _⟩ => ⟨S8x2176x2176, .f32⟩
  | .hbm, ⟨45, _⟩ => ⟨S8x2176x2176, .i1⟩
  | .hbm, ⟨46, _⟩ => ⟨S8x2176x2176, .f32⟩
  | .hbm, ⟨47, _⟩ => ⟨S_, .f32⟩
  | .hbm, ⟨48, _⟩ => ⟨S8x2176, .f32⟩
  | .hbm, ⟨49, _⟩ => ⟨S_, .f32⟩
  | .hbm, ⟨50, _⟩ => ⟨S8x2176, .f32⟩
  | .hbm, ⟨51, _⟩ => ⟨S8x2176, .f32⟩
  | .hbm, ⟨52, _⟩ => ⟨S_, .f32⟩
  | .hbm, ⟨53, _⟩ => ⟨S8x2176, .f32⟩
  | .hbm, ⟨54, _⟩ => ⟨S8x2176, .i1⟩
  | .hbm, ⟨55, _⟩ => ⟨S_, .f32⟩
  | .hbm, ⟨56, _⟩ => ⟨S8x2176, .f32⟩
  | .hbm, ⟨57, _⟩ => ⟨S8x2176, .i1⟩
  | .hbm, ⟨58, _⟩ => ⟨S_, .f32⟩
  | .hbm, ⟨59, _⟩ => ⟨S8x2176, .f32⟩
  | .hbm, ⟨60, _⟩ => ⟨S_, .f32⟩
  | .hbm, ⟨61, _⟩ => ⟨S8x2176, .f32⟩
  | .hbm, ⟨62, _⟩ => ⟨S_, .f32⟩
  | .hbm, ⟨63, _⟩ => ⟨S8x2176, .f32⟩
  | .hbm, ⟨64, _⟩ => ⟨S8x2176, .f32⟩
  | .hbm, ⟨65, _⟩ => ⟨S8x2176, .f32⟩
  | .hbm, ⟨66, _⟩ => ⟨S8x2176x1, .f32⟩
  | .hbm, ⟨67, _⟩ => ⟨S8x2176x2176, .f32⟩
  | .hbm, ⟨68, _⟩ => ⟨S8x2176x2176, .f32⟩
  | .hbm, ⟨69, _⟩ => ⟨S8x2176x2176, .f32⟩
  | .hbm, ⟨70, _⟩ => ⟨S_, .f32⟩
  | .hbm, ⟨71, _⟩ => ⟨S8x2176, .f32⟩
  | .hbm, ⟨72, _⟩ => ⟨S8x2176x1, .f32⟩
  | .hbm, ⟨73, _⟩ => ⟨S8x2176x2176, .f32⟩
  | .hbm, ⟨74, _⟩ => ⟨S8x2176x2176, .f32⟩
  | .hbm, ⟨75, _⟩ => ⟨S8x2176x1, .f32⟩
  | .hbm, ⟨76, _⟩ => ⟨S_, .f32⟩
  | .hbm, ⟨77, _⟩ => ⟨S8x2176x1, .f32⟩
  | .hbm, ⟨78, _⟩ => ⟨S8x2176x1, .f32⟩
  | .hbm, ⟨79, _⟩ => ⟨S8x64x2176, .f32⟩
  | .hbm, ⟨80, _⟩ => ⟨S2176x8x64, .f32⟩
  | .hbm, ⟨81, _⟩ => ⟨S8x64x2176, .f32⟩
  | .hbm, ⟨82, _⟩ => ⟨S8x2176x2176, .f32⟩
  | .hbm, ⟨83, _⟩ => ⟨S8x64x2176, .f32⟩
  | .hbm, ⟨84, _⟩ => ⟨S2176x8x64, .f32⟩
  | .hbm, ⟨85, _⟩ => ⟨S8x2176x2176, .f32⟩
  | .hbm, ⟨86, _⟩ => ⟨S8x2176x2176, .f32⟩
  | .hbm, ⟨87, _⟩ => ⟨S8x2176x2176, .f32⟩
  | .hbm, ⟨88, _⟩ => ⟨S_, .f32⟩
  | .hbm, ⟨89, _⟩ => ⟨S8x2176, .f32⟩
  | .hbm, ⟨90, _⟩ => ⟨S8x2176x1, .f32⟩
  | .hbm, ⟨91, _⟩ => ⟨S8x2176x1, .f32⟩
  | .hbm, ⟨92, _⟩ => ⟨S8x2176x2176, .f32⟩
  | .hbm, ⟨93, _⟩ => ⟨S8x2176x2176, .f32⟩
  | .hbm, ⟨94, _⟩ => ⟨S_, .f32⟩
  | .hbm, ⟨95, _⟩ => ⟨S8x2176, .f32⟩
  | .hbm, ⟨96, _⟩ => ⟨S8x2176x2176, .f32⟩
  | .hbm, ⟨97, _⟩ => ⟨S8x2176x2176, .f32⟩
  | .hbm, ⟨98, _⟩ => ⟨S8x2176x2176, .f32⟩
  | .hbm, ⟨99, _⟩ => ⟨S_, .f32⟩
  | .hbm, ⟨100, _⟩ => ⟨S8x2176x2176, .f32⟩
  | .hbm, ⟨101, _⟩ => ⟨S8x2176x2176, .f32⟩
  | .hbm, ⟨102, _⟩ => ⟨S8x2176x2176, .f32⟩
  | .hbm, ⟨103, _⟩ => ⟨S_, .f32⟩
  | .hbm, ⟨104, _⟩ => ⟨S8x2176, .f32⟩
  | .hbm, ⟨105, _⟩ => ⟨S8x1x2176, .f32⟩
  | .hbm, ⟨106, _⟩ => ⟨S_, .f32⟩
  | .hbm, ⟨107, _⟩ => ⟨S8x2176, .f32⟩
  | .hbm, ⟨108, _⟩ => ⟨S_, .f32⟩
  | .hbm, ⟨109, _⟩ => ⟨S8x2176, .f32⟩
  | .hbm, ⟨110, _⟩ => ⟨S8x2176x1, .f32⟩
  | .hbm, ⟨111, _⟩ => ⟨S_, .f32⟩
  | .hbm, ⟨112, _⟩ => ⟨S8x2176, .f32⟩
  | .hbm, ⟨113, _⟩ => ⟨S8x2176, .f32⟩
  | .hbm, ⟨114, _⟩ => ⟨S_, .f32⟩
  | .hbm, ⟨115, _⟩ => ⟨S8x2176x2176, .f32⟩
  | .hbm, ⟨116, _⟩ => ⟨S8x2176x2176, .f32⟩
  | .hbm, ⟨117, _⟩ => ⟨S8x2176x64, .f32⟩
  | .hbm, ⟨118, _⟩ => ⟨S2176x8x64, .f32⟩
  | .hbm, ⟨119, _⟩ => ⟨S8x2176x64, .f32⟩
  | .hbm, ⟨120, _⟩ => ⟨S2176x8x64, .f32⟩
  | .hbm, ⟨121, _⟩ => ⟨S2176x512, .f32⟩
  | .hbm, ⟨122, _⟩ => ⟨S2176x512, .bf16⟩
  | .hbm, ⟨123, _⟩ => ⟨S2176x512, .f32⟩
  | .hbm, ⟨124, _⟩ => ⟨S2176x512, .bf16⟩
  | .hbm, ⟨125, _⟩ => ⟨S2176x512, .f32⟩
  | .hbm, ⟨126, _⟩ => ⟨S2176x512, .bf16⟩
  | .hbm, ⟨127, _⟩ => ⟨S4x2x2176, .f32⟩
  | _, _ => ⟨S2176x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_0 : Ref sig .tc := ⟨.hbm, 34, rfl⟩
abbrev main_call0_v0 : Ref sig .tc := ⟨.hbm, 35, rfl⟩
abbrev main_v29_1 : Ref sig .tc := ⟨.hbm, 36, rfl⟩
abbrev main_call0_v2 : Ref sig .tc := ⟨.hbm, 37, rfl⟩
abbrev main_v29_0 : Ref sig .tc := ⟨.hbm, 38, rfl⟩
abbrev main_call0_cst : Ref sig .tc := ⟨.hbm, 39, rfl⟩
abbrev main_v29_2 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_call1_cst : Ref sig .tc := ⟨.hbm, 99, rfl⟩
abbrev main_call1_v0 : Ref sig .tc := ⟨.hbm, 100, rfl⟩
abbrev main_v76 : Ref sig .tc := ⟨.hbm, 101, rfl⟩
abbrev main_v77 : Ref sig .tc := ⟨.hbm, 102, rfl⟩
abbrev main_cst_13 : Ref sig .tc := ⟨.hbm, 103, rfl⟩
abbrev main_v78 : Ref sig .tc := ⟨.hbm, 104, rfl⟩
abbrev main_v79 : Ref sig .tc := ⟨.hbm, 105, rfl⟩
abbrev main_cst_14 : Ref sig .tc := ⟨.hbm, 106, rfl⟩
abbrev main_v80 : Ref sig .tc := ⟨.hbm, 107, rfl⟩
abbrev main_cst_15 : Ref sig .tc := ⟨.hbm, 108, rfl⟩
abbrev main_v81 : Ref sig .tc := ⟨.hbm, 109, rfl⟩
abbrev main_v82 : Ref sig .tc := ⟨.hbm, 110, rfl⟩
abbrev main_cst_16 : Ref sig .tc := ⟨.hbm, 111, rfl⟩
abbrev main_v83 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩

abbrev nD : Nat := 1
abbrev τ : Topo := Topo.v7x

variable {F : FTy → Type} [FloatOps F]
-- ==== DwUp.lean ====
abbrev S1024x2176 : Shape := ⟨2, ![1024, 2176]⟩
abbrev S4352x2816 : Shape := ⟨2, ![4352, 2816]⟩
abbrev S8x704x1024 : Shape := ⟨3, ![8, 704, 1024]⟩
abbrev S2176x1408 : Shape := ⟨2, ![2176, 1408]⟩
abbrev S2x704x1024 : Shape := ⟨3, ![2, 704, 1024]⟩
abbrev S1024x1408 : Shape := ⟨2, ![1024, 1408]⟩
abbrev S1408x1024 : Shape := ⟨2, ![1408, 1024]⟩
abbrev S704x1024 : Shape := ⟨2, ![704, 1024]⟩
abbrev S1x704x1024 : Shape := ⟨3, ![1, 704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x2176, .bf16⟩
  | .hbm, ⟨1, _⟩ => ⟨S4352x2816, .bf16⟩
  | .hbm, ⟨2, _⟩ => ⟨S8x704x1024, .bf16⟩
  | .local _ .vmem, ⟨0, _⟩ => ⟨S1024x2176, .bf16⟩
  | .local _ .vmem, ⟨1, _⟩ => ⟨S2176x1408, .bf16⟩
  | .local _ .vmem, ⟨2, _⟩ => ⟨S2176x1408, .bf16⟩
  | .local _ .vmem, ⟨3, _⟩ => ⟨S2x704x1024, .bf16⟩
  | .local _ .vmem, ⟨4, _⟩ => ⟨S2x704x1024, .bf16⟩
  | _, _ => ⟨S1024x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x2176 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwUpRefIdeal.lean ====
abbrev S1024x2176 : Shape := ⟨2, ![1024, 2176]⟩
abbrev S4352x2816 : Shape := ⟨2, ![4352, 2816]⟩
abbrev S2176x1024 : Shape := ⟨2, ![2176, 1024]⟩
abbrev S_ : Shape := ⟨0, ![]⟩
abbrev S1024x5632 : Shape := ⟨2, ![1024, 5632]⟩
abbrev S2176x5632 : Shape := ⟨2, ![2176, 5632]⟩
abbrev S2176x2816 : Shape := ⟨2, ![2176, 2816]⟩
abbrev S5632x1024 : Shape := ⟨2, ![5632, 1024]⟩
abbrev S704x1024 : Shape := ⟨2, ![704, 1024]⟩
abbrev S1x704x1024 : Shape := ⟨3, ![1, 704, 1024]⟩
abbrev S8x704x1024 : Shape := ⟨3, ![8, 704, 1024]⟩

abbrev nBuf : Space → Nat
  | .hbm => 33
  | .vmem => 0
  | .smem => 0
  | _ => 0

abbrev bufTy : (tb : Table) → Fin (tcTables nBuf tb) → BufTy
  | .hbm, ⟨0, _⟩ => ⟨S1024x2176, .bf16⟩
  | .hbm, ⟨1, _⟩ => ⟨S4352x2816, .bf16⟩
  | .hbm, ⟨2, _⟩ => ⟨S2176x1024, .bf16⟩
  | .hbm, ⟨3, _⟩ => ⟨S2176x1024, .f32⟩
  | .hbm, ⟨4, _⟩ => ⟨S_, .f32⟩
  | .hbm, ⟨5, _⟩ => ⟨S1024x5632, .f32⟩
  | .hbm, ⟨6, _⟩ => ⟨S2176x5632, .f32⟩
  | .hbm, ⟨7, _⟩ => ⟨S2176x2816, .bf16⟩
  | .hbm, ⟨8, _⟩ => ⟨S2176x2816, .f32⟩
  | .hbm, ⟨9, _⟩ => ⟨S2176x2816, .bf16⟩
  | .hbm, ⟨10, _⟩ => ⟨S2176x2816, .f32⟩
  | .hbm, ⟨11, _⟩ => ⟨S2176x5632, .f32⟩
  | .hbm, ⟨12, _⟩ => ⟨S5632x1024, .f32⟩
  | .hbm, ⟨13, _⟩ => ⟨S1024x5632, .f32⟩
  | .hbm, ⟨14, _⟩ => ⟨S1024x5632, .bf16⟩
  | .hbm, ⟨15, _⟩ => ⟨S5632x1024, .bf16⟩
  | .hbm, ⟨16, _⟩ => ⟨S704x1024, .bf16⟩
  | .hbm, ⟨17, _⟩ => ⟨S704x1024, .bf16⟩
  | .hbm, ⟨18, _⟩ => ⟨S704x1024, .bf16⟩
  | .hbm, ⟨19, _⟩ => ⟨S704x1024, .bf16⟩
  | .hbm, ⟨20, _⟩ => ⟨S704x1024, .bf16⟩
  | .hbm, ⟨21, _⟩ => ⟨S704x1024, .bf16⟩
  | .hbm, ⟨22, _⟩ => ⟨S704x1024, .bf16⟩
  | .hbm, ⟨23, _⟩ => ⟨S704x1024, .bf16⟩
  | .hbm, ⟨24, _⟩ => ⟨S1x704x1024, .bf16⟩
  | .hbm, ⟨25, _⟩ => ⟨S1x704x1024, .bf16⟩
  | .hbm, ⟨26, _⟩ => ⟨S1x704x1024, .bf16⟩
  | .hbm, ⟨27, _⟩ => ⟨S1x704x1024, .bf16⟩
  | .hbm, ⟨28, _⟩ => ⟨S1x704x1024, .bf16⟩
  | .hbm, ⟨29, _⟩ => ⟨S1x704x1024, .bf16⟩
  | .hbm, ⟨30, _⟩ => ⟨S1x704x1024, .bf16⟩
  | .hbm, ⟨31, _⟩ => ⟨S1x704x1024, .bf16⟩
  | .hbm, ⟨32, _⟩ => ⟨S8x704x1024, .bf16⟩
  | _, _ => ⟨S1024x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩

abbrev nD : Nat := 1
abbrev τ : Topo := Topo.v7x

variable {F : FTy → Type} [FloatOps F]
-- ==== DwDown.lean ====
abbrev S2816x2176 : Shape := ⟨2, ![2816, 2176]⟩
abbrev S2176x1024 : Shape := ⟨2, ![2176, 1024]⟩
abbrev S2816x1024 : Shape := ⟨2, ![2816, 1024]⟩
abbrev S704x2176 : Shape := ⟨2, ![704, 2176]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2816x2176, .bf16⟩
  | .hbm, ⟨1, _⟩ => ⟨S2176x1024, .bf16⟩
  | .hbm, ⟨2, _⟩ => ⟨S2816x1024, .bf16⟩
  | .local _ .vmem, ⟨0, _⟩ => ⟨S704x2176, .bf16⟩
  | .local _ .vmem, ⟨1, _⟩ => ⟨S704x2176, .bf16⟩
  | .local _ .vmem, ⟨2, _⟩ => ⟨S2176x1024, .bf16⟩
  | .local _ .vmem, ⟨3, _⟩ => ⟨S704x1024, .bf16⟩
  | .local _ .vmem, ⟨4, _⟩ => ⟨S704x1024, .bf16⟩
  | _, _ => ⟨S2816x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S2816x2176 : Shape := ⟨2, ![2816, 2176]⟩
abbrev S2176x1024 : Shape := ⟨2, ![2176, 1024]⟩
abbrev S2176x2816 : Shape := ⟨2, ![2176, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2816x2176, .bf16⟩
  | .hbm, ⟨1, _⟩ => ⟨S2176x1024, .bf16⟩
  | .hbm, ⟨2, _⟩ => ⟨S2176x2816, .bf16⟩
  | .hbm, ⟨3, _⟩ => ⟨S2176x2816, .f32⟩
  | .hbm, ⟨4, _⟩ => ⟨S_, .f32⟩
  | .hbm, ⟨5, _⟩ => ⟨S2816x1024, .f32⟩
  | .hbm, ⟨6, _⟩ => ⟨S2176x1024, .f32⟩
  | .hbm, ⟨7, _⟩ => ⟨S2176x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S2816x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DAct.lean ====
abbrev S2176x1024 : Shape := ⟨2, ![2176, 1024]⟩
abbrev S2816x1024 : Shape := ⟨2, ![2816, 1024]⟩
abbrev S8x128 : Shape := ⟨2, ![8, 128]⟩
abbrev S2176x2816 : Shape := ⟨2, ![2176, 2816]⟩
abbrev S1408x1024 : Shape := ⟨2, ![1408, 1024]⟩
abbrev S2176x1408 : Shape := ⟨2, ![2176, 1408]⟩

abbrev nBuf : Space → Nat
  | .hbm => 4
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S2816x1024, .bf16⟩
  | .hbm, ⟨2, _⟩ => ⟨S8x128, .f32⟩
  | .hbm, ⟨3, _⟩ => ⟨S2176x2816, .bf16⟩
  | .local _ .vmem, ⟨0, _⟩ => ⟨S2176x1024, .bf16⟩
  | .local _ .vmem, ⟨1, _⟩ => ⟨S1408x1024, .bf16⟩
  | .local _ .vmem, ⟨2, _⟩ => ⟨S1408x1024, .bf16⟩
  | .local _ .vmem, ⟨3, _⟩ => ⟨S2176x1408, .bf16⟩
  | .local _ .vmem, ⟨4, _⟩ => ⟨S2176x1408, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S2176x1024 : Shape := ⟨2, ![2176, 1024]⟩
abbrev S2816x1024 : Shape := ⟨2, ![2816, 1024]⟩
abbrev S8x128 : Shape := ⟨2, ![8, 128]⟩
abbrev S_ : Shape := ⟨0, ![]⟩
abbrev S2176x2816 : Shape := ⟨2, ![2176, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2816x1024, .bf16⟩
  | .hbm, ⟨2, _⟩ => ⟨S8x128, .f32⟩
  | .hbm, ⟨3, _⟩ => ⟨S2816x1024, .f32⟩
  | .hbm, ⟨4, _⟩ => ⟨S_, .f32⟩
  | .hbm, ⟨5, _⟩ => ⟨S2176x2816, .f32⟩
  | .hbm, ⟨6, _⟩ => ⟨S2176x1024, .f32⟩
  | .hbm, ⟨7, _⟩ => ⟨S2176x1024, .f32⟩
  | .hbm, ⟨8, _⟩ => ⟨S2176x2816, .f32⟩
  | .hbm, ⟨9, _⟩ => ⟨S2176x2816, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down.lean ====
abbrev S2176x2816 : Shape := ⟨2, ![2176, 2816]⟩
abbrev S2816x1024 : Shape := ⟨2, ![2816, 1024]⟩
abbrev S2176x1024 : Shape := ⟨2, ![2176, 1024]⟩
abbrev S2816x256 : Shape := ⟨2, ![2816, 256]⟩
abbrev S2176x256 : Shape := ⟨2, ![2176, 256]⟩

abbrev nBuf : Space → Nat
  | .hbm => 4
  | .vmem => 7
  | .smem => 0
  | _ => 0

abbrev bufTy : (tb : Table) → Fin (tcTables nBuf tb) → BufTy
  | .hbm, ⟨0, _⟩ => ⟨S2176x2816, .bf16⟩
  | .hbm, ⟨1, _⟩ => ⟨S2816x1024, .bf16⟩
  | .hbm, ⟨2, _⟩ => ⟨S2176x1024, .f32⟩
  | .hbm, ⟨3, _⟩ => ⟨S2176x1024, .f32⟩
  | .local _ .vmem, ⟨0, _⟩ => ⟨S2176x2816, .bf16⟩
  | .local _ .vmem, ⟨1, _⟩ => ⟨S2816x256, .bf16⟩
  | .local _ .vmem, ⟨2, _⟩ => ⟨S2816x256, .bf16⟩
  | .local _ .vmem, ⟨3, _⟩ => ⟨S2176x256, .f32⟩
  | .local _ .vmem, ⟨4, _⟩ => ⟨S2176x256, .f32⟩
  | .local _ .vmem, ⟨5, _⟩ => ⟨S2176x256, .f32⟩
  | .local _ .vmem, ⟨6, _⟩ => ⟨S2176x256, .f32⟩
  | _, _ => ⟨S2176x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2816x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S2176x2816 : Shape := ⟨2, ![2176, 2816]⟩
abbrev S2816x1024 : Shape := ⟨2, ![2816, 1024]⟩
abbrev S2176x1024 : Shape := ⟨2, ![2176, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2176x2816, .bf16⟩
  | .hbm, ⟨1, _⟩ => ⟨S2816x1024, .bf16⟩
  | .hbm, ⟨2, _⟩ => ⟨S2176x1024, .f32⟩
  | .hbm, ⟨3, _⟩ => ⟨S2176x2816, .f32⟩
  | .hbm, ⟨4, _⟩ => ⟨S2816x1024, .f32⟩
  | .hbm, ⟨5, _⟩ => ⟨S2176x1024, .f32⟩
  | .hbm, ⟨6, _⟩ => ⟨S2176x1024, .f32⟩
  | _, _ => ⟨S2176x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DnFfn.lean ====
abbrev S4352x2816 : Shape := ⟨2, ![4352, 2816]⟩
abbrev S5632x1024 : Shape := ⟨2, ![5632, 1024]⟩
abbrev S2176x1024 : Shape := ⟨2, ![2176, 1024]⟩
abbrev S1x1024 : Shape := ⟨2, ![1, 1024]⟩
abbrev S544x1408 : Shape := ⟨2, ![544, 1408]⟩
abbrev S1408x1024 : Shape := ⟨2, ![1408, 1024]⟩
abbrev S544x1024 : Shape := ⟨2, ![544, 1024]⟩
abbrev S544 : Shape := ⟨1, ![544]⟩
abbrev S544x1 : Shape := ⟨2, ![544, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S4352x2816, .bf16⟩
  | .hbm, ⟨1, _⟩ => ⟨S5632x1024, .bf16⟩
  | .hbm, ⟨2, _⟩ => ⟨S2176x1024, .f32⟩
  | .hbm, ⟨3, _⟩ => ⟨S1x1024, .f32⟩
  | .hbm, ⟨4, _⟩ => ⟨S2176x1024, .f32⟩
  | .hbm, ⟨5, _⟩ => ⟨S2176x1024, .f32⟩
  | .hbm, ⟨6, _⟩ => ⟨S2176x1024, .bf16⟩
  | .hbm, ⟨7, _⟩ => ⟨S1x1024, .f32⟩
  | .local _ .vmem, ⟨0, _⟩ => ⟨S544x1408, .bf16⟩
  | .local _ .vmem, ⟨1, _⟩ => ⟨S544x1408, .bf16⟩
  | .local _ .vmem, ⟨2, _⟩ => ⟨S1408x1024, .bf16⟩
  | .local _ .vmem, ⟨3, _⟩ => ⟨S1408x1024, .bf16⟩
  | .local _ .vmem, ⟨4, _⟩ => ⟨S544x1024, .f32⟩
  | .local _ .vmem, ⟨5, _⟩ => ⟨S544x1024, .f32⟩
  | .local _ .vmem, ⟨6, _⟩ => ⟨S1x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .bf16⟩
  | .local _ .vmem, ⟨12, _⟩ => ⟨S544x1024, .bf16⟩
  | .local _ .vmem, ⟨13, _⟩ => ⟨S1x1024, .f32⟩
  | .local _ .vmem, ⟨14, _⟩ => ⟨S544x1024, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_9 : BitVec 32 := 0#32
  let v13 : BitVec 1 := Scalar.cmpi .eq arg0 c0_i32_9
  let v25 : BitVec 32 := Scalar.extui v13
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.muli c4_i32 v16
  let v18 : BitVec 32 := Scalar.addi v17 arg0
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DnFfnRefIdeal.lean ====
abbrev S4352x2816 : Shape := ⟨2, ![4352, 2816]⟩
abbrev S5632x1024 : Shape := ⟨2, ![5632, 1024]⟩
abbrev S2176x1024 : Shape := ⟨2, ![2176, 1024]⟩
abbrev S1x1024 : Shape := ⟨2, ![1, 1024]⟩
abbrev S1024x5632 : Shape := ⟨2, ![1024, 5632]⟩
abbrev S1024 : Shape := ⟨1, ![1024]⟩
abbrev S_ : Shape := ⟨0, ![]⟩
abbrev S2176 : Shape := ⟨1, ![2176]⟩
abbrev S2176x1 : Shape := ⟨2, ![2176, 1]⟩
abbrev S2176x5632 : Shape := ⟨2, ![2176, 5632]⟩
abbrev S2176x2816 : Shape := ⟨2, ![2176, 2816]⟩

abbrev nBuf : Space → Nat
  | .hbm => 64
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S5632x1024, .bf16⟩
  | .hbm, ⟨2, _⟩ => ⟨S2176x1024, .f32⟩
  | .hbm, ⟨3, _⟩ => ⟨S1x1024, .f32⟩
  | .hbm, ⟨4, _⟩ => ⟨S2176x1024, .f32⟩
  | .hbm, ⟨5, _⟩ => ⟨S5632x1024, .f32⟩
  | .hbm, ⟨6, _⟩ => ⟨S1024x5632, .f32⟩
  | .hbm, ⟨7, _⟩ => ⟨S1024, .f32⟩
  | .hbm, ⟨8, _⟩ => ⟨S2176x1024, .f32⟩
  | .hbm, ⟨9, _⟩ => ⟨S_, .f32⟩
  | .hbm, ⟨10, _⟩ => ⟨S2176, .f32⟩
  | .hbm, ⟨11, _⟩ => ⟨S2176x1, .f32⟩
  | .hbm, ⟨12, _⟩ => ⟨S_, .f32⟩
  | .hbm, ⟨13, _⟩ => ⟨S2176x1, .f32⟩
  | .hbm, ⟨14, _⟩ => ⟨S2176x1, .f32⟩
  | .hbm, ⟨15, _⟩ => ⟨S_, .f32⟩
  | .hbm, ⟨16, _⟩ => ⟨S2176x1, .f32⟩
  | .hbm, ⟨17, _⟩ => ⟨S2176x1, .f32⟩
  | .hbm, ⟨18, _⟩ => ⟨S2176x1, .f32⟩
  | .hbm, ⟨19, _⟩ => ⟨S2176x1, .f32⟩
  | .hbm, ⟨20, _⟩ => ⟨S_, .f32⟩
  | .hbm, ⟨21, _⟩ => ⟨S2176x1, .f32⟩
  | .hbm, ⟨22, _⟩ => ⟨S2176x1, .f32⟩
  | .hbm, ⟨23, _⟩ => ⟨S2176x1024, .f32⟩
  | .hbm, ⟨24, _⟩ => ⟨S2176x1024, .f32⟩
  | .hbm, ⟨25, _⟩ => ⟨S1x1024, .f32⟩
  | .hbm, ⟨26, _⟩ => ⟨S2176x1024, .f32⟩
  | .hbm, ⟨27, _⟩ => ⟨S2176x1024, .f32⟩
  | .hbm, ⟨28, _⟩ => ⟨S2176x5632, .f32⟩
  | .hbm, ⟨29, _⟩ => ⟨S2176x2816, .bf16⟩
  | .hbm, ⟨30, _⟩ => ⟨S2176x2816, .f32⟩
  | .hbm, ⟨31, _⟩ => ⟨S2176x2816, .bf16⟩
  | .hbm, ⟨32, _⟩ => ⟨S2176x2816, .f32⟩
  | .hbm, ⟨33, _⟩ => ⟨S2176x5632, .f32⟩
  | .hbm, ⟨34, _⟩ => ⟨S2176x1024, .f32⟩
  | .hbm, ⟨35, _⟩ => ⟨S2176x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S2176x1024, .f32⟩
  | .hbm, ⟨40, _⟩ => ⟨S2176x1024, .f32⟩
  | .hbm, ⟨41, _⟩ => ⟨S_, .f32⟩
  | .hbm, ⟨42, _⟩ => ⟨S1024, .f32⟩
  | .hbm, ⟨43, _⟩ => ⟨S2176x1024, .f32⟩
  | .hbm, ⟨44, _⟩ => ⟨S_, .f32⟩
  | .hbm, ⟨45, _⟩ => ⟨S2176, .f32⟩
  | .hbm, ⟨46, _⟩ => ⟨S2176x1, .f32⟩
  | .hbm, ⟨47, _⟩ => ⟨S2176x1024, .f32⟩
  | .hbm, ⟨48, _⟩ => ⟨S2176x1024, .f32⟩
  | .hbm, ⟨49, _⟩ => ⟨S2176x1, .f32⟩
  | .hbm, ⟨50, _⟩ => ⟨S_, .f32⟩
  | .hbm, ⟨51, _⟩ => ⟨S2176x1, .f32⟩
  | .hbm, ⟨52, _⟩ => ⟨S2176x1, .f32⟩
  | .hbm, ⟨53, _⟩ => ⟨S_, .f32⟩
  | .hbm, ⟨54, _⟩ => ⟨S2176, .f32⟩
  | .hbm, ⟨55, _⟩ => ⟨S2176x1024, .f32⟩
  | .hbm, ⟨56, _⟩ => ⟨S2176x1024, .f32⟩
  | .hbm, ⟨57, _⟩ => ⟨S2176x1024, .f32⟩
  | .hbm, ⟨58, _⟩ => ⟨S2176x1024, .f32⟩
  | .hbm, ⟨59, _⟩ => ⟨S2176x1024, .f32⟩
  | .hbm, ⟨60, _⟩ => ⟨S2176x1024, .f32⟩
  | .hbm, ⟨61, _⟩ => ⟨S2176x1024, .f32⟩
  | .hbm, ⟨62, _⟩ => ⟨S2176x1024, .bf16⟩
  | .hbm, ⟨63, _⟩ => ⟨S1x1024, .f32⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== DnIn.lean ====
abbrev S2176x2688 : Shape := ⟨2, ![2176, 2688]⟩
abbrev S1024x2688 : Shape := ⟨2, ![1024, 2688]⟩
abbrev S2176x1024 : Shape := ⟨2, ![2176, 1024]⟩
abbrev S1x1024 : Shape := ⟨2, ![1, 1024]⟩
abbrev S8x128 : Shape := ⟨2, ![8, 128]⟩
abbrev S544x896 : Shape := ⟨2, ![544, 896]⟩
abbrev S1024x896 : Shape := ⟨2, ![1024, 896]⟩
abbrev S544x1024 : Shape := ⟨2, ![544, 1024]⟩
abbrev S544 : Shape := ⟨1, ![544]⟩
abbrev S544x1 : Shape := ⟨2, ![544, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S2176x2688, .bf16⟩
  | .hbm, ⟨1, _⟩ => ⟨S1024x2688, .bf16⟩
  | .hbm, ⟨2, _⟩ => ⟨S2176x1024, .f32⟩
  | .hbm, ⟨3, _⟩ => ⟨S1x1024, .f32⟩
  | .hbm, ⟨4, _⟩ => ⟨S2176x1024, .f32⟩
  | .hbm, ⟨5, _⟩ => ⟨S8x128, .f32⟩
  | .hbm, ⟨6, _⟩ => ⟨S2176x1024, .f32⟩
  | .hbm, ⟨7, _⟩ => ⟨S2176x1024, .bf16⟩
  | .hbm, ⟨8, _⟩ => ⟨S1x1024, .f32⟩
  | .local _ .vmem, ⟨0, _⟩ => ⟨S544x896, .bf16⟩
  | .local _ .vmem, ⟨1, _⟩ => ⟨S544x896, .bf16⟩
  | .local _ .vmem, ⟨2, _⟩ => ⟨S1024x896, .bf16⟩
  | .local _ .vmem, ⟨3, _⟩ => ⟨S1024x896, .bf16⟩
  | .local _ .vmem, ⟨4, _⟩ => ⟨S544x1024, .f32⟩
  | .local _ .vmem, ⟨5, _⟩ => ⟨S544x1024, .f32⟩
  | .local _ .vmem, ⟨6, _⟩ => ⟨S1x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .bf16⟩
  | .local _ .vmem, ⟨12, _⟩ => ⟨S544x1024, .bf16⟩
  | .local _ .vmem, ⟨13, _⟩ => ⟨S1x1024, .f32⟩
  | .local _ .vmem, ⟨14, _⟩ => ⟨S544x1024, .f32⟩
  | _, _ => ⟨S2176x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 3], ![false, false]⟩

def k0_cond3 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_9 : BitVec 32 := 0#32
  let v13 : BitVec 1 := Scalar.cmpi .eq arg0 c0_i32_9
  let v25 : BitVec 32 := Scalar.extui v13
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DnInRefIdeal.lean ====
abbrev S2176x2688 : Shape := ⟨2, ![2176, 2688]⟩
abbrev S1024x2688 : Shape := ⟨2, ![1024, 2688]⟩
abbrev S2176x1024 : Shape := ⟨2, ![2176, 1024]⟩
abbrev S1x1024 : Shape := ⟨2, ![1, 1024]⟩
abbrev S8x128 : Shape := ⟨2, ![8, 128]⟩
abbrev S1024 : Shape := ⟨1, ![1024]⟩
abbrev S_ : Shape := ⟨0, ![]⟩
abbrev S2176 : Shape := ⟨1, ![2176]⟩
abbrev S2176x1 : Shape := ⟨2, ![2176, 1]⟩

abbrev nBuf : Space → Nat
  | .hbm => 60
  | .vmem => 0
  | .smem => 0
  | _ => 0

abbrev bufTy : (tb : Table) → Fin (tcTables nBuf tb) → BufTy
  | .hbm, ⟨0, _⟩ => ⟨S2176x2688, .bf16⟩
  | .hbm, ⟨1, _⟩ => ⟨S1024x2688, .bf16⟩
  | .hbm, ⟨2, _⟩ => ⟨S2176x1024, .f32⟩
  | .hbm, ⟨3, _⟩ => ⟨S1x1024, .f32⟩
  | .hbm, ⟨4, _⟩ => ⟨S2176x1024, .f32⟩
  | .hbm, ⟨5, _⟩ => ⟨S8x128, .f32⟩
  | .hbm, ⟨6, _⟩ => ⟨S1024x2688, .f32⟩
  | .hbm, ⟨7, _⟩ => ⟨S1024, .f32⟩
  | .hbm, ⟨8, _⟩ => ⟨S2176x1024, .f32⟩
  | .hbm, ⟨9, _⟩ => ⟨S_, .f32⟩
  | .hbm, ⟨10, _⟩ => ⟨S2176, .f32⟩
  | .hbm, ⟨11, _⟩ => ⟨S2176x1, .f32⟩
  | .hbm, ⟨12, _⟩ => ⟨S_, .f32⟩
  | .hbm, ⟨13, _⟩ => ⟨S2176x1, .f32⟩
  | .hbm, ⟨14, _⟩ => ⟨S2176x1, .f32⟩
  | .hbm, ⟨15, _⟩ => ⟨S_, .f32⟩
  | .hbm, ⟨16, _⟩ => ⟨S2176x1, .f32⟩
  | .hbm, ⟨17, _⟩ => ⟨S2176x1, .f32⟩
  | .hbm, ⟨18, _⟩ => ⟨S2176x1, .f32⟩
  | .hbm, ⟨19, _⟩ => ⟨S2176x1, .f32⟩
  | .hbm, ⟨20, _⟩ => ⟨S_, .f32⟩
  | .hbm, ⟨21, _⟩ => ⟨S2176x1, .f32⟩
  | .hbm, ⟨22, _⟩ => ⟨S2176x1, .f32⟩
  | .hbm, ⟨23, _⟩ => ⟨S2176x1024, .f32⟩
  | .hbm, ⟨24, _⟩ => ⟨S2176x1024, .f32⟩
  | .hbm, ⟨25, _⟩ => ⟨S1x1024, .f32⟩
  | .hbm, ⟨26, _⟩ => ⟨S2176x1024, .f32⟩
  | .hbm, ⟨27, _⟩ => ⟨S2176x1024, .f32⟩
  | .hbm, ⟨28, _⟩ => ⟨S2176x2688, .f32⟩
  | .hbm, ⟨29, _⟩ => ⟨S2176x2688, .f32⟩
  | .hbm, ⟨30, _⟩ => ⟨S2176x1024, .f32⟩
  | .hbm, ⟨31, _⟩ => ⟨S2176x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2176x1024, .f32⟩
  | .hbm, ⟨36, _⟩ => ⟨S2176x1024, .f32⟩
  | .hbm, ⟨37, _⟩ => ⟨S_, .f32⟩
  | .hbm, ⟨38, _⟩ => ⟨S1024, .f32⟩
  | .hbm, ⟨39, _⟩ => ⟨S2176x1024, .f32⟩
  | .hbm, ⟨40, _⟩ => ⟨S_, .f32⟩
  | .hbm, ⟨41, _⟩ => ⟨S2176, .f32⟩
  | .hbm, ⟨42, _⟩ => ⟨S2176x1, .f32⟩
  | .hbm, ⟨43, _⟩ => ⟨S2176x1024, .f32⟩
  | .hbm, ⟨44, _⟩ => ⟨S2176x1024, .f32⟩
  | .hbm, ⟨45, _⟩ => ⟨S2176x1, .f32⟩
  | .hbm, ⟨46, _⟩ => ⟨S_, .f32⟩
  | .hbm, ⟨47, _⟩ => ⟨S2176x1, .f32⟩
  | .hbm, ⟨48, _⟩ => ⟨S2176x1, .f32⟩
  | .hbm, ⟨49, _⟩ => ⟨S_, .f32⟩
  | .hbm, ⟨50, _⟩ => ⟨S2176, .f32⟩
  | .hbm, ⟨51, _⟩ => ⟨S2176x1024, .f32⟩
  | .hbm, ⟨52, _⟩ => ⟨S2176x1024, .f32⟩
  | .hbm, ⟨53, _⟩ => ⟨S2176x1024, .f32⟩
  | .hbm, ⟨54, _⟩ => ⟨S2176x1024, .f32⟩
  | .hbm, ⟨55, _⟩ => ⟨S2176x1024, .f32⟩
  | .hbm, ⟨56, _⟩ => ⟨S2176x1024, .f32⟩
  | .hbm, ⟨57, _⟩ => ⟨S2176x1024, .f32⟩
  | .hbm, ⟨58, _⟩ => ⟨S2176x1024, .bf16⟩
  | .hbm, ⟨59, _⟩ => ⟨S1x1024, .f32⟩
  | _, _ => ⟨S2176x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== DwIn.lean ====
abbrev S1024x2176 : Shape := ⟨2, ![1024, 2176]⟩
abbrev S2176x2688 : Shape := ⟨2, ![2176, 2688]⟩
abbrev S8x1024x321 : Shape := ⟨3, ![8, 1024, 321]⟩
abbrev S256x2176 : Shape := ⟨2, ![256, 2176]⟩
abbrev S8x256x321 : Shape := ⟨3, ![8, 256, 321]⟩
abbrev S256x2688 : Shape := ⟨2, ![256, 2688]⟩
abbrev S256x1536 : Shape := ⟨2, ![256, 1536]⟩
abbrev S256x8 : Shape := ⟨2, ![256, 8]⟩
abbrev S256x1024 : Shape := ⟨2, ![256, 1024]⟩
abbrev S256x2568 : Shape := ⟨2, ![256, 2568]⟩
abbrev S256x321 : Shape := ⟨2, ![256, 321]⟩
abbrev S1x256x321 : Shape := ⟨3, ![1, 256, 321]⟩

abbrev nBuf : Space → Nat
  | .hbm => 3
  | .vmem => 5
  | .smem => 0
  | _ => 0

abbrev bufTy : (tb : Table) → Fin (tcTables nBuf tb) → BufTy
  | .hbm, ⟨0, _⟩ => ⟨S1024x2176, .bf16⟩
  | .hbm, ⟨1, _⟩ => ⟨S2176x2688, .bf16⟩
  | .hbm, ⟨2, _⟩ => ⟨S8x1024x321, .bf16⟩
  | .local _ .vmem, ⟨0, _⟩ => ⟨S256x2176, .bf16⟩
  | .local _ .vmem, ⟨1, _⟩ => ⟨S256x2176, .bf16⟩
  | .local _ .vmem, ⟨2, _⟩ => ⟨S2176x2688, .bf16⟩
  | .local _ .vmem, ⟨3, _⟩ => ⟨S8x256x321, .bf16⟩
  | .local _ .vmem, ⟨4, _⟩ => ⟨S8x256x321, .bf16⟩
  | _, _ => ⟨S1024x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x256x321 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwInRefIdeal.lean ====
abbrev S1024x2176 : Shape := ⟨2, ![1024, 2176]⟩
abbrev S2176x2688 : Shape := ⟨2, ![2176, 2688]⟩
abbrev S2176x1024 : Shape := ⟨2, ![2176, 1024]⟩
abbrev S_ : Shape := ⟨0, ![]⟩
abbrev S1024x2568 : Shape := ⟨2, ![1024, 2568]⟩
abbrev S2176x2568 : Shape := ⟨2, ![2176, 2568]⟩
abbrev S2176x1536 : Shape := ⟨2, ![2176, 1536]⟩
abbrev S2176x8 : Shape := ⟨2, ![2176, 8]⟩
abbrev S2568x1024 : Shape := ⟨2, ![2568, 1024]⟩
abbrev S1024x321 : Shape := ⟨2, ![1024, 321]⟩
abbrev S1x1024x321 : Shape := ⟨3, ![1, 1024, 321]⟩
abbrev S8x1024x321 : Shape := ⟨3, ![8, 1024, 321]⟩

abbrev nBuf : Space → Nat
  | .hbm => 34
  | .vmem => 0
  | .smem => 0
  | _ => 0

abbrev bufTy : (tb : Table) → Fin (tcTables nBuf tb) → BufTy
  | .hbm, ⟨0, _⟩ => ⟨S1024x2176, .bf16⟩
  | .hbm, ⟨1, _⟩ => ⟨S2176x2688, .bf16⟩
  | .hbm, ⟨2, _⟩ => ⟨S2176x1024, .bf16⟩
  | .hbm, ⟨3, _⟩ => ⟨S2176x1024, .f32⟩
  | .hbm, ⟨4, _⟩ => ⟨S_, .f32⟩
  | .hbm, ⟨5, _⟩ => ⟨S1024x2568, .f32⟩
  | .hbm, ⟨6, _⟩ => ⟨S2176x2568, .f32⟩
  | .hbm, ⟨7, _⟩ => ⟨S2176x1536, .bf16⟩
  | .hbm, ⟨8, _⟩ => ⟨S2176x1024, .bf16⟩
  | .hbm, ⟨9, _⟩ => ⟨S2176x8, .bf16⟩
  | .hbm, ⟨10, _⟩ => ⟨S2176x1536, .f32⟩
  | .hbm, ⟨11, _⟩ => ⟨S2176x8, .f32⟩
  | .hbm, ⟨12, _⟩ => ⟨S2176x1024, .f32⟩
  | .hbm, ⟨13, _⟩ => ⟨S2176x2568, .f32⟩
  | .hbm, ⟨14, _⟩ => ⟨S2568x1024, .f32⟩
  | .hbm, ⟨15, _⟩ => ⟨S1024x2568, .f32⟩
  | .hbm, ⟨16, _⟩ => ⟨S1024x2568, .bf16⟩
  | .hbm, ⟨17, _⟩ => ⟨S1024x321, .bf16⟩
  | .hbm, ⟨18, _⟩ => ⟨S1024x321, .bf16⟩
  | .hbm, ⟨19, _⟩ => ⟨S1024x321, .bf16⟩
  | .hbm, ⟨20, _⟩ => ⟨S1024x321, .bf16⟩
  | .hbm, ⟨21, _⟩ => ⟨S1024x321, .bf16⟩
  | .hbm, ⟨22, _⟩ => ⟨S1024x321, .bf16⟩
  | .hbm, ⟨23, _⟩ => ⟨S1024x321, .bf16⟩
  | .hbm, ⟨24, _⟩ => ⟨S1024x321, .bf16⟩
  | .hbm, ⟨25, _⟩ => ⟨S1x1024x321, .bf16⟩
  | .hbm, ⟨26, _⟩ => ⟨S1x1024x321, .bf16⟩
  | .hbm, ⟨27, _⟩ => ⟨S1x1024x321, .bf16⟩
  | .hbm, ⟨28, _⟩ => ⟨S1x1024x321, .bf16⟩
  | .hbm, ⟨29, _⟩ => ⟨S1x1024x321, .bf16⟩
  | .hbm, ⟨30, _⟩ => ⟨S1x1024x321, .bf16⟩
  | .hbm, ⟨31, _⟩ => ⟨S1x1024x321, .bf16⟩
  | .hbm, ⟨32, _⟩ => ⟨S1x1024x321, .bf16⟩
  | .hbm, ⟨33, _⟩ => ⟨S8x1024x321, .bf16⟩
  | _, _ => ⟨S1024x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩

abbrev nD : Nat := 1
abbrev τ : Topo := Topo.v7x

variable {F : FTy → Type} [FloatOps F]
-- ==== Glu.lean ====
abbrev S2176x1024 : Shape := ⟨2, ![2176, 1024]⟩
abbrev S1024x2688 : Shape := ⟨2, ![1024, 2688]⟩
abbrev S1024x512 : Shape := ⟨2, ![1024, 512]⟩
abbrev S2176x512 : Shape := ⟨2, ![2176, 512]⟩

abbrev nBuf : Space → Nat
  | .hbm => 3
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S1024x2688, .bf16⟩
  | .hbm, ⟨2, _⟩ => ⟨S2176x1024, .f32⟩
  | .local _ .vmem, ⟨0, _⟩ => ⟨S2176x1024, .bf16⟩
  | .local _ .vmem, ⟨1, _⟩ => ⟨S1024x512, .bf16⟩
  | .local _ .vmem, ⟨2, _⟩ => ⟨S1024x512, .bf16⟩
  | .local _ .vmem, ⟨3, _⟩ => ⟨S2176x512, .f32⟩
  | .local _ .vmem, ⟨4, _⟩ => ⟨S2176x512, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluRefIdeal.lean ====
abbrev S2176x1024 : Shape := ⟨2, ![2176, 1024]⟩
abbrev S1024x2688 : Shape := ⟨2, ![1024, 2688]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x2688, .bf16⟩
  | .hbm, ⟨2, _⟩ => ⟨S2176x1024, .f32⟩
  | .hbm, ⟨3, _⟩ => ⟨S1024x1024, .bf16⟩
  | .hbm, ⟨4, _⟩ => ⟨S1024x1024, .f32⟩
  | .hbm, ⟨5, _⟩ => ⟨S2176x1024, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Forget.lean ====
abbrev S8x1024 : Shape := ⟨2, ![8, 1024]⟩
abbrev S2176x1024 : Shape := ⟨2, ![2176, 1024]⟩
abbrev S8x2176 : Shape := ⟨2, ![8, 2176]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .bf16⟩
  | .hbm, ⟨1, _⟩ => ⟨S2176x1024, .bf16⟩
  | .hbm, ⟨2, _⟩ => ⟨S8x2176, .f32⟩
  | .local _ .vmem, ⟨0, _⟩ => ⟨S8x1024, .bf16⟩
  | .local _ .vmem, ⟨1, _⟩ => ⟨S2176x1024, .bf16⟩
  | .local _ .vmem, ⟨2, _⟩ => ⟨S8x2176, .f32⟩
  | _, _ => ⟨S8x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ForgetRefIdeal.lean ====
abbrev S8x1024 : Shape := ⟨2, ![8, 1024]⟩
abbrev S2176x1024 : Shape := ⟨2, ![2176, 1024]⟩
abbrev S1024x8 : Shape := ⟨2, ![1024, 8]⟩
abbrev S2176x8 : Shape := ⟨2, ![2176, 8]⟩
abbrev S8x2176 : Shape := ⟨2, ![8, 2176]⟩

abbrev nBuf : Space → Nat
  | .hbm => 7
  | .vmem => 0
  | .smem => 0
  | _ => 0

abbrev bufTy : (tb : Table) → Fin (tcTables nBuf tb) → BufTy
  | .hbm, ⟨0, _⟩ => ⟨S8x1024, .bf16⟩
  | .hbm, ⟨1, _⟩ => ⟨S2176x1024, .bf16⟩
  | .hbm, ⟨2, _⟩ => ⟨S2176x1024, .f32⟩
  | .hbm, ⟨3, _⟩ => ⟨S1024x8, .bf16⟩
  | .hbm, ⟨4, _⟩ => ⟨S1024x8, .f32⟩
  | .hbm, ⟨5, _⟩ => ⟨S2176x8, .f32⟩
  | .hbm, ⟨6, _⟩ => ⟨S8x2176, .f32⟩
  | _, _ => ⟨S8x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixOut.lean ====
abbrev S2176x1024 : Shape := ⟨2, ![2176, 1024]⟩
abbrev S1024x1024 : Shape := ⟨2, ![1024, 1024]⟩
abbrev S1024x512 : Shape := ⟨2, ![1024, 512]⟩
abbrev S2176x512 : Shape := ⟨2, ![2176, 512]⟩

abbrev nBuf : Space → Nat
  | .hbm => 4
  | .vmem => 7
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .hbm, ⟨3, _⟩ => ⟨S2176x1024, .f32⟩
  | .local _ .vmem, ⟨0, _⟩ => ⟨S2176x1024, .bf16⟩
  | .local _ .vmem, ⟨1, _⟩ => ⟨S1024x512, .bf16⟩
  | .local _ .vmem, ⟨2, _⟩ => ⟨S1024x512, .bf16⟩
  | .local _ .vmem, ⟨3, _⟩ => ⟨S2176x512, .f32⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2176x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutRefIdeal.lean ====
abbrev S2176x1024 : Shape := ⟨2, ![2176, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .hbm, ⟨3, _⟩ => ⟨S2176x1024, .f32⟩
  | .hbm, ⟨4, _⟩ => ⟨S1024x1024, .f32⟩
  | .hbm, ⟨5, _⟩ => ⟨S2176x1024, .f32⟩
  | .hbm, ⟨6, _⟩ => ⟨S2176x1024, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwOut.lean ====
abbrev S1024x2176 : Shape := ⟨2, ![1024, 2176]⟩
abbrev S2176x1024 : Shape := ⟨2, ![2176, 1024]⟩
abbrev S1024x1024 : Shape := ⟨2, ![1024, 1024]⟩
abbrev S512x2176 : Shape := ⟨2, ![512, 2176]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x2176, .bf16⟩
  | .hbm, ⟨1, _⟩ => ⟨S2176x1024, .bf16⟩
  | .hbm, ⟨2, _⟩ => ⟨S1024x1024, .bf16⟩
  | .local _ .vmem, ⟨0, _⟩ => ⟨S512x2176, .bf16⟩
  | .local _ .vmem, ⟨1, _⟩ => ⟨S512x2176, .bf16⟩
  | .local _ .vmem, ⟨2, _⟩ => ⟨S2176x1024, .bf16⟩
  | .local _ .vmem, ⟨3, _⟩ => ⟨S512x1024, .bf16⟩
  | .local _ .vmem, ⟨4, _⟩ => ⟨S512x1024, .bf16⟩
  | _, _ => ⟨S1024x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S1024x2176 : Shape := ⟨2, ![1024, 2176]⟩
abbrev S2176x1024 : Shape := ⟨2, ![2176, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x2176, .bf16⟩
  | .hbm, ⟨1, _⟩ => ⟨S2176x1024, .bf16⟩
  | .hbm, ⟨2, _⟩ => ⟨S2176x1024, .bf16⟩
  | .hbm, ⟨3, _⟩ => ⟨S2176x1024, .f32⟩
  | .hbm, ⟨4, _⟩ => ⟨S_, .f32⟩
  | .hbm, ⟨5, _⟩ => ⟨S1024x1024, .f32⟩
  | .hbm, ⟨6, _⟩ => ⟨S2176x1024, .f32⟩
  | .hbm, ⟨7, _⟩ => ⟨S2176x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S1024x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwPool.lean ====
abbrev S1024x2176 : Shape := ⟨2, ![1024, 2176]⟩
abbrev S2176x1024 : Shape := ⟨2, ![2176, 1024]⟩
abbrev S1024x256 : Shape := ⟨2, ![1024, 256]⟩
abbrev S256x2176 : Shape := ⟨2, ![256, 2176]⟩
abbrev S2176x256 : Shape := ⟨2, ![2176, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S1024x2176, .bf16⟩
  | .hbm, ⟨1, _⟩ => ⟨S2176x1024, .bf16⟩
  | .hbm, ⟨2, _⟩ => ⟨S1024x256, .bf16⟩
  | .local _ .vmem, ⟨0, _⟩ => ⟨S256x2176, .bf16⟩
  | .local _ .vmem, ⟨1, _⟩ => ⟨S256x2176, .bf16⟩
  | .local _ .vmem, ⟨2, _⟩ => ⟨S2176x256, .bf16⟩
  | .local _ .vmem, ⟨3, _⟩ => ⟨S2176x256, .bf16⟩
  | .local _ .vmem, ⟨4, _⟩ => ⟨S256x256, .bf16⟩
  | .local _ .vmem, ⟨5, _⟩ => ⟨S256x256, .bf16⟩
  | _, _ => ⟨S1024x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwPoolRefIdeal.lean ====
abbrev S1024x2176 : Shape := ⟨2, ![1024, 2176]⟩
abbrev S2176x1024 : Shape := ⟨2, ![2176, 1024]⟩
abbrev S2176x4x256 : Shape := ⟨3, ![2176, 4, 256]⟩
abbrev S_ : Shape := ⟨0, ![]⟩
abbrev S4x256x256 : Shape := ⟨3, ![4, 256, 256]⟩
abbrev S4x256x2176 : Shape := ⟨3, ![4, 256, 2176]⟩
abbrev S1024x256 : Shape := ⟨2, ![1024, 256]⟩

abbrev nBuf : Space → Nat
  | .hbm => 16
  | .vmem => 0
  | .smem => 0
  | _ => 0

abbrev bufTy : (tb : Table) → Fin (tcTables nBuf tb) → BufTy
  | .hbm, ⟨0, _⟩ => ⟨S1024x2176, .bf16⟩
  | .hbm, ⟨1, _⟩ => ⟨S2176x1024, .bf16⟩
  | .hbm, ⟨2, _⟩ => ⟨S2176x1024, .bf16⟩
  | .hbm, ⟨3, _⟩ => ⟨S2176x1024, .f32⟩
  | .hbm, ⟨4, _⟩ => ⟨S2176x4x256, .f32⟩
  | .hbm, ⟨5, _⟩ => ⟨S2176x1024, .f32⟩
  | .hbm, ⟨6, _⟩ => ⟨S2176x4x256, .f32⟩
  | .hbm, ⟨7, _⟩ => ⟨S_, .f32⟩
  | .hbm, ⟨8, _⟩ => ⟨S4x256x256, .f32⟩
  | .hbm, ⟨9, _⟩ => ⟨S4x256x2176, .f32⟩
  | .hbm, ⟨10, _⟩ => ⟨S2176x4x256, .f32⟩
  | .hbm, ⟨11, _⟩ => ⟨S4x256x2176, .f32⟩
  | .hbm, ⟨12, _⟩ => ⟨S4x256x256, .f32⟩
  | .hbm, ⟨13, _⟩ => ⟨S4x256x256, .f32⟩
  | .hbm, ⟨14, _⟩ => ⟨S4x256x256, .bf16⟩
  | .hbm, ⟨15, _⟩ => ⟨S1024x256, .bf16⟩
  | _, _ => ⟨S1024x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== AdamUp.lean ====
abbrev S2x704x1024 : Shape := ⟨3, ![2, 704, 1024]⟩
abbrev S704x1024 : Shape := ⟨2, ![704, 1024]⟩
abbrev S7x704x1024 : Shape := ⟨3, ![7, 704, 1024]⟩
abbrev S1x352x1024 : Shape := ⟨3, ![1, 352, 1024]⟩
abbrev S352x1024 : Shape := ⟨2, ![352, 1024]⟩
abbrev S7x352x1024 : Shape := ⟨3, ![7, 352, 1024]⟩

abbrev nBuf : Space → Nat
  | .hbm => 11
  | .vmem => 22
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S704x1024, .bf16⟩
  | .hbm, ⟨4, _⟩ => ⟨S704x1024, .bf16⟩
  | .hbm, ⟨5, _⟩ => ⟨S7x704x1024, .bf16⟩
  | .hbm, ⟨6, _⟩ => ⟨S7x704x1024, .bf16⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S352x1024, .bf16⟩
  | .local _ .vmem, ⟨7, _⟩ => ⟨S352x1024, .bf16⟩
  | .local _ .vmem, ⟨8, _⟩ => ⟨S352x1024, .bf16⟩
  | .local _ .vmem, ⟨9, _⟩ => ⟨S352x1024, .bf16⟩
  | .local _ .vmem, ⟨10, _⟩ => ⟨S7x352x1024, .bf16⟩
  | .local _ .vmem, ⟨11, _⟩ => ⟨S7x352x1024, .bf16⟩
  | .local _ .vmem, ⟨12, _⟩ => ⟨S7x352x1024, .bf16⟩
  | .local _ .vmem, ⟨13, _⟩ => ⟨S7x352x1024, .bf16⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .vmem, ⟨18, _⟩ => ⟨S1x352x1024, .f32⟩
  | .local _ .vmem, ⟨19, _⟩ => ⟨S1x352x1024, .f32⟩
  | .local _ .vmem, ⟨20, _⟩ => ⟨S1x352x1024, .f32⟩
  | .local _ .vmem, ⟨21, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  ![v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S7x352x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S7x352x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamUpRefIdeal.lean ====
abbrev S2x704x1024 : Shape := ⟨3, ![2, 704, 1024]⟩
abbrev S704x1024 : Shape := ⟨2, ![704, 1024]⟩
abbrev S7x704x1024 : Shape := ⟨3, ![7, 704, 1024]⟩
abbrev S_ : Shape := ⟨0, ![]⟩
abbrev S1x704x1024 : Shape := ⟨3, ![1, 704, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S704x1024, .bf16⟩
  | .hbm, ⟨4, _⟩ => ⟨S704x1024, .bf16⟩
  | .hbm, ⟨5, _⟩ => ⟨S7x704x1024, .bf16⟩
  | .hbm, ⟨6, _⟩ => ⟨S7x704x1024, .bf16⟩
  | .hbm, ⟨7, _⟩ => ⟨S704x1024, .f32⟩
  | .hbm, ⟨8, _⟩ => ⟨S7x704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S7x704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S1x704x1024, .f32⟩
  | .hbm, ⟨18, _⟩ => ⟨S1x704x1024, .f32⟩
  | .hbm, ⟨19, _⟩ => ⟨S2x704x1024, .f32⟩
  | .hbm, ⟨20, _⟩ => ⟨S_, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S2x704x1024, .f32⟩
  | .hbm, ⟨27, _⟩ => ⟨S_, .f32⟩
  | .hbm, ⟨28, _⟩ => ⟨S2x704x1024, .f32⟩
  | .hbm, ⟨29, _⟩ => ⟨S2x704x1024, .f32⟩
  | .hbm, ⟨30, _⟩ => ⟨S2x704x1024, .f32⟩
  | .hbm, ⟨31, _⟩ => ⟨S_, .f32⟩
  | .hbm, ⟨32, _⟩ => ⟨S2x704x1024, .f32⟩
  | .hbm, ⟨33, _⟩ => ⟨S2x704x1024, .f32⟩
  | .hbm, ⟨34, _⟩ => ⟨S2x704x1024, .f32⟩
  | .hbm, ⟨35, _⟩ => ⟨S_, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | .hbm, ⟨41, _⟩ => ⟨S2x704x1024, .f32⟩
  | .hbm, ⟨42, _⟩ => ⟨S_, .f32⟩
  | .hbm, ⟨43, _⟩ => ⟨S2x704x1024, .f32⟩
  | .hbm, ⟨44, _⟩ => ⟨S2x704x1024, .f32⟩
  | .hbm, ⟨45, _⟩ => ⟨S2x704x1024, .f32⟩
  | .hbm, ⟨46, _⟩ => ⟨S_, .f32⟩
  | .hbm, ⟨47, _⟩ => ⟨S2x704x1024, .f32⟩
  | .hbm, ⟨48, _⟩ => ⟨S2x704x1024, .f32⟩
  | .hbm, ⟨49, _⟩ => ⟨S2x704x1024, .f32⟩
  | .hbm, ⟨50, _⟩ => ⟨S_, .f32⟩
  | .hbm, ⟨51, _⟩ => ⟨S2x704x1024, .f32⟩
  | .hbm, ⟨52, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== AdamDown.lean ====
abbrev S2x352x1024 : Shape := ⟨3, ![2, 352, 1024]⟩
abbrev S352x1024 : Shape := ⟨2, ![352, 1024]⟩
abbrev S7x352x1024 : Shape := ⟨3, ![7, 352, 1024]⟩
abbrev S1x352x1024 : Shape := ⟨3, ![1, 352, 1024]⟩

abbrev nBuf : Space → Nat
  | .hbm => 11
  | .vmem => 22
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S352x1024, .bf16⟩
  | .hbm, ⟨4, _⟩ => ⟨S352x1024, .bf16⟩
  | .hbm, ⟨5, _⟩ => ⟨S7x352x1024, .bf16⟩
  | .hbm, ⟨6, _⟩ => ⟨S7x352x1024, .bf16⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S352x1024, .bf16⟩
  | .local _ .vmem, ⟨7, _⟩ => ⟨S352x1024, .bf16⟩
  | .local _ .vmem, ⟨8, _⟩ => ⟨S352x1024, .bf16⟩
  | .local _ .vmem, ⟨9, _⟩ => ⟨S352x1024, .bf16⟩
  | .local _ .vmem, ⟨10, _⟩ => ⟨S7x352x1024, .bf16⟩
  | .local _ .vmem, ⟨11, _⟩ => ⟨S7x352x1024, .bf16⟩
  | .local _ .vmem, ⟨12, _⟩ => ⟨S7x352x1024, .bf16⟩
  | .local _ .vmem, ⟨13, _⟩ => ⟨S7x352x1024, .bf16⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .vmem, ⟨18, _⟩ => ⟨S1x352x1024, .f32⟩
  | .local _ .vmem, ⟨19, _⟩ => ⟨S1x352x1024, .f32⟩
  | .local _ .vmem, ⟨20, _⟩ => ⟨S1x352x1024, .f32⟩
  | .local _ .vmem, ⟨21, _⟩ => ⟨S1x352x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  ![v3.toNat, c0_i32_3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  ![v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S7x352x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S7x352x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamDownRefIdeal.lean ====
abbrev S2x352x1024 : Shape := ⟨3, ![2, 352, 1024]⟩
abbrev S352x1024 : Shape := ⟨2, ![352, 1024]⟩
abbrev S7x352x1024 : Shape := ⟨3, ![7, 352, 1024]⟩
abbrev S_ : Shape := ⟨0, ![]⟩
abbrev S1x352x1024 : Shape := ⟨3, ![1, 352, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S352x1024, .bf16⟩
  | .hbm, ⟨4, _⟩ => ⟨S352x1024, .bf16⟩
  | .hbm, ⟨5, _⟩ => ⟨S7x352x1024, .bf16⟩
  | .hbm, ⟨6, _⟩ => ⟨S7x352x1024, .bf16⟩
  | .hbm, ⟨7, _⟩ => ⟨S352x1024, .f32⟩
  | .hbm, ⟨8, _⟩ => ⟨S7x352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S7x352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S1x352x1024, .f32⟩
  | .hbm, ⟨18, _⟩ => ⟨S1x352x1024, .f32⟩
  | .hbm, ⟨19, _⟩ => ⟨S2x352x1024, .f32⟩
  | .hbm, ⟨20, _⟩ => ⟨S_, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S2x352x1024, .f32⟩
  | .hbm, ⟨27, _⟩ => ⟨S_, .f32⟩
  | .hbm, ⟨28, _⟩ => ⟨S2x352x1024, .f32⟩
  | .hbm, ⟨29, _⟩ => ⟨S2x352x1024, .f32⟩
  | .hbm, ⟨30, _⟩ => ⟨S2x352x1024, .f32⟩
  | .hbm, ⟨31, _⟩ => ⟨S_, .f32⟩
  | .hbm, ⟨32, _⟩ => ⟨S2x352x1024, .f32⟩
  | .hbm, ⟨33, _⟩ => ⟨S2x352x1024, .f32⟩
  | .hbm, ⟨34, _⟩ => ⟨S2x352x1024, .f32⟩
  | .hbm, ⟨35, _⟩ => ⟨S_, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | .hbm, ⟨41, _⟩ => ⟨S2x352x1024, .f32⟩
  | .hbm, ⟨42, _⟩ => ⟨S_, .f32⟩
  | .hbm, ⟨43, _⟩ => ⟨S2x352x1024, .f32⟩
  | .hbm, ⟨44, _⟩ => ⟨S2x352x1024, .f32⟩
  | .hbm, ⟨45, _⟩ => ⟨S2x352x1024, .f32⟩
  | .hbm, ⟨46, _⟩ => ⟨S_, .f32⟩
  | .hbm, ⟨47, _⟩ => ⟨S2x352x1024, .f32⟩
  | .hbm, ⟨48, _⟩ => ⟨S2x352x1024, .f32⟩
  | .hbm, ⟨49, _⟩ => ⟨S2x352x1024, .f32⟩
  | .hbm, ⟨50, _⟩ => ⟨S_, .f32⟩
  | .hbm, ⟨51, _⟩ => ⟨S2x352x1024, .f32⟩
  | .hbm, ⟨52, _⟩ => ⟨S2x352x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== AdamIn.lean ====
abbrev S1x1024x321 : Shape := ⟨3, ![1, 1024, 321]⟩
abbrev S1024x321 : Shape := ⟨2, ![1024, 321]⟩
abbrev S7x1024x321 : Shape := ⟨3, ![7, 1024, 321]⟩
abbrev S1x256x321 : Shape := ⟨3, ![1, 256, 321]⟩
abbrev S256x321 : Shape := ⟨2, ![256, 321]⟩
abbrev S7x256x321 : Shape := ⟨3, ![7, 256, 321]⟩

abbrev nBuf : Space → Nat
  | .hbm => 9
  | .vmem => 18
  | .smem => 0
  | _ => 0

abbrev bufTy : (tb : Table) → Fin (tcTables nBuf tb) → BufTy
  | .hbm, ⟨0, _⟩ => ⟨S1x1024x321, .f32⟩
  | .hbm, ⟨1, _⟩ => ⟨S1x1024x321, .f32⟩
  | .hbm, ⟨2, _⟩ => ⟨S1x1024x321, .f32⟩
  | .hbm, ⟨3, _⟩ => ⟨S1024x321, .bf16⟩
  | .hbm, ⟨4, _⟩ => ⟨S7x1024x321, .bf16⟩
  | .hbm, ⟨5, _⟩ => ⟨S1x1024x321, .f32⟩
  | .hbm, ⟨6, _⟩ => ⟨S1x1024x321, .f32⟩
  | .hbm, ⟨7, _⟩ => ⟨S1x1024x321, .f32⟩
  | .hbm, ⟨8, _⟩ => ⟨S1x1024x321, .f32⟩
  | .local _ .vmem, ⟨0, _⟩ => ⟨S1x256x321, .f32⟩
  | .local _ .vmem, ⟨1, _⟩ => ⟨S1x256x321, .f32⟩
  | .local _ .vmem, ⟨2, _⟩ => ⟨S1x256x321, .f32⟩
  | .local _ .vmem, ⟨3, _⟩ => ⟨S1x256x321, .f32⟩
  | .local _ .vmem, ⟨4, _⟩ => ⟨S1x256x321, .f32⟩
  | .local _ .vmem, ⟨5, _⟩ => ⟨S1x256x321, .f32⟩
  | .local _ .vmem, ⟨6, _⟩ => ⟨S256x321, .bf16⟩
  | .local _ .vmem, ⟨7, _⟩ => ⟨S256x321, .bf16⟩
  | .local _ .vmem, ⟨8, _⟩ => ⟨S7x256x321, .bf16⟩
  | .local _ .vmem, ⟨9, _⟩ => ⟨S7x256x321, .bf16⟩
  | .local _ .vmem, ⟨10, _⟩ => ⟨S1x256x321, .f32⟩
  | .local _ .vmem, ⟨11, _⟩ => ⟨S1x256x321, .f32⟩
  | .local _ .vmem, ⟨12, _⟩ => ⟨S1x256x321, .f32⟩
  | .local _ .vmem, ⟨13, _⟩ => ⟨S1x256x321, .f32⟩
  | .local _ .vmem, ⟨14, _⟩ => ⟨S1x256x321, .f32⟩
  | .local _ .vmem, ⟨15, _⟩ => ⟨S1x256x321, .f32⟩
  | .local _ .vmem, ⟨16, _⟩ => ⟨S1x256x321, .f32⟩
  | .local _ .vmem, ⟨17, _⟩ => ⟨S1x256x321, .f32⟩
  | _, _ => ⟨S1x1024x321, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  ![v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x321 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x321 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x321 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x321 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S7x256x321 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x321 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x321 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x321 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x321 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInRefIdeal.lean ====
abbrev S1x1024x321 : Shape := ⟨3, ![1, 1024, 321]⟩
abbrev S1024x321 : Shape := ⟨2, ![1024, 321]⟩
abbrev S7x1024x321 : Shape := ⟨3, ![7, 1024, 321]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1x1024x321, .f32⟩
  | .hbm, ⟨1, _⟩ => ⟨S1x1024x321, .f32⟩
  | .hbm, ⟨2, _⟩ => ⟨S1x1024x321, .f32⟩
  | .hbm, ⟨3, _⟩ => ⟨S1024x321, .bf16⟩
  | .hbm, ⟨4, _⟩ => ⟨S7x1024x321, .bf16⟩
  | .hbm, ⟨5, _⟩ => ⟨S1024x321, .f32⟩
  | .hbm, ⟨6, _⟩ => ⟨S7x1024x321, .f32⟩
  | .hbm, ⟨7, _⟩ => ⟨S_, .f32⟩
  | .hbm, ⟨8, _⟩ => ⟨S1024x321, .f32⟩
  | .hbm, ⟨9, _⟩ => ⟨S1024x321, .f32⟩
  | .hbm, ⟨10, _⟩ => ⟨S1x1024x321, .f32⟩
  | .hbm, ⟨11, _⟩ => ⟨S_, .f32⟩
  | .hbm, ⟨12, _⟩ => ⟨S1x1024x321, .f32⟩
  | .hbm, ⟨13, _⟩ => ⟨S1x1024x321, .f32⟩
  | .hbm, ⟨14, _⟩ => ⟨S_, .f32⟩
  | .hbm, ⟨15, _⟩ => ⟨S1x1024x321, .f32⟩
  | .hbm, ⟨16, _⟩ => ⟨S1x1024x321, .f32⟩
  | .hbm, ⟨17, _⟩ => ⟨S1x1024x321, .f32⟩
  | .hbm, ⟨18, _⟩ => ⟨S_, .f32⟩
  | .hbm, ⟨19, _⟩ => ⟨S1x1024x321, .f32⟩
  | .hbm, ⟨20, _⟩ => ⟨S1x1024x321, .f32⟩
  | .hbm, ⟨21, _⟩ => ⟨S1x1024x321, .f32⟩
  | .hbm, ⟨22, _⟩ => ⟨S_, .f32⟩
  | .hbm, ⟨23, _⟩ => ⟨S1x1024x321, .f32⟩
  | .hbm, ⟨24, _⟩ => ⟨S1x1024x321, .f32⟩
  | .hbm, ⟨25, _⟩ => ⟨S1x1024x321, .f32⟩
  | .hbm, ⟨26, _⟩ => ⟨S_, .f32⟩
  | .hbm, ⟨27, _⟩ => ⟨S1x1024x321, .f32⟩
  | .hbm, ⟨28, _⟩ => ⟨S1x1024x321, .f32⟩
  | .hbm, ⟨29, _⟩ => ⟨S_, .f32⟩
  | .hbm, ⟨30, _⟩ => ⟨S1x1024x321, .f32⟩
  | .hbm, ⟨31, _⟩ => ⟨S1x1024x321, .f32⟩
  | .hbm, ⟨32, _⟩ => ⟨S1x1024x321, .f32⟩
  | .hbm, ⟨33, _⟩ => ⟨S_, .f32⟩
  | .hbm, ⟨34, _⟩ => ⟨S1x1024x321, .f32⟩
  | .hbm, ⟨35, _⟩ => ⟨S1x1024x321, .f32⟩
  | .hbm, ⟨36, _⟩ => ⟨S1x1024x321, .f32⟩
  | .hbm, ⟨37, _⟩ => ⟨S_, .f32⟩
  | .hbm, ⟨38, _⟩ => ⟨S1x1024x321, .f32⟩
  | .hbm, ⟨39, _⟩ => ⟨S1x1024x321, .f32⟩
  | .hbm, ⟨40, _⟩ => ⟨S1x1024x321, .f32⟩
  | .hbm, ⟨41, _⟩ => ⟨S_, .f32⟩
  | .hbm, ⟨42, _⟩ => ⟨S1x1024x321, .f32⟩
  | .hbm, ⟨43, _⟩ => ⟨S1x1024x321, .f32⟩
  | _, _ => ⟨S1x1024x321, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== AdamOut.lean ====
abbrev S1x128x1024 : Shape := ⟨3, ![1, 128, 1024]⟩
abbrev S128x1024 : Shape := ⟨2, ![128, 1024]⟩
abbrev S7x128x1024 : Shape := ⟨3, ![7, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S128x1024, .bf16⟩
  | .hbm, ⟨4, _⟩ => ⟨S7x128x1024, .bf16⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S128x1024, .bf16⟩
  | .local _ .vmem, ⟨4, _⟩ => ⟨S7x128x1024, .bf16⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  ![v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S7x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamOutRefIdeal.lean ====
abbrev S1x128x1024 : Shape := ⟨3, ![1, 128, 1024]⟩
abbrev S128x1024 : Shape := ⟨2, ![128, 1024]⟩
abbrev S7x128x1024 : Shape := ⟨3, ![7, 128, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S128x1024, .bf16⟩
  | .hbm, ⟨4, _⟩ => ⟨S7x128x1024, .bf16⟩
  | .hbm, ⟨5, _⟩ => ⟨S128x1024, .f32⟩
  | .hbm, ⟨6, _⟩ => ⟨S7x128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S_, .f32⟩
  | .hbm, ⟨15, _⟩ => ⟨S1x128x1024, .f32⟩
  | .hbm, ⟨16, _⟩ => ⟨S1x128x1024, .f32⟩
  | .hbm, ⟨17, _⟩ => ⟨S1x128x1024, .f32⟩
  | .hbm, ⟨18, _⟩ => ⟨S_, .f32⟩
  | .hbm, ⟨19, _⟩ => ⟨S1x128x1024, .f32⟩
  | .hbm, ⟨20, _⟩ => ⟨S1x128x1024, .f32⟩
  | .hbm, ⟨21, _⟩ => ⟨S1x128x1024, .f32⟩
  | .hbm, ⟨22, _⟩ => ⟨S_, .f32⟩
  | .hbm, ⟨23, _⟩ => ⟨S1x128x1024, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S_, .f32⟩
  | .hbm, ⟨30, _⟩ => ⟨S1x128x1024, .f32⟩
  | .hbm, ⟨31, _⟩ => ⟨S1x128x1024, .f32⟩
  | .hbm, ⟨32, _⟩ => ⟨S1x128x1024, .f32⟩
  | .hbm, ⟨33, _⟩ => ⟨S_, .f32⟩
  | .hbm, ⟨34, _⟩ => ⟨S1x128x1024, .f32⟩
  | .hbm, ⟨35, _⟩ => ⟨S1x128x1024, .f32⟩
  | .hbm, ⟨36, _⟩ => ⟨S1x128x1024, .f32⟩
  | .hbm, ⟨37, _⟩ => ⟨S_, .f32⟩
  | .hbm, ⟨38, _⟩ => ⟨S1x128x1024, .f32⟩
  | .hbm, ⟨39, _⟩ => ⟨S1x128x1024, .f32⟩
  | .hbm, ⟨40, _⟩ => ⟨S1x128x1024, .f32⟩
  | .hbm, ⟨41, _⟩ => ⟨S_, .f32⟩
  | .hbm, ⟨42, _⟩ => ⟨S1x128x1024, .f32⟩
  | .hbm, ⟨43, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== AdamPool.lean ====
abbrev S1x128x256 : Shape := ⟨3, ![1, 128, 256]⟩
abbrev S128x256 : Shape := ⟨2, ![128, 256]⟩
abbrev S7x128x256 : Shape := ⟨3, ![7, 128, 256]⟩

abbrev nBuf : Space → Nat
  | .hbm => 9
  | .vmem => 9
  | .smem => 0
  | _ => 0

abbrev bufTy : (tb : Table) → Fin (tcTables nBuf tb) → BufTy
  | .hbm, ⟨0, _⟩ => ⟨S1x128x256, .f32⟩
  | .hbm, ⟨1, _⟩ => ⟨S1x128x256, .f32⟩
  | .hbm, ⟨2, _⟩ => ⟨S1x128x256, .f32⟩
  | .hbm, ⟨3, _⟩ => ⟨S128x256, .bf16⟩
  | .hbm, ⟨4, _⟩ => ⟨S7x128x256, .bf16⟩
  | .hbm, ⟨5, _⟩ => ⟨S1x128x256, .f32⟩
  | .hbm, ⟨6, _⟩ => ⟨S1x128x256, .f32⟩
  | .hbm, ⟨7, _⟩ => ⟨S1x128x256, .f32⟩
  | .hbm, ⟨8, _⟩ => ⟨S1x128x256, .f32⟩
  | .local _ .vmem, ⟨0, _⟩ => ⟨S1x128x256, .f32⟩
  | .local _ .vmem, ⟨1, _⟩ => ⟨S1x128x256, .f32⟩
  | .local _ .vmem, ⟨2, _⟩ => ⟨S1x128x256, .f32⟩
  | .local _ .vmem, ⟨3, _⟩ => ⟨S128x256, .bf16⟩
  | .local _ .vmem, ⟨4, _⟩ => ⟨S7x128x256, .bf16⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | _, _ => ⟨S1x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  ![v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S7x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamPoolRefIdeal.lean ====
abbrev S1x128x256 : Shape := ⟨3, ![1, 128, 256]⟩
abbrev S128x256 : Shape := ⟨2, ![128, 256]⟩
abbrev S7x128x256 : Shape := ⟨3, ![7, 128, 256]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1x128x256, .f32⟩
  | .hbm, ⟨1, _⟩ => ⟨S1x128x256, .f32⟩
  | .hbm, ⟨2, _⟩ => ⟨S1x128x256, .f32⟩
  | .hbm, ⟨3, _⟩ => ⟨S128x256, .bf16⟩
  | .hbm, ⟨4, _⟩ => ⟨S7x128x256, .bf16⟩
  | .hbm, ⟨5, _⟩ => ⟨S128x256, .f32⟩
  | .hbm, ⟨6, _⟩ => ⟨S7x128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S1x128x256, .f32⟩
  | .hbm, ⟨11, _⟩ => ⟨S_, .f32⟩
  | .hbm, ⟨12, _⟩ => ⟨S1x128x256, .f32⟩
  | .hbm, ⟨13, _⟩ => ⟨S1x128x256, .f32⟩
  | .hbm, ⟨14, _⟩ => ⟨S_, .f32⟩
  | .hbm, ⟨15, _⟩ => ⟨S1x128x256, .f32⟩
  | .hbm, ⟨16, _⟩ => ⟨S1x128x256, .f32⟩
  | .hbm, ⟨17, _⟩ => ⟨S1x128x256, .f32⟩
  | .hbm, ⟨18, _⟩ => ⟨S_, .f32⟩
  | .hbm, ⟨19, _⟩ => ⟨S1x128x256, .f32⟩
  | .hbm, ⟨20, _⟩ => ⟨S1x128x256, .f32⟩
  | .hbm, ⟨21, _⟩ => ⟨S1x128x256, .f32⟩
  | .hbm, ⟨22, _⟩ => ⟨S_, .f32⟩
  | .hbm, ⟨23, _⟩ => ⟨S1x128x256, .f32⟩
  | .hbm, ⟨24, _⟩ => ⟨S1x128x256, .f32⟩
  | .hbm, ⟨25, _⟩ => ⟨S1x128x256, .f32⟩
  | .hbm, ⟨26, _⟩ => ⟨S_, .f32⟩
  | .hbm, ⟨27, _⟩ => ⟨S1x128x256, .f32⟩
  | .hbm, ⟨28, _⟩ => ⟨S1x128x256, .f32⟩
  | .hbm, ⟨29, _⟩ => ⟨S_, .f32⟩
  | .hbm, ⟨30, _⟩ => ⟨S1x128x256, .f32⟩
  | .hbm, ⟨31, _⟩ => ⟨S1x128x256, .f32⟩
  | .hbm, ⟨32, _⟩ => ⟨S1x128x256, .f32⟩
  | .hbm, ⟨33, _⟩ => ⟨S_, .f32⟩
  | .hbm, ⟨34, _⟩ => ⟨S1x128x256, .f32⟩
  | .hbm, ⟨35, _⟩ => ⟨S1x128x256, .f32⟩
  | .hbm, ⟨36, _⟩ => ⟨S1x128x256, .f32⟩
  | .hbm, ⟨37, _⟩ => ⟨S_, .f32⟩
  | .hbm, ⟨38, _⟩ => ⟨S1x128x256, .f32⟩
  | .hbm, ⟨39, _⟩ => ⟨S1x128x256, .f32⟩
  | .hbm, ⟨40, _⟩ => ⟨S1x128x256, .f32⟩
  | .hbm, ⟨41, _⟩ => ⟨S_, .f32⟩
  | .hbm, ⟨42, _⟩ => ⟨S1x128x256, .f32⟩
  | .hbm, ⟨43, _⟩ => ⟨S1x128x256, .f32⟩
  | _, _ => ⟨S1x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== SumLittle.lean ====
abbrev S8x1024 : Shape := ⟨2, ![8, 1024]⟩
abbrev S7x8x1024 : Shape := ⟨3, ![7, 8, 1024]⟩
abbrev S1x8x1024 : Shape := ⟨3, ![1, 8, 1024]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S7x8x1024, .f32⟩
  | .hbm, ⟨2, _⟩ => ⟨S8x1024, .f32⟩
  | .local _ .vmem, ⟨0, _⟩ => ⟨S8x1024, .f32⟩
  | .local _ .vmem, ⟨1, _⟩ => ⟨S7x8x1024, .f32⟩
  | .local _ .vmem, ⟨2, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== SumLittleRefIdeal.lean ====
abbrev S8x1024 : Shape := ⟨2, ![8, 1024]⟩
abbrev S7x8x1024 : Shape := ⟨3, ![7, 8, 1024]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S7x8x1024, .f32⟩
  | .hbm, ⟨2, _⟩ => ⟨S_, .f32⟩
  | .hbm, ⟨3, _⟩ => ⟨S8x1024, .f32⟩
  | .hbm, ⟨4, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== SumSmall.lean ====
abbrev S8x40x1024 : Shape := ⟨3, ![8, 40, 1024]⟩
abbrev S40x1024 : Shape := ⟨2, ![40, 1024]⟩
abbrev S1x40x1024 : Shape := ⟨3, ![1, 40, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x40x1024, .f32⟩
  | .hbm, ⟨1, _⟩ => ⟨S40x1024, .f32⟩
  | .local _ .vmem, ⟨0, _⟩ => ⟨S8x40x1024, .f32⟩
  | .local _ .vmem, ⟨1, _⟩ => ⟨S40x1024, .f32⟩
  | _, _ => ⟨S8x40x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x40x1024 : Shape := ⟨3, ![8, 40, 1024]⟩
abbrev S_ : Shape := ⟨0, ![]⟩
abbrev S40x1024 : Shape := ⟨2, ![40, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x40x1024, .f32⟩
  | .hbm, ⟨1, _⟩ => ⟨S_, .f32⟩
  | .hbm, ⟨2, _⟩ => ⟨S40x1024, .f32⟩
  | _, _ => ⟨S8x40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AttnFwd.lean ====
abbrev S2176x1536 : Shape := ⟨2, ![2176, 1536]⟩
abbrev S4x2x2176 : Shape := ⟨3, ![4, 2, 2176]⟩
abbrev S2176x512 : Shape := ⟨2, ![2176, 512]⟩
abbrev S2176x128 : Shape := ⟨2, ![2176, 128]⟩
abbrev S1x2x2176 : Shape := ⟨3, ![1, 2, 2176]⟩
abbrev S4x2176x128 : Shape := ⟨3, ![4, 2176, 128]⟩
abbrev S1x128 : Shape := ⟨2, ![1, 128]⟩
abbrev S1x2176x128 : Shape := ⟨3, ![1, 2176, 128]⟩
abbrev S544x128 : Shape := ⟨2, ![544, 128]⟩
abbrev S1x1x640 : Shape := ⟨3, ![1, 1, 640]⟩
abbrev S1x640 : Shape := ⟨2, ![1, 640]⟩
abbrev S640x128 : Shape := ⟨2, ![640, 128]⟩
abbrev S544x640 : Shape := ⟨2, ![544, 640]⟩
abbrev S544 : Shape := ⟨1, ![544]⟩
abbrev S544x1 : Shape := ⟨2, ![544, 1]⟩
abbrev S1x640x128 : Shape := ⟨3, ![1, 640, 128]⟩
abbrev S1x1x1152 : Shape := ⟨3, ![1, 1, 1152]⟩
abbrev S1x1152 : Shape := ⟨2, ![1, 1152]⟩
abbrev S512x128 : Shape := ⟨2, ![512, 128]⟩
abbrev S544x512 : Shape := ⟨2, ![544, 512]⟩
abbrev S1x512 : Shape := ⟨2, ![1, 512]⟩
abbrev S1x512x128 : Shape := ⟨3, ![1, 512, 128]⟩
abbrev S1x1x1664 : Shape := ⟨3, ![1, 1, 1664]⟩
abbrev S1x1664 : Shape := ⟨2, ![1, 1664]⟩
abbrev S1024x128 : Shape := ⟨2, ![1024, 128]⟩
abbrev S544x1024 : Shape := ⟨2, ![544, 1024]⟩
abbrev S1x1024 : Shape := ⟨2, ![1, 1024]⟩
abbrev S1x1024x128 : Shape := ⟨3, ![1, 1024, 128]⟩
abbrev S1x1x2176 : Shape := ⟨3, ![1, 1, 2176]⟩
abbrev S1x2176 : Shape := ⟨2, ![1, 2176]⟩
abbrev S1536x128 : Shape := ⟨2, ![1536, 128]⟩
abbrev S544x1536 : Shape := ⟨2, ![544, 1536]⟩
abbrev S1x1536 : Shape := ⟨2, ![1, 1536]⟩
abbrev S1x1536x128 : Shape := ⟨3, ![1, 1536, 128]⟩

abbrev nBuf : Space → Nat
  | .hbm => 3
  | .vmem => 11
  | .smem => 0
  | _ => 0

abbrev bufTy : (tb : Table) → Fin (tcTables nBuf tb) → BufTy
  | .hbm, ⟨0, _⟩ => ⟨S2176x1536, .bf16⟩
  | .hbm, ⟨1, _⟩ => ⟨S4x2x2176, .f32⟩
  | .hbm, ⟨2, _⟩ => ⟨S2176x512, .bf16⟩
  | .local _ .vmem, ⟨0, _⟩ => ⟨S2176x128, .bf16⟩
  | .local _ .vmem, ⟨1, _⟩ => ⟨S2176x128, .bf16⟩
  | .local _ .vmem, ⟨2, _⟩ => ⟨S2176x128, .bf16⟩
  | .local _ .vmem, ⟨3, _⟩ => ⟨S2176x128, .bf16⟩
  | .local _ .vmem, ⟨4, _⟩ => ⟨S2176x128, .bf16⟩
  | .local _ .vmem, ⟨5, _⟩ => ⟨S2176x128, .bf16⟩
  | .local _ .vmem, ⟨6, _⟩ => ⟨S1x2x2176, .f32⟩
  | .local _ .vmem, ⟨7, _⟩ => ⟨S1x2x2176, .f32⟩
  | .local _ .vmem, ⟨8, _⟩ => ⟨S2176x128, .bf16⟩
  | .local _ .vmem, ⟨9, _⟩ => ⟨S2176x128, .bf16⟩
  | .local _ .vmem, ⟨10, _⟩ => ⟨S4x2176x128, .bf16⟩
  | _, _ => ⟨S2176x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S2176x1536 : Shape := ⟨2, ![2176, 1536]⟩
abbrev S4x2x2176 : Shape := ⟨3, ![4, 2, 2176]⟩
abbrev S2176x512 : Shape := ⟨2, ![2176, 512]⟩
abbrev S2176x8x64 : Shape := ⟨3, ![2176, 8, 64]⟩
abbrev S8x2176 : Shape := ⟨2, ![8, 2176]⟩
abbrev S2176 : Shape := ⟨1, ![2176]⟩
abbrev S8x2176x2176 : Shape := ⟨3, ![8, 2176, 2176]⟩
abbrev S_ : Shape := ⟨0, ![]⟩
abbrev S8x2176x1 : Shape := ⟨3, ![8, 2176, 1]⟩
abbrev S8x1x2176 : Shape := ⟨3, ![8, 1, 2176]⟩
abbrev S1x2176 : Shape := ⟨2, ![1, 2176]⟩
abbrev S2176x1 : Shape := ⟨2, ![2176, 1]⟩
abbrev S2176x2176 : Shape := ⟨2, ![2176, 2176]⟩
abbrev S8x64x2176 : Shape := ⟨3, ![8, 64, 2176]⟩

abbrev nBuf : Space → Nat
  | .hbm => 51
  | .vmem => 0
  | .smem => 0
  | _ => 0

abbrev bufTy : (tb : Table) → Fin (tcTables nBuf tb) → BufTy
  | .hbm, ⟨0, _⟩ => ⟨S2176x1536, .bf16⟩
  | .hbm, ⟨1, _⟩ => ⟨S4x2x2176, .f32⟩
  | .hbm, ⟨2, _⟩ => ⟨S2176x512, .bf16⟩
  | .hbm, ⟨3, _⟩ => ⟨S2176x512, .bf16⟩
  | .hbm, ⟨4, _⟩ => ⟨S2176x512, .bf16⟩
  | .hbm, ⟨5, _⟩ => ⟨S2176x512, .f32⟩
  | .hbm, ⟨6, _⟩ => ⟨S2176x8x64, .f32⟩
  | .hbm, ⟨7, _⟩ => ⟨S2176x512, .f32⟩
  | .hbm, ⟨8, _⟩ => ⟨S2176x8x64, .f32⟩
  | .hbm, ⟨9, _⟩ => ⟨S2176x512, .f32⟩
  | .hbm, ⟨10, _⟩ => ⟨S2176x8x64, .f32⟩
  | .hbm, ⟨11, _⟩ => ⟨S8x2176, .f32⟩
  | .hbm, ⟨12, _⟩ => ⟨S2176, .i32⟩
  | .hbm, ⟨13, _⟩ => ⟨S8x2176x2176, .f32⟩
  | .hbm, ⟨14, _⟩ => ⟨S_, .f32⟩
  | .hbm, ⟨15, _⟩ => ⟨S8x2176x2176, .f32⟩
  | .hbm, ⟨16, _⟩ => ⟨S8x2176x2176, .f32⟩
  | .hbm, ⟨17, _⟩ => ⟨S8x2176x1, .f32⟩
  | .hbm, ⟨18, _⟩ => ⟨S8x2176x2176, .f32⟩
  | .hbm, ⟨19, _⟩ => ⟨S8x2176x2176, .f32⟩
  | .hbm, ⟨20, _⟩ => ⟨S8x1x2176, .f32⟩
  | .hbm, ⟨21, _⟩ => ⟨S8x2176x2176, .f32⟩
  | .hbm, ⟨22, _⟩ => ⟨S8x2176x2176, .f32⟩
  | .hbm, ⟨23, _⟩ => ⟨S1x2176, .i32⟩
  | .hbm, ⟨24, _⟩ => ⟨S2176x1, .i32⟩
  | .hbm, ⟨25, _⟩ => ⟨S2176x2176, .i32⟩
  | .hbm, ⟨26, _⟩ => ⟨S2176x2176, .i32⟩
  | .hbm, ⟨27, _⟩ => ⟨S2176x2176, .i1⟩
  | .hbm, ⟨28, _⟩ => ⟨S_, .f32⟩
  | .hbm, ⟨29, _⟩ => ⟨S_, .f32⟩
  | .hbm, ⟨30, _⟩ => ⟨S8x2176x2176, .i1⟩
  | .hbm, ⟨31, _⟩ => ⟨S8x2176x2176, .f32⟩
  | .hbm, ⟨32, _⟩ => ⟨S8x2176x2176, .f32⟩
  | .hbm, ⟨33, _⟩ => ⟨S_, .f32⟩
  | .hbm, ⟨34, _⟩ => ⟨S8x2176, .f32⟩
  | .hbm, ⟨35, _⟩ => ⟨S_, .f32⟩
  | .hbm, ⟨36, _⟩ => ⟨S8x2176, .f32⟩
  | .hbm, ⟨37, _⟩ => ⟨S8x2176, .f32⟩
  | .hbm, ⟨38, _⟩ => ⟨S8x2176x1, .f32⟩
  | .hbm, ⟨39, _⟩ => ⟨S8x2176x2176, .f32⟩
  | .hbm, ⟨40, _⟩ => ⟨S8x2176x2176, .f32⟩
  | .hbm, ⟨41, _⟩ => ⟨S8x2176x2176, .f32⟩
  | .hbm, ⟨42, _⟩ => ⟨S_, .f32⟩
  | .hbm, ⟨43, _⟩ => ⟨S8x2176, .f32⟩
  | .hbm, ⟨44, _⟩ => ⟨S8x2176x1, .f32⟩
  | .hbm, ⟨45, _⟩ => ⟨S8x2176x2176, .f32⟩
  | .hbm, ⟨46, _⟩ => ⟨S8x2176x2176, .f32⟩
  | .hbm, ⟨47, _⟩ => ⟨S8x64x2176, .f32⟩
  | .hbm, ⟨48, _⟩ => ⟨S2176x8x64, .f32⟩
  | .hbm, ⟨49, _⟩ => ⟨S2176x512, .f32⟩
  | .hbm, ⟨50, _⟩ => ⟨S2176x512, .bf16⟩
  | _, _ => ⟨S2176x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== RmsEven.lean ====
abbrev S2176x1024 : Shape := ⟨2, ![2176, 1024]⟩
abbrev S1x1024 : Shape := ⟨2, ![1, 1024]⟩
abbrev S8x128 : Shape := ⟨2, ![8, 128]⟩
abbrev S1024x2176 : Shape := ⟨2, ![1024, 2176]⟩
abbrev S128x1024 : Shape := ⟨2, ![128, 1024]⟩
abbrev S1024x128 : Shape := ⟨2, ![1024, 128]⟩
abbrev S128 : Shape := ⟨1, ![128]⟩
abbrev S128x1 : Shape := ⟨2, ![128, 1]⟩

abbrev nBuf : Space → Nat
  | .hbm => 5
  | .vmem => 7
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S8x128, .f32⟩
  | .hbm, ⟨3, _⟩ => ⟨S2176x1024, .bf16⟩
  | .hbm, ⟨4, _⟩ => ⟨S1024x2176, .bf16⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S128x1024, .bf16⟩
  | .local _ .vmem, ⟨4, _⟩ => ⟨S128x1024, .bf16⟩
  | .local _ .vmem, ⟨5, _⟩ => ⟨S1024x128, .bf16⟩
  | .local _ .vmem, ⟨6, _⟩ => ⟨S1024x128, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsEvenRefIdeal.lean ====
abbrev S2176x1024 : Shape := ⟨2, ![2176, 1024]⟩
abbrev S1x1024 : Shape := ⟨2, ![1, 1024]⟩
abbrev S8x128 : Shape := ⟨2, ![8, 128]⟩
abbrev S1024 : Shape := ⟨1, ![1024]⟩
abbrev S_ : Shape := ⟨0, ![]⟩
abbrev S2176 : Shape := ⟨1, ![2176]⟩
abbrev S2176x1 : Shape := ⟨2, ![2176, 1]⟩
abbrev S1024x2176 : Shape := ⟨2, ![1024, 2176]⟩

abbrev nBuf : Space → Nat
  | .hbm => 22
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S8x128, .f32⟩
  | .hbm, ⟨3, _⟩ => ⟨S1024, .f32⟩
  | .hbm, ⟨4, _⟩ => ⟨S2176x1024, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x1024, .f32⟩
  | .hbm, ⟨16, _⟩ => ⟨S2176x1024, .f32⟩
  | .hbm, ⟨17, _⟩ => ⟨S1x1024, .f32⟩
  | .hbm, ⟨18, _⟩ => ⟨S2176x1024, .f32⟩
  | .hbm, ⟨19, _⟩ => ⟨S2176x1024, .f32⟩
  | .hbm, ⟨20, _⟩ => ⟨S2176x1024, .bf16⟩
  | .hbm, ⟨21, _⟩ => ⟨S1024x2176, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== RmsFfn.lean ====
abbrev S2176x1024 : Shape := ⟨2, ![2176, 1024]⟩
abbrev S1x1024 : Shape := ⟨2, ![1, 1024]⟩
abbrev S1024x2176 : Shape := ⟨2, ![1024, 2176]⟩
abbrev S128x1024 : Shape := ⟨2, ![128, 1024]⟩
abbrev S1024x128 : Shape := ⟨2, ![1024, 128]⟩
abbrev S128 : Shape := ⟨1, ![128]⟩
abbrev S128x1 : Shape := ⟨2, ![128, 1]⟩

abbrev nBuf : Space → Nat
  | .hbm => 4
  | .vmem => 7
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S2176x1024, .bf16⟩
  | .hbm, ⟨3, _⟩ => ⟨S1024x2176, .bf16⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S128x1024, .bf16⟩
  | .local _ .vmem, ⟨4, _⟩ => ⟨S128x1024, .bf16⟩
  | .local _ .vmem, ⟨5, _⟩ => ⟨S1024x128, .bf16⟩
  | .local _ .vmem, ⟨6, _⟩ => ⟨S1024x128, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsFfnRefIdeal.lean ====
abbrev S2176x1024 : Shape := ⟨2, ![2176, 1024]⟩
abbrev S1x1024 : Shape := ⟨2, ![1, 1024]⟩
abbrev S1024 : Shape := ⟨1, ![1024]⟩
abbrev S_ : Shape := ⟨0, ![]⟩
abbrev S2176 : Shape := ⟨1, ![2176]⟩
abbrev S2176x1 : Shape := ⟨2, ![2176, 1]⟩
abbrev S1024x2176 : Shape := ⟨2, ![1024, 2176]⟩

abbrev nBuf : Space → Nat
  | .hbm => 21
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S1024, .f32⟩
  | .hbm, ⟨3, _⟩ => ⟨S2176x1024, .f32⟩
  | .hbm, ⟨4, _⟩ => ⟨S_, .f32⟩
  | .hbm, ⟨5, _⟩ => ⟨S2176, .f32⟩
  | .hbm, ⟨6, _⟩ => ⟨S2176x1, .f32⟩
  | .hbm, ⟨7, _⟩ => ⟨S_, .f32⟩
  | .hbm, ⟨8, _⟩ => ⟨S2176x1, .f32⟩
  | .hbm, ⟨9, _⟩ => ⟨S2176x1, .f32⟩
  | .hbm, ⟨10, _⟩ => ⟨S_, .f32⟩
  | .hbm, ⟨11, _⟩ => ⟨S2176x1, .f32⟩
  | .hbm, ⟨12, _⟩ => ⟨S2176x1, .f32⟩
  | .hbm, ⟨13, _⟩ => ⟨S2176x1, .f32⟩
  | .hbm, ⟨14, _⟩ => ⟨S2176x1024, .f32⟩
  | .hbm, ⟨15, _⟩ => ⟨S2176x1024, .f32⟩
  | .hbm, ⟨16, _⟩ => ⟨S1x1024, .f32⟩
  | .hbm, ⟨17, _⟩ => ⟨S2176x1024, .f32⟩
  | .hbm, ⟨18, _⟩ => ⟨S2176x1024, .f32⟩
  | .hbm, ⟨19, _⟩ => ⟨S2176x1024, .bf16⟩
  | .hbm, ⟨20, _⟩ => ⟨S1024x2176, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== RmsOdd.lean ====
abbrev S2176x1024 : Shape := ⟨2, ![2176, 1024]⟩
abbrev S1x1024 : Shape := ⟨2, ![1, 1024]⟩
abbrev S544x1024 : Shape := ⟨2, ![544, 1024]⟩
abbrev S544 : Shape := ⟨1, ![544]⟩
abbrev S544x1 : Shape := ⟨2, ![544, 1]⟩

abbrev nBuf : Space → Nat
  | .hbm => 3
  | .vmem => 5
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S2176x1024, .f32⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S544x1024, .f32⟩
  | .local _ .vmem, ⟨4, _⟩ => ⟨S544x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsOddRefIdeal.lean ====
abbrev S2176x1024 : Shape := ⟨2, ![2176, 1024]⟩
abbrev S1x1024 : Shape := ⟨2, ![1, 1024]⟩
abbrev S1024 : Shape := ⟨1, ![1024]⟩
abbrev S_ : Shape := ⟨0, ![]⟩
abbrev S2176 : Shape := ⟨1, ![2176]⟩
abbrev S2176x1 : Shape := ⟨2, ![2176, 1]⟩

abbrev nBuf : Space → Nat
  | .hbm => 19
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S1024, .f32⟩
  | .hbm, ⟨3, _⟩ => ⟨S2176x1024, .f32⟩
  | .hbm, ⟨4, _⟩ => ⟨S_, .f32⟩
  | .hbm, ⟨5, _⟩ => ⟨S2176, .f32⟩
  | .hbm, ⟨6, _⟩ => ⟨S2176x1, .f32⟩
  | .hbm, ⟨7, _⟩ => ⟨S_, .f32⟩
  | .hbm, ⟨8, _⟩ => ⟨S2176x1, .f32⟩
  | .hbm, ⟨9, _⟩ => ⟨S2176x1, .f32⟩
  | .hbm, ⟨10, _⟩ => ⟨S_, .f32⟩
  | .hbm, ⟨11, _⟩ => ⟨S2176x1, .f32⟩
  | .hbm, ⟨12, _⟩ => ⟨S2176x1, .f32⟩
  | .hbm, ⟨13, _⟩ => ⟨S2176x1, .f32⟩
  | .hbm, ⟨14, _⟩ => ⟨S2176x1024, .f32⟩
  | .hbm, ⟨15, _⟩ => ⟨S2176x1024, .f32⟩
  | .hbm, ⟨16, _⟩ => ⟨S1x1024, .f32⟩
  | .hbm, ⟨17, _⟩ => ⟨S2176x1024, .f32⟩
  | .hbm, ⟨18, _⟩ => ⟨S2176x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== RmsBwd.lean ====
abbrev S2176x1024 : Shape := ⟨2, ![2176, 1024]⟩
abbrev S1x1024 : Shape := ⟨2, ![1, 1024]⟩
abbrev S544x1024 : Shape := ⟨2, ![544, 1024]⟩
abbrev S544 : Shape := ⟨1, ![544]⟩
abbrev S544x1 : Shape := ⟨2, ![544, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S2176x1024, .f32⟩
  | .hbm, ⟨3, _⟩ => ⟨S2176x1024, .f32⟩
  | .hbm, ⟨4, _⟩ => ⟨S2176x1024, .f32⟩
  | .hbm, ⟨5, _⟩ => ⟨S2176x1024, .bf16⟩
  | .hbm, ⟨6, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .bf16⟩
  | .local _ .vmem, ⟨10, _⟩ => ⟨S544x1024, .bf16⟩
  | .local _ .vmem, ⟨11, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdRefIdeal.lean ====
abbrev S2176x1024 : Shape := ⟨2, ![2176, 1024]⟩
abbrev S1x1024 : Shape := ⟨2, ![1, 1024]⟩
abbrev S1024 : Shape := ⟨1, ![1024]⟩
abbrev S_ : Shape := ⟨0, ![]⟩
abbrev S2176 : Shape := ⟨1, ![2176]⟩
abbrev S2176x1 : Shape := ⟨2, ![2176, 1]⟩

abbrev nBuf : Space → Nat
  | .hbm => 54
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S2176x1024, .f32⟩
  | .hbm, ⟨3, _⟩ => ⟨S2176x1024, .f32⟩
  | .hbm, ⟨4, _⟩ => ⟨S1024, .f32⟩
  | .hbm, ⟨5, _⟩ => ⟨S2176x1024, .f32⟩
  | .hbm, ⟨6, _⟩ => ⟨S_, .f32⟩
  | .hbm, ⟨7, _⟩ => ⟨S2176, .f32⟩
  | .hbm, ⟨8, _⟩ => ⟨S2176x1, .f32⟩
  | .hbm, ⟨9, _⟩ => ⟨S_, .f32⟩
  | .hbm, ⟨10, _⟩ => ⟨S2176x1, .f32⟩
  | .hbm, ⟨11, _⟩ => ⟨S2176x1, .f32⟩
  | .hbm, ⟨12, _⟩ => ⟨S_, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S2176x1, .f32⟩
  | .hbm, ⟨17, _⟩ => ⟨S_, .f32⟩
  | .hbm, ⟨18, _⟩ => ⟨S2176x1, .f32⟩
  | .hbm, ⟨19, _⟩ => ⟨S2176x1, .f32⟩
  | .hbm, ⟨20, _⟩ => ⟨S2176x1024, .f32⟩
  | .hbm, ⟨21, _⟩ => ⟨S2176x1024, .f32⟩
  | .hbm, ⟨22, _⟩ => ⟨S1x1024, .f32⟩
  | .hbm, ⟨23, _⟩ => ⟨S2176x1024, .f32⟩
  | .hbm, ⟨24, _⟩ => ⟨S2176x1024, .f32⟩
  | .hbm, ⟨25, _⟩ => ⟨S2176x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2176x1024, .f32⟩
  | .hbm, ⟨30, _⟩ => ⟨S2176x1024, .f32⟩
  | .hbm, ⟨31, _⟩ => ⟨S_, .f32⟩
  | .hbm, ⟨32, _⟩ => ⟨S1024, .f32⟩
  | .hbm, ⟨33, _⟩ => ⟨S2176x1024, .f32⟩
  | .hbm, ⟨34, _⟩ => ⟨S_, .f32⟩
  | .hbm, ⟨35, _⟩ => ⟨S2176, .f32⟩
  | .hbm, ⟨36, _⟩ => ⟨S2176x1, .f32⟩
  | .hbm, ⟨37, _⟩ => ⟨S2176x1024, .f32⟩
  | .hbm, ⟨38, _⟩ => ⟨S2176x1024, .f32⟩
  | .hbm, ⟨39, _⟩ => ⟨S2176x1, .f32⟩
  | .hbm, ⟨40, _⟩ => ⟨S_, .f32⟩
  | .hbm, ⟨41, _⟩ => ⟨S2176x1, .f32⟩
  | .hbm, ⟨42, _⟩ => ⟨S2176x1, .f32⟩
  | .hbm, ⟨43, _⟩ => ⟨S_, .f32⟩
  | .hbm, ⟨44, _⟩ => ⟨S2176, .f32⟩
  | .hbm, ⟨45, _⟩ => ⟨S2176x1024, .f32⟩
  | .hbm, ⟨46, _⟩ => ⟨S2176x1024, .f32⟩
  | .hbm, ⟨47, _⟩ => ⟨S2176x1024, .f32⟩
  | .hbm, ⟨48, _⟩ => ⟨S2176x1024, .f32⟩
  | .hbm, ⟨49, _⟩ => ⟨S2176x1024, .f32⟩
  | .hbm, ⟨50, _⟩ => ⟨S2176x1024, .f32⟩
  | .hbm, ⟨51, _⟩ => ⟨S2176x1024, .f32⟩
  | .hbm, ⟨52, _⟩ => ⟨S2176x1024, .bf16⟩
  | .hbm, ⟨53, _⟩ => ⟨S1x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== TCat.lean ====
abbrev S2176x1024 : Shape := ⟨2, ![2176, 1024]⟩
abbrev S1024x2176 : Shape := ⟨2, ![1024, 2176]⟩
abbrev S128x1024 : Shape := ⟨2, ![128, 1024]⟩
abbrev S1024x128 : Shape := ⟨2, ![1024, 128]⟩

abbrev nBuf : Space → Nat
  | .hbm => 2
  | .vmem => 4
  | .smem => 0
  | _ => 0

abbrev bufTy : (tb : Table) → Fin (tcTables nBuf tb) → BufTy
  | .hbm, ⟨0, _⟩ => ⟨S2176x1024, .bf16⟩
  | .hbm, ⟨1, _⟩ => ⟨S1024x2176, .bf16⟩
  | .local _ .vmem, ⟨0, _⟩ => ⟨S128x1024, .bf16⟩
  | .local _ .vmem, ⟨1, _⟩ => ⟨S128x1024, .bf16⟩
  | .local _ .vmem, ⟨2, _⟩ => ⟨S1024x128, .bf16⟩
  | .local _ .vmem, ⟨3, _⟩ => ⟨S1024x128, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== TCatRefIdeal.lean ====
abbrev S2176x1024 : Shape := ⟨2, ![2176, 1024]⟩
abbrev S1024x2176 : Shape := ⟨2, ![1024, 2176]⟩

abbrev nBuf : Space → Nat
  | .hbm => 2
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x2176, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== TDf.lean ====
abbrev S128x2176 : Shape := ⟨2, ![128, 2176]⟩
abbrev S2176x128 : Shape := ⟨2, ![2176, 128]⟩

abbrev nBuf : Space → Nat
  | .hbm => 2
  | .vmem => 2
  | .smem => 0
  | _ => 0

abbrev bufTy : (tb : Table) → Fin (tcTables nBuf tb) → BufTy
  | .hbm, ⟨0, _⟩ => ⟨S128x2176, .f32⟩
  | .hbm, ⟨1, _⟩ => ⟨S2176x128, .bf16⟩
  | .local _ .vmem, ⟨0, _⟩ => ⟨S128x2176, .f32⟩
  | .local _ .vmem, ⟨1, _⟩ => ⟨S2176x128, .bf16⟩
  | _, _ => ⟨S128x2176, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x2176 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2176x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== TDfRefIdeal.lean ====
abbrev S128x2176 : Shape := ⟨2, ![128, 2176]⟩
abbrev S2176x128 : Shape := ⟨2, ![2176, 128]⟩

abbrev nBuf : Space → Nat
  | .hbm => 3
  | .vmem => 0
  | .smem => 0
  | _ => 0

abbrev bufTy : (tb : Table) → Fin (tcTables nBuf tb) → BufTy
  | .hbm, ⟨0, _⟩ => ⟨S128x2176, .f32⟩
  | .hbm, ⟨1, _⟩ => ⟨S2176x128, .f32⟩
  | .hbm, ⟨2, _⟩ => ⟨S2176x128, .bf16⟩
  | _, _ => ⟨S128x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== LossHead.lean ====
abbrev S2176x1024 : Shape := ⟨2, ![2176, 1024]⟩
abbrev S1x1024 : Shape := ⟨2, ![1, 1024]⟩
abbrev S1x128 : Shape := ⟨2, ![1, 128]⟩
abbrev S544x1024 : Shape := ⟨2, ![544, 1024]⟩
abbrev S544 : Shape := ⟨1, ![544]⟩
abbrev S544x1 : Shape := ⟨2, ![544, 1]⟩
abbrev S1 : Shape := ⟨1, ![1]⟩
abbrev S1x1 : Shape := ⟨2, ![1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S2176x1024, .f32⟩
  | .hbm, ⟨3, _⟩ => ⟨S1x128, .f32⟩
  | .hbm, ⟨4, _⟩ => ⟨S2176x1024, .f32⟩
  | .hbm, ⟨5, _⟩ => ⟨S2176x1024, .bf16⟩
  | .hbm, ⟨6, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S544x1024, .f32⟩
  | .local _ .vmem, ⟨4, _⟩ => ⟨S544x1024, .f32⟩
  | .local _ .vmem, ⟨5, _⟩ => ⟨S1x128, .f32⟩
  | .local _ .vmem, ⟨6, _⟩ => ⟨S544x1024, .f32⟩
  | .local _ .vmem, ⟨7, _⟩ => ⟨S544x1024, .f32⟩
  | .local _ .vmem, ⟨8, _⟩ => ⟨S544x1024, .bf16⟩
  | .local _ .vmem, ⟨9, _⟩ => ⟨S544x1024, .bf16⟩
  | .local _ .vmem, ⟨10, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S2176x1024 : Shape := ⟨2, ![2176, 1024]⟩
abbrev S1x1024 : Shape := ⟨2, ![1, 1024]⟩
abbrev S1024 : Shape := ⟨1, ![1024]⟩
abbrev S_ : Shape := ⟨0, ![]⟩
abbrev S2176 : Shape := ⟨1, ![2176]⟩
abbrev S2176x1 : Shape := ⟨2, ![2176, 1]⟩
abbrev S2048x1024 : Shape := ⟨2, ![2048, 1024]⟩
abbrev S2048 : Shape := ⟨1, ![2048]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S2176x1024, .f32⟩
  | .hbm, ⟨3, _⟩ => ⟨S1024, .f32⟩
  | .hbm, ⟨4, _⟩ => ⟨S2176x1024, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S2176x1024, .f32⟩
  | .hbm, ⟨20, _⟩ => ⟨S2176x1024, .f32⟩
  | .hbm, ⟨21, _⟩ => ⟨S1x1024, .f32⟩
  | .hbm, ⟨22, _⟩ => ⟨S2176x1024, .f32⟩
  | .hbm, ⟨23, _⟩ => ⟨S2176x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2176x1024, .f32⟩
  | .hbm, ⟨51, _⟩ => ⟨S2176x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2176x1024, .f32⟩
  | .hbm, ⟨56, _⟩ => ⟨S2176x1024, .f32⟩
  | .hbm, ⟨57, _⟩ => ⟨S_, .f32⟩
  | .hbm, ⟨58, _⟩ => ⟨S1024, .f32⟩
  | .hbm, ⟨59, _⟩ => ⟨S2176x1024, .f32⟩
  | .hbm, ⟨60, _⟩ => ⟨S_, .f32⟩
  | .hbm, ⟨61, _⟩ => ⟨S2176, .f32⟩
  | .hbm, ⟨62, _⟩ => ⟨S2176x1, .f32⟩
  | .hbm, ⟨63, _⟩ => ⟨S2176x1024, .f32⟩
  | .hbm, ⟨64, _⟩ => ⟨S2176x1024, .f32⟩
  | .hbm, ⟨65, _⟩ => ⟨S2176x1, .f32⟩
  | .hbm, ⟨66, _⟩ => ⟨S_, .f32⟩
  | .hbm, ⟨67, _⟩ => ⟨S2176x1, .f32⟩
  | .hbm, ⟨68, _⟩ => ⟨S2176x1, .f32⟩
  | .hbm, ⟨69, _⟩ => ⟨S_, .f32⟩
  | .hbm, ⟨70, _⟩ => ⟨S2176, .f32⟩
  | .hbm, ⟨71, _⟩ => ⟨S2176x1024, .f32⟩
  | .hbm, ⟨72, _⟩ => ⟨S2176x1024, .f32⟩
  | .hbm, ⟨73, _⟩ => ⟨S2176x1024, .f32⟩
  | .hbm, ⟨74, _⟩ => ⟨S2176x1024, .f32⟩
  | .hbm, ⟨75, _⟩ => ⟨S2176x1024, .f32⟩
  | .hbm, ⟨76, _⟩ => ⟨S1x128, .f32⟩
  | .hbm, ⟨77, _⟩ => ⟨S2176x1024, .bf16⟩
  | .hbm, ⟨78, _⟩ => ⟨S1x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_cst_8 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_cst_14 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_15 : Ref sig .tc := ⟨.hbm, 66, rfl⟩
abbrev main_v47 : Ref sig .tc := ⟨.hbm, 67, rfl⟩
abbrev main_v48 : Ref sig .tc := ⟨.hbm, 68, rfl⟩
abbrev main_cst_16 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== WIn.lean ====
abbrev S8x1024x321 : Shape := ⟨3, ![8, 1024, 321]⟩
abbrev S1024x2688 : Shape := ⟨2, ![1024, 2688]⟩
abbrev S8x256x321 : Shape := ⟨3, ![8, 256, 321]⟩
abbrev S256x2688 : Shape := ⟨2, ![256, 2688]⟩
abbrev S1x256x321 : Shape := ⟨3, ![1, 256, 321]⟩
abbrev S256x321 : Shape := ⟨2, ![256, 321]⟩
abbrev S256x2568 : Shape := ⟨2, ![256, 2568]⟩
abbrev S256x1536 : Shape := ⟨2, ![256, 1536]⟩
abbrev S256x1024 : Shape := ⟨2, ![256, 1024]⟩
abbrev S256x8 : Shape := ⟨2, ![256, 8]⟩
abbrev S256x120 : Shape := ⟨2, ![256, 120]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x321, .bf16⟩
  | .hbm, ⟨1, _⟩ => ⟨S1024x2688, .bf16⟩
  | .local _ .vmem, ⟨0, _⟩ => ⟨S8x256x321, .bf16⟩
  | .local _ .vmem, ⟨1, _⟩ => ⟨S8x256x321, .bf16⟩
  | .local _ .vmem, ⟨2, _⟩ => ⟨S256x2688, .bf16⟩
  | .local _ .vmem, ⟨3, _⟩ => ⟨S256x2688, .bf16⟩
  | _, _ => ⟨S8x1024x321, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x321 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WInRefIdeal.lean ====
abbrev S8x1024x321 : Shape := ⟨3, ![8, 1024, 321]⟩
abbrev S1024x8x321 : Shape := ⟨3, ![1024, 8, 321]⟩
abbrev S1024x2568 : Shape := ⟨2, ![1024, 2568]⟩
abbrev S1024x8 : Shape := ⟨2, ![1024, 8]⟩
abbrev S_ : Shape := ⟨0, ![]⟩
abbrev S1024x128 : Shape := ⟨2, ![1024, 128]⟩
abbrev S1024x1536 : Shape := ⟨2, ![1024, 1536]⟩
abbrev S1024x1024 : Shape := ⟨2, ![1024, 1024]⟩
abbrev S1024x2688 : Shape := ⟨2, ![1024, 2688]⟩

abbrev nBuf : Space → Nat
  | .hbm => 10
  | .vmem => 0
  | .smem => 0
  | _ => 0

abbrev bufTy : (tb : Table) → Fin (tcTables nBuf tb) → BufTy
  | .hbm, ⟨0, _⟩ => ⟨S8x1024x321, .bf16⟩
  | .hbm, ⟨1, _⟩ => ⟨S1024x8x321, .bf16⟩
  | .hbm, ⟨2, _⟩ => ⟨S1024x2568, .bf16⟩
  | .hbm, ⟨3, _⟩ => ⟨S1024x8, .bf16⟩
  | .hbm, ⟨4, _⟩ => ⟨S_, .i32⟩
  | .hbm, ⟨5, _⟩ => ⟨S_, .bf16⟩
  | .hbm, ⟨6, _⟩ => ⟨S1024x128, .bf16⟩
  | .hbm, ⟨7, _⟩ => ⟨S1024x1536, .bf16⟩
  | .hbm, ⟨8, _⟩ => ⟨S1024x1024, .bf16⟩
  | .hbm, ⟨9, _⟩ => ⟨S1024x2688, .bf16⟩
  | _, _ => ⟨S8x1024x321, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.AttnOps.lean ====
module
public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.WordCmp

/-! The attention gradient works on blocks whose entries are real numbers. This module names such blocks by the
    real functions that give their entries, and says what each vector operation of the kernel does to the names. -/

@[expose] public section
set_option maxRecDepth 16384
noncomputable section
namespace Cert.Attn
open Cert.KernelIdeal Cert.KernelIdeal.Gen Idealize.ShloMosaic Idealize.ShloMosaic.TcCoe Idealize.SL.Sem
open scoped BigOperators

/-- The block of `n` rows and `w` columns whose entries are the reals `f i j`. -/
def R (φ : FTy) (n w : ℕ) (f : ℕ → ℕ → ℝ) : FVec Ideal ⟨2, ![n, w]⟩ φ := fun j => ((f (j 0).val (j 1).val : ℝ) : EReal)

/-- The vector of `n` reals `u i`. -/
def V (φ : FTy) (n : ℕ) (u : ℕ → ℝ) : FVec Ideal ⟨1, ![n]⟩ φ := fun j => ((u (j 0).val : ℝ) : EReal)

/-- The block of three axes whose entries are the reals `f a i j`. -/
def T (φ : FTy) (m n w : ℕ) (f : ℕ → ℕ → ℕ → ℝ) : FVec Ideal ⟨3, ![m, n, w]⟩ φ :=
  fun j => ((f (j 0).val (j 1).val (j 2).val : ℝ) : EReal)

/-- `f` read from row `r` and column `c` on. -/
def sh (f : ℕ → ℕ → ℝ) (r c : ℕ) : ℕ → ℕ → ℝ := fun i j => f (r + i) (c + j)

/-- `u` read from `r` on. -/
def shv (u : ℕ → ℝ) (r : ℕ) : ℕ → ℝ := fun i => u (r + i)

/-- `f` read from the indices `a`, `r`, `c` on. -/
def sh3 (f : ℕ → ℕ → ℕ → ℝ) (a r c : ℕ) : ℕ → ℕ → ℕ → ℝ := fun k i j => f (a + k) (r + i) (c + j)

/-- `u` along the rows, the same in every column. -/
def col (u : ℕ → ℝ) : ℕ → ℕ → ℝ := fun i _ => u i

/-- `u` along the columns, the same in every row. -/
def row (u : ℕ → ℝ) : ℕ → ℕ → ℝ := fun _ j => u j

/-- `u` along the last axis. -/
def row3 (u : ℕ → ℝ) : ℕ → ℕ → ℕ → ℝ := fun _ _ j => u j

/-- `f` over eight. -/
def eighth (f : ℕ → ℕ → ℝ) : ℕ → ℕ → ℝ := fun i j => f i j * (1 / 8)

/-- The columns of `f` that belong to head `h` of the two. -/
def hd (f : ℕ → ℕ → ℝ) (h : ℕ) : ℕ → ℕ → ℝ := fun i j => if j / 64 = h then f i j else 0

/-- `f` transposed. -/
def tr (f : ℕ → ℕ → ℝ) : ℕ → ℕ → ℝ := fun i j => f j i

/-- The product of `f` and `g` over the indices `c`, …, `c + w - 1`. -/
def mm (f g : ℕ → ℕ → ℝ) (c w : ℕ) : ℕ → ℕ → ℝ := fun i j => ∑ s ∈ Finset.range w, f i (c + s) * g (c + s) j

/-- The product of `f` with `g` transposed. -/
def mmT (f g : ℕ → ℕ → ℝ) : ℕ → ℕ → ℝ := fun i j => ∑ d ∈ Finset.range 128, f i d * g j d

/-- The sums of `f` along the columns `c`, …, `c + w - 1`. -/
def rs (f : ℕ → ℕ → ℝ) (c w : ℕ) : ℕ → ℝ := fun i => ∑ j ∈ Finset.range w, f i (c + j)

/-- The sums of `f` along the rows `r`, …, `r + n - 1`. -/
def cs (f : ℕ → ℕ → ℝ) (r n : ℕ) : ℕ → ℝ := fun j => ∑ i ∈ Finset.range n, f (r + i) j

/-- The exponentials of the logits of rows from `r` and columns from `c`, the row's `u` taken off; nothing after the row. -/
def E (f : ℕ → ℕ → ℝ) (u : ℕ → ℝ) (r c : ℕ) : ℕ → ℕ → ℝ :=
  fun i j => if c + j ≤ r + i then Real.exp (f (r + i) (c + j) - u i) else 0

/-- Their sums along the columns `c`, …, `c + w - 1`. -/
def Z (f : ℕ → ℕ → ℝ) (u : ℕ → ℝ) (r c w : ℕ) : ℕ → ℝ := fun i => ∑ j ∈ Finset.range w, E f u r c i j

/-- The attention probabilities of the logits `f`: the softmax of each row up to the diagonal. -/
def P (f : ℕ → ℕ → ℝ) : ℕ → ℕ → ℝ :=
  fun t s => if s ≤ t then Real.exp (f t s) / ∑ x ∈ Finset.range (t + 1), Real.exp (f t x) else 0

/-- The row sums of the probabilities times `g`. -/
def dl (f g : ℕ → ℕ → ℝ) : ℕ → ℝ := fun t => ∑ s ∈ Finset.range (t + 1), P f t s * g t s

/-- The gradient of the logits. -/
def Ds (f g : ℕ → ℕ → ℝ) : ℕ → ℕ → ℝ := P f * (g - col (dl f g))

/-- The logits of rows from `r` and columns from `c`, `-∞` after the row. -/
def ML (w r c : ℕ) (f : ℕ → ℕ → ℝ) : FVec Ideal ⟨2, ![544, w]⟩ .f32 :=
  fun j => if c + (j 1).val ≤ r + (j 0).val then ((f (r + (j 0).val) (c + (j 1).val) : ℝ) : EReal) else ⊥

/-- The row maxima of such logits. -/
def muM (f : ℕ → ℕ → ℝ) (r c w : ℕ) : ℕ → ℝ :=
  fun i => ((Finset.univ : Finset (Fin w)).sup fun x => if c + x.val ≤ r + i then ((f (r + i) (c + x.val) : ℝ) : EReal) else ⊥).toReal

/-- The row maxima of logits that all count. -/
def muU (f : ℕ → ℕ → ℝ) (r c w : ℕ) : ℕ → ℝ :=
  fun i => ((Finset.univ : Finset (Fin w)).sup fun x => ((f (r + i) (c + x.val) : ℝ) : EReal)).toReal

/-- `g` with `d` added in the columns `c`, …, `c + w - 1`. -/
def addw (g d : ℕ → ℕ → ℝ) (c w : ℕ) : ℕ → ℕ → ℝ := fun i j => g i j + if c ≤ j ∧ j < c + w then d i j else 0

/-- `g` with `d` taken off in row `h` and the columns `c`, …, `c + w - 1`. -/
def subw (g : ℕ → ℕ → ℕ → ℝ) (d : ℕ → ℝ) (h c w : ℕ) : ℕ → ℕ → ℕ → ℝ :=
  fun a i j => g a i j - if i = h ∧ c ≤ j ∧ j < c + w then d j else 0

/-- The four blocks of keys and values by head. -/
def kv4 (k v : ℕ → ℕ → ℝ) : ℕ → ℕ → ℕ → ℝ := fun a => if a < 2 then hd k a else hd v (a - 2)

/-- What a load through a box reads. -/
def ldr {S : Shape} {α : Type} (X : S.Idx → α) (B : LoadRect S) : B.shape.Idx → α := fun x => X (B.idx x)

theorem coe_sum {n : ℕ} (g : ℕ → ℝ) : (∑ k : Fin n, ((g k.val : ℝ) : EReal)) = ((∑ k ∈ Finset.range n, g k : ℝ) : EReal) := by
  rw [← Fin.sum_univ_eq_sum_range (fun k => g k) n]
  exact (map_sum (⟨⟨Real.toEReal, EReal.coe_zero⟩, EReal.coe_add⟩ : ℝ →+ EReal) (fun k : Fin n => g k.val) _).symm

theorem coe_dot {n : ℕ} (f g : ℕ → ℝ) : (∑ k : Fin n, ((f k.val : ℝ) : EReal) * ((g k.val : ℝ) : EReal))
    = ((∑ k ∈ Finset.range n, f k * g k : ℝ) : EReal) := by
  rw [← coe_sum]; exact Finset.sum_congr rfl fun k _ => (EReal.coe_mul _ _).symm

/-! ## Elementwise operations -/

section
variable {φ ψ : FTy} {n w : ℕ}

theorem mulf_R (f g : ℕ → ℕ → ℝ) : mulf (R φ n w f) (R φ n w g) = R φ n w (f * g) := by
  funext j; pointwise [R]; exact (EReal.coe_mul _ _).symm
theorem addf_R (f g : ℕ → ℕ → ℝ) : addf (R φ n w f) (R φ n w g) = R φ n w (f + g) := by
  funext j; pointwise [R]; exact (EReal.coe_add _ _).symm
theorem subf_R (f g : ℕ → ℕ → ℝ) : subf (R φ n w f) (R φ n w g) = R φ n w (f - g) := by
  funext j; pointwise [R]; exact (EReal.coe_sub _ _).symm
theorem maximumf_R (f g : ℕ → ℕ → ℝ) : maximumf (R φ n w f) (R φ n w g) = R φ n w (f ⊔ g) := by
  funext j; pointwise [R]; exact (Monotone.map_max EReal.coe_strictMono.monotone).symm
theorem truncf_R (f : ℕ → ℕ → ℝ) (h) : truncf ψ (R φ n w f) h = R ψ n w f := by
  funext j; pointwise [R]
theorem zero_R : broadcast ⟨2, ![n, w]⟩ (Scalar.ofBits .f32 0x00000000#32 : Ideal .f32) = R .f32 n w 0 := by
  funext j; pointwise [R]; rfl

theorem ofBits_eighth_f32 : Ideal.ofBits .f32 0x3E000000#32 = ((1 / 8 : ℝ) : EReal) := by
  simp [Ideal.ofBits, Ideal.ieee, -EReal.coe_mul]; norm_num
theorem ofBits_eighth_bf16 : Ideal.ofBits .bf16 0x3E00#16 = ((1 / 8 : ℝ) : EReal) := by
  simp [Ideal.ofBits, Ideal.ieee, -EReal.coe_mul]; norm_num

theorem ofBits_negInf : Ideal.ofBits .f32 0xFF800000#32 = ⊥ := by
  simp [Ideal.ofBits, Ideal.ieee]

theorem eighth_R (f : ℕ → ℕ → ℝ) :
    mulf (R .f32 n w f) (broadcast ⟨2, ![n, w]⟩ (Scalar.ofBits .f32 0x3E000000#32 : Ideal .f32)) = R .f32 n w (eighth f) := by
  funext j; pointwise [R, eighth]; rw [ofBits_eighth_f32]; exact (EReal.coe_mul _ _).symm
theorem eighth_R' (f : ℕ → ℕ → ℝ) :
    mulf (R .bf16 n w f) (broadcast ⟨2, ![n, w]⟩ (Scalar.ofBits .bf16 0x3E00#16 : Ideal .bf16)) = R .bf16 n w (eighth f) := by
  funext j; pointwise [R, eighth]; rw [ofBits_eighth_bf16]; exact (EReal.coe_mul _ _).symm
end

/-! ## The same on the functions -/

theorem sh_mul (f g : ℕ → ℕ → ℝ) (r c : ℕ) : sh f r c * sh g r c = sh (f * g) r c := rfl
theorem sh_add (f g : ℕ → ℕ → ℝ) (r c : ℕ) : sh f r c + sh g r c = sh (f + g) r c := rfl
theorem sh_sub_row (f : ℕ → ℕ → ℝ) (u : ℕ → ℝ) (r c : ℕ) : sh f r c - row (shv u c) = sh (f - row u) r c := rfl
theorem sh_sub_col (f : ℕ → ℕ → ℝ) (u : ℕ → ℝ) (r c : ℕ) : sh f r c - col (shv u r) = sh (f - col u) r c := rfl
theorem col_add (u v : ℕ → ℝ) : col u + col v = col (u + v) := rfl
theorem col_sup (u v : ℕ → ℝ) : col u ⊔ col v = col (u ⊔ v) := rfl
theorem row_sub (u v : ℕ → ℝ) : row u - row v = row (u - v) := rfl
theorem shv_add (u v : ℕ → ℝ) (r : ℕ) : shv u r + shv v r = shv (u + v) r := rfl
theorem shv_sub (u v : ℕ → ℝ) (r : ℕ) : shv u r - shv v r = shv (u - v) r := rfl
theorem eighth_sh (f : ℕ → ℕ → ℝ) (r c : ℕ) : eighth (sh f r c) = sh (eighth f) r c := rfl
theorem Ds_fold (f g : ℕ → ℕ → ℝ) : P f * (g - col (dl f g)) = Ds f g := rfl

theorem Z_add (f : ℕ → ℕ → ℝ) (u : ℕ → ℝ) (r w w' c : ℕ) (h : w = c) : Z f u r 0 w + Z f u r c w' = Z f u r 0 (w + w') := by
  subst h
  funext i
  simp only [Z, Pi.add_apply, Finset.sum_range_add, E, Nat.zero_add, Nat.add_assoc]
theorem rs_add (f : ℕ → ℕ → ℝ) (w w' c : ℕ) (h : w = c) : rs f 0 w + rs f c w' = rs f 0 (w + w') := by
  subst h
  funext i
  simp only [rs, Pi.add_apply, Finset.sum_range_add, Nat.zero_add]

/-- A sum over the first `n` indices of what is nothing after `t`. -/
theorem sum_upto (F : ℕ → ℝ) (t n : ℕ) (h : t < n) (hF : ∀ s, t < s → F s = 0) :
    ∑ s ∈ Finset.range n, F s = ∑ s ∈ Finset.range (t + 1), F s := by
  refine (Finset.sum_subset (Finset.range_mono h) fun s _ hs => hF s ?_).symm
  simpa using hs

theorem Z_pos (f : ℕ → ℕ → ℝ) (u : ℕ → ℝ) (r n i : ℕ) (h : 0 < n) : 0 < Z f u r 0 n i := by
  refine Finset.sum_pos' (fun j _ => ?_) ⟨0, Finset.mem_range.2 h, ?_⟩
  · unfold E; split <;> positivity
  · unfold E; rw [if_pos (by omega)]; positivity

theorem softmax_R (f : ℕ → ℕ → ℝ) (u : ℕ → ℝ) (w r c n : ℕ) (h : r + 544 ≤ n) :
    R .f32 544 w (E f u r c * col (Z f u r 0 n)⁻¹) = R .f32 544 w (sh (P f) r c) := by
  funext j
  have hi : (j 0).val < 544 := (j 0).isLt
  refine congrArg Real.toEReal ?_
  simp only [Pi.mul_apply, col, Pi.inv_apply, sh, P, E]
  split
  · have hz : Z f u r 0 n (j 0).val
        = (∑ x ∈ Finset.range (r + (j 0).val + 1), Real.exp (f (r + (j 0).val) x)) * (Real.exp (u (j 0).val))⁻¹ := by
      unfold Z
      rw [sum_upto _ (r + (j 0).val) n (by omega) (fun s hs => by unfold E; rw [if_neg (by omega)]), Finset.sum_mul]
      refine Finset.sum_congr rfl fun x hx => ?_
      have := Finset.mem_range.1 hx
      unfold E
      rw [if_pos (by omega), Real.exp_sub, Nat.zero_add, div_eq_mul_inv]
    rw [hz, Real.exp_sub, mul_inv, inv_inv, div_eq_mul_inv, div_eq_mul_inv]
    have := (Real.exp_pos (u (j 0).val)).ne'
    field_simp
  · exact zero_mul _

theorem delta_R (f g : ℕ → ℕ → ℝ) (r n : ℕ) (h : r + 544 ≤ n) :
    R .f32 544 1 (col (shv (rs (P f * g) 0 n) r)) = R .f32 544 1 (col (shv (dl f g) r)) := by
  funext j
  have hi : (j 0).val < 544 := (j 0).isLt
  refine congrArg Real.toEReal ?_
  simp only [col, shv, rs, dl, Pi.mul_apply, Nat.zero_add]
  exact sum_upto _ _ n (by omega) (fun s hs => by unfold P; rw [if_neg (by omega), zero_mul])

theorem inv_R (f : ℕ → ℕ → ℝ) (u : ℕ → ℝ) (r n : ℕ) (h : 0 < n) :
    divf (broadcast ⟨2, ![544, 1]⟩ (Scalar.ofBits .f32 0x3F800000#32 : Ideal .f32)) (R .f32 544 1 (col (Z f u r 0 n)))
      = R .f32 544 1 (col (Z f u r 0 n)⁻¹) := by
  funext j
  pointwise [R, col]
  have hz := (Z_pos f u r n (j 0).val h).ne'
  rw [Ideal.div, if_neg (by simpa using hz), one_mul]
  exact (EReal.coe_inv _).symm

/-! ## The mask -/

/-- A maximum of reals and `-∞`, one of them a real, is a real. -/
theorem sup_real {ι : Type} (s : Finset ι) (X : ι → EReal) (h : ∀ i ∈ s, X i ≠ ⊤) (i : ι) (hi : i ∈ s) (hb : X i ≠ ⊥) :
    ((s.sup X).toReal : EReal) = s.sup X := by
  refine EReal.coe_toReal (fun ht => ?_) (fun hb' => hb ?_)
  · obtain ⟨k, hk, e⟩ := Finset.exists_mem_eq_sup s ⟨i, hi⟩ X
    exact h k hk (e.symm.trans ht)
  · exact le_bot_iff.1 (hb' ▸ Finset.le_sup hi)

theorem named_mask : Named.named (F := Ideal) κ "mask" (φ := .f32) 0xF149F2CA#32 = (⊥ : EReal) :=
  (IdealRules.named_const.statement κ "mask" .f32 0xF149F2CA#32 ⊥ rfl).2.2

theorem bits_le (c r x y : ℕ) (hc : c + x < 2 ^ 31) (hr : r + y < 2 ^ 31) :
    IntOp.cmpi .sle (IntOp.addi (BitVec.ofNat 32 c) (BitVec.ofNat 32 x)) (IntOp.addi (BitVec.ofNat 32 r) (BitVec.ofNat 32 y))
      = if c + x ≤ r + y then 1#1 else 0#1 := by
  rw [show IntOp.addi (BitVec.ofNat 32 c) (BitVec.ofNat 32 x) = BitVec.ofNat 32 (c + x) from (BitVec.ofNat_add _ _).symm,
    show IntOp.addi (BitVec.ofNat 32 r) (BitVec.ofNat 32 y) = BitVec.ofNat 32 (r + y) from (BitVec.ofNat_add _ _).symm,
    WordCmp.cmpi_sle_ofNat hc hr]
  by_cases h : c + x ≤ r + y <;> simp [h]

theorem mask_R (f : ℕ → ℕ → ℝ) (w r c : ℕ) (a0 a1 : List (Fin (Shape.rank ⟨2, ![544, w]⟩))) (e0 : a0 = [0]) (e1 : a1 = [1]) (h0) (h1) (hw : c + w < 2147483648) (hr : r + 544 < 2147483648) :
    select (cmpi .sle (addi (broadcast ⟨2, ![544, w]⟩ (BitVec.ofNat 32 c)) (iota .tc ⟨2, ![544, w]⟩ 32 a1 h1))
        (addi (broadcast ⟨2, ![544, w]⟩ (BitVec.ofNat 32 r)) (iota .tc ⟨2, ![544, w]⟩ 32 a0 h0)))
      (R .f32 544 w (sh f r c)) (broadcast ⟨2, ![544, w]⟩ (Named.named (F := Ideal) κ "mask" (φ := .f32) 0xF149F2CA#32)) = ML w r c f := by
  funext j
  have hi : (j 0).val < 544 := (j 0).isLt
  have hj : (j 1).val < w := (j 1).isLt
  subst e0 e1
  pointwise [R, ML, sh]
  rw [bits_le _ _ _ _ (by omega) (by omega), named_mask]
  split <;> rfl

theorem exp_ML (f : ℕ → ℕ → ℝ) (u : ℕ → ℝ) (w r c : ℕ) : exp (subf (ML w r c f) (R .f32 544 w (col u))) = R .f32 544 w (E f u r c) := by
  funext j
  pointwise [R, ML, col, E]
  split
  · rw [← EReal.coe_sub]; rfl
  · rw [EReal.bot_sub]; rfl

theorem exp_R (f : ℕ → ℕ → ℝ) (u : ℕ → ℝ) (w r c : ℕ) (h : c + w ≤ r + 1) :
    exp (R .f32 544 w (sh f r c - col u)) = R .f32 544 w (E f u r c) := by
  funext j
  have hj : (j 1).val < w := (j 1).isLt
  pointwise [R, sh, col, E]
  rw [if_pos (by omega)]; rfl

/-! ## Shapes -/

theorem shapeCast_id {s : Shape} {α : Type} (v : s.Idx → α) (h : s.ShapeCasts s) : shapeCast s v h = v :=
  shapeCast_self v h

theorem column_V (u : ℕ → ℝ) : shapeCast S544x1 (V .f32 544 u) shapeCasts_S544_S544x1 = R .f32 544 1 (col u) := by
  funext j; pointwise [R, V, col]

theorem mmT_512 (f g : ℕ → ℕ → ℝ) (r c : ℕ) :
    matmul dot_S544x128_S512x128_S544x512_1_1_0_0_n_n none (R .bf16 544 128 (sh f r 0)) (R .bf16 512 128 (sh g c 0))
      (constant S544x512 .f32 0x00000000#32) = R .f32 544 512 (sh (mmT f g) r c) := by
  funext j
  pointwise [R, sh, mmT]
  exact coe_dot _ _
theorem mmB_512 (f g : ℕ → ℕ → ℝ) (r c : ℕ) :
    matmul dot_S544x512_S512x128_S544x128_1_0_0_1_n_n none (R .bf16 544 512 (sh f r c)) (R .bf16 512 128 (sh g c 0))
      (constant S544x128 .f32 0x00000000#32) = R .f32 544 128 (sh (mm f g c 512) r 0) := by
  funext j
  pointwise [R, sh, mm]
  exact coe_dot (fun x => f _ (c + x)) (fun x => g (c + x) _)
theorem mmC_512 (f g : ℕ → ℕ → ℝ) (r c : ℕ) :
    matmul dot_S128x544_S544x512_S128x512_1_0_0_1_n_n none (R .bf16 128 544 (sh f 0 r)) (R .bf16 544 512 (sh g r c))
      (constant S128x512 .f32 0x00000000#32) = R .f32 128 512 (sh (mm f g r 544) 0 c) := by
  funext j
  pointwise [R, sh, mm]
  exact coe_dot (fun x => f _ (r + x)) (fun x => g (r + x) _)
theorem rowsum_512 (f : ℕ → ℕ → ℝ) (r c : ℕ) (ax : List (Fin S544x512.rank)) (ha : ax = [1]) (hr) :
    FloatOps.reduceAdd (F := Ideal) (φ := .f32) (s := S544x512) (t := S544) ax hr (R .f32 544 512 (sh f r c))
      = V .f32 544 (shv (rs f c 512) r) := by
  subst ha
  funext j
  pointwise [R, V, sh, shv, rs]
  exact coe_sum (fun x => f _ (c + x))
theorem rowsumE_512 (f : ℕ → ℕ → ℝ) (u : ℕ → ℝ) (r c : ℕ) (ax : List (Fin S544x512.rank)) (ha : ax = [1]) (hr) :
    FloatOps.reduceAdd (F := Ideal) (φ := .f32) (s := S544x512) (t := S544) ax hr (R .f32 544 512 (E f u r c))
      = V .f32 544 (Z f u r c 512) := by
  subst ha
  funext j
  pointwise [R, V, Z]
  exact coe_sum (fun x => E f u r c _ x)
theorem colsum_512 (f : ℕ → ℕ → ℝ) (r c : ℕ) (ax : List (Fin S544x512.rank)) (ha : ax = [0]) (hr) :
    FloatOps.reduceAdd (F := Ideal) (φ := .f32) (s := S544x512) (t := S512) ax hr (R .f32 544 512 (sh f r c))
      = V .f32 512 (shv (cs f r 544) c) := by
  subst ha
  funext j
  pointwise [R, V, sh, shv, cs]
  exact coe_sum (fun x => f (r + x) _)
theorem rowmax_512 (f : ℕ → ℕ → ℝ) (r c : ℕ) (ax : List (Fin S544x512.rank)) (ha : ax = [1]) (hr) :
    reduceFold (s := S544x512) (t := S544) (axes := ax) hr (FloatOps.maximumf (F := Ideal) (φ := .f32)) (FloatOps.ofBits .f32 0xFF800000#32) (R .f32 544 512 (sh f r c))
      = V .f32 544 (muU f r c 512) := by
  subst ha
  funext j
  pointwise [R, V, sh]
  rw [ofBits_negInf]
  exact (sup_real Finset.univ (fun x : Fin 512 => ((f (r + (j 0).val) (c + x.val) : ℝ) : EReal)) (fun _ _ => EReal.coe_ne_top _)
    (0 : Fin 512) (Finset.mem_univ _) (EReal.coe_ne_bot _)).symm
theorem brow_512 (u : ℕ → ℝ) : broadcastTo S544x512 (R .f32 1 512 (row u)) broadcasts_S1x512_S544x512 = R .f32 544 512 (row u) := by
  funext j; pointwise [R, row]
theorem bcol_512 (u : ℕ → ℝ) : broadcastTo S544x512 (R .f32 544 1 (col u)) broadcasts_S544x1_S544x512 = R .f32 544 512 (col u) := by
  funext j; pointwise [R, col]
theorem vrow_512 (u : ℕ → ℝ) : shapeCast S1x512 (V .f32 512 u) shapeCasts_S512_S1x512 = R .f32 1 512 (row u) := by
  funext j; pointwise [R, V, row]
theorem trow_512 (f : ℕ → ℕ → ℕ → ℝ) (a h c : ℕ) :
    shapeCast S1x512 (T .f32 1 1 512 (sh3 f a h c)) shapeCasts_S1x1x512_S1x512 = R .f32 1 512 (row (shv (f a h) c)) := by
  funext j; pointwise [R, T, row, sh3, shv]
theorem rowt_512 (u : ℕ → ℝ) : shapeCast S1x1x512 (R .f32 1 512 (row u)) shapeCasts_S1x512_S1x1x512 = T .f32 1 1 512 (row3 u) := by
  funext j; pointwise [R, T, row, row3]
theorem kvcast_512 (f : ℕ → ℕ → ℕ → ℝ) (a r c : ℕ) :
    shapeCast S512x128 (T .bf16 1 512 128 (sh3 f a r c)) shapeCasts_S1x512x128_S512x128 = R .bf16 512 128 (sh (f a) r c) := by
  funext j; pointwise [R, T, sh3, sh]

theorem mmT_640 (f g : ℕ → ℕ → ℝ) (r c : ℕ) :
    matmul dot_S544x128_S640x128_S544x640_1_1_0_0_n_n none (R .bf16 544 128 (sh f r 0)) (R .bf16 640 128 (sh g c 0))
      (constant S544x640 .f32 0x00000000#32) = R .f32 544 640 (sh (mmT f g) r c) := by
  funext j
  pointwise [R, sh, mmT]
  exact coe_dot _ _
theorem mmB_640 (f g : ℕ → ℕ → ℝ) (r c : ℕ) :
    matmul dot_S544x640_S640x128_S544x128_1_0_0_1_n_n none (R .bf16 544 640 (sh f r c)) (R .bf16 640 128 (sh g c 0))
      (constant S544x128 .f32 0x00000000#32) = R .f32 544 128 (sh (mm f g c 640) r 0) := by
  funext j
  pointwise [R, sh, mm]
  exact coe_dot (fun x => f _ (c + x)) (fun x => g (c + x) _)
theorem mmC_640 (f g : ℕ → ℕ → ℝ) (r c : ℕ) :
    matmul dot_S128x544_S544x640_S128x640_1_0_0_1_n_n none (R .bf16 128 544 (sh f 0 r)) (R .bf16 544 640 (sh g r c))
      (constant S128x640 .f32 0x00000000#32) = R .f32 128 640 (sh (mm f g r 544) 0 c) := by
  funext j
  pointwise [R, sh, mm]
  exact coe_dot (fun x => f _ (r + x)) (fun x => g (r + x) _)
theorem rowsum_640 (f : ℕ → ℕ → ℝ) (r c : ℕ) (ax : List (Fin S544x640.rank)) (ha : ax = [1]) (hr) :
    FloatOps.reduceAdd (F := Ideal) (φ := .f32) (s := S544x640) (t := S544) ax hr (R .f32 544 640 (sh f r c))
      = V .f32 544 (shv (rs f c 640) r) := by
  subst ha
  funext j
  pointwise [R, V, sh, shv, rs]
  exact coe_sum (fun x => f _ (c + x))
theorem rowsumE_640 (f : ℕ → ℕ → ℝ) (u : ℕ → ℝ) (r c : ℕ) (ax : List (Fin S544x640.rank)) (ha : ax = [1]) (hr) :
    FloatOps.reduceAdd (F := Ideal) (φ := .f32) (s := S544x640) (t := S544) ax hr (R .f32 544 640 (E f u r c))
      = V .f32 544 (Z f u r c 640) := by
  subst ha
  funext j
  pointwise [R, V, Z]
  exact coe_sum (fun x => E f u r c _ x)
theorem colsum_640 (f : ℕ → ℕ → ℝ) (r c : ℕ) (ax : List (Fin S544x640.rank)) (ha : ax = [0]) (hr) :
    FloatOps.reduceAdd (F := Ideal) (φ := .f32) (s := S544x640) (t := S640) ax hr (R .f32 544 640 (sh f r c))
      = V .f32 640 (shv (cs f r 544) c) := by
  subst ha
  funext j
  pointwise [R, V, sh, shv, cs]
  exact coe_sum (fun x => f (r + x) _)
theorem rowmax_640 (f : ℕ → ℕ → ℝ) (r c : ℕ) (ax : List (Fin S544x640.rank)) (ha : ax = [1]) (hr) :
    reduceFold (s := S544x640) (t := S544) (axes := ax) hr (FloatOps.maximumf (F := Ideal) (φ := .f32)) (FloatOps.ofBits .f32 0xFF800000#32) (R .f32 544 640 (sh f r c))
      = V .f32 544 (muU f r c 640) := by
  subst ha
  funext j
  pointwise [R, V, sh]
  rw [ofBits_negInf]
  exact (sup_real Finset.univ (fun x : Fin 640 => ((f (r + (j 0).val) (c + x.val) : ℝ) : EReal)) (fun _ _ => EReal.coe_ne_top _)
    (0 : Fin 640) (Finset.mem_univ _) (EReal.coe_ne_bot _)).symm
theorem brow_640 (u : ℕ → ℝ) : broadcastTo S544x640 (R .f32 1 640 (row u)) broadcasts_S1x640_S544x640 = R .f32 544 640 (row u) := by
  funext j; pointwise [R, row]
theorem bcol_640 (u : ℕ → ℝ) : broadcastTo S544x640 (R .f32 544 1 (col u)) broadcasts_S544x1_S544x640 = R .f32 544 640 (col u) := by
  funext j; pointwise [R, col]
theorem vrow_640 (u : ℕ → ℝ) : shapeCast S1x640 (V .f32 640 u) shapeCasts_S640_S1x640 = R .f32 1 640 (row u) := by
  funext j; pointwise [R, V, row]
theorem trow_640 (f : ℕ → ℕ → ℕ → ℝ) (a h c : ℕ) :
    shapeCast S1x640 (T .f32 1 1 640 (sh3 f a h c)) shapeCasts_S1x1x640_S1x640 = R .f32 1 640 (row (shv (f a h) c)) := by
  funext j; pointwise [R, T, row, sh3, shv]
theorem rowt_640 (u : ℕ → ℝ) : shapeCast S1x1x640 (R .f32 1 640 (row u)) shapeCasts_S1x640_S1x1x640 = T .f32 1 1 640 (row3 u) := by
  funext j; pointwise [R, T, row, row3]
theorem kvcast_640 (f : ℕ → ℕ → ℕ → ℝ) (a r c : ℕ) :
    shapeCast S640x128 (T .bf16 1 640 128 (sh3 f a r c)) shapeCasts_S1x640x128_S640x128 = R .bf16 640 128 (sh (f a) r c) := by
  funext j; pointwise [R, T, sh3, sh]

theorem mmT_1024 (f g : ℕ → ℕ → ℝ) (r c : ℕ) :
    matmul dot_S544x128_S1024x128_S544x1024_1_1_0_0_n_n none (R .bf16 544 128 (sh f r 0)) (R .bf16 1024 128 (sh g c 0))
      (constant S544x1024 .f32 0x00000000#32) = R .f32 544 1024 (sh (mmT f g) r c) := by
  funext j
  pointwise [R, sh, mmT]
  exact coe_dot _ _
theorem mmB_1024 (f g : ℕ → ℕ → ℝ) (r c : ℕ) :
    matmul dot_S544x1024_S1024x128_S544x128_1_0_0_1_n_n none (R .bf16 544 1024 (sh f r c)) (R .bf16 1024 128 (sh g c 0))
      (constant S544x128 .f32 0x00000000#32) = R .f32 544 128 (sh (mm f g c 1024) r 0) := by
  funext j
  pointwise [R, sh, mm]
  exact coe_dot (fun x => f _ (c + x)) (fun x => g (c + x) _)
theorem mmC_1024 (f g : ℕ → ℕ → ℝ) (r c : ℕ) :
    matmul dot_S128x544_S544x1024_S128x1024_1_0_0_1_n_n none (R .bf16 128 544 (sh f 0 r)) (R .bf16 544 1024 (sh g r c))
      (constant S128x1024 .f32 0x00000000#32) = R .f32 128 1024 (sh (mm f g r 544) 0 c) := by
  funext j
  pointwise [R, sh, mm]
  exact coe_dot (fun x => f _ (r + x)) (fun x => g (r + x) _)
theorem rowsum_1024 (f : ℕ → ℕ → ℝ) (r c : ℕ) (ax : List (Fin S544x1024.rank)) (ha : ax = [1]) (hr) :
    FloatOps.reduceAdd (F := Ideal) (φ := .f32) (s := S544x1024) (t := S544) ax hr (R .f32 544 1024 (sh f r c))
      = V .f32 544 (shv (rs f c 1024) r) := by
  subst ha
  funext j
  pointwise [R, V, sh, shv, rs]
  exact coe_sum (fun x => f _ (c + x))
theorem rowsumE_1024 (f : ℕ → ℕ → ℝ) (u : ℕ → ℝ) (r c : ℕ) (ax : List (Fin S544x1024.rank)) (ha : ax = [1]) (hr) :
    FloatOps.reduceAdd (F := Ideal) (φ := .f32) (s := S544x1024) (t := S544) ax hr (R .f32 544 1024 (E f u r c))
      = V .f32 544 (Z f u r c 1024) := by
  subst ha
  funext j
  pointwise [R, V, Z]
  exact coe_sum (fun x => E f u r c _ x)
theorem colsum_1024 (f : ℕ → ℕ → ℝ) (r c : ℕ) (ax : List (Fin S544x1024.rank)) (ha : ax = [0]) (hr) :
    FloatOps.reduceAdd (F := Ideal) (φ := .f32) (s := S544x1024) (t := S1024) ax hr (R .f32 544 1024 (sh f r c))
      = V .f32 1024 (shv (cs f r 544) c) := by
  subst ha
  funext j
  pointwise [R, V, sh, shv, cs]
  exact coe_sum (fun x => f (r + x) _)
theorem rowmax_1024 (f : ℕ → ℕ → ℝ) (r c : ℕ) (ax : List (Fin S544x1024.rank)) (ha : ax = [1]) (hr) :
    reduceFold (s := S544x1024) (t := S544) (axes := ax) hr (FloatOps.maximumf (F := Ideal) (φ := .f32)) (FloatOps.ofBits .f32 0xFF800000#32) (R .f32 544 1024 (sh f r c))
      = V .f32 544 (muU f r c 1024) := by
  subst ha
  funext j
  pointwise [R, V, sh]
  rw [ofBits_negInf]
  exact (sup_real Finset.univ (fun x : Fin 1024 => ((f (r + (j 0).val) (c + x.val) : ℝ) : EReal)) (fun _ _ => EReal.coe_ne_top _)
    (0 : Fin 1024) (Finset.mem_univ _) (EReal.coe_ne_bot _)).symm
theorem brow_1024 (u : ℕ → ℝ) : broadcastTo S544x1024 (R .f32 1 1024 (row u)) broadcasts_S1x1024_S544x1024 = R .f32 544 1024 (row u) := by
  funext j; pointwise [R, row]
theorem bcol_1024 (u : ℕ → ℝ) : broadcastTo S544x1024 (R .f32 544 1 (col u)) broadcasts_S544x1_S544x1024 = R .f32 544 1024 (col u) := by
  funext j; pointwise [R, col]
theorem vrow_1024 (u : ℕ → ℝ) : shapeCast S1x1024 (V .f32 1024 u) shapeCasts_S1024_S1x1024 = R .f32 1 1024 (row u) := by
  funext j; pointwise [R, V, row]
theorem trow_1024 (f : ℕ → ℕ → ℕ → ℝ) (a h c : ℕ) :
    shapeCast S1x1024 (T .f32 1 1 1024 (sh3 f a h c)) shapeCasts_S1x1x1024_S1x1024 = R .f32 1 1024 (row (shv (f a h) c)) := by
  funext j; pointwise [R, T, row, sh3, shv]
theorem rowt_1024 (u : ℕ → ℝ) : shapeCast S1x1x1024 (R .f32 1 1024 (row u)) shapeCasts_S1x1024_S1x1x1024 = T .f32 1 1 1024 (row3 u) := by
  funext j; pointwise [R, T, row, row3]
theorem kvcast_1024 (f : ℕ → ℕ → ℕ → ℝ) (a r c : ℕ) :
    shapeCast S1024x128 (T .bf16 1 1024 128 (sh3 f a r c)) shapeCasts_S1x1024x128_S1024x128 = R .bf16 1024 128 (sh (f a) r c) := by
  funext j; pointwise [R, T, sh3, sh]

theorem mmT_1536 (f g : ℕ → ℕ → ℝ) (r c : ℕ) :
    matmul dot_S544x128_S1536x128_S544x1536_1_1_0_0_n_n none (R .bf16 544 128 (sh f r 0)) (R .bf16 1536 128 (sh g c 0))
      (constant S544x1536 .f32 0x00000000#32) = R .f32 544 1536 (sh (mmT f g) r c) := by
  funext j
  pointwise [R, sh, mmT]
  exact coe_dot _ _
theorem mmB_1536 (f g : ℕ → ℕ → ℝ) (r c : ℕ) :
    matmul dot_S544x1536_S1536x128_S544x128_1_0_0_1_n_n none (R .bf16 544 1536 (sh f r c)) (R .bf16 1536 128 (sh g c 0))
      (constant S544x128 .f32 0x00000000#32) = R .f32 544 128 (sh (mm f g c 1536) r 0) := by
  funext j
  pointwise [R, sh, mm]
  exact coe_dot (fun x => f _ (c + x)) (fun x => g (c + x) _)
theorem mmC_1536 (f g : ℕ → ℕ → ℝ) (r c : ℕ) :
    matmul dot_S128x544_S544x1536_S128x1536_1_0_0_1_n_n none (R .bf16 128 544 (sh f 0 r)) (R .bf16 544 1536 (sh g r c))
      (constant S128x1536 .f32 0x00000000#32) = R .f32 128 1536 (sh (mm f g r 544) 0 c) := by
  funext j
  pointwise [R, sh, mm]
  exact coe_dot (fun x => f _ (r + x)) (fun x => g (r + x) _)
theorem rowsum_1536 (f : ℕ → ℕ → ℝ) (r c : ℕ) (ax : List (Fin S544x1536.rank)) (ha : ax = [1]) (hr) :
    FloatOps.reduceAdd (F := Ideal) (φ := .f32) (s := S544x1536) (t := S544) ax hr (R .f32 544 1536 (sh f r c))
      = V .f32 544 (shv (rs f c 1536) r) := by
  subst ha
  funext j
  pointwise [R, V, sh, shv, rs]
  exact coe_sum (fun x => f _ (c + x))
theorem rowsumE_1536 (f : ℕ → ℕ → ℝ) (u : ℕ → ℝ) (r c : ℕ) (ax : List (Fin S544x1536.rank)) (ha : ax = [1]) (hr) :
    FloatOps.reduceAdd (F := Ideal) (φ := .f32) (s := S544x1536) (t := S544) ax hr (R .f32 544 1536 (E f u r c))
      = V .f32 544 (Z f u r c 1536) := by
  subst ha
  funext j
  pointwise [R, V, Z]
  exact coe_sum (fun x => E f u r c _ x)
theorem colsum_1536 (f : ℕ → ℕ → ℝ) (r c : ℕ) (ax : List (Fin S544x1536.rank)) (ha : ax = [0]) (hr) :
    FloatOps.reduceAdd (F := Ideal) (φ := .f32) (s := S544x1536) (t := S1536) ax hr (R .f32 544 1536 (sh f r c))
      = V .f32 1536 (shv (cs f r 544) c) := by
  subst ha
  funext j
  pointwise [R, V, sh, shv, cs]
  exact coe_sum (fun x => f (r + x) _)
theorem rowmax_1536 (f : ℕ → ℕ → ℝ) (r c : ℕ) (ax : List (Fin S544x1536.rank)) (ha : ax = [1]) (hr) :
    reduceFold (s := S544x1536) (t := S544) (axes := ax) hr (FloatOps.maximumf (F := Ideal) (φ := .f32)) (FloatOps.ofBits .f32 0xFF800000#32) (R .f32 544 1536 (sh f r c))
      = V .f32 544 (muU f r c 1536) := by
  subst ha
  funext j
  pointwise [R, V, sh]
  rw [ofBits_negInf]
  exact (sup_real Finset.univ (fun x : Fin 1536 => ((f (r + (j 0).val) (c + x.val) : ℝ) : EReal)) (fun _ _ => EReal.coe_ne_top _)
    (0 : Fin 1536) (Finset.mem_univ _) (EReal.coe_ne_bot _)).symm
theorem brow_1536 (u : ℕ → ℝ) : broadcastTo S544x1536 (R .f32 1 1536 (row u)) broadcasts_S1x1536_S544x1536 = R .f32 544 1536 (row u) := by
  funext j; pointwise [R, row]
theorem bcol_1536 (u : ℕ → ℝ) : broadcastTo S544x1536 (R .f32 544 1 (col u)) broadcasts_S544x1_S544x1536 = R .f32 544 1536 (col u) := by
  funext j; pointwise [R, col]
theorem vrow_1536 (u : ℕ → ℝ) : shapeCast S1x1536 (V .f32 1536 u) shapeCasts_S1536_S1x1536 = R .f32 1 1536 (row u) := by
  funext j; pointwise [R, V, row]
theorem trow_1536 (f : ℕ → ℕ → ℕ → ℝ) (a h c : ℕ) :
    shapeCast S1x1536 (T .f32 1 1 1536 (sh3 f a h c)) shapeCasts_S1x1x1536_S1x1536 = R .f32 1 1536 (row (shv (f a h) c)) := by
  funext j; pointwise [R, T, row, sh3, shv]
theorem rowt_1536 (u : ℕ → ℝ) : shapeCast S1x1x1536 (R .f32 1 1536 (row u)) shapeCasts_S1x1536_S1x1x1536 = T .f32 1 1 1536 (row3 u) := by
  funext j; pointwise [R, T, row, row3]
theorem kvcast_1536 (f : ℕ → ℕ → ℕ → ℝ) (a r c : ℕ) :
    shapeCast S1536x128 (T .bf16 1 1536 128 (sh3 f a r c)) shapeCasts_S1x1536x128_S1536x128 = R .bf16 1536 128 (sh (f a) r c) := by
  funext j; pointwise [R, T, sh3, sh]

theorem rowmaxM_640 (f : ℕ → ℕ → ℝ) (r c : ℕ) (h : c ≤ r) (ax : List (Fin S544x640.rank)) (ha : ax = [1]) (hr) :
    reduceFold (s := S544x640) (t := S544) (axes := ax) hr (FloatOps.maximumf (F := Ideal) (φ := .f32)) (FloatOps.ofBits .f32 0xFF800000#32) (ML 640 r c f)
      = V .f32 544 (muM f r c 640) := by
  subst ha
  funext j
  pointwise [ML, V]
  rw [ofBits_negInf]
  refine (sup_real Finset.univ (fun x : Fin 640 => if c + x.val ≤ r + (j 0).val then ((f (r + (j 0).val) (c + x.val) : ℝ) : EReal) else ⊥)
    (fun x _ => ?_) (0 : Fin 640) (Finset.mem_univ _) ?_).symm
  · split
    · exact EReal.coe_ne_top _
    · exact bot_ne_top
  · rw [if_pos (by simp; omega)]; exact EReal.coe_ne_bot _

theorem trow_1152 (f : ℕ → ℕ → ℕ → ℝ) (a h c : ℕ) :
    shapeCast S1x1152 (T .f32 1 1 1152 (sh3 f a h c)) shapeCasts_S1x1x1152_S1x1152 = R .f32 1 1152 (row (shv (f a h) c)) := by
  funext j; pointwise [R, T, row, sh3, shv]

theorem trow_1664 (f : ℕ → ℕ → ℕ → ℝ) (a h c : ℕ) :
    shapeCast S1x1664 (T .f32 1 1 1664 (sh3 f a h c)) shapeCasts_S1x1x1664_S1x1664 = R .f32 1 1664 (row (shv (f a h) c)) := by
  funext j; pointwise [R, T, row, sh3, shv]

theorem trow_2176 (f : ℕ → ℕ → ℕ → ℝ) (a h c : ℕ) :
    shapeCast S1x2176 (T .f32 1 1 2176 (sh3 f a h c)) shapeCasts_S1x1x2176_S1x2176 = R .f32 1 2176 (row (shv (f a h) c)) := by
  funext j; pointwise [R, T, row, sh3, shv]

theorem slice_1152_0 (u : ℕ → ℝ) :
    extractStridedSlice S1x512 ![0, 0] (R .f32 1 1152 (row (shv u 0))) slices_S1x1152_o0_0_S1x512 = R .f32 1 512 (row (shv u 0)) := by
  funext j; pointwise [R, row, shv]; try simp only [Nat.zero_add]

theorem slice_1152_512 (u : ℕ → ℝ) :
    extractStridedSlice S1x640 ![0, 512] (R .f32 1 1152 (row (shv u 0))) slices_S1x1152_o0_512_S1x640 = R .f32 1 640 (row (shv u 512)) := by
  funext j; pointwise [R, row, shv]; try simp only [Nat.zero_add]

theorem slice_1664_0 (u : ℕ → ℝ) :
    extractStridedSlice S1x1024 ![0, 0] (R .f32 1 1664 (row (shv u 0))) slices_S1x1664_o0_0_S1x1024 = R .f32 1 1024 (row (shv u 0)) := by
  funext j; pointwise [R, row, shv]; try simp only [Nat.zero_add]

theorem slice_1664_1024 (u : ℕ → ℝ) :
    extractStridedSlice S1x640 ![0, 1024] (R .f32 1 1664 (row (shv u 0))) slices_S1x1664_o0_1024_S1x640 = R .f32 1 640 (row (shv u 1024)) := by
  funext j; pointwise [R, row, shv]; try simp only [Nat.zero_add]

theorem slice_2176_0 (u : ℕ → ℝ) :
    extractStridedSlice S1x1536 ![0, 0] (R .f32 1 2176 (row (shv u 0))) slices_S1x2176_o0_0_S1x1536 = R .f32 1 1536 (row (shv u 0)) := by
  funext j; pointwise [R, row, shv]; try simp only [Nat.zero_add]

theorem slice_2176_1536 (u : ℕ → ℝ) :
    extractStridedSlice S1x640 ![0, 1536] (R .f32 1 2176 (row (shv u 0))) slices_S1x2176_o0_1536_S1x640 = R .f32 1 640 (row (shv u 1536)) := by
  funext j; pointwise [R, row, shv]; try simp only [Nat.zero_add]
end Cert.Attn
end
-- ==== Proof.AttnLoads.lean ====
module
public import proofs.«01_k».proof.Proof.AttnOps

/-! What the attention gradient's loads and stores do to the named blocks: a load reads the block from an offset on, and
    a store of a part replaces that part. -/

@[expose] public section
set_option maxRecDepth 16384
noncomputable section
namespace Cert.Attn
open Cert.KernelIdeal Cert.KernelIdeal.Gen Idealize.ShloMosaic Idealize.ShloMosaic.TcCoe Idealize.SL.Sem
open scoped BigOperators

section
variable {sig : RefSig} {κ' : Kind} {sp : Space} {s : Shape} {e : EltTy}

theorem readAt_ldr {m : Memref sig κ' sp s e} (h : m.IsWhole) (X : s.Idx → Elt Ideal e) (B : LoadRect s) :
    View.readAt (Elt Ideal) m.view B (h.unread X) = ldr X B := by
  unfold ldr
  funext x
  rw [View.readAt_apply, h.read_unread]

theorem readCov_ldr (v : View sig κ' sp s e) (L : List (View.Piece (Elt Ideal) s e)) (B : LoadRect s) :
    v.readCov L B = ldr (View.canon L) B := View.readCov_eq_canon' v L B

theorem canon_overlay (p : View.Piece (Elt Ideal) s e) (L : List (View.Piece (Elt Ideal) s e)) :
    View.canon (p :: L) = p.1.overlay (View.canon L) p.2 := View.canon_cons p L

end

variable {φ : FTy} {n w n' w' m m' : ℕ}

theorem ldr_R (f : ℕ → ℕ → ℝ) (r c : ℕ) (inb) :
    ldr (R φ n w f) (Rect.unit (s := ⟨2, ![n, w]⟩) ![r, c] ![n', w'] inb).toLoadRect = R φ n' w' (sh f r c) := by
  funext j
  refine congrArg Real.toEReal ?_
  show f (r + 1 * _) (c + 1 * _) = f (r + _) (c + _)
  rw [Nat.one_mul, Nat.one_mul]

theorem ldr_T (f : ℕ → ℕ → ℕ → ℝ) (a r c : ℕ) (inb) :
    ldr (T φ m n w f) (Rect.unit (s := ⟨3, ![m, n, w]⟩) ![a, r, c] ![m', n', w'] inb).toLoadRect
      = T φ m' n' w' (sh3 f a r c) := by
  funext j
  refine congrArg Real.toEReal ?_
  show f (a + 1 * _) (r + 1 * _) (c + 1 * _) = f (a + _) (r + _) (c + _)
  rw [Nat.one_mul, Nat.one_mul, Nat.one_mul]

/-- A load of rows through one of the leading blocks, as a block of two axes. -/
theorem ldr_slot (f : ℕ → ℕ → ℕ → ℝ) (a r : ℕ) (inb) (inb') (h0) (hs) (h₀) (hR) :
    LoadRect.valAlong (s₀ := (Rect.unit (s := ⟨3, ![4, 2176, 128]⟩) ![a, 0, 0] ![1, 2176, 128] inb).toLoadRect.shape)
      (lr := (Rect.unit (s := ⟨2, ![2176, 128]⟩) ![r, 0] ![n, 128] inb').toLoadRect)
      (LR := LoadRect.consLift (Rect.unit (s := ⟨2, ![2176, 128]⟩) ![r, 0] ![n, 128] inb').toLoadRect ![1, 2176, 128] h0 hs) hR
      (ldr (T φ 4 2176 128 f) ((Rect.unit (s := ⟨3, ![4, 2176, 128]⟩) ![a, 0, 0] ![1, 2176, 128] inb).withinL
        (LoadRect.consLift (Rect.unit (s := ⟨2, ![2176, 128]⟩) ![r, 0] ![n, 128] inb').toLoadRect ![1, 2176, 128] h0 hs) h₀))
      = R φ n 128 (sh (f a) r 0) := by
  funext j
  refine (congrArg (ldr (T φ 4 2176 128 f) _) (Shape.reshapeEquiv_cons_one (d := ![n, 128]) hR j)).trans ?_
  refine congrArg Real.toEReal ?_
  show f (a + 0 + 1 * 0) (0 + r + 1 * (j 0).val) (0 + 0 + 1 * (j 1).val) = f a (r + (j 0).val) (0 + (j 1).val)
  congr 1 <;> omega

theorem kv4_0 (k v : ℕ → ℕ → ℝ) : kv4 k v 0 = hd k 0 := rfl
theorem kv4_1 (k v : ℕ → ℕ → ℝ) : kv4 k v 1 = hd k 1 := rfl
theorem kv4_2 (k v : ℕ → ℕ → ℝ) : kv4 k v 2 = hd v 0 := rfl
theorem kv4_3 (k v : ℕ → ℕ → ℝ) : kv4 k v 3 = hd v 1 := rfl

/-! ## Stores of a part -/

theorem overlay_apply {s : Shape} {α : Type} (r : Rect s) (X : s.Idx → α) (G : r.shape.Idx → α) (y : s.Idx) (v : α)
    (hin : ∀ x, r.emb x = y → G x = v) (hout : y ∉ r.set → X y = v) : r.overlay X G y = v := by
  by_cases hy : y ∈ r.set
  · obtain ⟨x, rfl⟩ : ∃ x, r.emb x = y := r.exists_idx_of_mem hy
    rw [Rect.overlay_emb]; exact hin x rfl
  · rw [Rect.overlay_of_not_mem _ _ _ hy]; exact hout hy

theorem overlay_all {s : Shape} {α : Type} (r : Rect s) (X : s.Idx → α) (G : r.shape.Idx → α) (h : ∀ y, ∃ x, r.emb x = y) (Y : s.Idx → α)
    (hG : ∀ x, G x = Y (r.emb x)) : r.overlay X G = Y := by
  funext y
  obtain ⟨x, rfl⟩ := h y
  rw [Rect.overlay_emb, hG]

theorem overlay_whole_R (X : (⟨2, ![n, w]⟩ : Shape).Idx → Ideal φ) (f : ℕ → ℕ → ℝ) (inb) :
    (Rect.unit (s := ⟨2, ![n, w]⟩) ![0, 0] ![n, w] inb).overlay X (R φ n w f) = R φ n w f := by
  have e : ∀ y, (Rect.unit (s := ⟨2, ![n, w]⟩) ![0, 0] ![n, w] inb).emb y = y := fun y => by
    funext a
    refine Fin.ext ?_
    rw [Rect.emb_apply]
    match a with
    | 0 => show 0 + 1 * _ = _; omega
    | 1 => show 0 + 1 * _ = _; omega
  exact overlay_all _ _ _ (fun y => ⟨y, e y⟩) _ fun x => by rw [e]

theorem overlay_whole_T (X : (⟨3, ![m, n, w]⟩ : Shape).Idx → Ideal φ) (f : ℕ → ℕ → ℕ → ℝ) (inb) :
    (Rect.unit (s := ⟨3, ![m, n, w]⟩) ![0, 0, 0] ![m, n, w] inb).overlay X (T φ m n w f) = T φ m n w f := by
  have e : ∀ y, (Rect.unit (s := ⟨3, ![m, n, w]⟩) ![0, 0, 0] ![m, n, w] inb).emb y = y := fun y => by
    funext a
    refine Fin.ext ?_
    rw [Rect.emb_apply]
    match a with
    | 0 => show 0 + 1 * _ = _; omega
    | 1 => show 0 + 1 * _ = _; omega
    | 2 => show 0 + 1 * _ = _; omega
  exact overlay_all _ _ _ (fun y => ⟨y, e y⟩) _ fun x => by rw [e]

theorem overlay_add (g d : ℕ → ℕ → ℝ) (c : ℕ) (inb) :
    (Rect.unit (s := ⟨2, ![n, w]⟩) ![0, c] ![n, w'] inb).overlay (R φ n w g) (R φ n w' (sh (g + d) 0 c))
      = R φ n w (addw g d c w') := by
  funext y
  refine overlay_apply _ _ _ _ _ (fun x hx => ?_) fun hy => ?_
  · subst hx
    have hx : (x 1).val < w' := (x 1).isLt
    refine congrArg Real.toEReal ?_
    show g (0 + (x 0).val) (c + (x 1).val) + d (0 + (x 0).val) (c + (x 1).val)
      = g (0 + 1 * (x 0).val) (c + 1 * (x 1).val) + if c ≤ c + 1 * (x 1).val ∧ c + 1 * (x 1).val < c + w' then d (0 + 1 * (x 0).val) (c + 1 * (x 1).val) else 0
    rw [Nat.one_mul, Nat.one_mul, if_pos (by omega)]
  · refine congrArg Real.toEReal ?_
    show g _ _ = g _ _ + _
    rw [if_neg, add_zero]
    rintro ⟨h1, h2⟩
    refine hy ((LoadRect.mem_set _).2 fun a => ?_)
    match a with
    | 0 => exact ⟨(y 0).val, (y 0).isLt, by show (y 0).val = 0 + 1 * (y 0).val; omega⟩
    | 1 => exact ⟨(y 1).val - c, by show (y 1).val - c < w'; omega, by show (y 1).val = c + 1 * ((y 1).val - c); omega⟩

theorem overlay_sub (g : ℕ → ℕ → ℕ → ℝ) (d : ℕ → ℝ) (h c : ℕ) (inb) :
    (Rect.unit (s := ⟨3, ![1, n, w]⟩) ![0, h, c] ![1, 1, w'] inb).overlay (T φ 1 n w g)
        (T φ 1 1 w' (row3 (shv (g 0 h - d) c))) = T φ 1 n w (subw g d h c w') := by
  funext y
  refine overlay_apply _ _ _ _ _ (fun x hx => ?_) fun hy => ?_
  · subst hx
    have h0 : (x 0).val < 1 := (x 0).isLt
    have h1 : (x 1).val < 1 := (x 1).isLt
    have hx : (x 2).val < w' := (x 2).isLt
    refine congrArg Real.toEReal ?_
    show g 0 h (c + (x 2).val) - d (c + (x 2).val)
      = g (0 + 1 * (x 0).val) (h + 1 * (x 1).val) (c + 1 * (x 2).val)
        - if h + 1 * (x 1).val = h ∧ c ≤ c + 1 * (x 2).val ∧ c + 1 * (x 2).val < c + w' then d (c + 1 * (x 2).val) else 0
    rw [if_pos (by omega), show 0 + 1 * (x 0).val = 0 by omega, show h + 1 * (x 1).val = h by omega, Nat.one_mul]
  · refine congrArg Real.toEReal ?_
    show g _ _ _ = g _ _ _ - _
    rw [if_neg, sub_zero]
    rintro ⟨h0, h1, h2⟩
    refine hy ((LoadRect.mem_set _).2 fun a => ?_)
    match a with
    | 0 => exact ⟨(y 0).val, (y 0).isLt, by show (y 0).val = 0 + 1 * (y 0).val; omega⟩
    | 1 => exact ⟨0, Nat.one_pos, by show (y 1).val = h + 1 * 0; omega⟩
    | 2 => exact ⟨(y 2).val - c, by show (y 2).val - c < w'; omega, by show (y 2).val = c + 1 * ((y 2).val - c); omega⟩

theorem overlay_kv (X : S4x2176x128.Idx → Ideal .bf16) (k v : ℕ → ℕ → ℝ) (i0 i1 i2 i3) :
    (Rect.unit (s := S4x2176x128) ![3, 0, 0] ![1, 2176, 128] i3).overlay
      ((Rect.unit (s := S4x2176x128) ![1, 0, 0] ![1, 2176, 128] i1).overlay
        ((Rect.unit (s := S4x2176x128) ![2, 0, 0] ![1, 2176, 128] i2).overlay
          ((Rect.unit (s := S4x2176x128) ![0, 0, 0] ![1, 2176, 128] i0).overlay X
            (T .bf16 1 2176 128 (fun _ => hd k 0))) (T .bf16 1 2176 128 (fun _ => hd v 0)))
        (T .bf16 1 2176 128 (fun _ => hd k 1))) (T .bf16 1 2176 128 (fun _ => hd v 1)) = T .bf16 4 2176 128 (kv4 k v) := by
  have key : ∀ (a : ℕ) (i) (x : S1x2176x128.Idx), T .bf16 4 2176 128 (kv4 k v) ((Rect.unit (s := S4x2176x128) ![a, 0, 0] ![1, 2176, 128] i).emb x)
      = ((kv4 k v a (x 1).val (x 2).val : ℝ) : EReal) := fun a i x => by
    have h0 : (x 0).val < 1 := (x 0).isLt
    refine congrArg Real.toEReal ?_
    show kv4 k v (a + 1 * (x 0).val) (0 + 1 * (x 1).val) (0 + 1 * (x 2).val) = _
    rw [show a + 1 * (x 0).val = a by omega, show 0 + 1 * (x 1).val = (x 1).val by omega, show 0 + 1 * (x 2).val = (x 2).val by omega]
  funext y
  have hy0 : (y 0).val < 4 := (y 0).isLt
  have out : ∀ (a : ℕ) (i), y ∉ (Rect.unit (s := S4x2176x128) ![a, 0, 0] ![1, 2176, 128] i).set → (y 0).val ≠ a := fun a i hy ha => by
    refine hy ((LoadRect.mem_set _).2 fun b => ?_)
    match b with
    | 0 => exact ⟨0, Nat.one_pos, by show (y 0).val = a + 1 * 0; omega⟩
    | 1 => exact ⟨(y 1).val, (y 1).isLt, by show (y 1).val = 0 + 1 * (y 1).val; omega⟩
    | 2 => exact ⟨(y 2).val, (y 2).isLt, by show (y 2).val = 0 + 1 * (y 2).val; omega⟩
  refine overlay_apply _ _ _ _ _ (fun x hx => by subst hx; rw [key]; rfl) fun h3 => ?_
  refine overlay_apply _ _ _ _ _ (fun x hx => by subst hx; rw [key]; rfl) fun h1 => ?_
  refine overlay_apply _ _ _ _ _ (fun x hx => by subst hx; rw [key]; rfl) fun h2 => ?_
  refine overlay_apply _ _ _ _ _ (fun x hx => by subst hx; rw [key]; rfl) fun h0 => ?_
  have := out _ _ h3; have := out _ _ h1; have := out _ _ h2; have := out _ _ h0
  omega

/-! ## The heads -/

theorem lane_lt (j : ℕ) (h : j < 128) : IntOp.cmpi .slt (BitVec.ofNat 32 j) 64#32 = if j / 64 = 0 then 1#1 else 0#1 := by
  rw [WordCmp.cmpi_slt_ofNat (by omega) (by omega)]
  by_cases h' : j < 64
  · rw [if_pos (by omega), decide_eq_true (by omega)]; rfl
  · rw [if_neg (by omega), decide_eq_false (by omega)]; rfl
theorem lane_ge (j : ℕ) (h : j < 128) : IntOp.cmpi .sge (BitVec.ofNat 32 j) 64#32 = if j / 64 = 1 then 1#1 else 0#1 := by
  rw [WordCmp.cmpi_sge_ofNat (by omega) (by omega)]
  by_cases h' : j < 64
  · rw [if_neg (by omega), decide_eq_false (by omega)]; rfl
  · rw [if_pos (by omega), decide_eq_true (by omega)]; rfl

theorem pay5_R (f : ℕ → ℕ → ℝ) : k0_pay5 (F := Ideal) (R .bf16 2176 128 (sh f 0 0)) = T .bf16 1 2176 128 (fun _ => hd f 0) := by
  funext j
  pointwise [R, T, sh, hd, k0_pay5, k0_pay3]
  rw [lane_lt _ (j 2).isLt]
  split <;> rfl
theorem pay6_R (f : ℕ → ℕ → ℝ) : k0_pay6 (F := Ideal) (R .bf16 2176 128 (sh f 0 0)) = T .bf16 1 2176 128 (fun _ => hd f 0) := by
  funext j
  pointwise [R, T, sh, hd, k0_pay6, k0_pay3]
  rw [lane_lt _ (j 2).isLt]
  split <;> rfl
theorem pay7_R (f : ℕ → ℕ → ℝ) : k0_pay7 (F := Ideal) (R .bf16 2176 128 (sh f 0 0)) = T .bf16 1 2176 128 (fun _ => hd f 1) := by
  funext j
  pointwise [R, T, sh, hd, k0_pay7, k0_pay4]
  rw [lane_ge _ (j 2).isLt]
  split <;> rfl
theorem pay9_R (f : ℕ → ℕ → ℝ) :
    k0_pay9 (F := Ideal) (R .bf16 2176 128 (sh f 0 0)) (Scalar.ofBits .bf16 0x0000#16) k0_pay8 = T .bf16 1 2176 128 (fun _ => hd f 1) := by
  funext j
  pointwise [R, T, sh, hd, k0_pay9, k0_pay8, k0_pay4]
  rw [lane_ge _ (j 2).isLt]
  split <;> rfl
theorem pay10_R : k0_pay10 (F := Ideal) = R .f32 128 2176 0 := by
  funext j; pointwise [R, sh, k0_pay10]; rfl
theorem pay11_R : k0_pay11 (F := Ideal) = R .f32 128 2176 0 := by
  funext j; pointwise [R, sh, k0_pay11]; rfl
theorem pay12_R : k0_pay12 (F := Ideal) = T .f32 1 2 2176 0 := by
  funext j; pointwise [T, k0_pay12]; rfl
theorem pay1_R (f : ℕ → ℕ → ℝ) : k0_pay1 (F := Ideal) (R .f32 128 2176 (sh f 0 0)) = R .bf16 2176 128 (eighth (tr f)) := by
  funext j
  pointwise [R, sh, k0_pay1, eighth, tr]
  rw [ofBits_eighth_f32]; exact (EReal.coe_mul _ _).symm
theorem pay2_R (f : ℕ → ℕ → ℝ) : k0_pay2 (F := Ideal) (R .f32 128 2176 (sh f 0 0)) = R .bf16 2176 128 (tr f) := by
  funext j
  pointwise [R, sh, k0_pay2, tr]

theorem head0_R (f : ℕ → ℕ → ℝ) (r : ℕ) (ax : List (Fin S128x1.rank)) (ha : ax = [0]) (hi) :
    select (broadcastTo S128x544 (cmpi .slt (iota .tc S128x1 32 ax hi) (broadcast S128x1 64#32)) broadcasts_S128x1_S128x544)
      (R .bf16 128 544 (sh (tr f) 0 r)) (broadcast S128x544 (Scalar.ofBits .bf16 0x0000#16 : Ideal .bf16)) = R .bf16 128 544 (sh (tr (hd f 0)) 0 r) := by
  subst ha
  funext j
  pointwise [R, sh, tr, hd]
  rw [lane_lt _ (j 0).isLt]
  split <;> rfl
theorem head1_R (f : ℕ → ℕ → ℝ) (r : ℕ) (ax : List (Fin S128x1.rank)) (ha : ax = [0]) (hi) :
    select (broadcastTo S128x544 (cmpi .sge (iota .tc S128x1 32 ax hi) (broadcast S128x1 64#32)) broadcasts_S128x1_S128x544)
      (R .bf16 128 544 (sh (tr f) 0 r)) (broadcast S128x544 (Scalar.ofBits .bf16 0x0000#16 : Ideal .bf16)) = R .bf16 128 544 (sh (tr (hd f 1)) 0 r) := by
  subst ha
  funext j
  pointwise [R, sh, tr, hd]
  rw [lane_ge _ (j 0).isLt]
  split <;> rfl

end Cert.Attn
end
-- ==== Proof.AttnKernel.lean ====
module
public import proofs.«01_k».proof.Proof.AttnLoads

/-! What one grid point of the attention gradient leaves in its four results, for a pair of heads whose blocks are real. -/

@[expose] public section
set_option maxRecDepth 16384
noncomputable section
namespace Cert.Attn
open Cert.KernelIdeal Cert.KernelIdeal.Gen Idealize.ShloMosaic Idealize.ShloMosaic.TcCoe Idealize.SL.Sem
open scoped BigOperators
variable {φ : FTy} {n w n' w' m : ℕ}

theorem R_congr (f g : ℕ → ℕ → ℝ) (h : ∀ i j, i < n → j < w → f i j = g i j) : R φ n w f = R φ n w g := by
  funext y; exact congrArg Real.toEReal (h _ _ (y 0).isLt (y 1).isLt)
theorem T_congr (f g : ℕ → ℕ → ℕ → ℝ) (h : ∀ a i j, a < m → i < n → j < w → f a i j = g a i j) : T φ m n w f = T φ m n w g := by
  funext y; exact congrArg Real.toEReal (h _ _ _ (y 0).isLt (y 1).isLt (y 2).isLt)

theorem P_after (f : ℕ → ℕ → ℝ) (t s : ℕ) (h : t < s) : P f t s = 0 := if_neg (by omega)
theorem Ds_after (f g : ℕ → ℕ → ℝ) (t s : ℕ) (h : t < s) : Ds f g t s = 0 := by
  show P f t s * _ = 0
  rw [P_after f t s h, zero_mul]

/-! ## Windows side by side -/

theorem overlay_add0 (d : ℕ → ℕ → ℝ) (c : ℕ) (inb) :
    (Rect.unit (s := ⟨2, ![n, w]⟩) ![0, c] ![n, w'] inb).overlay (R φ n w 0) (R φ n w' (sh d 0 c)) = R φ n w (addw 0 d c w') := by
  have := overlay_add (φ := φ) (n := n) (w := w) (w' := w') 0 d c inb
  rwa [zero_add] at this

theorem addw_two (g d : ℕ → ℕ → ℝ) (a c b : ℕ) (h : a = c) : addw (addw g d 0 a) d c b = addw g d 0 (a + b) := by
  subst h
  funext i j
  simp only [addw, add_assoc]
  congr 1
  by_cases h1 : j < a
  · simp [h1, show ¬ a ≤ j by omega, show j < a + b by omega]
  · by_cases h2 : j < a + b
    · simp [h1, show a ≤ j by omega, h2]
    · simp [h1, h2]

theorem subw_two (g : ℕ → ℕ → ℕ → ℝ) (d : ℕ → ℝ) (k a c b : ℕ) (h : a = c) :
    subw (subw g d k 0 a) d k c b = subw g d k 0 (a + b) := by
  subst h
  funext x i j
  simp only [subw, sub_sub]
  congr 1
  by_cases h1 : j < a
  · simp [h1, show ¬ a ≤ j by omega, show j < a + b by omega]
  · by_cases h2 : j < a + b
    · simp [h1, show a ≤ j by omega, h2]
    · simp [h1, h2]

theorem addw_zero_after (g d : ℕ → ℕ → ℝ) (n : ℕ) (h : ∀ i j, n ≤ j → d i j = 0) : addw g d 0 n = g + d := by
  funext i j
  show g i j + _ = g i j + d i j
  by_cases hj : j < n
  · rw [if_pos ⟨Nat.zero_le _, by omega⟩]
  · rw [if_neg (by omega), h i j (by omega)]

theorem addw_Ds (g x f f' : ℕ → ℕ → ℝ) (r n : ℕ) (h : r + 544 ≤ n) :
    addw g (mm x (Ds f f') r 544) 0 n = g + mm x (Ds f f') r 544 :=
  addw_zero_after _ _ _ fun i j hj => Finset.sum_eq_zero fun s hs => by
    rw [Ds_after _ _ _ _ (by have := Finset.mem_range.1 hs; omega), mul_zero]
theorem addw_P (g x f : ℕ → ℕ → ℝ) (r n : ℕ) (h : r + 544 ≤ n) : addw g (mm x (P f) r 544) 0 n = g + mm x (P f) r 544 :=
  addw_zero_after _ _ _ fun i j hj => Finset.sum_eq_zero fun s hs => by
    rw [P_after _ _ _ (by have := Finset.mem_range.1 hs; omega), mul_zero]

/-- `g` with `d` taken off in row `k`. -/
def subr (g : ℕ → ℕ → ℕ → ℝ) (d : ℕ → ℝ) (k : ℕ) : ℕ → ℕ → ℕ → ℝ := fun a i j => g a i j - if i = k then d j else 0

theorem subw_Ds (g : ℕ → ℕ → ℕ → ℝ) (f f' : ℕ → ℕ → ℝ) (k r n : ℕ) (h : r + 544 ≤ n) :
    subw g (cs (Ds f f') r 544) k 0 n = subr g (cs (Ds f f') r 544) k := by
  funext a i j
  simp only [subw, subr]
  congr 1
  by_cases hj : j < n
  · simp [show j < n by omega]
  · have : cs (Ds f f') r 544 j = 0 := Finset.sum_eq_zero fun s hs =>
      Ds_after _ _ _ _ (by have := Finset.mem_range.1 hs; omega)
    simp [this]

theorem mm_two (f g : ℕ → ℕ → ℝ) (a c b : ℕ) (h : a = c) : mm f g 0 a + mm f g c b = mm f g 0 (a + b) := by
  subst h
  funext i j
  simp only [mm, Pi.add_apply, Nat.zero_add]
  exact (Finset.sum_range_add (fun s => f i s * g s j) a b).symm
theorem mm_two' (z f g : ℕ → ℕ → ℝ) (a c b : ℕ) (h : a = c) : z + mm f g 0 a + mm f g c b = z + mm f g 0 (a + b) := by
  rw [add_assoc, mm_two f g a c b h]

theorem mm_four (f g : ℕ → ℕ → ℝ) : mm f g 0 2176 = mm f g 0 544 + mm f g 544 544 + mm f g 1088 544 + mm f g 1632 544 := by
  rw [mm_two f g 544 544 544 rfl, mm_two f g _ 1088 544 rfl, mm_two f g _ 1632 544 rfl]
theorem cs_four (f : ℕ → ℕ → ℝ) : cs f 0 2176 = cs f 0 544 + cs f 544 544 + cs f 1088 544 + cs f 1632 544 := by
  funext j
  have e : ∀ a b, ∑ t ∈ Finset.range (a + b), f t j = (∑ t ∈ Finset.range a, f t j) + ∑ t ∈ Finset.range b, f (a + t) j :=
    fun a b => Finset.sum_range_add (fun t => f t j) a b
  simp only [cs, Pi.add_apply, Nat.zero_add]
  rw [show 2176 = 544 + 544 + 544 + 544 from rfl, e, e, e]

/-- The columns past a row's block add nothing. -/
theorem mm_far (f f' g : ℕ → ℕ → ℝ) (n i j : ℕ) (h : i < n) (hn : n ≤ 2176) : mm (Ds f f') g 0 n i j = mm (Ds f f') g 0 2176 i j := by
  simp only [mm, Nat.zero_add]
  refine Finset.sum_subset (fun s hs => Finset.mem_range.2 (by have := Finset.mem_range.1 hs; omega)) fun s _ hs => ?_
  rw [Ds_after _ _ _ _ (h.trans_le (not_lt.1 (mt Finset.mem_range.2 hs))), zero_mul]

theorem overlay_rows (X : S2176x128.Idx → Ideal φ) (F0 F1 F2 F3 : ℕ → ℕ → ℝ) (i0 i1 i2 i3) :
    (Rect.unit (s := S2176x128) ![1632, 0] ![544, 128] i3).overlay ((Rect.unit (s := S2176x128) ![1088, 0] ![544, 128] i2).overlay
      ((Rect.unit (s := S2176x128) ![544, 0] ![544, 128] i1).overlay ((Rect.unit (s := S2176x128) ![0, 0] ![544, 128] i0).overlay X
        (R φ 544 128 (sh F0 0 0))) (R φ 544 128 (sh F1 544 0))) (R φ 544 128 (sh F2 1088 0))) (R φ 544 128 (sh F3 1632 0))
      = R φ 2176 128 (fun i j => if i < 544 then F0 i j else if i < 1088 then F1 i j else if i < 1632 then F2 i j else F3 i j) := by
  funext y
  have hy0 : (y 0).val < 2176 := (y 0).isLt
  have out : ∀ (a : ℕ) (i), y ∉ (Rect.unit (s := S2176x128) ![a, 0] ![544, 128] i).set → ¬ (a ≤ (y 0).val ∧ (y 0).val < a + 544) := fun a i hy ha => by
    refine hy ((LoadRect.mem_set _).2 fun b => ?_)
    match b with
    | 0 => exact ⟨(y 0).val - a, by show (y 0).val - a < 544; omega, by show (y 0).val = a + 1 * ((y 0).val - a); omega⟩
    | 1 => exact ⟨(y 1).val, (y 1).isLt, by show (y 1).val = 0 + 1 * (y 1).val; omega⟩
  have key : ∀ (a : ℕ) (F : ℕ → ℕ → ℝ) (i) (x : S544x128.Idx), (Rect.unit (s := S2176x128) ![a, 0] ![544, 128] i).emb x = y →
      R φ 544 128 (sh F a 0) x = ((F (y 0).val (y 1).val : ℝ) : EReal) ∧ a ≤ (y 0).val ∧ (y 0).val < a + 544 := fun a F i x hx => by
    subst hx
    have h0 : (x 0).val < 544 := (x 0).isLt
    refine ⟨?_, ?_⟩
    · refine congrArg Real.toEReal ?_
      show F (a + (x 0).val) (0 + (x 1).val) = F (a + 1 * (x 0).val) (0 + 1 * (x 1).val)
      rw [Nat.one_mul, Nat.one_mul]
    · show a ≤ a + 1 * (x 0).val ∧ a + 1 * (x 0).val < a + 544
      omega
  refine overlay_apply _ _ _ _ _ (fun x hx => ?_) fun h3 => ?_
  · obtain ⟨e, h, h'⟩ := key _ F3 _ x hx
    rw [e]; refine congrArg Real.toEReal ?_
    show _ = ite _ _ _
    rw [if_neg (by omega), if_neg (by omega), if_neg (by omega)]
  refine overlay_apply _ _ _ _ _ (fun x hx => ?_) fun h2 => ?_
  · obtain ⟨e, h, h'⟩ := key _ F2 _ x hx
    rw [e]; refine congrArg Real.toEReal ?_
    show _ = ite _ _ _
    rw [if_neg (by omega), if_neg (by omega), if_pos (by omega)]
  refine overlay_apply _ _ _ _ _ (fun x hx => ?_) fun h1 => ?_
  · obtain ⟨e, h, h'⟩ := key _ F1 _ x hx
    rw [e]; refine congrArg Real.toEReal ?_
    show _ = ite _ _ _
    rw [if_neg (by omega), if_pos (by omega)]
  refine overlay_apply _ _ _ _ _ (fun x hx => ?_) fun h0 => ?_
  · obtain ⟨e, h, h'⟩ := key _ F0 _ x hx
    rw [e]; refine congrArg Real.toEReal ?_
    show _ = ite _ _ _
    rw [if_pos (by omega)]
  have := out _ _ h3; have := out _ _ h1; have := out _ _ h2; have := out _ _ h0
  omega

/-! ## A grid point -/

/-- The logits of head `h` of the pair. -/
def Lg (q k : ℕ → ℕ → ℝ) (c : ℕ → ℕ → ℝ) (h : ℕ) : ℕ → ℕ → ℝ := mmT (eighth q) (hd k h) - row (c h)
/-- The gradient of head `h`'s probabilities. -/
def Gp (v o : ℕ → ℕ → ℝ) (h : ℕ) : ℕ → ℕ → ℝ := mmT o (hd v h)

variable (m : (ℓ : Loc nD τ sig) → Buf (Elt Ideal) ℓ)

theorem point (d : Dev nD) (t : Fin cfg0.N) (q k v o c : ℕ → ℕ → ℝ)
    (h0 : iblk m d 0 t = R .bf16 2176 128 q) (h1 : iblk m d 1 t = R .bf16 2176 128 k) (h2 : iblk m d 2 t = R .bf16 2176 128 v)
    (h3 : iblk m d 3 t = R .bf16 128 2176 (tr q)) (h4 : iblk m d 4 t = R .f32 2176 128 o) (h5 : iblk m d 5 t = R .bf16 128 2176 (tr o))
    (h6 : iblk m d 6 t = T .f32 1 2 2176 (fun _ => c)) :
    (outsAt0 m d t).1 = R .bf16 2176 128 (eighth (mm (Ds (Lg q k c 0) (Gp v o 0)) (hd k 0) 0 2176 + mm (Ds (Lg q k c 1) (Gp v o 1)) (hd k 1) 0 2176)) ∧
    (outsAt0 m d t).2.1 = R .bf16 2176 128 (eighth (tr (mm (tr (hd q 0)) (Ds (Lg q k c 0) (Gp v o 0)) 0 2176 + mm (tr (hd q 1)) (Ds (Lg q k c 1) (Gp v o 1)) 0 2176))) ∧
    (outsAt0 m d t).2.2.1 = R .bf16 2176 128 (tr (mm (tr (hd o 0)) (P (Lg q k c 0)) 0 2176 + mm (tr (hd o 1)) (P (Lg q k c 1)) 0 2176)) ∧
    (outsAt0 m d t).2.2.2 = T .f32 1 2 2176 (fun _ h s => - cs (Ds (Lg q k c h) (Gp v o h)) 0 2176 s) := by
  unfold outsAt0
  dsimp only
  unfold out0_A_7 out0_A_8 out0_A_9 out0_A_10
  refine ⟨?_, ?_, ?_, ?_⟩
  all_goals frame_open
  all_goals simp (disch := decide) only [
    multiReduction, View.read_writes_junk_eq_canon, h0, h1, h2, h3, h4, h5, h6, mulf_R, addf_R, subf_R, maximumf_R, truncf_R,
    zero_R, eighth_R, eighth_R', sh_mul, sh_add, sh_sub_row, sh_sub_col, col_add, col_sup, row_sub, shv_add, shv_sub, eighth_sh,
    Ds_fold, Z_add, rs_add, softmax_R, delta_R, inv_R, mask_R, exp_ML, exp_R, shapeCast_id, column_V, rowmaxM_640, zero_add,
    readAt_ldr, readCov_ldr, canon_overlay, ldr_R, ldr_slot, kv4_0, kv4_1, kv4_2, kv4_3, ldr_T, overlay_whole_R,
    overlay_whole_T, overlay_add, overlay_sub, overlay_add0, overlay_rows, addw_two, addw_Ds, addw_P, subw_two, subw_Ds, mm_two,
    mm_two', overlay_kv, pay5_R, pay6_R, pay7_R, pay9_R, pay10_R, pay11_R, pay12_R, pay1_R, pay2_R, head0_R, head1_R, trow_1152,
    trow_1664, trow_2176, slice_1152_0, slice_1152_512, slice_1664_0, slice_1664_1024, slice_2176_0, slice_2176_1536, mmT_512,
    mmB_512, mmC_512, rowsum_512, rowsumE_512, colsum_512, rowmax_512, brow_512, bcol_512, vrow_512, trow_512, rowt_512,
    kvcast_512, mmT_640, mmB_640, mmC_640, rowsum_640, rowsumE_640, colsum_640, rowmax_640, brow_640, bcol_640, vrow_640,
    trow_640, rowt_640, kvcast_640, mmT_1024, mmB_1024, mmC_1024, rowsum_1024, rowsumE_1024, colsum_1024, rowmax_1024,
    brow_1024, bcol_1024, vrow_1024, trow_1024, rowt_1024, kvcast_1024, mmT_1536, mmB_1536, mmC_1536, rowsum_1536, rowsumE_1536,
    colsum_1536, rowmax_1536, brow_1536, bcol_1536, vrow_1536, trow_1536, rowt_1536, kvcast_1536, k0_pay3, k0_pay4, k0_pay13,
    k0_pay14, k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85,
    k0_pay86, k0_pay87, k0_pay88, k0_pay89, k0_pay90, k0_pay91, k0_pay92, k0_pay93, k0_pay94, k0_pay95, k0_pay96, k0_pay97,
    k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140, k0_pay141,
    k0_pay142, k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174,
    k0_pay175, k0_pay176, k0_pay177, k0_pay178, k0_pay179, k0_pay180, k0_pay181, k0_pay182, k0_pay183, k0_pay184, k0_pay185,
    k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207,
    k0_pay208, k0_pay209, k0_pay210, k0_pay211, k0_pay212, k0_pay213, k0_pay214, k0_pay215, k0_pay216, k0_pay217, k0_pay218,
    k0_pay219, k0_pay220, k0_pay221, k0_pay222, k0_pay223, k0_pay224, k0_pay225, k0_pay226]
  · refine R_congr _ _ fun i j hi hj => ?_
    show ite _ _ _ = (mm (Ds (Lg q k c 0) (Gp v o 0)) (hd k 0) 0 2176 i j + mm (Ds (Lg q k c 1) (Gp v o 1)) (hd k 1) 0 2176 i j) * (1 / 8)
    by_cases c1 : i < 544
    · rw [if_pos c1, ← mm_far _ _ _ 640 i j (by omega) (by omega), ← mm_far _ _ _ 640 i j (by omega) (by omega)]; rfl
    by_cases c2 : i < 1088
    · rw [if_neg c1, if_pos c2, ← mm_far _ _ _ 1152 i j (by omega) (by omega), ← mm_far _ _ _ 1152 i j (by omega) (by omega)]; rfl
    by_cases c3 : i < 1632
    · rw [if_neg c1, if_neg c2, if_pos c3, ← mm_far _ _ _ 1664 i j (by omega) (by omega), ← mm_far _ _ _ 1664 i j (by omega) (by omega)]; rfl
    rw [if_neg c1, if_neg c2, if_neg c3]; rfl
  · rw [mm_four, mm_four]
    refine congrArg (fun f => R .bf16 2176 128 (eighth (tr f))) ?_
    unfold Lg Gp
    abel
  · rw [mm_four, mm_four]
    refine congrArg (fun f => R .bf16 2176 128 (tr f)) ?_
    unfold Lg
    abel
  · refine T_congr _ _ fun a i j _ hi _ => ?_
    rw [cs_four]
    interval_cases i
    · simp [subr, Lg, Gp]; ring
    · simp [subr, Lg, Gp]; ring

end Cert.Attn
end
-- ==== Proof.AttnReal.lean ====
module
public import proofs.«01_k».proof.Proof.AttnKernel

/-! The attention gradient over the real numbers: the logits and the gradients of the eight heads, the softmax written
    with the row maximum taken off, and the rows of the logits' gradient, whose sums vanish. -/

@[expose] public section
noncomputable section
namespace Cert.Attn
open scoped BigOperators

variable (Q O : ℕ → ℕ → ℝ) (C : ℕ → ℕ → ℕ → ℝ)

/-- The sums of the forget gates' logarithms, head by head. -/
def Cn (n t : ℕ) : ℝ := C (n / 2) (n % 2) t
/-- The products of queries and keys of head `n`. -/
def qk (n t s : ℕ) : ℝ := ∑ e ∈ Finset.range 64, Q t (64 * n + e) * Q s (512 + (64 * n + e))
/-- The logits of head `n`. -/
def Sn (n : ℕ) : ℕ → ℕ → ℝ := fun t s => qk Q n t s * (1 / 8) + Cn C n t - Cn C n s
/-- The gradient of head `n`'s probabilities. -/
def Gn (n : ℕ) : ℕ → ℕ → ℝ := fun t s => ∑ e ∈ Finset.range 64, O t (64 * n + e) * Q s (1024 + (64 * n + e))
/-- The gradient of head `n`'s logits. -/
def Dn (n : ℕ) : ℕ → ℕ → ℝ := Ds (Sn Q C n) (Gn Q O n)
/-- The gradient of the queries. -/
def DQ (t j : ℕ) : ℝ := (∑ s ∈ Finset.range 2176, Dn Q O C (j / 64) t s * Q s (512 + j)) * (1 / 8)
/-- The gradient of the keys. -/
def DK (s j : ℕ) : ℝ := (∑ t ∈ Finset.range 2176, Q t j * Dn Q O C (j / 64) t s) * (1 / 8)
/-- The gradient of the values. -/
def DV (s j : ℕ) : ℝ := ∑ t ∈ Finset.range 2176, O t j * P (Sn Q C (j / 64)) t s
/-- The gradient of the gates' sums. -/
def DC (p h s : ℕ) : ℝ := - ∑ t ∈ Finset.range 2176, Dn Q O C (2 * p + h) t s

/-! ## The softmax -/

/-- The exponentials of a row up to the diagonal, the row's `u` taken off. -/
def Ex (f : ℕ → ℕ → ℝ) (u : ℕ → ℝ) (t s : ℕ) : ℝ := if s ≤ t then Real.exp (f t s - u t) else 0
/-- Their sum. -/
def Zx (f : ℕ → ℕ → ℝ) (u : ℕ → ℝ) (t : ℕ) : ℝ := ∑ s ∈ Finset.range 2176, Ex f u t s

theorem Zx_pos (f : ℕ → ℕ → ℝ) (u : ℕ → ℝ) (t : ℕ) : 0 < Zx f u t := by
  refine Finset.sum_pos' (fun j _ => ?_) ⟨0, Finset.mem_range.2 (by omega), ?_⟩
  · unfold Ex; split <;> positivity
  · unfold Ex; rw [if_pos (by omega)]; positivity

theorem Zx_eq (f : ℕ → ℕ → ℝ) (u : ℕ → ℝ) (t : ℕ) (ht : t < 2176) :
    Zx f u t = (∑ x ∈ Finset.range (t + 1), Real.exp (f t x)) * (Real.exp (u t))⁻¹ := by
  unfold Zx
  rw [sum_upto _ t 2176 ht (fun s hs => by unfold Ex; rw [if_neg (by omega)]), Finset.sum_mul]
  refine Finset.sum_congr rfl fun x hx => ?_
  have := Finset.mem_range.1 hx
  unfold Ex
  rw [if_pos (by omega), Real.exp_sub, div_eq_mul_inv]

theorem Ex_eq (f : ℕ → ℕ → ℝ) (u : ℕ → ℝ) (t s : ℕ) (ht : t < 2176) : Ex f u t s = P f t s * Zx f u t := by
  rw [Zx_eq f u t ht]
  unfold Ex P
  split
  · have h : 0 < ∑ x ∈ Finset.range (t + 1), Real.exp (f t x) :=
      Finset.sum_pos (fun _ _ => Real.exp_pos _) ⟨0, Finset.mem_range.2 (by omega)⟩
    have := h.ne'
    have := (Real.exp_pos (u t)).ne'
    rw [Real.exp_sub]
    field_simp
  · rw [zero_mul]

theorem P_sum (f : ℕ → ℕ → ℝ) (t : ℕ) : ∑ s ∈ Finset.range (t + 1), P f t s = 1 := by
  have h : 0 < ∑ x ∈ Finset.range (t + 1), Real.exp (f t x) :=
    Finset.sum_pos (fun _ _ => Real.exp_pos _) ⟨0, Finset.mem_range.2 (by omega)⟩
  have e : ∀ s ∈ Finset.range (t + 1), P f t s = Real.exp (f t s) / ∑ x ∈ Finset.range (t + 1), Real.exp (f t x) := fun s hs => by
    have := Finset.mem_range.1 hs
    exact if_pos (by omega)
  rw [Finset.sum_congr rfl e, ← Finset.sum_div, div_self h.ne']

/-- A row of the logits' gradient sums to nothing. -/
theorem Ds_row (f g : ℕ → ℕ → ℝ) (t : ℕ) (ht : t < 2176) : ∑ s ∈ Finset.range 2176, Ds f g t s = 0 := by
  rw [sum_upto _ t 2176 ht (fun s hs => Ds_after f g t s hs)]
  have e : ∀ s, Ds f g t s = P f t s * g t s - dl f g t * P f t s := fun s => by
    show P f t s * (g t s - dl f g t) = _
    ring
  simp only [e, Finset.sum_sub_distrib, ← Finset.mul_sum, P_sum, mul_one]
  exact sub_self _

/-- The logits' gradient as it comes from exponentials and their sum. -/
theorem Ds_eq (f g : ℕ → ℕ → ℝ) (u : ℕ → ℝ) (t s : ℕ) (ht : t < 2176) :
    (g t s / Zx f u t + -∑ x ∈ Finset.range 2176, g t x * (1 / (Zx f u t * Zx f u t)) * Ex f u t x) * Ex f u t s = Ds f g t s := by
  have hz := (Zx_pos f u t).ne'
  have e : ∑ x ∈ Finset.range 2176, g t x * (1 / (Zx f u t * Zx f u t)) * Ex f u t x = dl f g t / Zx f u t := by
    rw [dl, ← sum_upto (fun s => P f t s * g t s) t 2176 ht (fun s hs => by rw [P_after f t s hs, zero_mul]), Finset.sum_div]
    refine Finset.sum_congr rfl fun x _ => ?_
    rw [Ex_eq f u t x ht]
    field_simp
  rw [e, Ex_eq f u t s ht]
  show _ = P f t s * (g t s - dl f g t)
  field_simp
  ring

/-- What is added to a whole row of logits does not change the probabilities. -/
theorem P_shift (f : ℕ → ℕ → ℝ) (u : ℕ → ℝ) : P (f + col u) = P f := by
  funext t s
  unfold P
  split
  · have e : ∀ x, Real.exp ((f + col u) t x) = Real.exp (f t x) * Real.exp (u t) := fun x => Real.exp_add _ _
    simp only [e, ← Finset.sum_mul]
    exact mul_div_mul_right _ _ (Real.exp_pos _).ne'
  · rfl

theorem Ds_shift (f g : ℕ → ℕ → ℝ) (u : ℕ → ℝ) : Ds (f + col u) g = Ds f g := by
  unfold Ds dl
  rw [P_shift]

/-! ## The heads of a pair -/

theorem sum_head (F : ℕ → ℝ) (h : ℕ) (hh : h < 2) :
    ∑ d ∈ Finset.range 128, (if d / 64 = h then F d else 0) = ∑ e ∈ Finset.range 64, F (64 * h + e) := by
  rw [show 128 = 64 + 64 from rfl, Finset.sum_range_add]
  have e0 : ∀ d ∈ Finset.range 64, (if d / 64 = h then F d else 0) = if h = 0 then F d else 0 := fun d hd => by
    have := Finset.mem_range.1 hd
    by_cases h0 : h = 0
    · rw [if_pos h0, if_pos (by omega)]
    · rw [if_neg h0, if_neg (by omega)]
  have e1 : ∀ d ∈ Finset.range 64, (if (64 + d) / 64 = h then F (64 + d) else 0) = if h = 1 then F (64 + d) else 0 := fun d hd => by
    have := Finset.mem_range.1 hd
    by_cases h0 : h = 1
    · rw [if_pos h0, if_pos (by omega)]
    · rw [if_neg h0, if_neg (by omega)]
  rw [Finset.sum_congr rfl e0, Finset.sum_congr rfl e1]
  interval_cases h <;> simp

/-- The columns of a pair of heads. -/
def pr (f : ℕ → ℕ → ℝ) (o p : ℕ) : ℕ → ℕ → ℝ := fun i j => f i (o + (128 * p + j))

theorem mmT_head (f g : ℕ → ℕ → ℝ) (a b p h : ℕ) (hh : h < 2) (t s : ℕ) :
    mmT (pr f a p) (hd (pr g b p) h) t s
      = ∑ e ∈ Finset.range 64, f t (a + (64 * (2 * p + h) + e)) * g s (b + (64 * (2 * p + h) + e)) := by
  unfold mmT hd pr
  simp only [mul_ite, mul_zero]
  rw [sum_head (fun d => f t (a + (128 * p + d)) * g s (b + (128 * p + d))) h hh]
  refine Finset.sum_congr rfl fun e _ => ?_
  rw [show 128 * p + (64 * h + e) = 64 * (2 * p + h) + e by ring]

theorem Gp_eq (p h : ℕ) (hh : h < 2) : Gp (pr Q 1024 p) (pr O 0 p) h = Gn Q O (2 * p + h) := by
  funext t s
  refine (mmT_head O Q 0 1024 p h hh t s).trans ?_
  simp only [Nat.zero_add]
  rfl

theorem Lg_eq (p h : ℕ) (hh : h < 2) :
    Lg (pr Q 0 p) (pr Q 512 p) (C p) h + col (Cn C (2 * p + h)) = Sn Q C (2 * p + h) := by
  funext t s
  show mmT (eighth (pr Q 0 p)) _ t s - C p h s + Cn C (2 * p + h) t = _
  have e : mmT (eighth (pr Q 0 p)) (hd (pr Q 512 p) h) t s = qk Q (2 * p + h) t s * (1 / 8) := by
    have := mmT_head Q Q 0 512 p h hh t s
    simp only [Nat.zero_add] at this
    rw [qk, ← this, mmT, mmT, Finset.sum_mul]
    refine Finset.sum_congr rfl fun d _ => ?_
    show pr Q 0 p t d * (1 / 8) * _ = _
    ring
  have c : Cn C (2 * p + h) s = C p h s := by
    rw [Cn, show (2 * p + h) / 2 = p by omega, show (2 * p + h) % 2 = h by omega]
  rw [e, Sn, c]
  ring

theorem D_eq (p h : ℕ) (hh : h < 2) : Ds (Lg (pr Q 0 p) (pr Q 512 p) (C p) h) (Gp (pr Q 1024 p) (pr O 0 p) h) = Dn Q O C (2 * p + h) := by
  rw [Gp_eq Q O p h hh, Dn, ← Lg_eq Q C p h hh, Ds_shift]
theorem P_eq (p h : ℕ) (hh : h < 2) : P (Lg (pr Q 0 p) (pr Q 512 p) (C p) h) = P (Sn Q C (2 * p + h)) := by
  rw [← Lg_eq Q C p h hh, P_shift]

/-- A sum over the two heads, each nothing outside its columns. -/
theorem two_heads (F : ℕ → ℝ) (j : ℕ) (hj : j < 128) (A : ℕ → ℝ) (hA : ∀ h, h < 2 → A h = if j / 64 = h then F h else 0) :
    A 0 + A 1 = F (j / 64) := by
  rw [hA 0 (by omega), hA 1 (by omega)]
  by_cases h : j / 64 = 0
  · rw [h]; simp
  · have : j / 64 = 1 := by omega
    rw [this]; simp

theorem pair_div (p j : ℕ) : (128 * p + j) / 64 = 2 * p + j / 64 := by omega

theorem point_dq (p i j : ℕ) (hj : j < 128) :
    eighth (mm (Dn Q O C (2 * p + 0)) (hd (pr Q 512 p) 0) 0 2176 + mm (Dn Q O C (2 * p + 1)) (hd (pr Q 512 p) 1) 0 2176) i j
      = DQ Q O C i (128 * p + j) := by
  show (mm (Dn Q O C (2 * p + 0)) (hd (pr Q 512 p) 0) 0 2176 i j + mm (Dn Q O C (2 * p + 1)) (hd (pr Q 512 p) 1) 0 2176 i j) * (1 / 8) = _
  rw [DQ, pair_div]
  refine congrArg (· * (1 / 8 : ℝ)) ?_
  refine two_heads (fun h => ∑ s ∈ Finset.range 2176, Dn Q O C (2 * p + h) i s * Q s (512 + (128 * p + j))) j hj
    (fun h => mm (Dn Q O C (2 * p + h)) (hd (pr Q 512 p) h) 0 2176 i j) fun h _ => ?_
  simp only [mm, hd, pr, Nat.zero_add]
  split <;> simp

theorem point_dk (p i j : ℕ) (hj : j < 128) :
    eighth (tr (mm (tr (hd (pr Q 0 p) 0)) (Dn Q O C (2 * p + 0)) 0 2176 + mm (tr (hd (pr Q 0 p) 1)) (Dn Q O C (2 * p + 1)) 0 2176)) i j
      = DK Q O C i (128 * p + j) := by
  show (mm (tr (hd (pr Q 0 p) 0)) (Dn Q O C (2 * p + 0)) 0 2176 j i + mm (tr (hd (pr Q 0 p) 1)) (Dn Q O C (2 * p + 1)) 0 2176 j i) * (1 / 8) = _
  rw [DK, pair_div]
  refine congrArg (· * (1 / 8 : ℝ)) ?_
  refine two_heads (fun h => ∑ t ∈ Finset.range 2176, Q t (128 * p + j) * Dn Q O C (2 * p + h) t i) j hj
    (fun h => mm (tr (hd (pr Q 0 p) h)) (Dn Q O C (2 * p + h)) 0 2176 j i) fun h _ => ?_
  simp only [mm, hd, pr, tr, Nat.zero_add]
  split <;> simp

theorem point_dv (p i j : ℕ) (hj : j < 128) :
    tr (mm (tr (hd (pr O 0 p) 0)) (P (Sn Q C (2 * p + 0))) 0 2176 + mm (tr (hd (pr O 0 p) 1)) (P (Sn Q C (2 * p + 1))) 0 2176) i j
      = DV Q O C i (128 * p + j) := by
  show mm (tr (hd (pr O 0 p) 0)) (P (Sn Q C (2 * p + 0))) 0 2176 j i + mm (tr (hd (pr O 0 p) 1)) (P (Sn Q C (2 * p + 1))) 0 2176 j i = _
  rw [DV, pair_div]
  refine two_heads (fun h => ∑ t ∈ Finset.range 2176, O t (128 * p + j) * P (Sn Q C (2 * p + h)) t i) j hj
    (fun h => mm (tr (hd (pr O 0 p) h)) (P (Sn Q C (2 * p + h))) 0 2176 j i) fun h _ => ?_
  simp only [mm, hd, pr, tr, Nat.zero_add]
  split <;> simp

end Cert.Attn
end
-- ==== Proof.AttnArrays.lean ====
module
public import proofs.«01_k».proof.Proof.AttnKernel
public import proofs.«01_k».proof.Proof.AttnReal
public import Idealize.ShloMosaic.Lib.Pipeline.ValueKit

/-! The four results of the attention gradient as arrays, when the query, key, value, gate and gradient arrays are real. -/

@[expose] public section
set_option maxRecDepth 16384
noncomputable section
namespace Cert.Attn
open Cert.KernelIdeal Cert.KernelIdeal.Gen Idealize.ShloMosaic Idealize.ShloMosaic.TcCoe Idealize.SL.Sem
open Idealize.ShloMosaic.Pipeline (Dat)
open scoped BigOperators

/-- The columns of the incoming gradient that the attention reads are real. -/
def Cols (x : FVec Ideal S2176x1024 .f32) (O : ℕ → ℕ → ℝ) : Prop :=
  ∀ i : S2176x1024.Idx, (i 1).val < 512 → x i = ((O (i 0).val (i 1).val : ℝ) : EReal)

/-- Which block every window shows at each pair of heads. -/
theorem at_pair : ∀ t : Fin cfg0.N, (win0_0.index t = ![0, t.val] ∧ win0_1.index t = ![0, 4 + t.val] ∧ win0_2.index t = ![0, 8 + t.val])
    ∧ win0_3.index t = ![t.val, 0] ∧ win0_4.index t = ![0, t.val] ∧ win0_5.index t = ![t.val, 0] ∧ win0_6.index t = ![t.val, 0, 0]
    ∧ win0_7.index t = ![0, t.val] ∧ win0_8.index t = ![0, t.val] ∧ win0_9.index t = ![0, t.val] ∧ win0_10.index t = ![t.val, 0, 0] :=
  (by decide +kernel : ∀ t : Fin grid0.N, _)

variable (m : (ℓ : Loc nD τ sig) → Buf (Elt Ideal) ℓ) (d : Dev nD) (Q O : ℕ → ℕ → ℝ) (C : ℕ → ℕ → ℕ → ℝ)

theorem blk_q (t : Fin cfg0.N) (hQ : m ((d : Thread nD τ).loc main_arg0) = R .bf16 2176 1536 Q) :
    iblk m d 0 t = R .bf16 2176 128 (pr Q 0 t.val) := by
  funext y
  have e := at_pair t
  blk_simp [iblk]
  rw [V_main_arg0, hQ]
  refine congrArg Real.toEReal (congrArg₂ Q ?_ ?_) <;> blk_simp [e] <;> idx_bounds <;> omega
theorem blk_k (t : Fin cfg0.N) (hQ : m ((d : Thread nD τ).loc main_arg0) = R .bf16 2176 1536 Q) :
    iblk m d 1 t = R .bf16 2176 128 (pr Q 512 t.val) := by
  funext y
  have e := at_pair t
  blk_simp [iblk]
  rw [V_main_arg0, hQ]
  refine congrArg Real.toEReal (congrArg₂ Q ?_ ?_) <;> blk_simp [e] <;> idx_bounds <;> omega
theorem blk_v (t : Fin cfg0.N) (hQ : m ((d : Thread nD τ).loc main_arg0) = R .bf16 2176 1536 Q) :
    iblk m d 2 t = R .bf16 2176 128 (pr Q 1024 t.val) := by
  funext y
  have e := at_pair t
  blk_simp [iblk]
  rw [V_main_arg0, hQ]
  refine congrArg Real.toEReal (congrArg₂ Q ?_ ?_) <;> blk_simp [e] <;> idx_bounds <;> omega
theorem blk_o (t : Fin cfg0.N) (hO : Cols (m ((d : Thread nD τ).loc main_arg1)) O) :
    iblk m d 4 t = R .f32 2176 128 (pr O 0 t.val) := by
  funext y
  have e := at_pair t
  have ht : t.val < 4 := t.isLt
  blk_simp [iblk]
  rw [V_main_arg1]
  refine (hO _ ?_).trans (congrArg Real.toEReal (congrArg₂ O ?_ ?_)) <;> blk_simp [e] <;> idx_bounds <;> omega
theorem blk_c (t : Fin cfg0.N) (hC : m ((d : Thread nD τ).loc main_arg2) = T .f32 4 2 2176 C) :
    iblk m d 6 t = T .f32 1 2 2176 (fun _ => C t.val) := by
  funext y
  have e := at_pair t
  blk_simp [iblk]
  rw [V_main_arg2, hC]
  refine congrArg Real.toEReal (congr (congr (congrArg C ?_) ?_) ?_) <;> blk_simp [e] <;> idx_bounds <;> omega
theorem turned_q (Q : ℕ → ℕ → ℝ) : transpose S512x2176 [1, 0]
      (extractStridedSlice S2176x512 ![0, 0] (R FTy.bf16 2176 1536 Q) slices_S2176x1536_S2176x512_0_0)
      transposes_S2176x512_S512x2176_1_0 = R .bf16 512 2176 (tr Q) := by
  funext z
  pointwise
  refine congrArg Real.toEReal (congrArg₂ Q ?_ ?_) <;> simp
theorem turned_o (x : FVec Ideal S2176x1024 .f32) (O : ℕ → ℕ → ℝ) (hO : Cols x O) : transpose S512x2176 [1, 0]
      (truncf FTy.bf16 (extractStridedSlice S2176x512 ![0, 0] x slices_S2176x1024_S2176x512_0_0) bitsLt_bf16_f32)
      transposes_S2176x512_S512x2176_1_0 = R .bf16 512 2176 (tr O) := by
  funext z
  pointwise
  refine (hO _ ?_).trans (congrArg Real.toEReal (congrArg₂ O ?_ ?_)) <;> simp
  exact (z 0).isLt
theorem blk_qt (t : Fin cfg0.N) (hQ : m ((d : Thread nD τ).loc main_arg0) = R .bf16 2176 1536 Q) :
    iblk m d 3 t = R .bf16 128 2176 (tr (pr Q 0 t.val)) := by
  funext y
  have e := at_pair t
  blk_simp [iblk]
  entry_read
  rw [hQ, turned_q]
  refine congrArg Real.toEReal (congrArg₂ Q ?_ ?_) <;> blk_simp [e] <;> idx_bounds <;> omega
theorem blk_ot (t : Fin cfg0.N) (hO : Cols (m ((d : Thread nD τ).loc main_arg1)) O) :
    iblk m d 5 t = R .bf16 128 2176 (tr (pr O 0 t.val)) := by
  funext y
  have e := at_pair t
  blk_simp [iblk]
  entry_read
  rw [turned_o _ O hO]
  refine congrArg Real.toEReal (congrArg₂ O ?_ ?_) <;> blk_simp [e] <;> idx_bounds <;> omega

variable (hQ : m ((d : Thread nD τ).loc main_arg0) = R .bf16 2176 1536 Q) (hO : Cols (m ((d : Thread nD τ).loc main_arg1)) O)
  (hC : m ((d : Thread nD τ).loc main_arg2) = T .f32 4 2 2176 C)
include hQ hO hC

/-- What the pair of heads `t` leaves in the four results. -/
theorem pair_leaves (t : Fin cfg0.N) : (outsAt0 m d t).1 = R .bf16 2176 128 (fun i j => DQ Q O C i (128 * t.val + j))
    ∧ (outsAt0 m d t).2.1 = R .bf16 2176 128 (fun i j => DK Q O C i (128 * t.val + j))
    ∧ (outsAt0 m d t).2.2.1 = R .bf16 2176 128 (fun i j => DV Q O C i (128 * t.val + j))
    ∧ (outsAt0 m d t).2.2.2 = T .f32 1 2 2176 (fun _ => DC Q O C t.val) := by
  obtain ⟨a, b, c, e⟩ := point m d t _ _ _ _ _ (blk_q m d Q t hQ) (blk_k m d Q t hQ) (blk_v m d Q t hQ) (blk_qt m d Q t hQ)
    (blk_o m d O t hO) (blk_ot m d O t hO) (blk_c m d C t hC)
  refine ⟨a.trans (R_congr _ _ fun i j _ hj => ?_), b.trans (R_congr _ _ fun i j _ hj => ?_), c.trans (R_congr _ _ fun i j _ hj => ?_),
    e.trans (T_congr _ _ fun _ h s _ hh _ => ?_)⟩
  · rw [D_eq Q O C _ 0 (by omega), D_eq Q O C _ 1 (by omega)]; exact point_dq Q O C _ i j hj
  · rw [D_eq Q O C _ 0 (by omega), D_eq Q O C _ 1 (by omega)]; exact point_dk Q O C _ i j hj
  · rw [P_eq Q C _ 0 (by omega), P_eq Q C _ 1 (by omega)]; exact point_dv Q O C _ i j hj
  · rw [D_eq Q O C _ h hh]; exact congrArg Neg.neg (Finset.sum_congr rfl fun _ _ => by rw [Nat.zero_add])

theorem array7 : (dats m 0 d).arrAt 7 cfg0.N = R .bf16 2176 512 (DQ Q O C) := by
  refine (dats m 0 d).arrAt_eq_of_covers 7 _ (by decide +kernel) fun t _ y => ?_
  have e := at_pair t
  blk_simp
  rw [after0_7, (pair_leaves m d Q O C hQ hO hC t).1]
  refine congrArg Real.toEReal (congrArg₂ (DQ Q O C) ?_ ?_) <;> blk_simp [e] <;> idx_bounds <;> omega
theorem array8 : (dats m 0 d).arrAt 8 cfg0.N = R .bf16 2176 512 (DK Q O C) := by
  refine (dats m 0 d).arrAt_eq_of_covers 8 _ (by decide +kernel) fun t _ y => ?_
  have e := at_pair t
  blk_simp
  rw [after0_8, (pair_leaves m d Q O C hQ hO hC t).2.1]
  refine congrArg Real.toEReal (congrArg₂ (DK Q O C) ?_ ?_) <;> blk_simp [e] <;> idx_bounds <;> omega
theorem array9 : (dats m 0 d).arrAt 9 cfg0.N = R .bf16 2176 512 (DV Q O C) := by
  refine (dats m 0 d).arrAt_eq_of_covers 9 _ (by decide +kernel) fun t _ y => ?_
  have e := at_pair t
  blk_simp
  rw [after0_9, (pair_leaves m d Q O C hQ hO hC t).2.2.1]
  refine congrArg Real.toEReal (congrArg₂ (DV Q O C) ?_ ?_) <;> blk_simp [e] <;> idx_bounds <;> omega
theorem array10 : (dats m 0 d).arrAt 10 cfg0.N = T .f32 4 2 2176 (DC Q O C) := by
  refine (dats m 0 d).arrAt_eq_of_covers 10 _ (by decide +kernel) fun t _ y => ?_
  have e := at_pair t
  blk_simp
  rw [after0_10, (pair_leaves m d Q O C hQ hO hC t).2.2.2]
  refine congrArg Real.toEReal (congr (congr (congrArg (DC Q O C) ?_) ?_) ?_) <;> blk_simp [e] <;> idx_bounds <;> omega

end Cert.Attn
-- ==== Proof.AttnFinite.lean ====
module
public import proofs.«01_k».proof.Proof.AttnArrays
public import proofs.«01_k».proof.Proof.Gen.Pre_finite
public import Idealize.ShloMosaic.Lib.ReduceAll

/-! The precondition of the attention gradient: every argument it reads is an array of reals. -/

@[expose] public section
noncomputable section
namespace Cert.Attn
open Idealize.ShloMosaic

theorem pos_inf : (FloatOps.ofBits .f32 0x7F800000#32 : Ideal .f32) = (⊤ : EReal) := by
  show Ideal.ofBits .f32 0x7F800000#32 = ⊤
  simp [Ideal.ofBits, Ideal.ieee]

/-- A number whose size compares below infinity is real. -/
theorem real_of_lt (x : Ideal .f32) (h : FloatOps.cmpf CmpFPredicate.olt (FloatOps.hostAbsf x) (FloatOps.ofBits .f32 0x7F800000#32 : Ideal .f32) = 1#1) :
    ((x : EReal).toReal : EReal) = x := by
  rw [pos_inf] at h
  have h' : max (x : EReal) (-x) < ⊤ := by
    by_contra hn
    have : FloatOps.cmpf CmpFPredicate.olt (FloatOps.hostAbsf x) (⊤ : EReal) = 0#1 := by
      show Ideal.cmp CmpFPredicate.olt (max (x : EReal) (-x)) ⊤ = 0#1
      simp only [Ideal.cmp]
      simp [hn]
    rw [this] at h; exact absurd h (by decide)
  obtain ⟨h1, h2⟩ := max_lt_iff.1 h'
  exact EReal.coe_toReal h1.ne (fun e => by rw [e] at h2; simp at h2)

/-- The number at row `i`, column `j`, nothing outside. -/
def at2 {n w : ℕ} (x : (⟨2, ![n, w]⟩ : Shape).Idx → EReal) (i j : ℕ) : ℝ :=
  if h : i < n ∧ j < w then (x (ix2 ⟨i, h.1⟩ ⟨j, h.2⟩)).toReal else 0
/-- The number at `(a, i, j)`, nothing outside. -/
def at3 {m n w : ℕ} (x : (⟨3, ![m, n, w]⟩ : Shape).Idx → EReal) (a i j : ℕ) : ℝ :=
  if h : a < m ∧ i < n ∧ j < w then (x (ix3 ⟨a, h.1⟩ ⟨i, h.2.1⟩ ⟨j, h.2.2⟩)).toReal else 0

theorem real2 {φ : FTy} {n w : ℕ} (x : FVec Ideal ⟨2, ![n, w]⟩ φ) (h : ∀ i, ((x i : EReal).toReal : EReal) = x i) : x = R φ n w (at2 x) := by
  funext y
  refine (h y).symm.trans (congrArg Real.toEReal ?_)
  unfold at2
  rw [dif_pos ⟨(y 0).isLt, (y 1).isLt⟩]
  exact congrArg (fun z => EReal.toReal (x z)) (eq_ix2 y)
/-- The same of the first 512 columns alone. -/
theorem cols2 (x : FVec Ideal ⟨2, ![2176, 1024]⟩ .f32) (h : ∀ i j (hj : j < 512), ((x (ix2 i ⟨j, by omega⟩) : EReal).toReal : EReal) = x (ix2 i ⟨j, by omega⟩)) :
    Cols x (at2 x) := fun y hy => by
  have e : y = ix2 (y 0) ⟨(y 1).val, by omega⟩ := eq_ix2 y
  refine ((congrArg x e).trans (h (y 0) (y 1).val hy).symm).trans (congrArg Real.toEReal ?_)
  unfold at2
  rw [dif_pos ⟨(y 0).isLt, (y 1).isLt⟩]
  rfl
theorem real3 {φ : FTy} {m n w : ℕ} (x : FVec Ideal ⟨3, ![m, n, w]⟩ φ) (h : ∀ i, ((x i : EReal).toReal : EReal) = x i) : x = T φ m n w (at3 x) := by
  funext y
  refine (h y).symm.trans (congrArg Real.toEReal ?_)
  unfold at3
  rw [dif_pos ⟨(y 0).isLt, (y 1).isLt, (y 2).isLt⟩]
  exact congrArg (fun z => EReal.toReal (x z)) (eq_ix3 y)

attribute [local instance] Cert.Pre_finite.Gen.facts

theorem both_one (a b : BitVec 1) (h : IntOp.andi a b = 1#1) : a = 1#1 ∧ b = 1#1 := by
  revert a b; decide

/-- The precondition gives real arrays. -/
theorem real_args (x0 : FVec Ideal ⟨2, ![2176, 1536]⟩ .bf16) (x1 : FVec Ideal ⟨2, ![2176, 1024]⟩ .f32) (x2 : FVec Ideal ⟨3, ![4, 2, 2176]⟩ .f32)
    (x3 : FVec Ideal ⟨2, ![8, 128]⟩ .f32) (h : Cert.Pre_finite.fn (F := Ideal) x0 x1 x2 x3 = fun _ => 1#1) :
    x0 = R .bf16 2176 1536 (at2 x0) ∧ Cols x1 (at2 x1) ∧ x2 = T .f32 4 2 2176 (at3 x2) := by
  dsimp only [Cert.Pre_finite.fn] at h
  have h' := congrFun h ix0
  obtain ⟨h01, h2⟩ := both_one _ _ h'
  obtain ⟨h0, h1⟩ := both_one _ _ h01
  haveI : Subsingleton Cert.Pre_finite.S_.Idx := ⟨fun a b => funext fun k => k.elim0⟩
  refine ⟨real2 x0 fun i => ?_, cols2 x1 fun i j hj => ?_, real3 x2 fun i => ?_⟩
  · exact real_of_lt (x0 i) (Host.reduce_andi_all _ _ _ _ _ h0 i)
  · refine real_of_lt (x1 (ix2 i ⟨j, by omega⟩)) (Eq.trans ?_ (Host.reduce_andi_all _ _ _ _ _ h1 (ix2 i ⟨j, hj⟩)))
    pointwise
  · exact real_of_lt (x2 i) (Host.reduce_andi_all _ _ _ _ _ h2 i)

end Cert.Attn
-- ==== Proof.AttnRef.lean ====
module
public import proofs.«01_k».proof.Proof.AttnReal
public import proofs.«01_k».proof.Proof.Gen.ReferenceIdeal.Read

/-! The reference, operation by operation, on arguments whose entries are real numbers. -/

@[expose] public section
set_option maxRecDepth 16384
noncomputable section
namespace Cert.Attn
open Cert.ReferenceIdeal Cert.ReferenceIdeal.Gen Cert.ReferenceIdeal.Read Idealize.ShloMosaic Idealize.ShloMosaic.TcCoe Idealize.SL.Sem
open scoped BigOperators

/-- Over the reals a quotient by what is not nothing is the reals' quotient. -/
theorem coe_div (a b : ℝ) (h : b ≠ 0) : Ideal.div (a : EReal) (b : EReal) = ((a / b : ℝ) : EReal) := by
  rw [Ideal.div, if_neg (by simpa using h), ← EReal.coe_inv, ← EReal.coe_mul, div_eq_mul_inv]

variable (Q O : ℕ → ℕ → ℝ) (C : ℕ → ℕ → ℕ → ℝ)

/-- The three arguments. -/
abbrev X0 : FVec Ideal S2176x1536 .bf16 := R .bf16 2176 1536 Q
abbrev X2 : FVec Ideal S4x2x2176 .f32 := T .f32 4 2 2176 C

/-- The columns of the second argument that the attention reads are real. -/
class Reads (x : FVec Ideal S2176x1024 .f32) (O : outParam (ℕ → ℕ → ℝ)) : Prop where
  at_ : ∀ i : S2176x1024.Idx, (i 1).val < 512 → x i = ((O (i 0).val (i 1).val : ℝ) : EReal)
variable (x1 : FVec Ideal S2176x1024 .f32) [hx : Reads x1 O]

/-- The row maxima of the logits. -/
def mx (n t : ℕ) : ℝ := ((Finset.univ : Finset (Fin 2176)).sup fun x => if x.val ≤ t then ((Sn Q C n t x.val : ℝ) : EReal) else ⊥).toReal

theorem v4 : val_main_v4 (F := Ideal) (X0 Q) = T .f32 2176 8 64 (fun t n e => Q t (64 * n + e)) := by
  funext i
  have h0 : (i 0).val < 2176 := (i 0).isLt
  have h1 : (i 1).val < 8 := (i 1).isLt
  have h2 : (i 2).val < 64 := (i 2).isLt
  rw [val_main_v4_apply, val_main_v3_apply, val_main_v0_apply]
  refine congrArg Real.toEReal ?_
  show Q ((((i 0).val * 8 + (i 1).val) * 64 + (i 2).val) / 512) ((((i 0).val * 8 + (i 1).val) * 64 + (i 2).val) % 512) = Q (i 0).val (64 * (i 1).val + (i 2).val)
  congr 1 <;> omega

theorem v6 : val_main_v6 (F := Ideal) (X0 Q) = T .f32 2176 8 64 (fun t n e => Q t (512 + (64 * n + e))) := by
  funext i
  have h0 : (i 0).val < 2176 := (i 0).isLt
  have h1 : (i 1).val < 8 := (i 1).isLt
  have h2 : (i 2).val < 64 := (i 2).isLt
  rw [val_main_v6_apply, val_main_v5_apply, val_main_v1_apply]
  refine congrArg Real.toEReal ?_
  show Q ((((i 0).val * 8 + (i 1).val) * 64 + (i 2).val) / 512) (512 + (((i 0).val * 8 + (i 1).val) * 64 + (i 2).val) % 512) = Q (i 0).val (512 + (64 * (i 1).val + (i 2).val))
  congr 1 <;> omega

theorem v8 : val_main_v8 (F := Ideal) (X0 Q) = T .f32 2176 8 64 (fun t n e => Q t (1024 + (64 * n + e))) := by
  funext i
  have h0 : (i 0).val < 2176 := (i 0).isLt
  have h1 : (i 1).val < 8 := (i 1).isLt
  have h2 : (i 2).val < 64 := (i 2).isLt
  rw [val_main_v8_apply, val_main_v7_apply, val_main_v2_apply]
  refine congrArg Real.toEReal ?_
  show Q ((((i 0).val * 8 + (i 1).val) * 64 + (i 2).val) / 512) (1024 + (((i 0).val * 8 + (i 1).val) * 64 + (i 2).val) % 512) = Q (i 0).val (1024 + (64 * (i 1).val + (i 2).val))
  congr 1 <;> omega

theorem v13 : val_main_v13 (F := Ideal) x1 = T .f32 2176 8 64 (fun t n e => O t (64 * n + e)) := by
  funext i
  have h0 : (i 0).val < 2176 := (i 0).isLt
  have h1 : (i 1).val < 8 := (i 1).isLt
  have h2 : (i 2).val < 64 := (i 2).isLt
  rw [val_main_v13_apply, val_main_v12_apply, val_main_v11_apply, val_main_v10_apply]
  refine (hx.at_ _ ?_).trans (congrArg Real.toEReal ?_)
  · show (((i 0).val * 8 + (i 1).val) * 64 + (i 2).val) % 512 < 512
    omega
  show O ((((i 0).val * 8 + (i 1).val) * 64 + (i 2).val) / 512) ((((i 0).val * 8 + (i 1).val) * 64 + (i 2).val) % 512) = O (i 0).val (64 * (i 1).val + (i 2).val)
  congr 1 <;> omega

theorem v9 : val_main_v9 (F := Ideal) (X2 C) = R .f32 8 2176 (fun n t => Cn C n t) := by
  funext i
  have h0 : (i 0).val < 8 := (i 0).isLt
  have h1 : (i 1).val < 2176 := (i 1).isLt
  rw [val_main_v9_apply]
  refine congrArg Real.toEReal ?_
  show C (((i 0).val * 2176 + (i 1).val) / 4352) (((i 0).val * 2176 + (i 1).val) / 2176 % 2) (((i 0).val * 2176 + (i 1).val) % 2176) = C ((i 0).val / 2) ((i 0).val % 2) (i 1).val
  congr 1 <;> omega

theorem v15 : val_main_v15 (F := Ideal) (X0 Q) = T .f32 8 2176 2176 (qk Q) := by
  funext i
  rw [val_main_v15_apply, v4, v6]
  exact coe_dot (fun e => Q (i 1).val (64 * (i 0).val + e)) (fun e => Q (i 2).val (512 + (64 * (i 0).val + e)))

theorem v23 : val_main_v23 (F := Ideal) (X0 Q) (X2 C) = T .f32 8 2176 2176 (Sn Q C) := by
  funext i
  rw [val_main_v23_apply, val_main_v20_apply, val_main_v17_apply, v15, val_main_v16_apply, val_main_cst_apply, val_main_v19_apply,
    val_main_v18_apply, val_main_v22_apply, val_main_v21_apply, v9]
  show ((qk Q _ _ _ : ℝ) : EReal) * Ideal.ofBits .f32 0x3E000000#32 + ((Cn C _ _ : ℝ) : EReal) - ((Cn C _ _ : ℝ) : EReal) = _
  rw [ofBits_eighth_f32, ← EReal.coe_mul, ← EReal.coe_add, ← EReal.coe_sub]
  rfl

theorem v29_1 (i : S8x2176x2176.Idx) : val_main_v29_1 (F := Ideal) i = if (i 2).val ≤ (i 1).val then 1#1 else 0#1 := by
  have h1 : (i 1).val < 2176 := (i 1).isLt
  have h2 : (i 2).val < 2176 := (i 2).isLt
  rw [val_main_v29_1_apply, val_main_v28_apply, val_main_v26_apply, val_main_v24_apply, val_main_v27_apply, val_main_v25_apply,
    val_main_v14_apply, val_main_v14_apply]
  show IntOp.cmpi .sle (BitVec.ofNat 32 (i 2).val) (BitVec.ofNat 32 (i 1).val) = _
  rw [WordCmp.cmpi_sle_ofNat (by omega) (by omega)]
  by_cases h : (i 2).val ≤ (i 1).val <;> simp [h]

theorem v29 (i : S8x2176x2176.Idx) :
    val_main_v29_0 (F := Ideal) (X0 Q) (X2 C) i = if (i 2).val ≤ (i 1).val then ((Sn Q C (i 0).val (i 1).val (i 2).val : ℝ) : EReal) else ⊥ := by
  rw [val_main_v29_0_apply, v29_1, v23, val_main_call0_v2_apply, val_main_call0_v0_apply, val_main_cst_0_apply]
  split
  · rfl
  · exact ofBits_negInf

theorem v30 : val_main_v30 (F := Ideal) (X0 Q) (X2 C) = R .f32 8 2176 (mx Q C) := by
  funext i
  pointwise [val_main_v30, val_main_cst_1]
  simp only [v29]
  rw [ofBits_negInf]
  exact (sup_real Finset.univ (fun x : Fin 2176 => if x.val ≤ (i 1).val then ((Sn Q C (i 0).val (i 1).val x.val : ℝ) : EReal) else ⊥)
    (fun x _ => by split; exacts [EReal.coe_ne_top _, bot_ne_top]) (0 : Fin 2176) (Finset.mem_univ _)
    (ne_of_eq_of_ne (if_pos (Nat.zero_le _)) (EReal.coe_ne_bot _))).symm

theorem v37 : val_main_v37 (F := Ideal) (X0 Q) (X2 C) = R .f32 8 2176 (mx Q C) := by
  funext i
  rw [val_main_v37_apply, v30, val_main_v36_apply, val_main_cst_3_apply]
  show max (Ideal.ofBits .f32 0xFF800000#32) _ = _
  rw [ofBits_negInf]
  exact max_eq_right bot_le

theorem v50 : val_main_v50 (F := Ideal) (X0 Q) (X2 C) = T .f32 8 2176 2176 (fun n t s => Ex (Sn Q C n) (mx Q C n) t s) := by
  funext i
  rw [val_main_v50_apply, val_main_v49_apply, v29, val_main_v48_apply, val_main_v47_apply, v37]
  show Ideal.exp ((if _ then _ else _) - ((mx Q C _ _ : ℝ) : EReal)) = ((Ex _ _ _ _ : ℝ) : EReal)
  unfold Ex
  split
  · rw [← EReal.coe_sub]; rfl
  · rw [EReal.bot_sub]; rfl

theorem v51 : val_main_v51 (F := Ideal) (X0 Q) (X2 C) = R .f32 8 2176 (fun n t => Zx (Sn Q C n) (mx Q C n) t) := by
  funext i
  rw [val_main_v51_apply, v50, val_main_cst_9_apply]
  refine (congrArg (· + _) Ideal.ofBits_zero_f32).trans ((zero_add _).trans ?_)
  exact coe_sum (fun s => Ex (Sn Q C (i 0).val) (mx Q C (i 0).val) (i 1).val s)

theorem v52 (i : S8x2176x1.Idx) : val_main_v52 (F := Ideal) (X0 Q) (X2 C) i
    = ((Zx (Sn Q C (i 0).val) (mx Q C (i 0).val) (i 1).val : ℝ) : EReal) := by
  rw [val_main_v52_apply, v51]
  rfl

theorem v54 : val_main_v54 (F := Ideal) (X0 Q) (X2 C) = T .f32 8 2176 2176 (fun n t s => P (Sn Q C n) t s) := by
  funext i
  have h1 : (i 1).val < 2176 := (i 1).isLt
  rw [val_main_v54_apply, v50, val_main_v53_apply, v52]
  refine (coe_div _ _ (Zx_pos _ _ _).ne').trans (congrArg Real.toEReal ?_)
  show Ex _ _ _ _ / _ = P _ (i 1).val (i 2).val
  rw [Ex_eq _ _ _ _ h1]
  exact mul_div_cancel_right₀ _ (Zx_pos _ _ _).ne'

theorem v57 (i : S8x2176x1.Idx) : val_main_v57 (F := Ideal) (X0 Q) (X2 C) i
    = ((1 / (Zx (Sn Q C (i 0).val) (mx Q C (i 0).val) (i 1).val * Zx (Sn Q C (i 0).val) (mx Q C (i 0).val) (i 1).val) : ℝ) : EReal) := by
  rw [val_main_v57_apply, val_main_v56_apply, val_main_cst_10_apply, val_main_v55_apply, v52]
  show Ideal.div (Ideal.ofBits .f32 0x3F800000#32) (_ * _) = _
  rw [Ideal.ofBits_one_f32, ← EReal.coe_mul]
  exact coe_div 1 _ (mul_pos (Zx_pos _ _ _) (Zx_pos _ _ _)).ne'

theorem v60 : val_main_v60 (F := Ideal) x1 = T .f32 8 64 2176 (fun n e t => O t (64 * n + e)) := by
  funext i
  rw [val_main_v60_apply, v13]
  rfl

theorem v61 : val_main_v61 (F := Ideal) (X0 Q) x1 = T .f32 8 2176 2176 (fun n t s => Gn Q O n t s) := by
  funext i
  rw [val_main_v61_apply, v60, v8]
  exact coe_dot (fun e => O (i 1).val (64 * (i 0).val + e)) (fun e => Q (i 2).val (1024 + (64 * (i 0).val + e)))

theorem v62 : val_main_v62 (F := Ideal) (X0 Q) x1 (X2 C) = T .f32 8 64 2176 (fun n e s => ∑ t ∈ Finset.range 2176, O t (64 * n + e) * P (Sn Q C n) t s) := by
  funext i
  rw [val_main_v62_apply, v60, v54]
  exact coe_dot (fun t => O t (64 * (i 0).val + (i 1).val)) (fun t => P (Sn Q C (i 0).val) t (i 2).val)

theorem v66 : val_main_v66 (F := Ideal) (X0 Q) x1 (X2 C) = T .f32 8 2176 2176 (fun n t s => Gn Q O n t s * (1 / (Zx (Sn Q C n) (mx Q C n) t * Zx (Sn Q C n) (mx Q C n) t)) * Ex (Sn Q C n) (mx Q C n) t s) := by
  funext i
  rw [val_main_v66_apply, val_main_v65_apply, v61, val_main_v64_apply, v57, v50]
  show ((Gn Q O _ _ _ : ℝ) : EReal) * ((_ : ℝ) : EReal) * ((_ : ℝ) : EReal) = _
  rw [← EReal.coe_mul, ← EReal.coe_mul]
  rfl

theorem v67 : val_main_v67 (F := Ideal) (X0 Q) x1 (X2 C) = R .f32 8 2176 (fun n t => ∑ s ∈ Finset.range 2176, Gn Q O n t s * (1 / (Zx (Sn Q C n) (mx Q C n) t * Zx (Sn Q C n) (mx Q C n) t)) * Ex (Sn Q C n) (mx Q C n) t s) := by
  funext i
  rw [val_main_v67_apply, v66, val_main_cst_11_apply]
  refine (congrArg (· + _) Ideal.ofBits_zero_f32).trans ((zero_add _).trans ?_)
  exact coe_sum (fun s => Gn Q O (i 0).val (i 1).val s * (1 / (Zx (Sn Q C (i 0).val) (mx Q C (i 0).val) (i 1).val * Zx (Sn Q C (i 0).val) (mx Q C (i 0).val) (i 1).val))
    * Ex (Sn Q C (i 0).val) (mx Q C (i 0).val) (i 1).val s)

theorem v72 : val_main_v72 (F := Ideal) (X0 Q) x1 (X2 C) = R .f32 8 2176 (fun n t => -∑ s ∈ Finset.range 2176, Gn Q O n t s * (1 / (Zx (Sn Q C n) (mx Q C n) t * Zx (Sn Q C n) (mx Q C n) t)) * Ex (Sn Q C n) (mx Q C n) t s) := by
  funext i
  have h0 : (i 0).val < 8 := (i 0).isLt
  have h1 : (i 1).val < 2176 := (i 1).isLt
  rw [val_main_v72_apply, val_main_cst_12_apply, Fin.sum_univ_one, val_main_v69_apply, val_main_v68_apply, v67]
  refine (congrArg (· + _) Ideal.ofBits_zero_f32).trans ((zero_add _).trans ?_)
  refine (EReal.coe_neg _).symm.trans (congrArg (fun x : ℝ => ((-x : ℝ) : EReal)) ?_)
  have e : ∀ a b a' b' : ℕ, a = a' → b = b' → ∀ F : ℕ → ℕ → ℝ, F a b = F a' b' := by rintro a b _ _ rfl rfl F; rfl
  refine e _ _ _ _ ?_ ?_ (fun n t => ∑ s ∈ Finset.range 2176, Gn Q O n t s * (1 / (Zx (Sn Q C n) (mx Q C n) t * Zx (Sn Q C n) (mx Q C n) t)) * Ex (Sn Q C n) (mx Q C n) t s)
  · show (((i 0).val * 2176 + (i 1).val) * 1 + 0) / 2176 = (i 0).val
    omega
  · show (((i 0).val * 2176 + (i 1).val) * 1 + 0) % 2176 = (i 1).val
    omega

theorem v75 : val_main_v75 (F := Ideal) (X0 Q) x1 (X2 C) = T .f32 8 2176 2176 (Dn Q O C) := by
  funext i
  have h1 : (i 1).val < 2176 := (i 1).isLt
  rw [val_main_v75_apply, val_main_v74_apply, val_main_v71_apply, v61, val_main_v70_apply, v52, val_main_v73_apply, v72, v50]
  refine Eq.trans ?_ (congrArg Real.toEReal (Ds_eq (Sn Q C (i 0).val) (Gn Q O (i 0).val) (mx Q C (i 0).val) (i 1).val (i 2).val h1))
  rw [EReal.coe_mul, EReal.coe_add, ← coe_div _ _ (Zx_pos _ _ _).ne']
  rfl

theorem v76 : val_main_v76 (F := Ideal) (X0 Q) x1 (X2 C) = T .f32 8 2176 2176 (Dn Q O C) := by
  funext i
  rw [val_main_v76_apply, v29_1, v75, val_main_call1_v0_apply, val_main_call1_cst_apply]
  by_cases h : (i 2).val ≤ (i 1).val
  · rw [if_pos h]; rfl
  · rw [if_neg h]
    refine Ideal.ofBits_zero_f32.trans ?_
    exact (congrArg Real.toEReal (Ds_after _ _ (i 1).val (i 2).val (by omega))).symm

theorem v78 : val_main_v78 (F := Ideal) (X0 Q) x1 (X2 C) = R .f32 8 2176 (fun n s => ∑ t ∈ Finset.range 2176, -Dn Q O C n t s) := by
  funext i
  rw [val_main_v78_apply, val_main_cst_13_apply]
  refine (congrArg (· + _) Ideal.ofBits_zero_f32).trans ((zero_add _).trans ?_)
  simp only [val_main_v77_apply, v76]
  refine Eq.trans ?_ (coe_sum (fun t => -Dn Q O C (i 0).val t (i 1).val))
  exact Finset.sum_congr rfl fun t _ => (EReal.coe_neg _).symm

theorem v80 : val_main_v80 (F := Ideal) (X0 Q) x1 (X2 C) = R .f32 8 2176 (fun n s => ∑ t ∈ Finset.range 2176, -Dn Q O C n t s) := by
  funext i
  have h0 : (i 0).val < 8 := (i 0).isLt
  have h1 : (i 1).val < 2176 := (i 1).isLt
  rw [val_main_v80_apply, val_main_cst_14_apply, Fin.sum_univ_one, val_main_v79_apply, v78]
  refine (congrArg (· + _) Ideal.ofBits_zero_f32).trans ((zero_add _).trans ?_)
  have e : ∀ a b a' b' : ℕ, a = a' → b = b' → ∀ F : ℕ → ℕ → ℝ, F a b = F a' b' := by rintro a b _ _ rfl rfl F; rfl
  refine congrArg Real.toEReal (e _ _ _ _ ?_ ?_ (fun n s => ∑ t ∈ Finset.range 2176, -Dn Q O C n t s))
  · show (((i 0).val * 1 + 0) * 2176 + (i 1).val) / 2176 = (i 0).val
    omega
  · show (((i 0).val * 1 + 0) * 2176 + (i 1).val) % 2176 = (i 1).val
    omega

include hx in
theorem v81 : val_main_v81 (F := Ideal) (X0 Q) x1 (X2 C) = R .f32 8 2176 (fun _ _ => 0) := by
  funext i
  have h1 : (i 1).val < 2176 := (i 1).isLt
  rw [val_main_v81_apply, v76, val_main_cst_15_apply]
  refine (congrArg (· + _) Ideal.ofBits_zero_f32).trans ((zero_add _).trans ?_)
  refine (coe_sum (fun s => Dn Q O C (i 0).val (i 1).val s)).trans (congrArg Real.toEReal ?_)
  exact Ds_row _ _ _ h1

include hx in
theorem v83 : val_main_v83 (F := Ideal) (X0 Q) x1 (X2 C) = R .f32 8 2176 (fun _ _ => 0) := by
  funext i
  have h0 : (i 0).val < 8 := (i 0).isLt
  have h1 : (i 1).val < 2176 := (i 1).isLt
  rw [val_main_v83_apply, val_main_cst_16_apply, Fin.sum_univ_one, val_main_v82_apply, v81]
  refine (congrArg (· + _) Ideal.ofBits_zero_f32).trans ((zero_add _).trans ?_)
  rfl

theorem v97 : val_main_v97 (F := Ideal) (X0 Q) x1 (X2 C) = T .f32 4 2 2176 (DC Q O C) := by
  funext i
  have h0 : (i 0).val < 4 := (i 0).isLt
  have h1 : (i 1).val < 2 := (i 1).isLt
  have h2 : (i 2).val < 2176 := (i 2).isLt
  rw [val_main_v97_apply, val_main_v84_apply, v80, v83]
  refine (EReal.coe_add _ _).symm.trans (congrArg Real.toEReal ?_)
  rw [add_zero, DC, ← Finset.sum_neg_distrib]
  have e : ∀ a b a' b' : ℕ, a = a' → b = b' → ∀ F : ℕ → ℕ → ℝ, F a b = F a' b' := by rintro a b _ _ rfl rfl F; rfl
  refine e _ _ _ _ ?_ ?_ (fun n s => ∑ t ∈ Finset.range 2176, -Dn Q O C n t s)
  · show (((i 0).val * 2 + (i 1).val) * 2176 + (i 2).val) / 2176 = 2 * (i 0).val + (i 1).val
    omega
  · show (((i 0).val * 2 + (i 1).val) * 2176 + (i 2).val) % 2176 = (i 2).val
    omega

theorem v86 : val_main_v86 (F := Ideal) (X0 Q) x1 (X2 C) = T .f32 8 2176 2176 (fun n t s => Dn Q O C n t s * (1 / 8)) := by
  funext i
  rw [val_main_v86_apply, v76, val_main_v85_apply, val_main_cst_17_apply]
  show ((Dn Q O C _ _ _ : ℝ) : EReal) * Ideal.ofBits .f32 0x3E000000#32 = _
  rw [ofBits_eighth_f32, ← EReal.coe_mul]
  rfl

theorem v87 : val_main_v87 (F := Ideal) (X0 Q) x1 (X2 C) = T .f32 8 2176 64 (fun n s e => ∑ t ∈ Finset.range 2176, Dn Q O C n t s * (1 / 8) * Q t (64 * n + e)) := by
  funext i
  rw [val_main_v87_apply, v86, v4]
  exact coe_dot (fun t => Dn Q O C (i 0).val t (i 1).val * (1 / 8)) (fun t => Q t (64 * (i 0).val + (i 2).val))

theorem v89 : val_main_v89 (F := Ideal) (X0 Q) x1 (X2 C) = T .f32 8 2176 64 (fun n t e => ∑ s ∈ Finset.range 2176, Dn Q O C n t s * (1 / 8) * Q s (512 + (64 * n + e))) := by
  funext i
  rw [val_main_v89_apply, v86, v6]
  exact coe_dot (fun s => Dn Q O C (i 0).val (i 1).val s * (1 / 8)) (fun s => Q s (512 + (64 * (i 0).val + (i 2).val)))

theorem v92 : val_main_v92 (F := Ideal) (X0 Q) x1 (X2 C) = R .bf16 2176 512 (DQ Q O C) := by
  funext i
  have h0 : (i 0).val < 2176 := (i 0).isLt
  have h1 : (i 1).val < 512 := (i 1).isLt
  rw [val_main_v92_apply, val_main_v91_apply, val_main_v90_apply, v89]
  refine congrArg Real.toEReal ?_
  have e : ∀ a b c a' b' c' : ℕ, a = a' → b = b' → c = c' → ∀ F : ℕ → ℕ → ℕ → ℝ, F a b c = F a' b' c' := by
    rintro a b c _ _ _ rfl rfl rfl F; rfl
  refine (e _ _ _ ((i 1).val / 64) (i 0).val ((i 1).val % 64) ?_ ?_ ?_
    (fun n t e => ∑ s ∈ Finset.range 2176, Dn Q O C n t s * (1 / 8) * Q s (512 + (64 * n + e)))).trans ?_
  · show ((i 0).val * 512 + (i 1).val) / 64 % 8 = (i 1).val / 64
    omega
  · show ((i 0).val * 512 + (i 1).val) / 512 = (i 0).val
    omega
  · show ((i 0).val * 512 + (i 1).val) % 64 = (i 1).val % 64
    omega
  show ∑ _ ∈ _, _ = DQ Q O C (i 0).val (i 1).val
  rw [DQ, Finset.sum_mul, show 64 * ((i 1).val / 64) + (i 1).val % 64 = (i 1).val by omega]
  exact Finset.sum_congr rfl fun s _ => by ring

theorem v94 : val_main_v94 (F := Ideal) (X0 Q) x1 (X2 C) = R .bf16 2176 512 (DK Q O C) := by
  funext i
  have h0 : (i 0).val < 2176 := (i 0).isLt
  have h1 : (i 1).val < 512 := (i 1).isLt
  rw [val_main_v94_apply, val_main_v93_apply, val_main_v88_apply, v87]
  refine congrArg Real.toEReal ?_
  have e : ∀ a b c a' b' c' : ℕ, a = a' → b = b' → c = c' → ∀ F : ℕ → ℕ → ℕ → ℝ, F a b c = F a' b' c' := by
    rintro a b c _ _ _ rfl rfl rfl F; rfl
  refine (e _ _ _ ((i 1).val / 64) (i 0).val ((i 1).val % 64) ?_ ?_ ?_
    (fun n s e => ∑ t ∈ Finset.range 2176, Dn Q O C n t s * (1 / 8) * Q t (64 * n + e))).trans ?_
  · show ((i 0).val * 512 + (i 1).val) / 64 % 8 = (i 1).val / 64
    omega
  · show ((i 0).val * 512 + (i 1).val) / 512 = (i 0).val
    omega
  · show ((i 0).val * 512 + (i 1).val) % 64 = (i 1).val % 64
    omega
  show ∑ _ ∈ _, _ = DK Q O C (i 0).val (i 1).val
  rw [DK, Finset.sum_mul, show 64 * ((i 1).val / 64) + (i 1).val % 64 = (i 1).val by omega]
  exact Finset.sum_congr rfl fun s _ => by ring

theorem v96 : val_main_v96 (F := Ideal) (X0 Q) x1 (X2 C) = R .bf16 2176 512 (DV Q O C) := by
  funext i
  have h0 : (i 0).val < 2176 := (i 0).isLt
  have h1 : (i 1).val < 512 := (i 1).isLt
  rw [val_main_v96_apply, val_main_v95_apply, val_main_v63_apply, v62]
  refine congrArg Real.toEReal ?_
  have e : ∀ a b c a' b' c' : ℕ, a = a' → b = b' → c = c' → ∀ F : ℕ → ℕ → ℕ → ℝ, F a b c = F a' b' c' := by
    rintro a b c _ _ _ rfl rfl rfl F; rfl
  refine (e _ _ _ ((i 1).val / 64) ((i 1).val % 64) (i 0).val ?_ ?_ ?_
    (fun n e s => ∑ t ∈ Finset.range 2176, O t (64 * n + e) * P (Sn Q C n) t s)).trans ?_
  · show ((i 0).val * 512 + (i 1).val) / 64 % 8 = (i 1).val / 64
    omega
  · show ((i 0).val * 512 + (i 1).val) % 64 = (i 1).val % 64
    omega
  · show ((i 0).val * 512 + (i 1).val) / 512 = (i 0).val
    omega
  show ∑ _ ∈ _, _ = DV Q O C (i 0).val (i 1).val
  rw [DV, show 64 * ((i 1).val / 64) + (i 1).val % 64 = (i 1).val by omega]

end Cert.Attn
end
-- ==== Proof.DwUp.lean ====
module
public import proofs.«01_k».proof.Defs
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwUpRefIdeal.Read
public import Idealize.ShloMosaic.Lib.Pipeline.ValueKit
public import Idealize.ShloMosaic.Adequacy
public import Idealize.ShloMosaic.Init

/-! The gradient of the way up's weight, laid out in the eight shards that are exchanged. -/

@[expose] public section
set_option maxRecDepth 16384
noncomputable section
namespace Cert.DwUpIdeal.Own
open Cert.DwUpIdeal Cert.DwUpIdeal.Gen Idealize.ShloMosaic Idealize.ShloMosaic.TcCoe Idealize.SL.Sem
open Idealize.ShloMosaic.Pipeline (Dat)
open scoped BigOperators

/-- Which block every window shows at each of the four column tiles. -/
theorem tile : ∀ t : Fin cfg0.N, win0_0.index t = ![0, 0] ∧ win0_1.index t = ![t.val / 2, t.val % 2] ∧ win0_2.index t = ![t.val, 0, 0] :=
  (by decide +kernel : ∀ t : Fin grid0.N, _)

variable (m : (ℓ : Loc nD τ sig) → Buf (Elt Ideal) ℓ)

open Cert.DwUpRefIdeal.Read in
/-- The shards stacked are the rows of the gradient in order. -/
theorem stacked (x0 : (⟨Cert.DwUpRefIdeal.S1024x2176, .bf16⟩ : BufTy).Contents (Elt Ideal))
    (x1 : (⟨Cert.DwUpRefIdeal.S4352x2816, .bf16⟩ : BufTy).Contents (Elt Ideal)) (i : Cert.DwUpRefIdeal.S8x704x1024.Idx)
    (j : Cert.DwUpRefIdeal.S5632x1024.Idx) (h0 : (j 0).val = 704 * (i 0).val + (i 1).val) (h1 : (j 1).val = (i 2).val) :
    val_main_v29 x0 x1 i = val_main_v12 x0 x1 j := by
  unfold val_main_v29 val_main_v21 val_main_v22 val_main_v23 val_main_v24 val_main_v25 val_main_v26 val_main_v27 val_main_v28
    val_main_v13 val_main_v14 val_main_v15 val_main_v16 val_main_v17 val_main_v18 val_main_v19 val_main_v20
  generalize val_main_v12 x0 x1 = y
  have b0 : (i 0).val < 8 := (i 0).isLt
  have b1 : (i 1).val < 704 := (i 1).isLt
  pointwise
  split_ifs <;> refine congrArg y (funext fun a => Fin.ext ?_) <;> fin_cases a <;> simp <;> omega

open Cert.DwUpRefIdeal.Read in
/-- The two halves of the incoming gradient side by side, read in the array that has them one below the other. -/
theorem halves (x1 : (⟨Cert.DwUpRefIdeal.S4352x2816, .bf16⟩ : BufTy).Contents (Elt Ideal)) (p : Cert.DwUpRefIdeal.S2176x5632.Idx)
    (r : Cert.DwUpRefIdeal.S4352x2816.Idx) (h0 : (r 0).val = 2176 * ((p 1).val / 2816) + (p 0).val)
    (h1 : (r 1).val = (p 1).val % 2816) : val_main_v8 x1 p = x1 r := by
  unfold val_main_v8 val_main_v5 val_main_v7 val_main_v4 val_main_v6
  have b0 : (p 0).val < 2176 := (p 0).isLt
  have b1 : (p 1).val < 5632 := (p 1).isLt
  pointwise
  split_ifs <;> refine congrArg x1 (funext fun a => Fin.ext ?_) <;> fin_cases a <;> simp <;> omega

open Cert.DwUpRefIdeal.Read in
/-- One entry of the product over a tile is an entry of the reference's gradient. -/
theorem entry (c : Dev nD) (t : Fin cfg0.N) (p : S1408x1024.Idx) (j : Cert.DwUpRefIdeal.S5632x1024.Idx)
    (h0 : (j 0).val = 1408 * t.val + (p 0).val) (h1 : (j 1).val = (p 1).val) :
    k0_pay1 (iblk m c 0 t) (iblk m c 1 t) p = val_main_v12 (m ((c : Thread nD τ).loc main_arg0)) (m ((c : Thread nD τ).loc main_arg1)) j := by
  have e := tile t
  have ht : t.val < 4 := t.isLt
  have p0 : (p 0).val < 1408 := (p 0).isLt
  have p1 : (p 1).val < 1024 := (p 1).isLt
  obtain rfl : j = ix2 ⟨1408 * t.val + (p 0).val, by clear h0 h1; omega⟩ (p 1) := funext fun a => Fin.ext (by fin_cases a; exacts [h0, h1])
  unfold val_main_v12 val_main_v11 val_main_v10 val_main_v9 val_main_v1 val_main_v0
  pointwise [k0_pay1]
  refine Finset.sum_congr (M := EReal) rfl fun k _ => ?_
  refine (mul_comm (_ : EReal) _).trans (congrArg₂ (fun a b : EReal => a * b) ?_ ?_)
  · refine Eq.trans ?_ (halves _ _ ((win0_1.blk t).view.emb (ix2 k (p 0))) ?_ ?_).symm
    · blk_simp [iblk]
    · show _ = 2176 * ((1408 * t.val + (p 0).val) / 2816) + k.val
      blk_simp [e]; omega
    · show _ = (1408 * t.val + (p 0).val) % 2816
      blk_simp [e]; omega
  · blk_point [iblk, V, e]

/-- The two shards a tile is cut into. -/
theorem lower (v0 : Vec Ideal S1024x2176 .bf16) (v1 : Vec Ideal S2176x1408 .bf16) (x : S1x704x1024.Idx) (p : S1408x1024.Idx)
    (h0 : (p 0).val = 704 + (x 1).val) (h1 : (p 1).val = (x 2).val) : k0_pay3 (View.ld v0 r0_0) (View.ld v1 r0_1) x = k0_pay1 v0 v1 p := by
  rw [View.ld_unit_lit _ v0 (by decide), View.ld_unit_lit _ v1 (by decide)]
  unfold k0_pay3
  generalize k0_pay1 v0 v1 = z
  pointwise
  refine congrArg z (funext fun a => Fin.ext ?_)
  fin_cases a <;> simp <;> omega
theorem upper (v0 : Vec Ideal S1024x2176 .bf16) (v1 : Vec Ideal S2176x1408 .bf16) (x : S1x704x1024.Idx) (p : S1408x1024.Idx)
    (h0 : (p 0).val = (x 1).val) (h1 : (p 1).val = (x 2).val) : k0_pay2 (View.ld v0 r0_0) (View.ld v1 r0_1) x = k0_pay1 v0 v1 p := by
  rw [View.ld_unit_lit _ v0 (by decide), View.ld_unit_lit _ v1 (by decide)]
  unfold k0_pay2
  generalize k0_pay1 v0 v1 = z
  pointwise
  refine congrArg z (funext fun a => Fin.ext ?_)
  fin_cases a <;> simp <;> omega

open Cert.DwUpRefIdeal.Read in
/-- The array the kernel leaves is the reference's gradient, shard by shard. -/
theorem array (c : Dev nD) : (dats m 0 c).arrAt 2 cfg0.N = val_main_v29
    (m ((c : Thread nD τ).loc main_arg0)) (m ((c : Thread nD τ).loc main_arg1)) := by
  refine (dats m 0 c).arrAt_eq_of_covers 2 _ (by decide +kernel) fun t hf y => ?_
  have e := tile t
  have ht : t.val < 4 := t.isLt
  blk_simp; rw [after0_2]
  canon_tiles x h
  · refine (lower _ _ x (ix2 ⟨704 + (x 1).val, by omega⟩ (x 2)) rfl rfl).trans ?_
    refine Eq.trans ?_ (stacked _ _ _ (ix2 ⟨1408 * t.val + 704 + (x 1).val, by omega⟩ (x 2)) ?_ ?_).symm
    · refine entry m c t _ _ ?_ ?_
      · show 1408 * t.val + 704 + (x 1).val = 1408 * t.val + (704 + (x 1).val)
        omega
      · rfl
    · show 1408 * t.val + 704 + (x 1).val = _
      blk_simp [e]; omega
    · show (x 2).val = _
      blk_simp [e]; omega
  · refine (upper _ _ x (ix2 ⟨(x 1).val, by omega⟩ (x 2)) rfl rfl).trans ?_
    refine Eq.trans ?_ (stacked _ _ _ (ix2 ⟨1408 * t.val + (x 1).val, by omega⟩ (x 2)) ?_ ?_).symm
    · exact entry m c t _ _ rfl rfl
    · show 1408 * t.val + (x 1).val = _
      blk_simp [e]; omega
    · show (x 2).val = _
      blk_simp [e]; omega

/-- The reference leaves its arguments, and it has no semaphore. -/
theorem frame_reference : Cert.quiescent_DwUpRefIdeal := fun m ρ _ =>
  (θ_run Cert.DwUpRefIdeal.defs _ _).mono (fun r h => ⟨fun c => (h c).2, sem_eq_zero_of_no_sems (by decide) r.2⟩)
    (Cert.DwUpRefIdeal.Value.run (F := Ideal) m ρ)

/-- The kernel and the reference end with the same array. -/
theorem algebraic : Cert.algebraic_DwUpIdeal_DwUpRefIdeal := by
  intro m g m' g' _ hm
  refine ⟨fun c => Cert.DwUpRefIdeal.Read.val_main_v29 (m ((c : Thread nD τ).loc main_arg0)) (m ((c : Thread nD τ).loc main_arg1)), ?_, ?_⟩
  · exact (θ_run Cert.DwUpIdeal.defs _ _).mono (fun r h c => ⟨(h c).1.trans (array m c), (h c).2⟩) (Cert.DwUpIdeal.Value.run_blocks m g)
  · refine (θ_run Cert.DwUpRefIdeal.defs _ _).mono (fun r h c => ⟨(h c).1.trans ?_, (h c).2⟩) (Cert.DwUpRefIdeal.Value.run (F := Ideal) m' g')
    obtain ⟨e0, e1⟩ := hm c
    beta_reduce
    rw [← e0, ← e1]
    exact Cert.DwUpRefIdeal.Read.val_main_v29_eq _ _
end Cert.DwUpIdeal.Own
end
-- ==== Proof.DwDown.lean ====
module
public import proofs.«01_k».proof.Defs
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import Idealize.ShloMosaic.Lib.Pipeline.ValueKit
public import Idealize.ShloMosaic.Adequacy
public import Idealize.ShloMosaic.Init

/-! The gradient of the way down's weight. -/

@[expose] public section
set_option maxRecDepth 16384
noncomputable section
namespace Cert.DwDownIdeal.Own
open Cert.DwDownIdeal Cert.DwDownIdeal.Gen Idealize.ShloMosaic Idealize.ShloMosaic.TcCoe Idealize.SL.Sem
open Idealize.ShloMosaic.Pipeline (Dat)
open scoped BigOperators

/-- Which block every window shows at each of the four row tiles. -/
theorem tile : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

open Cert.DwDownRefIdeal.Read in
/-- The array the kernel leaves is the reference's gradient. -/
theorem array (c : Dev nD) : (dats m 0 c).arrAt 2 cfg0.N = val_main_v7
    (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, val_main_v7, val_main_v6, val_main_v5, val_main_v4, val_main_v1, val_main_v0]
  refine Finset.sum_congr (M := EReal) rfl fun k _ => ?_
  refine (mul_comm (_ : EReal) _).trans ?_
  blk_point [iblk, V, tile t]

/-- The reference leaves its arguments, and it has no semaphore. -/
theorem frame_reference : Cert.quiescent_DwDownRefIdeal := fun m ρ _ =>
  (θ_run Cert.DwDownRefIdeal.defs _ _).mono (fun r h => ⟨fun c => (h c).2, sem_eq_zero_of_no_sems (by decide) r.2⟩)
    (Cert.DwDownRefIdeal.Value.run (F := Ideal) m ρ)

/-- The kernel and the reference end with the same array. -/
theorem algebraic : Cert.algebraic_DwDownIdeal_DwDownRefIdeal := by
  intro m g m' g' _ hm
  refine ⟨fun c => Cert.DwDownRefIdeal.Read.val_main_v7 (m ((c : Thread nD τ).loc main_arg0)) (m ((c : Thread nD τ).loc main_arg1)), ?_, ?_⟩
  · exact (θ_run Cert.DwDownIdeal.defs _ _).mono (fun r h c => ⟨(h c).1.trans (array m c), (h c).2⟩) (Cert.DwDownIdeal.Value.run_blocks m g)
  · refine (θ_run Cert.DwDownRefIdeal.defs _ _).mono (fun r h c => ⟨(h c).1.trans ?_, (h c).2⟩) (Cert.DwDownRefIdeal.Value.run (F := Ideal) m' g')
    obtain ⟨e0, e1⟩ := hm c
    beta_reduce
    rw [← e0, ← e1]
    exact Cert.DwDownRefIdeal.Read.val_main_v7_eq _ _
end Cert.DwDownIdeal.Own
end
-- ==== Proof.DAct.lean ====
module
public import proofs.«01_k».proof.Defs
public import proofs.«01_k».proof.Proof.Gen.DActIdeal.Value
public import proofs.«01_k».proof.Proof.Gen.DActRefIdeal
public import proofs.«01_k».proof.Proof.Gen.DActRefIdeal.Run
public import proofs.«01_k».proof.Proof.Gen.DActRefIdeal.Read
public import Idealize.ShloMosaic.Lib.Pipeline.ValueKit
public import Idealize.ShloMosaic.Adequacy
public import Idealize.ShloMosaic.Init

/-! The gradient of the activation. -/

@[expose] public section
set_option maxRecDepth 16384
noncomputable section
namespace Cert.DActIdeal.Own
open Cert.DActIdeal Cert.DActIdeal.Gen Idealize.ShloMosaic Idealize.ShloMosaic.TcCoe Idealize.SL.Sem
open Idealize.ShloMosaic.Pipeline (Dat)
open scoped BigOperators

/-- Which block every window shows at each of the two column tiles. -/
theorem tile : ∀ t : Fin cfg0.N, win0_0.index t = ![0, 0] ∧ win0_1.index t = ![t.val, 0] ∧ win0_2.index t = ![0, t.val] :=
  (by decide +kernel : ∀ t : Fin grid0.N, _)

variable (m : (ℓ : Loc nD τ sig) → Buf (Elt Ideal) ℓ)

open Cert.DActRefIdeal.Read in
/-- The array the kernel leaves is the reference's gradient. -/
theorem array (c : Dev nD) : (dats m 0 c).arrAt 2 cfg0.N = val_main_v5
    (m ((c : Thread nD τ).loc main_arg0)) (m ((c : Thread nD τ).loc main_arg1)) := by
  refine (dats m 0 c).arrAt_eq_of_covers 2 _ (by decide +kernel) fun t hf y => ?_
  blk_simp; rw [after0_2]; simp only [outsAt0]; frame_out
  pointwise [k0_pay1, val_main_v5, val_main_v4, val_main_v3, val_main_v0]
  blk_point [iblk, V, tile t]

/-- The reference leaves its arguments, and it has no semaphore. -/
theorem frame_reference : Cert.quiescent_DActRefIdeal := fun m ρ _ =>
  (θ_run Cert.DActRefIdeal.defs _ _).mono (fun r h => ⟨fun c => (h c).2, sem_eq_zero_of_no_sems (by decide) r.2⟩)
    (Cert.DActRefIdeal.Value.run (F := Ideal) m ρ)

/-- The kernel and the reference end with the same array. -/
theorem algebraic : Cert.algebraic_DActIdeal_DActRefIdeal := by
  intro m g m' g' _ hm
  refine ⟨fun c => Cert.DActRefIdeal.Read.val_main_v5 (m ((c : Thread nD τ).loc main_arg0)) (m ((c : Thread nD τ).loc main_arg1)), ?_, ?_⟩
  · exact (θ_run Cert.DActIdeal.defs _ _).mono (fun r h c => ⟨(h c).1.trans (array m c), (h c).2⟩) (Cert.DActIdeal.Value.run_blocks m g)
  · refine (θ_run Cert.DActRefIdeal.defs _ _).mono (fun r h c => ⟨(h c).1.trans ?_, (h c).2⟩) (Cert.DActRefIdeal.Value.run (F := Ideal) m' g')
    obtain ⟨e0, e1, e2⟩ := hm c
    beta_reduce
    rw [← e0, ← e1]
    exact Cert.DActRefIdeal.Read.val_main_v5_eq _ _
end Cert.DActIdeal.Own
end
-- ==== Proof.Down.lean ====
module
public import proofs.«01_k».proof.Defs
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import Idealize.ShloMosaic.Lib.Pipeline.ValueKit
public import Idealize.ShloMosaic.Adequacy
public import Idealize.ShloMosaic.Init

/-! The forward product of the feed-forward's way down, with the residual added. -/

@[expose] public section
set_option maxRecDepth 16384
noncomputable section
namespace Cert.DownIdeal.Own
open Cert.DownIdeal Cert.DownIdeal.Gen Idealize.ShloMosaic Idealize.ShloMosaic.TcCoe Idealize.SL.Sem
open Idealize.ShloMosaic.Pipeline (Dat)
open scoped BigOperators

/-- Which block every window shows at each of the four column tiles. -/
theorem tile : ∀ t : Fin cfg0.N, win0_0.index t = ![0, 0] ∧ win0_1.index t = ![0, t.val] ∧ win0_2.index t = ![0, t.val]
    ∧ win0_3.index t = ![0, t.val] := (by decide +kernel : ∀ t : Fin grid0.N, _)

variable (m : (ℓ : Loc nD τ sig) → Buf (Elt Ideal) ℓ)

/-- The array the kernel leaves is the reference's sum. -/
theorem array (c : Dev nD) : (dats m 0 c).arrAt 3 cfg0.N = Cert.DownRefIdeal.Read.val_main_v3
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  pointwise [k0_pay1, Cert.DownRefIdeal.Read.val_main_v3, Cert.DownRefIdeal.Read.val_main_v2, Cert.DownRefIdeal.Read.val_main_v1, Cert.DownRefIdeal.Read.val_main_v0]
  blk_point [iblk, V, tile t]

/-- The reference leaves its arguments, and it has no semaphore. -/
theorem frame_reference : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The kernel and the reference end with the same array. -/
theorem algebraic : Cert.algebraic_DownIdeal_DownRefIdeal := by
  intro m g m' g' _ hm
  refine ⟨fun c => Cert.DownRefIdeal.Read.val_main_v3 (m ((c : Thread nD τ).loc main_arg0)) (m ((c : Thread nD τ).loc main_arg1)) (m ((c : Thread nD τ).loc main_arg2)), ?_, ?_⟩
  · exact (θ_run Cert.DownIdeal.defs _ _).mono (fun r h c => ⟨(h c).1.trans (array m c), (h c).2⟩) (Cert.DownIdeal.Value.run_blocks m g)
  · refine (θ_run Cert.DownRefIdeal.defs _ _).mono (fun r h c => ⟨(h c).1.trans ?_, (h c).2⟩) (Cert.DownRefIdeal.Value.run (F := Ideal) m' g')
    obtain ⟨e0, e1, e2⟩ := hm c
    beta_reduce
    rw [← e0, ← e1, ← e2]
    exact Cert.DownRefIdeal.Read.val_main_v3_eq _ _ _
end Cert.DownIdeal.Own
end
-- ==== Proof.RmsRow.lean ====
module
public import Idealize.ShloMosaic.Lib.Pipeline.ValueKit

/-! The gradient of one row of a root-mean-square norm, written in the kernel's way and in the way of the chain rule.
Both hold for every extended real: the row's scale is a nonnegative real number, also when the row is not finite. -/

@[expose] public section
noncomputable section
namespace Cert.RmsRow
open Idealize.ShloMosaic
open scoped BigOperators

/-- A square is nonnegative, whatever the number. -/
theorem square_nonneg (a : EReal) : 0 ≤ a * a := by
  rcases le_total 0 a with h | h
  · exact mul_nonneg h h
  · have := mul_nonneg (EReal.neg_nonneg.mpr h) (EReal.neg_nonneg.mpr h)
    rwa [neg_mul_neg] at this

/-- The row's mean square, made positive by a small real number. -/
def ms (e : ℝ) (x : Fin 1024 → EReal) : EReal := Ideal.div (∑ k, x k * x k) ((1024 : ℝ) : EReal) + (e : EReal)

theorem ms_pos {e : ℝ} (he : 0 < e) (x : Fin 1024 → EReal) : 0 < ms e x := by
  have h : (0 : EReal) ≤ ∑ k, x k * x k := Finset.sum_nonneg fun k _ => square_nonneg (x k)
  unfold ms
  rw [Ideal.div_coe (by norm_num)]
  refine lt_of_lt_of_le (EReal.coe_pos.mpr he) ?_
  have : (0 : EReal) ≤ (∑ k, x k * x k) * ((1 / 1024 : ℝ) : EReal) :=
    mul_nonneg h (EReal.coe_nonneg.mpr (by norm_num))
  calc (e : EReal) = 0 + e := (zero_add _).symm
    _ ≤ _ := by gcongr

/-- The scale of a positive mean square: a nonnegative real number, and dividing it by the mean square cubes it. -/
theorem scale {s : EReal} (hs : 0 < s) : ∃ r : ℝ, 0 ≤ r ∧ Ideal.rsqrt s = r ∧ Ideal.div (r : EReal) s = ((r * r * r : ℝ) : EReal) := by
  induction s with
  | bot => exact absurd hs (by simp)
  | top => refine ⟨0, le_rfl, rfl, ?_⟩; simp [Ideal.div]
  | coe s =>
    have hs' : 0 < s := EReal.coe_pos.mp hs
    refine ⟨(√s)⁻¹, by positivity, ?_, ?_⟩
    · show (if s < 0 then (⊥ : EReal) else if s = 0 then ⊤ else (((√s)⁻¹ : ℝ) : EReal)) = _
      rw [if_neg hs'.not_gt, if_neg hs'.ne']
    · rw [Ideal.div_coe hs'.ne', ← EReal.coe_mul]
      congr 1
      have h := Real.mul_self_sqrt hs'.le
      have h0 : √s ≠ 0 := (Real.sqrt_pos.mpr hs').ne'
      rw [one_div, show s⁻¹ = (√s * √s)⁻¹ by rw [h], mul_inv]; ring

/-- A nonnegative real factor comes out of a sum. -/
theorem pull {ι : Type} (s : Finset ι) {r : ℝ} (hr : 0 ≤ r) (f : ι → EReal) : ∑ k ∈ s, (r : EReal) * f k = (r : EReal) * ∑ k ∈ s, f k :=
  (map_sum (AddMonoidHom.mk (ZeroHom.mk (fun y : EReal => (r : EReal) * y) (mul_zero _))
    fun a b => EReal.left_distrib_of_nonneg_of_ne_top (EReal.coe_nonneg.mpr hr) (EReal.coe_ne_top _) a b) f s).symm

theorem twice (y : EReal) : y + y = ((2 : ℝ) : EReal) * y := by
  have h := EReal.right_distrib_of_nonneg (a := 1) (b := 1) (c := y) zero_le_one zero_le_one
  rw [one_mul] at h
  rw [← h]; congr 1
  rw [← EReal.coe_one, ← EReal.coe_add]; norm_num

/-- The kernel's way of the row's gradient is the chain rule's. -/
theorem row {e : ℝ} (he : 0 < e) (x E : Fin 1024 → EReal) (q : Fin 1024) :
    Ideal.rsqrt (ms e x) * (E q - x q * Ideal.rsqrt (ms e x) * Ideal.div (∑ k, E k * (x k * Ideal.rsqrt (ms e x))) ((1024 : ℝ) : EReal))
      = E q * Ideal.rsqrt (ms e x)
        + x q * Ideal.div ((∑ k, x k * E k) * (((-0.5 : ℝ) : EReal) * Ideal.div (Ideal.rsqrt (ms e x)) (ms e x))) ((1024 : ℝ) : EReal)
        + Ideal.div ((∑ k, x k * E k) * (((-0.5 : ℝ) : EReal) * Ideal.div (Ideal.rsqrt (ms e x)) (ms e x))) ((1024 : ℝ) : EReal) * x q := by
  obtain ⟨r, hr, h1, h2⟩ := scale (ms_pos he x)
  rw [h1, h2]
  have hT : ∑ k, E k * (x k * (r : EReal)) = (r : EReal) * ∑ k, x k * E k := by
    rw [← pull _ hr]
    refine Finset.sum_congr rfl fun k _ => ?_
    rw [mul_comm, mul_comm (x k) (r : EReal), mul_assoc]
  rw [hT]
  generalize ∑ k, x k * E k = S
  rw [Ideal.div_coe (by norm_num), Ideal.div_coe (by norm_num), sub_eq_add_neg,
    EReal.left_distrib_of_nonneg_of_ne_top (EReal.coe_nonneg.mpr hr) (EReal.coe_ne_top _), add_assoc]
  congr 1
  · exact mul_comm _ _
  · rw [mul_comm _ (x q), twice, ← EReal.neg_mul, ← EReal.neg_mul]
    have hn : -(x q) = ((-1 : ℝ) : EReal) * x q := by rw [EReal.coe_neg, EReal.coe_one, EReal.neg_mul, one_mul]
    rw [hn]
    have hl : (r : EReal) * (((-1 : ℝ) : EReal) * x q * (r : EReal) * ((r : EReal) * S * ((1 / 1024 : ℝ) : EReal)))
        = ((r : EReal) * ((-1 : ℝ) : EReal) * (r : EReal) * (r : EReal) * ((1 / 1024 : ℝ) : EReal)) * (x q * S) := by
      simp only [mul_assoc, mul_comm, mul_left_comm]
    have hrr : ((2 : ℝ) : EReal) * (x q * (S * (((-0.5 : ℝ) : EReal) * ((r * r * r : ℝ) : EReal)) * ((1 / 1024 : ℝ) : EReal)))
        = (((2 : ℝ) : EReal) * ((-0.5 : ℝ) : EReal) * ((r * r * r : ℝ) : EReal) * ((1 / 1024 : ℝ) : EReal)) * (x q * S) := by
      simp only [mul_assoc, mul_comm, mul_left_comm]
    rw [hl, hrr]
    congr 1
    simp only [← EReal.coe_mul]
    congr 1; ring

/-- The constants of a row: its length, one half with its sign, and what is added to the mean square. -/
theorem bits_n : Ideal.ofBits .f32 0x44800000#32 = ((1024 : ℝ) : EReal) := by
  simp [Ideal.ofBits, Ideal.ieee, -EReal.coe_mul]; norm_num
theorem bits_half : Ideal.ofBits .f32 0xBF000000#32 = ((-0.5 : ℝ) : EReal) := by
  simp [Ideal.ofBits, Ideal.ieee, -EReal.coe_mul]; norm_num
def eps : ℝ := 8796093 / 8796093022208
theorem eps_pos : 0 < eps := by unfold eps; norm_num
theorem bits_eps : Ideal.ofBits .f32 0x358637BD#32 = (eps : EReal) := by
  unfold eps
  simp [Ideal.ofBits, Ideal.ieee, -EReal.coe_mul]; norm_num
end Cert.RmsRow
end
-- ==== Proof.DnFfn.lean ====
module
public import proofs.«01_k».proof.Defs
public import proofs.«01_k».proof.Proof.Gen.DnFfnIdeal.Value
public import proofs.«01_k».proof.Proof.Gen.DnFfnRefIdeal
public import proofs.«01_k».proof.Proof.Gen.DnFfnRefIdeal.Run
public import proofs.«01_k».proof.Proof.Gen.DnFfnRefIdeal.Read
public import proofs.«01_k».proof.Proof.RmsRow
public import Idealize.ShloMosaic.Lib.Pipeline.ValueKit
public import Idealize.ShloMosaic.Adequacy
public import Idealize.ShloMosaic.Init

/-! The gradient of a feed-forward layer's input: back through the way up and the norm before it. -/

@[expose] public section
set_option maxRecDepth 16384
noncomputable section
namespace Cert.DnFfnIdeal.Own
open Cert.DnFfnIdeal Cert.DnFfnIdeal.Gen Idealize.ShloMosaic Idealize.ShloMosaic.TcCoe Idealize.SL.Sem
open Idealize.ShloMosaic.Pipeline (Dat)
open scoped BigOperators

/-- Which block every window shows at each point: four row tiles, and four steps of the contraction for each. -/
theorem tile : ∀ t : Fin cfg0.N, win0_0.index t = ![4 * (t.val % 4 / 2) + t.val / 4, t.val % 4 % 2] ∧ win0_1.index t = ![t.val % 4, 0]
    ∧ win0_2.index t = ![t.val / 4, 0] ∧ win0_3.index t = ![0, 0] ∧ win0_4.index t = ![t.val / 4, 0] ∧ win0_5.index t = ![t.val / 4, 0]
    ∧ win0_6.index t = ![t.val / 4, 0] ∧ win0_7.index t = ![0, 0] := (by decide +kernel : ∀ t : Fin grid0.N, _)

variable (m : (ℓ : Loc nD τ sig) → Buf (Elt Ideal) ℓ)

open Cert.DnFfnRefIdeal.Read in
/-- The two halves of the incoming gradient side by side, read in the array that has them one below the other. -/
theorem halves (x0 : (⟨Cert.DnFfnRefIdeal.S4352x2816, .bf16⟩ : BufTy).Contents (Elt Ideal)) (p : Cert.DnFfnRefIdeal.S2176x5632.Idx)
    (r : Cert.DnFfnRefIdeal.S4352x2816.Idx) (h0 : (r 0).val = 2176 * ((p 1).val / 2816) + (p 0).val)
    (h1 : (r 1).val = (p 1).val % 2816) : val_main_v24 x0 p = x0 r := by
  unfold val_main_v24 val_main_v23 val_main_v22 val_main_v21 val_main_v20
  have b0 : (p 0).val < 2176 := (p 0).isLt
  have b1 : (p 1).val < 5632 := (p 1).isLt
  pointwise
  split_ifs <;> refine congrArg x0 (funext fun a => Fin.ext ?_) <;> fin_cases a <;> simp <;> omega

theorem pay1 (a : Vec Ideal S544x1408 .bf16) (b : Vec Ideal S1408x1024 .bf16) (j : S544x1024.Idx) :
    k0_pay1 a b j = ∑ k : Fin 1408, (a (ix2 (j 0) k) : EReal) * b (ix2 k (j 1)) := by pointwise [k0_pay1]
theorem pay2 (a : Vec Ideal S544x1408 .bf16) (b : Vec Ideal S1408x1024 .bf16) (j : S544x1024.Idx) :
    k0_pay2 a b j = 0 + k0_pay1 a b j := by rw [zero_add]; unfold k0_pay2; generalize k0_pay1 a b = z; pointwise
theorem pay3 (a : Vec Ideal S544x1408 .bf16) (b : Vec Ideal S1408x1024 .bf16) (s : Vec Ideal S544x1024 .f32) (j : S544x1024.Idx) :
    k0_pay3 a b s j = s j + k0_pay1 a b j := by unfold k0_pay3; generalize k0_pay1 a b = z; pointwise

open Cert.DnFfnRefIdeal.Read in
/-- One step's product is a quarter of the reference's contraction. -/
theorem dot (x0 : (⟨Cert.DnFfnRefIdeal.S4352x2816, .bf16⟩ : BufTy).Contents (Elt Ideal))
    (x1 : (⟨Cert.DnFfnRefIdeal.S5632x1024, .bf16⟩ : BufTy).Contents (Elt Ideal)) (j : S2176x1024.Idx) :
    val_main_v25 x0 x1 j = ∑ k : Fin 5632, (val_main_v24 x0 (ix2 (j 0) k) : EReal) * x1 (ix2 k (j 1)) := by
  unfold val_main_v25 val_main_v1 val_main_v0
  generalize val_main_v24 x0 = z
  pointwise

/-- What the carried sum holds after the last step of a row tile: the reference's product. -/
theorem acc (c : Dev nD) (t : Fin cfg0.N) (ht : t.val % 4 = 4 - 1) (j : S544x1024.Idx) (i : S2176x1024.Idx)
    (h0 : (i 0).val = 544 * (t.val / 4) + (j 0).val) (h1 : (i 1).val = (j 1).val) :
    (outsAt0 m c t.val t.isLt).2.2.2 j
      = Cert.DnFfnRefIdeal.Read.val_main_v25 (m ((c : Thread nD τ).loc main_arg0)) (m ((c : Thread nD τ).loc main_arg1)) i := by
  rw [Pipeline.eq_sum_fin_of_reset_step_apply_of_flush (fun n h => (outsAt0 m c n h).2.2.2) 4 (fun _ => 0)
    (fun p j => k0_pay1 (iblk m c 0 p) (iblk m c 1 p) j)
    (fun t h j => by rw [outsAt0_A m c t h (by omega) (by omega)]; frame_out; rw [pay2])
    (fun t h j => by
      by_cases h2 : t.val % 4 = 3
      · by_cases h3 : t.val < 4
        · rw [outsAt0_C m c t h (by omega) h2 h3]; frame_out; rw [pay3]; exact congrArg (fun a : EReal => a + _) (congrFun (Memref.IsWhole.read_unread _ _) j)
        · rw [outsAt0_D m c t h (by omega) h2 h3]; frame_out; rw [pay3]; exact congrArg (fun a : EReal => a + _) (congrFun (Memref.IsWhole.read_unread _ _) j)
      · rw [outsAt0_B m c t h (by omega) h2]; frame_out; rw [pay3]; exact congrArg (fun a : EReal => a + _) (congrFun (Memref.IsWhole.read_unread _ _) j))
    t ht j, zero_add, dot]
  simp only [pay1]
  have hN : t.val < 16 := lt_of_lt_of_eq t.isLt N_0
  refine Fin.sum_mul_add_congr fun s k hl => ?_
  have e := tile t
  have e' := tile ⟨_, Pipeline.run_point_lt_of_flush t ht s⟩
  refine congrArg₂ (fun a b : EReal => a * b) ?_ ?_
  · refine Eq.trans ?_ (halves _ _ ((win0_0.blk ⟨_, Pipeline.run_point_lt_of_flush t ht s⟩).view.emb (ix2 (j 0) k)) ?_ ?_).symm
    · blk_simp [iblk]
    · show _ = 2176 * ((s.val * 1408 + k.val) / 2816) + (i 0).val
      have := s.isLt
      have := k.isLt
      blk_simp [e']; dsimp only; omega
    · show _ = (s.val * 1408 + k.val) % 2816
      have := s.isLt
      have := k.isLt
      blk_simp [e']; dsimp only; omega
  · blk_point [iblk, V, e']

/-- What the last step of a row tile writes, on the carried sum `a`, the rows `x`, the norm's weight `g` and the gradient `h` added. -/
theorem pay9 (a x : Vec Ideal S544x1024 .f32) (g : Vec Ideal S1x1024 .f32) (h : Vec Ideal S544x1024 .f32) (j : S544x1024.Idx) :
    k0_pay9 a x g h j = h j + (a j * g (ix2 0 (j 1)) * Ideal.rsqrt (RmsRow.ms RmsRow.eps fun k => x (ix2 (j 0) k))
      + x j * Ideal.div ((∑ k, x (ix2 (j 0) k) * (a (ix2 (j 0) k) * g (ix2 0 k))) * (((-0.5 : ℝ) : EReal)
          * Ideal.div (Ideal.rsqrt (RmsRow.ms RmsRow.eps fun k => x (ix2 (j 0) k))) (RmsRow.ms RmsRow.eps fun k => x (ix2 (j 0) k)))) ((1024 : ℝ) : EReal)
      + Ideal.div ((∑ k, x (ix2 (j 0) k) * (a (ix2 (j 0) k) * g (ix2 0 k))) * (((-0.5 : ℝ) : EReal)
          * Ideal.div (Ideal.rsqrt (RmsRow.ms RmsRow.eps fun k => x (ix2 (j 0) k))) (RmsRow.ms RmsRow.eps fun k => x (ix2 (j 0) k)))) ((1024 : ℝ) : EReal) * x j) := by
  obtain ⟨p, q, rfl⟩ : ∃ p q, j = ix2 p q := ⟨j 0, j 1, funext fun d => by fin_cases d <;> rfl⟩
  pointwise [k0_pay9, k0_pay6, k0_pay5]
  rw [RmsRow.bits_n, RmsRow.bits_eps]
  exact congrArg (fun z : EReal => h (ix2 p q) + z) (RmsRow.row RmsRow.eps_pos (fun k => x (ix2 p k)) (fun k => a (ix2 p k) * g (ix2 0 k)) q)

open Cert.DnFfnRefIdeal.Read in
/-- The reference's gradient with the two terms through the mean square. -/
theorem ref46 (x0 : (⟨Cert.DnFfnRefIdeal.S4352x2816, .bf16⟩ : BufTy).Contents (Elt Ideal))
    (x1 : (⟨Cert.DnFfnRefIdeal.S5632x1024, .bf16⟩ : BufTy).Contents (Elt Ideal))
    (x2 : (⟨Cert.DnFfnRefIdeal.S2176x1024, .f32⟩ : BufTy).Contents (Elt Ideal))
    (x3 : (⟨Cert.DnFfnRefIdeal.S1x1024, .f32⟩ : BufTy).Contents (Elt Ideal))
    (x4 : (⟨Cert.DnFfnRefIdeal.S2176x1024, .f32⟩ : BufTy).Contents (Elt Ideal)) (i : S2176x1024.Idx) :
    val_main_v46 x0 x1 x2 x3 x4 i = x4 i + (val_main_v25 x0 x1 i * x3 (ix2 0 (i 1)) * Ideal.rsqrt (RmsRow.ms RmsRow.eps fun k => x2 (ix2 (i 0) k))
      + x2 i * Ideal.div ((∑ k, x2 (ix2 (i 0) k) * (val_main_v25 x0 x1 (ix2 (i 0) k) * x3 (ix2 0 k))) * (((-0.5 : ℝ) : EReal)
          * Ideal.div (Ideal.rsqrt (RmsRow.ms RmsRow.eps fun k => x2 (ix2 (i 0) k))) (RmsRow.ms RmsRow.eps fun k => x2 (ix2 (i 0) k)))) ((1024 : ℝ) : EReal)
      + Ideal.div ((∑ k, x2 (ix2 (i 0) k) * (val_main_v25 x0 x1 (ix2 (i 0) k) * x3 (ix2 0 k))) * (((-0.5 : ℝ) : EReal)
          * Ideal.div (Ideal.rsqrt (RmsRow.ms RmsRow.eps fun k => x2 (ix2 (i 0) k))) (RmsRow.ms RmsRow.eps fun k => x2 (ix2 (i 0) k)))) ((1024 : ℝ) : EReal) * x2 i) := by
  unfold val_main_v46 val_main_v45 val_main_v44 val_main_v43 val_main_v42 val_main_v41 val_main_v40 val_main_v39 val_main_v38 val_main_v37
    val_main_v36 val_main_v35 val_main_v34 val_main_v33 val_main_v32 val_main_v30 val_main_v29 val_main_v16 val_main_v13 val_main_v12
    val_main_v11 val_main_v10 val_main_v9 val_main_v8 val_main_v7 val_main_v6 val_main_v5 val_main_v4 val_main_v3 val_main_v2
    val_main_cst_7 val_main_cst_6 val_main_cst_5 val_main_cst_2 val_main_cst_1 val_main_cst_0 val_main_cst
  generalize val_main_v25 x0 x1 = D
  pointwise
  rw [RmsRow.bits_n, RmsRow.bits_eps, RmsRow.bits_half]
  simp only [Finset.univ_unique, Finset.sum_singleton, RmsRow.ms]

open Cert.DnFfnRefIdeal.Read in
/-- The reference's gradient of the norm's weight: the normalised rows against the product, summed over the rows. -/
theorem ref49 (x0 : (⟨Cert.DnFfnRefIdeal.S4352x2816, .bf16⟩ : BufTy).Contents (Elt Ideal))
    (x1 : (⟨Cert.DnFfnRefIdeal.S5632x1024, .bf16⟩ : BufTy).Contents (Elt Ideal))
    (x2 : (⟨Cert.DnFfnRefIdeal.S2176x1024, .f32⟩ : BufTy).Contents (Elt Ideal)) (i : S1x1024.Idx) :
    val_main_v49 x0 x1 x2 i = ∑ p : Fin 2176, val_main_v25 x0 x1 (ix2 p (i 1))
      * (x2 (ix2 p (i 1)) * Ideal.rsqrt (RmsRow.ms RmsRow.eps fun k => x2 (ix2 p k))) := by
  unfold val_main_v49 val_main_v31 val_main_v28 val_main_v27 val_main_v26 val_main_v15 val_main_v14 val_main_v10 val_main_v9 val_main_v8
    val_main_v7 val_main_v6 val_main_v5 val_main_v4 val_main_v3 val_main_cst_4 val_main_cst_3 val_main_cst_1 val_main_cst_0 val_main_cst
  generalize val_main_v25 x0 x1 = D
  pointwise
  rw [RmsRow.bits_n, RmsRow.bits_eps]
  simp only [Finset.univ_unique, Finset.sum_singleton]
  exact Finset.sum_congr (M := EReal) rfl fun p _ => mul_comm (_ : EReal) _

/-- The sum a row tile's last step reads is the one it has just stored. -/
theorem stored (c : Dev nD) (t : Fin cfg0.N) (ht : t.val % 4 = 3) :
    k0_pay3 (iblk m c 0 t) (iblk m c 1 t)
        (View.read (Elt Ideal) (View.whole cc0_scratch0) ((Memref.isWhole_whole cc0_scratch0).unread (outsAt0 m c (t.val - 1) (by omega)).2.2.2))
      = (outsAt0 m c t.val t.isLt).2.2.2 := by
  funext j
  by_cases h3 : t.val < 4
  · rw [outsAt0_C m c t (by omega) (by omega) ht h3]; frame_out
  · rw [outsAt0_D m c t (by omega) (by omega) ht h3]; frame_out

/-- The rows of the new gradient, before they are rounded. -/
theorem rows (c : Dev nD) (t : Fin cfg0.N) (ht : t.val % 4 = 3) (j : S544x1024.Idx) (i : S2176x1024.Idx)
    (h0 : (i 0).val = 544 * (t.val / 4) + (j 0).val) (h1 : (i 1).val = (j 1).val) :
    k0_pay9 (outsAt0 m c t.val t.isLt).2.2.2 (iblk m c 2 t) (iblk m c 3 t) (iblk m c 4 t) j
      = Cert.DnFfnRefIdeal.Read.val_main_v46 (m ((c : Thread nD τ).loc main_arg0)) (m ((c : Thread nD τ).loc main_arg1))
          (m ((c : Thread nD τ).loc main_arg2)) (m ((c : Thread nD τ).loc main_arg3)) (m ((c : Thread nD τ).loc main_arg4)) i := by
  have hN : t.val < 16 := lt_of_lt_of_eq t.isLt N_0
  have b0 : (j 0).val < 544 := (j 0).isLt
  obtain rfl : i = ix2 ⟨544 * (t.val / 4) + (j 0).val, by clear h0 h1; omega⟩ (j 1) := funext fun a => Fin.ext (by fin_cases a; exacts [h0, h1])
  refine (pay9 _ _ _ _ _).trans (Eq.trans ?_ (ref46 _ _ _ _ _ _).symm)
  have ha : ∀ k : Fin 1024, (outsAt0 m c t.val t.isLt).2.2.2 (ix2 (j 0) k) = Cert.DnFfnRefIdeal.Read.val_main_v25 (m ((c : Thread nD τ).loc main_arg0))
      (m ((c : Thread nD τ).loc main_arg1)) (ix2 ⟨544 * (t.val / 4) + (j 0).val, by clear h0 h1; omega⟩ k) := fun k => acc m c t ht _ _ rfl rfl
  have hx : ∀ k : Fin 1024, iblk m c 2 t (ix2 (j 0) k) = m ((c : Thread nD τ).loc main_arg2) (ix2 ⟨544 * (t.val / 4) + (j 0).val, by clear h0 h1; omega⟩ k) :=
    fun k => by blk_point [iblk, V, tile t]
  have hg : ∀ k : Fin 1024, iblk m c 3 t (ix2 0 k) = m ((c : Thread nD τ).loc main_arg3) (ix2 0 k) := fun k => by blk_point [iblk, V, tile t]
  have hh : iblk m c 4 t j = m ((c : Thread nD τ).loc main_arg4) (ix2 ⟨544 * (t.val / 4) + (j 0).val, by clear h0 h1; omega⟩ (j 1)) := by
    blk_point [iblk, V, tile t]
  have ha' : (outsAt0 m c t.val t.isLt).2.2.2 j = Cert.DnFfnRefIdeal.Read.val_main_v25 (m ((c : Thread nD τ).loc main_arg0))
      (m ((c : Thread nD τ).loc main_arg1)) (ix2 ⟨544 * (t.val / 4) + (j 0).val, by clear h0 h1; omega⟩ (j 1)) := acc m c t ht _ _ rfl rfl
  have hx' : iblk m c 2 t j = m ((c : Thread nD τ).loc main_arg2) (ix2 ⟨544 * (t.val / 4) + (j 0).val, by clear h0 h1; omega⟩ (j 1)) := by
    blk_point [iblk, V, tile t]
  have hg' : iblk m c 3 t (ix2 0 (j 1)) = m ((c : Thread nD τ).loc main_arg3) (ix2 0 (j 1)) := hg (j 1)
  rw [ha', hx', hh, hg']
  simp only [ha, hx, hg]
  rfl

/-- The first result: the rows of the new gradient. -/
theorem array5 (c : Dev nD) : (dats m 0 c).arrAt 5 cfg0.N = Cert.DnFfnRefIdeal.Read.val_main_v46 (m ((c : Thread nD τ).loc main_arg0))
    (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht := (flush0_5 t).mp hf
  refine Eq.trans ?_ (rows m c t ht y _ ?_ ?_)
  · blk_simp; rw [after0_5, ← stored m c t ht]
    by_cases h3 : t.val < 4
    · rw [outsAt0_C m c t (by omega) (by omega) ht h3]; frame_out
    · rw [outsAt0_D m c t (by omega) (by omega) ht h3]; frame_out
  · have e := tile t
    blk_simp [e]; omega
  · have e := tile t
    blk_simp [e]

/-- The second result: the same rows, rounded. -/
theorem array6 (c : Dev nD) : (dats m 0 c).arrAt 6 cfg0.N = Cert.DnFfnRefIdeal.Read.val_main_v48 (m ((c : Thread nD τ).loc main_arg0))
    (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht := (flush0_6 t).mp hf
  refine Eq.trans ?_ (rows m c t ht y _ ?_ ?_)
  · blk_simp; rw [after0_6, ← stored m c t ht]
    by_cases h3 : t.val < 4
    · rw [outsAt0_C m c t (by omega) (by omega) ht h3]; frame_out
      pointwise [k0_pay4]
    · rw [outsAt0_D m c t (by omega) (by omega) ht h3]; frame_out
      pointwise [k0_pay4]
  · have e := tile t
    blk_simp [e]; omega
  · have e := tile t
    blk_simp [e]

/-- One row's part of the gradient of the norm's weight, zero past the last row. -/
def part (x0 : (⟨Cert.DnFfnRefIdeal.S4352x2816, .bf16⟩ : BufTy).Contents (Elt Ideal))
    (x1 : (⟨Cert.DnFfnRefIdeal.S5632x1024, .bf16⟩ : BufTy).Contents (Elt Ideal))
    (x2 : (⟨Cert.DnFfnRefIdeal.S2176x1024, .f32⟩ : BufTy).Contents (Elt Ideal)) (q : Fin 1024) (r : ℕ) : EReal := if h : r < 2176 then
    Cert.DnFfnRefIdeal.Read.val_main_v25 x0 x1 (ix2 ⟨r, h⟩ q)
      * (x2 (ix2 ⟨r, h⟩ q) * Ideal.rsqrt (RmsRow.ms RmsRow.eps fun k => x2 (ix2 ⟨r, h⟩ k))) else 0

/-- A row tile's last step adds its 544 rows' parts to what the weight's gradient already holds. -/
theorem pay8 (c : Dev nD) (t : Fin cfg0.N) (ht : t.val % 4 = 3) (g : Vec Ideal S1x1024 .f32) (j : S1x1024.Idx) :
    k0_pay8 (outsAt0 m c t.val t.isLt).2.2.2 (iblk m c 2 t) g j = g j + ∑ p : Fin 544, part (m ((c : Thread nD τ).loc main_arg0)) (m ((c : Thread nD τ).loc main_arg1)) (m ((c : Thread nD τ).loc main_arg2)) (j 1) (t.val / 4 * 544 + p.val) := by
  have hN : t.val < 16 := lt_of_lt_of_eq t.isLt N_0
  pointwise [k0_pay8, k0_pay6, k0_pay5]
  rw [RmsRow.bits_n, RmsRow.bits_eps]
  refine congrArg (fun z : EReal => g j + z) (Finset.sum_congr (M := EReal) rfl fun p _ => ?_)
  have hr : t.val / 4 * 544 + p.val < 2176 := by omega
  have ha : (outsAt0 m c t.val t.isLt).2.2.2 (ix2 p (j 1)) = Cert.DnFfnRefIdeal.Read.val_main_v25 (m ((c : Thread nD τ).loc main_arg0))
      (m ((c : Thread nD τ).loc main_arg1)) (ix2 ⟨t.val / 4 * 544 + p.val, hr⟩ (j 1)) := acc m c t ht _ _ (by show t.val / 4 * 544 + p.val = 544 * (t.val / 4) + p.val; omega) rfl
  have hx : ∀ k : Fin 1024, iblk m c 2 t (ix2 p k) = m ((c : Thread nD τ).loc main_arg2) (ix2 ⟨t.val / 4 * 544 + p.val, hr⟩ k) :=
    fun k => by blk_point [iblk, V, tile t]
  unfold part
  rw [dif_pos hr, ha, hx (j 1)]
  simp only [hx, RmsRow.ms]

/-- After every point from the first row tile's end on, the weight's gradient holds the parts of the rows that are done. -/
theorem sofar (c : Dev nD) (j : S1x1024.Idx) (n : ℕ) : ∀ hn : n < cfg0.N, 3 ≤ n →
    (outsAt0 m c n hn).2.2.1 j = ∑ b ∈ Finset.range ((n + 1) / 4), ∑ p : Fin 544, part (m ((c : Thread nD τ).loc main_arg0)) (m ((c : Thread nD τ).loc main_arg1)) (m ((c : Thread nD τ).loc main_arg2)) (j 1) (b * 544 + p.val) := by
  induction n with
  | zero => intro _ h; omega
  | succ n ih =>
    intro hn hb
    by_cases h3 : (n + 1) % 4 = 3
    · have hs := stored m c ⟨n + 1, hn⟩ h3
      have hp := pay8 m c ⟨n + 1, hn⟩ h3
      by_cases h4 : n + 1 < 4
      · have e := outsAt0_C m c ⟨n + 1, hn⟩ (by dsimp only; omega) (by dsimp only; omega) h3 h4
        have : (outsAt0 m c (n + 1) hn).2.2.1 j = k0_pay8 (outsAt0 m c (n + 1) hn).2.2.2 (iblk m c 2 ⟨n + 1, hn⟩) (k0_pay7 (F := Ideal)) j := by
          refine Eq.trans ?_ (congrArg (fun z => k0_pay8 z (iblk m c 2 ⟨n + 1, hn⟩) (k0_pay7 (F := Ideal)) j) hs)
          dsimp only at e ⊢
          rw [e]; frame_out
        rw [this, hp]
        obtain rfl : n = 2 := by omega
        rw [show (k0_pay7 (F := Ideal)) j = (0 : EReal) by pointwise [k0_pay7], zero_add, show (2 + 1 + 1) / 4 = 1 by norm_num, Finset.sum_range_one]
        refine Finset.sum_congr (M := EReal) rfl fun p _ => congrArg (part _ _ _ _) ?_
        dsimp only
      · have e := outsAt0_D m c ⟨n + 1, hn⟩ (by dsimp only; omega) (by dsimp only; omega) h3 h4
        have : (outsAt0 m c (n + 1) hn).2.2.1 j
            = k0_pay8 (outsAt0 m c (n + 1) hn).2.2.2 (iblk m c 2 ⟨n + 1, hn⟩) (outsAt0 m c n (Nat.lt_of_succ_lt hn)).2.2.1 j := by
          refine Eq.trans ?_ (congrArg (fun z => k0_pay8 z (iblk m c 2 ⟨n + 1, hn⟩) (outsAt0 m c n (Nat.lt_of_succ_lt hn)).2.2.1 j) hs)
          dsimp only at e ⊢
          rw [e]; frame_out
          rfl
        rw [this, hp, ih _ (by omega), show (n + 1 + 1) / 4 = (n + 1) / 4 + 1 by omega, Finset.sum_range_succ]
    · by_cases h0 : (n + 1) % 4 = 0
      · have e := outsAt0_A m c ⟨n + 1, hn⟩ h0 (by dsimp only; omega) h3
        have : (outsAt0 m c (n + 1) hn).2.2.1 j = (outsAt0 m c n (Nat.lt_of_succ_lt hn)).2.2.1 j := by
          dsimp only at e; rw [e]; unfold out0_A_7; rfl
        rw [this, ih _ (by omega), show (n + 1 + 1) / 4 = (n + 1) / 4 by omega]
      · have e := outsAt0_B m c ⟨n + 1, hn⟩ h0 (by dsimp only; omega) h3
        have : (outsAt0 m c (n + 1) hn).2.2.1 j = (outsAt0 m c n (Nat.lt_of_succ_lt hn)).2.2.1 j := by
          dsimp only at e; rw [e]; unfold out0_B_7; rfl
        rw [this, ih _ (by omega), show (n + 1 + 1) / 4 = (n + 1) / 4 by omega]

/-- The third result: the gradient of the norm's weight. -/
theorem array7 (c : Dev nD) : (dats m 0 c).arrAt 7 cfg0.N = Cert.DnFfnRefIdeal.Read.val_main_v49 (m ((c : Thread nD τ).loc main_arg0))
    (m ((c : Thread nD τ).loc main_arg1)) (m ((c : Thread nD τ).loc main_arg2)) := by
  refine (dats m 0 c).arrAt_eq_of_covers 7 _ (by decide +kernel) fun t hf y => ?_
  have ht := (flush0_7 t).mp hf
  have hN : t.val < 16 := lt_of_lt_of_eq t.isLt N_0
  refine Eq.trans (b := Cert.DnFfnRefIdeal.Read.val_main_v49 (m ((c : Thread nD τ).loc main_arg0)) (m ((c : Thread nD τ).loc main_arg1)) (m ((c : Thread nD τ).loc main_arg2)) (y : S1x1024.Idx)) ?_ ?_
  · blk_simp; rw [after0_7, sofar m c y t.val t.isLt (by omega), ref49, show (t.val + 1) / 4 = 4 by omega, Finset.sum_range]
    refine Fin.sum_mul_add_congr fun s k hl => ?_
    unfold part
    rw [dif_pos hl]
  · refine congrArg _ (funext fun a => Fin.ext ?_)
    have e := tile t
    fin_cases a <;> blk_simp [e]

/-- The reference leaves its arguments, and it has no semaphore. -/
theorem frame_reference : Cert.quiescent_DnFfnRefIdeal := fun m ρ _ =>
  (θ_run Cert.DnFfnRefIdeal.defs _ _).mono (fun r h => ⟨fun c => (h c).2.2.2, sem_eq_zero_of_no_sems (by decide) r.2⟩)
    (Cert.DnFfnRefIdeal.Value.run (F := Ideal) m ρ)

/-- The kernel and the reference end with the same three arrays. -/
theorem algebraic : Cert.algebraic_DnFfnIdeal_DnFfnRefIdeal := by
  intro m g m' g' _ hm
  refine ⟨fun c => Cert.DnFfnRefIdeal.Read.val_main_v46 (m ((c : Thread nD τ).loc main_arg0)) (m ((c : Thread nD τ).loc main_arg1)) (m ((c : Thread nD τ).loc main_arg2)) (m ((c : Thread nD τ).loc main_arg3)) (m ((c : Thread nD τ).loc main_arg4)),
    fun c => Cert.DnFfnRefIdeal.Read.val_main_v48 (m ((c : Thread nD τ).loc main_arg0)) (m ((c : Thread nD τ).loc main_arg1)) (m ((c : Thread nD τ).loc main_arg2)) (m ((c : Thread nD τ).loc main_arg3)) (m ((c : Thread nD τ).loc main_arg4)),
    fun c => Cert.DnFfnRefIdeal.Read.val_main_v49 (m ((c : Thread nD τ).loc main_arg0)) (m ((c : Thread nD τ).loc main_arg1)) (m ((c : Thread nD τ).loc main_arg2)), ?_, ?_⟩
  · exact (θ_run Cert.DnFfnIdeal.defs _ _).mono (fun r h c => ⟨(h c).1.trans (array5 m c), (h c).2.1.trans (array6 m c),
      (h c).2.2.1.trans (array7 m c), (h c).2.2.2⟩) (Cert.DnFfnIdeal.Value.run_blocks m g)
  · refine (θ_run Cert.DnFfnRefIdeal.defs _ _).mono (fun r h c => ⟨(h c).1.trans ?_, (h c).2.1.trans ?_, (h c).2.2.1.trans ?_, (h c).2.2.2⟩)
      (Cert.DnFfnRefIdeal.Value.run (F := Ideal) m' g')
    all_goals obtain ⟨e0, e1, e2, e3, e4⟩ := hm c; beta_reduce
    · rw [← e0, ← e1, ← e2, ← e3, ← e4]; exact Cert.DnFfnRefIdeal.Read.val_main_v46_eq _ _
    · rw [← e0, ← e1, ← e2, ← e3, ← e4]; exact Cert.DnFfnRefIdeal.Read.val_main_v48_eq _ _
    · rw [← e0, ← e1, ← e2]; exact Cert.DnFfnRefIdeal.Read.val_main_v49_eq _ _ _
end Cert.DnFfnIdeal.Own
end
-- ==== Proof.DnIn.lean ====
module
public import proofs.«01_k».proof.Defs
public import proofs.«01_k».proof.Proof.Gen.DnInIdeal.Value
public import proofs.«01_k».proof.Proof.Gen.DnInRefIdeal
public import proofs.«01_k».proof.Proof.Gen.DnInRefIdeal.Run
public import proofs.«01_k».proof.Proof.Gen.DnInRefIdeal.Read
public import proofs.«01_k».proof.Proof.RmsRow
public import Idealize.ShloMosaic.Lib.Pipeline.ValueKit
public import Idealize.ShloMosaic.Adequacy
public import Idealize.ShloMosaic.Init

/-! The gradient of the first layer's input: back through the projection in and the norm before it. -/

@[expose] public section
set_option maxRecDepth 16384
noncomputable section
namespace Cert.DnInIdeal.Own
open Cert.DnInIdeal Cert.DnInIdeal.Gen Idealize.ShloMosaic Idealize.ShloMosaic.TcCoe Idealize.SL.Sem
open Idealize.ShloMosaic.Pipeline (Dat)
open scoped BigOperators

/-- Which block every window shows at each point: four row tiles, and three steps of the contraction for each. -/
theorem tile : ∀ t : Fin cfg0.N, win0_0.index t = ![t.val / 3, t.val % 3] ∧ win0_1.index t = ![0, t.val % 3]
    ∧ win0_2.index t = ![t.val / 3, 0] ∧ win0_3.index t = ![0, 0] ∧ win0_4.index t = ![t.val / 3, 0] ∧ win0_5.index t = ![t.val / 3, 0]
    ∧ win0_6.index t = ![t.val / 3, 0] ∧ win0_7.index t = ![0, 0] := (by decide +kernel : ∀ t : Fin grid0.N, _)

variable (m : (ℓ : Loc nD τ sig) → Buf (Elt Ideal) ℓ)

theorem pay1 (a : Vec Ideal S544x896 .bf16) (b : Vec Ideal S1024x896 .bf16) (j : S544x1024.Idx) :
    k0_pay1 a b j = ∑ k : Fin 896, (a (ix2 (j 0) k) : EReal) * b (ix2 (j 1) k) := by pointwise [k0_pay1]
theorem pay2 (a : Vec Ideal S544x896 .bf16) (b : Vec Ideal S1024x896 .bf16) (j : S544x1024.Idx) :
    k0_pay2 a b j = 0 + k0_pay1 a b j := by rw [zero_add]; unfold k0_pay2; generalize k0_pay1 a b = z; pointwise
theorem pay3 (a : Vec Ideal S544x896 .bf16) (b : Vec Ideal S1024x896 .bf16) (s : Vec Ideal S544x1024 .f32) (j : S544x1024.Idx) :
    k0_pay3 a b s j = s j + k0_pay1 a b j := by unfold k0_pay3; generalize k0_pay1 a b = z; pointwise

open Cert.DnInRefIdeal.Read in
/-- One step's product is a third of the reference's contraction. -/
theorem dot (x0 : (⟨Cert.DnInRefIdeal.S2176x2688, .bf16⟩ : BufTy).Contents (Elt Ideal))
    (x1 : (⟨Cert.DnInRefIdeal.S1024x2688, .bf16⟩ : BufTy).Contents (Elt Ideal)) (j : S2176x1024.Idx) :
    val_main_v20 x0 x1 j = ∑ k : Fin 2688, (x0 (ix2 (j 0) k) : EReal) * x1 (ix2 (j 1) k) := by
  unfold val_main_v20 val_main_v19 val_main_v0
  pointwise

/-- What the carried sum holds after the last step of a row tile: the reference's product. -/
theorem acc (c : Dev nD) (t : Fin cfg0.N) (ht : t.val % 3 = 3 - 1) (j : S544x1024.Idx) (i : S2176x1024.Idx)
    (h0 : (i 0).val = 544 * (t.val / 3) + (j 0).val) (h1 : (i 1).val = (j 1).val) :
    (outsAt0 m c t.val t.isLt).2.2.2 j
      = Cert.DnInRefIdeal.Read.val_main_v20 (m ((c : Thread nD τ).loc main_arg0)) (m ((c : Thread nD τ).loc main_arg1)) i := by
  rw [Pipeline.eq_sum_fin_of_reset_step_apply_of_flush (fun n h => (outsAt0 m c n h).2.2.2) 3 (fun _ => 0)
    (fun p j => k0_pay1 (iblk m c 0 p) (iblk m c 1 p) j)
    (fun t h j => by rw [outsAt0_A m c t h (by omega) (by omega)]; frame_out; rw [pay2])
    (fun t h j => by
      by_cases h2 : t.val % 3 = 2
      · by_cases h3 : t.val < 3
        · rw [outsAt0_C m c t h (by omega) h2 h3]; frame_out; rw [pay3]; exact congrArg (fun a : EReal => a + _) (congrFun (Memref.IsWhole.read_unread _ _) j)
        · rw [outsAt0_D m c t h (by omega) h2 h3]; frame_out; rw [pay3]; exact congrArg (fun a : EReal => a + _) (congrFun (Memref.IsWhole.read_unread _ _) j)
      · rw [outsAt0_B m c t h (by omega) h2]; frame_out; rw [pay3]; exact congrArg (fun a : EReal => a + _) (congrFun (Memref.IsWhole.read_unread _ _) j))
    t ht j, zero_add, dot]
  simp only [pay1]
  have hN : t.val < 12 := lt_of_lt_of_eq t.isLt N_0
  refine Fin.sum_mul_add_congr fun s k hl => ?_
  have e := tile t
  have e' := tile ⟨_, Pipeline.run_point_lt_of_flush t ht s⟩
  refine congrArg₂ (fun a b : EReal => a * b) ?_ ?_
  · blk_point [iblk, V, e']
  · blk_point [iblk, V, e']

/-- What the last step of a row tile writes, on the carried sum `a`, the rows `x`, the norm's weight `g` and the gradient `h` added. -/
theorem pay9 (a x : Vec Ideal S544x1024 .f32) (g : Vec Ideal S1x1024 .f32) (h : Vec Ideal S544x1024 .f32) (j : S544x1024.Idx) :
    k0_pay9 a x g h j = h j + (a j * g (ix2 0 (j 1)) * Ideal.rsqrt (RmsRow.ms RmsRow.eps fun k => x (ix2 (j 0) k))
      + x j * Ideal.div ((∑ k, x (ix2 (j 0) k) * (a (ix2 (j 0) k) * g (ix2 0 k))) * (((-0.5 : ℝ) : EReal)
          * Ideal.div (Ideal.rsqrt (RmsRow.ms RmsRow.eps fun k => x (ix2 (j 0) k))) (RmsRow.ms RmsRow.eps fun k => x (ix2 (j 0) k)))) ((1024 : ℝ) : EReal)
      + Ideal.div ((∑ k, x (ix2 (j 0) k) * (a (ix2 (j 0) k) * g (ix2 0 k))) * (((-0.5 : ℝ) : EReal)
          * Ideal.div (Ideal.rsqrt (RmsRow.ms RmsRow.eps fun k => x (ix2 (j 0) k))) (RmsRow.ms RmsRow.eps fun k => x (ix2 (j 0) k)))) ((1024 : ℝ) : EReal) * x j) := by
  obtain ⟨p, q, rfl⟩ : ∃ p q, j = ix2 p q := ⟨j 0, j 1, funext fun d => by fin_cases d <;> rfl⟩
  pointwise [k0_pay9, k0_pay6, k0_pay5]
  rw [RmsRow.bits_n, RmsRow.bits_eps]
  exact congrArg (fun z : EReal => h (ix2 p q) + z) (RmsRow.row RmsRow.eps_pos (fun k => x (ix2 p k)) (fun k => a (ix2 p k) * g (ix2 0 k)) q)

open Cert.DnInRefIdeal.Read in
/-- The reference's gradient with the two terms through the mean square. -/
theorem ref46 (x0 : (⟨Cert.DnInRefIdeal.S2176x2688, .bf16⟩ : BufTy).Contents (Elt Ideal))
    (x1 : (⟨Cert.DnInRefIdeal.S1024x2688, .bf16⟩ : BufTy).Contents (Elt Ideal))
    (x2 : (⟨Cert.DnInRefIdeal.S2176x1024, .f32⟩ : BufTy).Contents (Elt Ideal))
    (x3 : (⟨Cert.DnInRefIdeal.S1x1024, .f32⟩ : BufTy).Contents (Elt Ideal))
    (x4 : (⟨Cert.DnInRefIdeal.S2176x1024, .f32⟩ : BufTy).Contents (Elt Ideal)) (i : S2176x1024.Idx) :
    val_main_v41 x0 x1 x2 x3 x4 i = x4 i + (val_main_v20 x0 x1 i * x3 (ix2 0 (i 1)) * Ideal.rsqrt (RmsRow.ms RmsRow.eps fun k => x2 (ix2 (i 0) k))
      + x2 i * Ideal.div ((∑ k, x2 (ix2 (i 0) k) * (val_main_v20 x0 x1 (ix2 (i 0) k) * x3 (ix2 0 k))) * (((-0.5 : ℝ) : EReal)
          * Ideal.div (Ideal.rsqrt (RmsRow.ms RmsRow.eps fun k => x2 (ix2 (i 0) k))) (RmsRow.ms RmsRow.eps fun k => x2 (ix2 (i 0) k)))) ((1024 : ℝ) : EReal)
      + Ideal.div ((∑ k, x2 (ix2 (i 0) k) * (val_main_v20 x0 x1 (ix2 (i 0) k) * x3 (ix2 0 k))) * (((-0.5 : ℝ) : EReal)
          * Ideal.div (Ideal.rsqrt (RmsRow.ms RmsRow.eps fun k => x2 (ix2 (i 0) k))) (RmsRow.ms RmsRow.eps fun k => x2 (ix2 (i 0) k)))) ((1024 : ℝ) : EReal) * x2 i) := by
  unfold val_main_v41 val_main_v40 val_main_v39 val_main_v38 val_main_v37 val_main_v36 val_main_v35 val_main_v34 val_main_v33 val_main_v32 val_main_v31 val_main_v30 val_main_v29 val_main_v28 val_main_v27 val_main_v25 val_main_v24 val_main_v15 val_main_v12 val_main_v11 val_main_v10 val_main_v9 val_main_v8 val_main_v7 val_main_v6 val_main_v5 val_main_v4 val_main_v3 val_main_v2 val_main_v1
    val_main_cst_7 val_main_cst_6 val_main_cst_5 val_main_cst_2 val_main_cst_1 val_main_cst_0 val_main_cst
  generalize val_main_v20 x0 x1 = D
  pointwise
  rw [RmsRow.bits_n, RmsRow.bits_eps, RmsRow.bits_half]
  simp only [Finset.univ_unique, Finset.sum_singleton, RmsRow.ms]

open Cert.DnInRefIdeal.Read in
/-- The reference's gradient of the norm's weight: the normalised rows against the product, summed over the rows. -/
theorem ref49 (x0 : (⟨Cert.DnInRefIdeal.S2176x2688, .bf16⟩ : BufTy).Contents (Elt Ideal))
    (x1 : (⟨Cert.DnInRefIdeal.S1024x2688, .bf16⟩ : BufTy).Contents (Elt Ideal))
    (x2 : (⟨Cert.DnInRefIdeal.S2176x1024, .f32⟩ : BufTy).Contents (Elt Ideal)) (i : S1x1024.Idx) :
    val_main_v44 x0 x1 x2 i = ∑ p : Fin 2176, val_main_v20 x0 x1 (ix2 p (i 1))
      * (x2 (ix2 p (i 1)) * Ideal.rsqrt (RmsRow.ms RmsRow.eps fun k => x2 (ix2 p k))) := by
  unfold val_main_v44 val_main_v26 val_main_v23 val_main_v22 val_main_v21 val_main_v14 val_main_v13 val_main_v9 val_main_v8 val_main_v7 val_main_v6 val_main_v5 val_main_v4 val_main_v3 val_main_v2
    val_main_cst_4 val_main_cst_3 val_main_cst_1 val_main_cst_0 val_main_cst
  generalize val_main_v20 x0 x1 = D
  pointwise
  rw [RmsRow.bits_n, RmsRow.bits_eps]
  simp only [Finset.univ_unique, Finset.sum_singleton]
  exact Finset.sum_congr (M := EReal) rfl fun p _ => mul_comm (_ : EReal) _

/-- The sum a row tile's last step reads is the one it has just stored. -/
theorem stored (c : Dev nD) (t : Fin cfg0.N) (ht : t.val % 3 = 2) :
    k0_pay3 (iblk m c 0 t) (iblk m c 1 t)
        (View.read (Elt Ideal) (View.whole cc0_scratch0) ((Memref.isWhole_whole cc0_scratch0).unread (outsAt0 m c (t.val - 1) (by omega)).2.2.2))
      = (outsAt0 m c t.val t.isLt).2.2.2 := by
  funext j
  by_cases h3 : t.val < 3
  · rw [outsAt0_C m c t (by omega) (by omega) ht h3]; frame_out
  · rw [outsAt0_D m c t (by omega) (by omega) ht h3]; frame_out

/-- The rows of the new gradient, before they are rounded. -/
theorem rows (c : Dev nD) (t : Fin cfg0.N) (ht : t.val % 3 = 2) (j : S544x1024.Idx) (i : S2176x1024.Idx)
    (h0 : (i 0).val = 544 * (t.val / 3) + (j 0).val) (h1 : (i 1).val = (j 1).val) :
    k0_pay9 (outsAt0 m c t.val t.isLt).2.2.2 (iblk m c 2 t) (iblk m c 3 t) (iblk m c 4 t) j
      = Cert.DnInRefIdeal.Read.val_main_v41 (m ((c : Thread nD τ).loc main_arg0)) (m ((c : Thread nD τ).loc main_arg1))
          (m ((c : Thread nD τ).loc main_arg2)) (m ((c : Thread nD τ).loc main_arg3)) (m ((c : Thread nD τ).loc main_arg4)) i := by
  have hN : t.val < 12 := lt_of_lt_of_eq t.isLt N_0
  have b0 : (j 0).val < 544 := (j 0).isLt
  obtain rfl : i = ix2 ⟨544 * (t.val / 3) + (j 0).val, by clear h0 h1; omega⟩ (j 1) := funext fun a => Fin.ext (by fin_cases a; exacts [h0, h1])
  refine (pay9 _ _ _ _ _).trans (Eq.trans ?_ (ref46 _ _ _ _ _ _).symm)
  have ha : ∀ k : Fin 1024, (outsAt0 m c t.val t.isLt).2.2.2 (ix2 (j 0) k) = Cert.DnInRefIdeal.Read.val_main_v20 (m ((c : Thread nD τ).loc main_arg0))
      (m ((c : Thread nD τ).loc main_arg1)) (ix2 ⟨544 * (t.val / 3) + (j 0).val, by clear h0 h1; omega⟩ k) := fun k => acc m c t ht _ _ rfl rfl
  have hx : ∀ k : Fin 1024, iblk m c 2 t (ix2 (j 0) k) = m ((c : Thread nD τ).loc main_arg2) (ix2 ⟨544 * (t.val / 3) + (j 0).val, by clear h0 h1; omega⟩ k) :=
    fun k => by blk_point [iblk, V, tile t]
  have hg : ∀ k : Fin 1024, iblk m c 3 t (ix2 0 k) = m ((c : Thread nD τ).loc main_arg3) (ix2 0 k) := fun k => by blk_point [iblk, V, tile t]
  have hh : iblk m c 4 t j = m ((c : Thread nD τ).loc main_arg4) (ix2 ⟨544 * (t.val / 3) + (j 0).val, by clear h0 h1; omega⟩ (j 1)) := by
    blk_point [iblk, V, tile t]
  have ha' : (outsAt0 m c t.val t.isLt).2.2.2 j = Cert.DnInRefIdeal.Read.val_main_v20 (m ((c : Thread nD τ).loc main_arg0))
      (m ((c : Thread nD τ).loc main_arg1)) (ix2 ⟨544 * (t.val / 3) + (j 0).val, by clear h0 h1; omega⟩ (j 1)) := acc m c t ht _ _ rfl rfl
  have hx' : iblk m c 2 t j = m ((c : Thread nD τ).loc main_arg2) (ix2 ⟨544 * (t.val / 3) + (j 0).val, by clear h0 h1; omega⟩ (j 1)) := by
    blk_point [iblk, V, tile t]
  have hg' : iblk m c 3 t (ix2 0 (j 1)) = m ((c : Thread nD τ).loc main_arg3) (ix2 0 (j 1)) := hg (j 1)
  rw [ha', hx', hh, hg']
  simp only [ha, hx, hg]
  rfl

/-- The first result: the rows of the new gradient. -/
theorem array5 (c : Dev nD) : (dats m 0 c).arrAt 5 cfg0.N = Cert.DnInRefIdeal.Read.val_main_v41 (m ((c : Thread nD τ).loc main_arg0))
    (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht := (flush0_5 t).mp hf
  refine Eq.trans ?_ (rows m c t ht y _ ?_ ?_)
  · blk_simp; rw [after0_5, ← stored m c t ht]
    by_cases h3 : t.val < 3
    · rw [outsAt0_C m c t (by omega) (by omega) ht h3]; frame_out
    · rw [outsAt0_D m c t (by omega) (by omega) ht h3]; frame_out
  · have e := tile t
    blk_simp [e]; omega
  · have e := tile t
    blk_simp [e]

/-- The second result: the same rows, rounded. -/
theorem array6 (c : Dev nD) : (dats m 0 c).arrAt 6 cfg0.N = Cert.DnInRefIdeal.Read.val_main_v43 (m ((c : Thread nD τ).loc main_arg0))
    (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht := (flush0_6 t).mp hf
  refine Eq.trans ?_ (rows m c t ht y _ ?_ ?_)
  · blk_simp; rw [after0_6, ← stored m c t ht]
    by_cases h3 : t.val < 3
    · rw [outsAt0_C m c t (by omega) (by omega) ht h3]; frame_out
      pointwise [k0_pay4]
    · rw [outsAt0_D m c t (by omega) (by omega) ht h3]; frame_out
      pointwise [k0_pay4]
  · have e := tile t
    blk_simp [e]; omega
  · have e := tile t
    blk_simp [e]

/-- One row's part of the gradient of the norm's weight, zero past the last row. -/
def part (x0 : (⟨Cert.DnInRefIdeal.S2176x2688, .bf16⟩ : BufTy).Contents (Elt Ideal))
    (x1 : (⟨Cert.DnInRefIdeal.S1024x2688, .bf16⟩ : BufTy).Contents (Elt Ideal))
    (x2 : (⟨Cert.DnInRefIdeal.S2176x1024, .f32⟩ : BufTy).Contents (Elt Ideal)) (q : Fin 1024) (r : ℕ) : EReal := if h : r < 2176 then
    Cert.DnInRefIdeal.Read.val_main_v20 x0 x1 (ix2 ⟨r, h⟩ q)
      * (x2 (ix2 ⟨r, h⟩ q) * Ideal.rsqrt (RmsRow.ms RmsRow.eps fun k => x2 (ix2 ⟨r, h⟩ k))) else 0

/-- A row tile's last step adds its 544 rows' parts to what the weight's gradient already holds. -/
theorem pay8 (c : Dev nD) (t : Fin cfg0.N) (ht : t.val % 3 = 2) (g : Vec Ideal S1x1024 .f32) (j : S1x1024.Idx) :
    k0_pay8 (outsAt0 m c t.val t.isLt).2.2.2 (iblk m c 2 t) g j = g j + ∑ p : Fin 544, part (m ((c : Thread nD τ).loc main_arg0)) (m ((c : Thread nD τ).loc main_arg1)) (m ((c : Thread nD τ).loc main_arg2)) (j 1) (t.val / 3 * 544 + p.val) := by
  have hN : t.val < 12 := lt_of_lt_of_eq t.isLt N_0
  pointwise [k0_pay8, k0_pay6, k0_pay5]
  rw [RmsRow.bits_n, RmsRow.bits_eps]
  refine congrArg (fun z : EReal => g j + z) (Finset.sum_congr (M := EReal) rfl fun p _ => ?_)
  have hr : t.val / 3 * 544 + p.val < 2176 := by omega
  have ha : (outsAt0 m c t.val t.isLt).2.2.2 (ix2 p (j 1)) = Cert.DnInRefIdeal.Read.val_main_v20 (m ((c : Thread nD τ).loc main_arg0))
      (m ((c : Thread nD τ).loc main_arg1)) (ix2 ⟨t.val / 3 * 544 + p.val, hr⟩ (j 1)) := acc m c t ht _ _ (by show t.val / 3 * 544 + p.val = 544 * (t.val / 3) + p.val; omega) rfl
  have hx : ∀ k : Fin 1024, iblk m c 2 t (ix2 p k) = m ((c : Thread nD τ).loc main_arg2) (ix2 ⟨t.val / 3 * 544 + p.val, hr⟩ k) :=
    fun k => by blk_point [iblk, V, tile t]
  unfold part
  rw [dif_pos hr, ha, hx (j 1)]
  simp only [hx, RmsRow.ms]

/-- After every point from the first row tile's end on, the weight's gradient holds the parts of the rows that are done. -/
theorem sofar (c : Dev nD) (j : S1x1024.Idx) (n : ℕ) : ∀ hn : n < cfg0.N, 2 ≤ n →
    (outsAt0 m c n hn).2.2.1 j = ∑ b ∈ Finset.range ((n + 1) / 3), ∑ p : Fin 544, part (m ((c : Thread nD τ).loc main_arg0)) (m ((c : Thread nD τ).loc main_arg1)) (m ((c : Thread nD τ).loc main_arg2)) (j 1) (b * 544 + p.val) := by
  induction n with
  | zero => intro _ h; omega
  | succ n ih =>
    intro hn hb
    by_cases h3 : (n + 1) % 3 = 2
    · have hs := stored m c ⟨n + 1, hn⟩ h3
      have hp := pay8 m c ⟨n + 1, hn⟩ h3
      by_cases h4 : n + 1 < 3
      · have e := outsAt0_C m c ⟨n + 1, hn⟩ (by dsimp only; omega) (by dsimp only; omega) h3 h4
        have : (outsAt0 m c (n + 1) hn).2.2.1 j = k0_pay8 (outsAt0 m c (n + 1) hn).2.2.2 (iblk m c 2 ⟨n + 1, hn⟩) (k0_pay7 (F := Ideal)) j := by
          refine Eq.trans ?_ (congrArg (fun z => k0_pay8 z (iblk m c 2 ⟨n + 1, hn⟩) (k0_pay7 (F := Ideal)) j) hs)
          dsimp only at e ⊢
          rw [e]; frame_out
        rw [this, hp]
        obtain rfl : n = 1 := by omega
        rw [show (k0_pay7 (F := Ideal)) j = (0 : EReal) by pointwise [k0_pay7], zero_add, show (1 + 1 + 1) / 3 = 1 by norm_num, Finset.sum_range_one]
        refine Finset.sum_congr (M := EReal) rfl fun p _ => congrArg (part _ _ _ _) ?_
        dsimp only
      · have e := outsAt0_D m c ⟨n + 1, hn⟩ (by dsimp only; omega) (by dsimp only; omega) h3 h4
        have : (outsAt0 m c (n + 1) hn).2.2.1 j
            = k0_pay8 (outsAt0 m c (n + 1) hn).2.2.2 (iblk m c 2 ⟨n + 1, hn⟩) (outsAt0 m c n (Nat.lt_of_succ_lt hn)).2.2.1 j := by
          refine Eq.trans ?_ (congrArg (fun z => k0_pay8 z (iblk m c 2 ⟨n + 1, hn⟩) (outsAt0 m c n (Nat.lt_of_succ_lt hn)).2.2.1 j) hs)
          dsimp only at e ⊢
          rw [e]; frame_out
          rfl
        rw [this, hp, ih _ (by omega), show (n + 1 + 1) / 3 = (n + 1) / 3 + 1 by omega, Finset.sum_range_succ]
    · by_cases h0 : (n + 1) % 3 = 0
      · have e := outsAt0_A m c ⟨n + 1, hn⟩ h0 (by dsimp only; omega) h3
        have : (outsAt0 m c (n + 1) hn).2.2.1 j = (outsAt0 m c n (Nat.lt_of_succ_lt hn)).2.2.1 j := by
          dsimp only at e; rw [e]; unfold out0_A_7; rfl
        rw [this, ih _ (by omega), show (n + 1 + 1) / 3 = (n + 1) / 3 by omega]
      · have e := outsAt0_B m c ⟨n + 1, hn⟩ h0 (by dsimp only; omega) h3
        have : (outsAt0 m c (n + 1) hn).2.2.1 j = (outsAt0 m c n (Nat.lt_of_succ_lt hn)).2.2.1 j := by
          dsimp only at e; rw [e]; unfold out0_B_7; rfl
        rw [this, ih _ (by omega), show (n + 1 + 1) / 3 = (n + 1) / 3 by omega]

/-- The third result: the gradient of the norm's weight. -/
theorem array7 (c : Dev nD) : (dats m 0 c).arrAt 7 cfg0.N = Cert.DnInRefIdeal.Read.val_main_v44 (m ((c : Thread nD τ).loc main_arg0))
    (m ((c : Thread nD τ).loc main_arg1)) (m ((c : Thread nD τ).loc main_arg2)) := by
  refine (dats m 0 c).arrAt_eq_of_covers 7 _ (by decide +kernel) fun t hf y => ?_
  have ht := (flush0_7 t).mp hf
  have hN : t.val < 12 := lt_of_lt_of_eq t.isLt N_0
  refine Eq.trans (b := Cert.DnInRefIdeal.Read.val_main_v44 (m ((c : Thread nD τ).loc main_arg0)) (m ((c : Thread nD τ).loc main_arg1)) (m ((c : Thread nD τ).loc main_arg2)) (y : S1x1024.Idx)) ?_ ?_
  · blk_simp; rw [after0_7, sofar m c y t.val t.isLt (by omega), ref49, show (t.val + 1) / 3 = 4 by omega, Finset.sum_range]
    refine Fin.sum_mul_add_congr fun s k hl => ?_
    unfold part
    rw [dif_pos hl]
  · refine congrArg _ (funext fun a => Fin.ext ?_)
    have e := tile t
    fin_cases a <;> blk_simp [e]

/-- The reference leaves its arguments, and it has no semaphore. -/
theorem frame_reference : Cert.quiescent_DnInRefIdeal := fun m ρ _ =>
  (θ_run Cert.DnInRefIdeal.defs _ _).mono (fun r h => ⟨fun c => (h c).2.2.2, sem_eq_zero_of_no_sems (by decide) r.2⟩)
    (Cert.DnInRefIdeal.Value.run (F := Ideal) m ρ)

/-- The kernel and the reference end with the same three arrays. -/
theorem algebraic : Cert.algebraic_DnInIdeal_DnInRefIdeal := by
  intro m g m' g' _ hm
  refine ⟨fun c => Cert.DnInRefIdeal.Read.val_main_v41 (m ((c : Thread nD τ).loc main_arg0)) (m ((c : Thread nD τ).loc main_arg1)) (m ((c : Thread nD τ).loc main_arg2)) (m ((c : Thread nD τ).loc main_arg3)) (m ((c : Thread nD τ).loc main_arg4)),
    fun c => Cert.DnInRefIdeal.Read.val_main_v43 (m ((c : Thread nD τ).loc main_arg0)) (m ((c : Thread nD τ).loc main_arg1)) (m ((c : Thread nD τ).loc main_arg2)) (m ((c : Thread nD τ).loc main_arg3)) (m ((c : Thread nD τ).loc main_arg4)),
    fun c => Cert.DnInRefIdeal.Read.val_main_v44 (m ((c : Thread nD τ).loc main_arg0)) (m ((c : Thread nD τ).loc main_arg1)) (m ((c : Thread nD τ).loc main_arg2)), ?_, ?_⟩
  · exact (θ_run Cert.DnInIdeal.defs _ _).mono (fun r h c => ⟨(h c).1.trans (array5 m c), (h c).2.1.trans (array6 m c),
      (h c).2.2.1.trans (array7 m c), (h c).2.2.2⟩) (Cert.DnInIdeal.Value.run_blocks m g)
  · refine (θ_run Cert.DnInRefIdeal.defs _ _).mono (fun r h c => ⟨(h c).1.trans ?_, (h c).2.1.trans ?_, (h c).2.2.1.trans ?_, (h c).2.2.2⟩)
      (Cert.DnInRefIdeal.Value.run (F := Ideal) m' g')
    all_goals obtain ⟨e0, e1, e2, e3, e4, -⟩ := hm c; beta_reduce
    · rw [← e0, ← e1, ← e2, ← e3, ← e4]; exact Cert.DnInRefIdeal.Read.val_main_v41_eq _ _
    · rw [← e0, ← e1, ← e2, ← e3, ← e4]; exact Cert.DnInRefIdeal.Read.val_main_v43_eq _ _
    · rw [← e0, ← e1, ← e2]; exact Cert.DnInRefIdeal.Read.val_main_v44_eq _ _ _
end Cert.DnInIdeal.Own
end
-- ==== Proof.DwIn.lean ====
module
public import proofs.«01_k».proof.Defs
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwInRefIdeal.Read
public import Idealize.ShloMosaic.Lib.Pipeline.ValueKit
public import Idealize.ShloMosaic.Adequacy
public import Idealize.ShloMosaic.Init

/-! The gradient of the projection in's weight, laid out in the eight shards that are exchanged. -/

@[expose] public section
set_option maxRecDepth 16384
noncomputable section
namespace Cert.DwInIdeal.Own
open Cert.DwInIdeal Cert.DwInIdeal.Gen Idealize.ShloMosaic Idealize.ShloMosaic.TcCoe Idealize.SL.Sem
open Idealize.ShloMosaic.Pipeline (Dat)
open scoped BigOperators

/-- Which block every window shows at each of the four row tiles. -/
theorem tile : ∀ t : Fin cfg0.N, win0_0.index t = ![t.val, 0] ∧ win0_1.index t = ![0, 0] ∧ win0_2.index t = ![0, t.val, 0] :=
  (by decide +kernel : ∀ t : Fin grid0.N, _)

variable (m : (ℓ : Loc nD τ sig) → Buf (Elt Ideal) ℓ)

open Cert.DwInRefIdeal.Read in
/-- The shards stacked are the columns of the gradient in order. -/
theorem stacked (x0 : (⟨Cert.DwInRefIdeal.S1024x2176, .bf16⟩ : BufTy).Contents (Elt Ideal))
    (x1 : (⟨Cert.DwInRefIdeal.S2176x2688, .bf16⟩ : BufTy).Contents (Elt Ideal)) (i : Cert.DwInRefIdeal.S8x1024x321.Idx)
    (j : Cert.DwInRefIdeal.S1024x2568.Idx) (h0 : (j 0).val = (i 1).val) (h1 : (j 1).val = 321 * (i 0).val + (i 2).val) :
    val_main_v30 x0 x1 i = val_main_v13 x0 x1 j := by
  unfold val_main_v30 val_main_v22 val_main_v23 val_main_v24 val_main_v25 val_main_v26 val_main_v27 val_main_v28 val_main_v29
    val_main_v21 val_main_v14 val_main_v15 val_main_v16 val_main_v17 val_main_v18 val_main_v19 val_main_v20
  generalize val_main_v13 x0 x1 = y
  have b0 : (i 0).val < 8 := (i 0).isLt
  have b1 : (i 2).val < 321 := (i 2).isLt
  pointwise
  split_ifs <;> refine congrArg y (funext fun a => Fin.ext ?_) <;> fin_cases a <;> simp <;> omega

/-- Where a column of the gradient stands in the padded projection: queries, keys and values, then the forget gates, then the convolution. -/
def from_ (q : ℕ) : ℕ := if q < 1536 then q else if q < 1544 then q + 1024 else q - 8

theorem from_lt {q : ℕ} (h : q < 2568) : from_ q < 2688 := by unfold from_; split_ifs <;> omega

open Cert.DwInRefIdeal.Read in
/-- The columns of the incoming gradient in the order of the weight's columns. -/
theorem columns (x1 : (⟨Cert.DwInRefIdeal.S2176x2688, .bf16⟩ : BufTy).Contents (Elt Ideal)) (p : Cert.DwInRefIdeal.S2176x2568.Idx) :
    val_main_v10 x1 p = x1 (ix2 (p 0) ⟨from_ (p 1).val, from_lt (p 1).isLt⟩) := by
  unfold val_main_v10 val_main_v9 val_main_v8 val_main_v7 val_main_v6 val_main_v5 val_main_v4
  have b1 : (p 1).val < 2568 := (p 1).isLt
  pointwise
  split_ifs <;> refine congrArg x1 (funext fun a => Fin.ext ?_) <;> fin_cases a <;> simp [from_] <;> (try split_ifs) <;> omega

open Cert.DwInRefIdeal.Read in
/-- One entry of the reference's gradient. -/
theorem ref (x0 : (⟨Cert.DwInRefIdeal.S1024x2176, .bf16⟩ : BufTy).Contents (Elt Ideal))
    (x1 : (⟨Cert.DwInRefIdeal.S2176x2688, .bf16⟩ : BufTy).Contents (Elt Ideal)) (j : Cert.DwInRefIdeal.S1024x2568.Idx) :
    val_main_v13 x0 x1 j = ∑ k : Fin 2176, (x0 (ix2 (j 0) k) : EReal) * x1 (ix2 k ⟨from_ (j 1).val, from_lt (j 1).isLt⟩) := by
  have h := fun k : Fin 2176 => columns x1 (ix2 k (j 1))
  unfold val_main_v13 val_main_v12 val_main_v11 val_main_v1 val_main_v0
  revert h
  generalize val_main_v10 x1 = y
  intro h
  pointwise
  refine Finset.sum_congr (M := EReal) rfl fun k _ => ?_
  refine (mul_comm (_ : EReal) _).trans (congrArg (fun b : EReal => _ * b) ?_)
  exact h k

/-- One entry of the product over a row tile, its columns put in the weight's order. -/
theorem pay (a : Vec Ideal S256x2176 .bf16) (b : Vec Ideal S2176x2688 .bf16) (j : S256x2568.Idx) :
    k0_pay4 a b j = ∑ k : Fin 2176, (a (ix2 (j 0) k) : EReal) * b (ix2 k ⟨from_ (j 1).val, from_lt (j 1).isLt⟩) := by
  have b1 : (j 1).val < 2568 := (j 1).isLt
  pointwise [k0_pay4]
  split_ifs <;> refine Finset.sum_congr (M := EReal) rfl fun k _ => congrArg (fun z : EReal => _ * z) (congrArg b (funext fun d => Fin.ext ?_)) <;>
    fin_cases d <;> simp [from_] <;> (try split_ifs) <;> omega

open Cert.DwInRefIdeal.Read in
/-- One entry of the product over a tile is an entry of the reference's gradient. -/
theorem entry (c : Dev nD) (t : Fin cfg0.N) (p : S256x2568.Idx) (j : Cert.DwInRefIdeal.S1024x2568.Idx)
    (h0 : (j 0).val = 256 * t.val + (p 0).val) (h1 : (j 1).val = (p 1).val) :
    k0_pay4 (iblk m c 0 t) (iblk m c 1 t) p = val_main_v13 (m ((c : Thread nD τ).loc main_arg0)) (m ((c : Thread nD τ).loc main_arg1)) j := by
  have e := tile t
  have ht : t.val < 4 := t.isLt
  have p0 : (p 0).val < 256 := (p 0).isLt
  obtain rfl : j = ix2 ⟨256 * t.val + (p 0).val, by clear h0 h1; omega⟩ (p 1) := funext fun a => Fin.ext (by fin_cases a; exacts [h0, h1])
  refine (pay _ _ _).trans (Eq.trans ?_ (ref _ _ _).symm)
  refine Finset.sum_congr (M := EReal) rfl fun k _ => congrArg₂ (fun a b : EReal => a * b) ?_ ?_ <;> blk_point [iblk, V, e]

/-! The eight shards a tile is cut into. -/
theorem shard0 (v0 : Vec Ideal S256x2176 .bf16) (v1 : Vec Ideal S2176x2688 .bf16) (x : S1x256x321.Idx) (p : S256x2568.Idx)
    (h0 : (p 0).val = (x 1).val) (h1 : (p 1).val = 0 + (x 2).val) : k0_pay5 (View.ld v0 r0_0) (View.ld v1 r0_1) x = k0_pay4 v0 v1 p := by
  unfold k0_pay5
  rw [View.ld_unit_lit _ v0 (by decide), View.ld_unit_lit _ v1 (by decide)]
  generalize k0_pay4 v0 v1 = z
  pointwise
  refine congrArg z (funext fun a => Fin.ext ?_)
  fin_cases a <;> simp <;> omega
theorem shard1 (v0 : Vec Ideal S256x2176 .bf16) (v1 : Vec Ideal S2176x2688 .bf16) (x : S1x256x321.Idx) (p : S256x2568.Idx)
    (h0 : (p 0).val = (x 1).val) (h1 : (p 1).val = 321 + (x 2).val) : k0_pay6 (View.ld v0 r0_0) (View.ld v1 r0_1) x = k0_pay4 v0 v1 p := by
  unfold k0_pay6
  rw [View.ld_unit_lit _ v0 (by decide), View.ld_unit_lit _ v1 (by decide)]
  generalize k0_pay4 v0 v1 = z
  pointwise
  refine congrArg z (funext fun a => Fin.ext ?_)
  fin_cases a <;> simp <;> omega
theorem shard2 (v0 : Vec Ideal S256x2176 .bf16) (v1 : Vec Ideal S2176x2688 .bf16) (x : S1x256x321.Idx) (p : S256x2568.Idx)
    (h0 : (p 0).val = (x 1).val) (h1 : (p 1).val = 642 + (x 2).val) : k0_pay7 (View.ld v0 r0_0) (View.ld v1 r0_1) x = k0_pay4 v0 v1 p := by
  unfold k0_pay7
  rw [View.ld_unit_lit _ v0 (by decide), View.ld_unit_lit _ v1 (by decide)]
  generalize k0_pay4 v0 v1 = z
  pointwise
  refine congrArg z (funext fun a => Fin.ext ?_)
  fin_cases a <;> simp <;> omega
theorem shard3 (v0 : Vec Ideal S256x2176 .bf16) (v1 : Vec Ideal S2176x2688 .bf16) (x : S1x256x321.Idx) (p : S256x2568.Idx)
    (h0 : (p 0).val = (x 1).val) (h1 : (p 1).val = 963 + (x 2).val) : k0_pay8 (View.ld v0 r0_0) (View.ld v1 r0_1) x = k0_pay4 v0 v1 p := by
  unfold k0_pay8
  rw [View.ld_unit_lit _ v0 (by decide), View.ld_unit_lit _ v1 (by decide)]
  generalize k0_pay4 v0 v1 = z
  pointwise
  refine congrArg z (funext fun a => Fin.ext ?_)
  fin_cases a <;> simp <;> omega
theorem shard4 (v0 : Vec Ideal S256x2176 .bf16) (v1 : Vec Ideal S2176x2688 .bf16) (x : S1x256x321.Idx) (p : S256x2568.Idx)
    (h0 : (p 0).val = (x 1).val) (h1 : (p 1).val = 1284 + (x 2).val) : k0_pay9 (View.ld v0 r0_0) (View.ld v1 r0_1) x = k0_pay4 v0 v1 p := by
  unfold k0_pay9
  rw [View.ld_unit_lit _ v0 (by decide), View.ld_unit_lit _ v1 (by decide)]
  generalize k0_pay4 v0 v1 = z
  pointwise
  refine congrArg z (funext fun a => Fin.ext ?_)
  fin_cases a <;> simp <;> omega
theorem shard5 (v0 : Vec Ideal S256x2176 .bf16) (v1 : Vec Ideal S2176x2688 .bf16) (x : S1x256x321.Idx) (p : S256x2568.Idx)
    (h0 : (p 0).val = (x 1).val) (h1 : (p 1).val = 1605 + (x 2).val) : k0_pay1 (k0_pay10 (View.ld v0 r0_0) (View.ld v1 r0_1)) x = k0_pay4 v0 v1 p := by
  unfold k0_pay1 k0_pay10
  rw [View.ld_unit_lit _ v0 (by decide), View.ld_unit_lit _ v1 (by decide)]
  generalize k0_pay4 v0 v1 = z
  pointwise
  refine congrArg z (funext fun a => Fin.ext ?_)
  fin_cases a <;> simp <;> omega
theorem shard6 (v0 : Vec Ideal S256x2176 .bf16) (v1 : Vec Ideal S2176x2688 .bf16) (x : S1x256x321.Idx) (p : S256x2568.Idx)
    (h0 : (p 0).val = (x 1).val) (h1 : (p 1).val = 1926 + (x 2).val) : k0_pay2 (k0_pay11 v0 v1) x = k0_pay4 v0 v1 p := by
  unfold k0_pay2 k0_pay11
  rw [View.ld_unit_lit _ v0 (by decide), View.ld_unit_lit _ v1 (by decide)]
  generalize k0_pay4 v0 v1 = z
  pointwise
  refine congrArg z (funext fun a => Fin.ext ?_)
  fin_cases a <;> simp <;> omega
theorem shard7 (v0 : Vec Ideal S256x2176 .bf16) (v1 : Vec Ideal S2176x2688 .bf16) (x : S1x256x321.Idx) (p : S256x2568.Idx)
    (h0 : (p 0).val = (x 1).val) (h1 : (p 1).val = 2247 + (x 2).val) : k0_pay3 (k0_pay11 v0 v1) x = k0_pay4 v0 v1 p := by
  unfold k0_pay3 k0_pay11
  rw [View.ld_unit_lit _ v0 (by decide), View.ld_unit_lit _ v1 (by decide)]
  generalize k0_pay4 v0 v1 = z
  pointwise
  refine congrArg z (funext fun a => Fin.ext ?_)
  fin_cases a <;> simp <;> omega

open Cert.DwInRefIdeal.Read in
/-- The array the kernel leaves is the reference's gradient, shard by shard. -/
theorem array (c : Dev nD) : (dats m 0 c).arrAt 2 cfg0.N = val_main_v30
    (m ((c : Thread nD τ).loc main_arg0)) (m ((c : Thread nD τ).loc main_arg1)) := by
  refine (dats m 0 c).arrAt_eq_of_covers 2 _ (by decide +kernel) fun t hf y => ?_
  have e := tile t
  have ht : t.val < 4 := t.isLt
  blk_simp; rw [after0_2]
  canon_tiles x h
  · have x1 : (x 1).val < 256 := (x 1).isLt
    have x2 : (x 2).val < 321 := (x 2).isLt
    refine (shard7 _ _ x (ix2 ⟨(x 1).val, x1⟩ ⟨2247 + (x 2).val, by omega⟩) rfl rfl).trans ?_
    refine Eq.trans ?_ (stacked _ _ _ (ix2 ⟨256 * t.val + (x 1).val, by omega⟩ ⟨2247 + (x 2).val, by omega⟩) ?_ ?_).symm
    · exact entry m c t _ _ rfl rfl
    · show 256 * t.val + (x 1).val = _
      blk_simp [e]; omega
    · show 2247 + (x 2).val = _
      blk_simp [e]; omega
  · have x1 : (x 1).val < 256 := (x 1).isLt
    have x2 : (x 2).val < 321 := (x 2).isLt
    refine (shard6 _ _ x (ix2 ⟨(x 1).val, x1⟩ ⟨1926 + (x 2).val, by omega⟩) rfl rfl).trans ?_
    refine Eq.trans ?_ (stacked _ _ _ (ix2 ⟨256 * t.val + (x 1).val, by omega⟩ ⟨1926 + (x 2).val, by omega⟩) ?_ ?_).symm
    · exact entry m c t _ _ rfl rfl
    · show 256 * t.val + (x 1).val = _
      blk_simp [e]; omega
    · show 1926 + (x 2).val = _
      blk_simp [e]; omega
  · have x1 : (x 1).val < 256 := (x 1).isLt
    have x2 : (x 2).val < 321 := (x 2).isLt
    refine (shard5 _ _ x (ix2 ⟨(x 1).val, x1⟩ ⟨1605 + (x 2).val, by omega⟩) rfl rfl).trans ?_
    refine Eq.trans ?_ (stacked _ _ _ (ix2 ⟨256 * t.val + (x 1).val, by omega⟩ ⟨1605 + (x 2).val, by omega⟩) ?_ ?_).symm
    · exact entry m c t _ _ rfl rfl
    · show 256 * t.val + (x 1).val = _
      blk_simp [e]; omega
    · show 1605 + (x 2).val = _
      blk_simp [e]; omega
  · have x1 : (x 1).val < 256 := (x 1).isLt
    have x2 : (x 2).val < 321 := (x 2).isLt
    refine (shard4 _ _ x (ix2 ⟨(x 1).val, x1⟩ ⟨1284 + (x 2).val, by omega⟩) rfl rfl).trans ?_
    refine Eq.trans ?_ (stacked _ _ _ (ix2 ⟨256 * t.val + (x 1).val, by omega⟩ ⟨1284 + (x 2).val, by omega⟩) ?_ ?_).symm
    · exact entry m c t _ _ rfl rfl
    · show 256 * t.val + (x 1).val = _
      blk_simp [e]; omega
    · show 1284 + (x 2).val = _
      blk_simp [e]; omega
  · have x1 : (x 1).val < 256 := (x 1).isLt
    have x2 : (x 2).val < 321 := (x 2).isLt
    refine (shard3 _ _ x (ix2 ⟨(x 1).val, x1⟩ ⟨963 + (x 2).val, by omega⟩) rfl rfl).trans ?_
    refine Eq.trans ?_ (stacked _ _ _ (ix2 ⟨256 * t.val + (x 1).val, by omega⟩ ⟨963 + (x 2).val, by omega⟩) ?_ ?_).symm
    · exact entry m c t _ _ rfl rfl
    · show 256 * t.val + (x 1).val = _
      blk_simp [e]; omega
    · show 963 + (x 2).val = _
      blk_simp [e]; omega
  · have x1 : (x 1).val < 256 := (x 1).isLt
    have x2 : (x 2).val < 321 := (x 2).isLt
    refine (shard2 _ _ x (ix2 ⟨(x 1).val, x1⟩ ⟨642 + (x 2).val, by omega⟩) rfl rfl).trans ?_
    refine Eq.trans ?_ (stacked _ _ _ (ix2 ⟨256 * t.val + (x 1).val, by omega⟩ ⟨642 + (x 2).val, by omega⟩) ?_ ?_).symm
    · exact entry m c t _ _ rfl rfl
    · show 256 * t.val + (x 1).val = _
      blk_simp [e]; omega
    · show 642 + (x 2).val = _
      blk_simp [e]; omega
  · have x1 : (x 1).val < 256 := (x 1).isLt
    have x2 : (x 2).val < 321 := (x 2).isLt
    refine (shard1 _ _ x (ix2 ⟨(x 1).val, x1⟩ ⟨321 + (x 2).val, by omega⟩) rfl rfl).trans ?_
    refine Eq.trans ?_ (stacked _ _ _ (ix2 ⟨256 * t.val + (x 1).val, by omega⟩ ⟨321 + (x 2).val, by omega⟩) ?_ ?_).symm
    · exact entry m c t _ _ rfl rfl
    · show 256 * t.val + (x 1).val = _
      blk_simp [e]; omega
    · show 321 + (x 2).val = _
      blk_simp [e]; omega
  · have x1 : (x 1).val < 256 := (x 1).isLt
    have x2 : (x 2).val < 321 := (x 2).isLt
    refine (shard0 _ _ x (ix2 ⟨(x 1).val, x1⟩ ⟨0 + (x 2).val, by omega⟩) rfl rfl).trans ?_
    refine Eq.trans ?_ (stacked _ _ _ (ix2 ⟨256 * t.val + (x 1).val, by omega⟩ ⟨0 + (x 2).val, by omega⟩) ?_ ?_).symm
    · exact entry m c t _ _ rfl rfl
    · show 256 * t.val + (x 1).val = _
      blk_simp [e]; omega
    · show 0 + (x 2).val = _
      blk_simp [e]; omega

/-- The reference leaves its arguments, and it has no semaphore. -/
theorem frame_reference : Cert.quiescent_DwInRefIdeal := fun m ρ _ =>
  (θ_run Cert.DwInRefIdeal.defs _ _).mono (fun r h => ⟨fun c => (h c).2, sem_eq_zero_of_no_sems (by decide) r.2⟩)
    (Cert.DwInRefIdeal.Value.run (F := Ideal) m ρ)

/-- The kernel and the reference end with the same array. -/
theorem algebraic : Cert.algebraic_DwInIdeal_DwInRefIdeal := by
  intro m g m' g' _ hm
  refine ⟨fun c => Cert.DwInRefIdeal.Read.val_main_v30 (m ((c : Thread nD τ).loc main_arg0)) (m ((c : Thread nD τ).loc main_arg1)), ?_, ?_⟩
  · exact (θ_run Cert.DwInIdeal.defs _ _).mono (fun r h c => ⟨(h c).1.trans (array m c), (h c).2⟩) (Cert.DwInIdeal.Value.run_blocks m g)
  · refine (θ_run Cert.DwInRefIdeal.defs _ _).mono (fun r h c => ⟨(h c).1.trans ?_, (h c).2⟩) (Cert.DwInRefIdeal.Value.run (F := Ideal) m' g')
    obtain ⟨e0, e1⟩ := hm c
    beta_reduce
    rw [← e0, ← e1]
    exact Cert.DwInRefIdeal.Read.val_main_v30_eq _ _
end Cert.DwInIdeal.Own
end
-- ==== Proof.Glu.lean ====
module
public import proofs.«01_k».proof.Defs
public import proofs.«01_k».proof.Proof.Gen.GluIdeal.Value
public import proofs.«01_k».proof.Proof.Gen.GluRefIdeal
public import proofs.«01_k».proof.Proof.Gen.GluRefIdeal.Run
public import proofs.«01_k».proof.Proof.Gen.GluRefIdeal.Read
public import Idealize.ShloMosaic.Lib.Pipeline.ValueKit
public import Idealize.ShloMosaic.Adequacy
public import Idealize.ShloMosaic.Init

/-! The forward product with the columns of the inner gates. -/

@[expose] public section
set_option maxRecDepth 16384
noncomputable section
namespace Cert.GluIdeal.Own
open Cert.GluIdeal Cert.GluIdeal.Gen Idealize.ShloMosaic Idealize.ShloMosaic.TcCoe Idealize.SL.Sem
open Idealize.ShloMosaic.Pipeline (Dat)
open scoped BigOperators

/-- Which block every window shows at each of the two column tiles. -/
theorem tile : ∀ t : Fin cfg0.N, win0_0.index t = ![0, 0] ∧ win0_1.index t = ![0, 3 + t.val] ∧ win0_2.index t = ![0, t.val] :=
  (by decide +kernel : ∀ t : Fin grid0.N, _)

variable (m : (ℓ : Loc nD τ sig) → Buf (Elt Ideal) ℓ)

/-- The second window's block at a point is the weight's columns from 1536 on, 512 at a time. -/
theorem columns (c : Dev nD) (t : Fin cfg0.N) (j : S1024x512.Idx) (i : S1024x2688.Idx) (h0 : (i 0).val = (j 0).val)
    (h1 : (i 1).val = 512 * (3 + t.val) + (j 1).val) : X0_1 m c t j = m ((c : Thread nD τ).loc main_arg1) i := by
  unfold X0_1 Pipeline.Window.fill
  rw [dif_pos (moved0_1 t j)]
  have e := tile t
  refine congrArg (m ((c : Thread nD τ).loc main_arg1)) (funext fun a => Fin.ext ?_)
  fin_cases a
  · refine Eq.trans ?_ h0.symm
    blk_simp [e]; rfl
  · refine Eq.trans (Eq.trans (b := (3 + t.val) * 512 + (j 1).val) ?_ (by omega)) h1.symm
    blk_simp [e]; rfl

theorem pay (a : Vec Ideal S2176x1024 .bf16) (b : Vec Ideal S1024x512 .bf16) (j : S2176x512.Idx) :
    k0_pay1 a b j = ∑ k : Fin 1024, (a (ix2 (j 0) k) : EReal) * b (ix2 k (j 1)) := by pointwise [k0_pay1]

open Cert.GluRefIdeal.Read in
theorem ref (x0 : (⟨Cert.GluRefIdeal.S2176x1024, .bf16⟩ : BufTy).Contents (Elt Ideal))
    (x1 : (⟨Cert.GluRefIdeal.S1024x2688, .bf16⟩ : BufTy).Contents (Elt Ideal)) (i : S2176x1024.Idx) : val_main_v3 x0 x1 i
      = ∑ k : Fin 1024, (x0 (ix2 (i 0) k) : EReal) * x1 (ix2 k ⟨1536 + (i 1).val, by have : (i 1).val < 1024 := (i 1).isLt; omega⟩) := by
  pointwise [val_main_v3, val_main_v2, val_main_v1, val_main_v0]

open Cert.GluRefIdeal.Read in
/-- The array the kernel leaves is the reference's product. -/
theorem array (c : Dev nD) : (dats m 0 c).arrAt 2 cfg0.N = val_main_v3
    (m ((c : Thread nD τ).loc main_arg0)) (m ((c : Thread nD τ).loc main_arg1)) := by
  refine (dats m 0 c).arrAt_eq_of_covers 2 _ (by decide +kernel) fun t hf y => ?_
  have e := tile t
  blk_simp; rw [after0_2]; simp only [outsAt0]; frame_out
  refine (pay _ _ y).trans (Eq.trans ?_ (ref _ _ _).symm)
  refine Finset.sum_congr (M := EReal) rfl fun k _ => congrArg₂ (fun a b : EReal => a * b) ?_ ?_
  · blk_point [iblk, V, e]
  · refine columns m c t _ _ rfl ?_
    show 1536 + _ = 512 * (3 + t.val) + (y 1).val
    blk_simp [e]; omega

/-- The reference leaves its arguments, and it has no semaphore. -/
theorem frame_reference : Cert.quiescent_GluRefIdeal := fun m ρ _ =>
  (θ_run Cert.GluRefIdeal.defs _ _).mono (fun r h => ⟨fun c => (h c).2, sem_eq_zero_of_no_sems (by decide) r.2⟩)
    (Cert.GluRefIdeal.Value.run (F := Ideal) m ρ)

/-- The kernel and the reference end with the same array. -/
theorem algebraic : Cert.algebraic_GluIdeal_GluRefIdeal := by
  intro m g m' g' _ hm
  refine ⟨fun c => Cert.GluRefIdeal.Read.val_main_v3 (m ((c : Thread nD τ).loc main_arg0)) (m ((c : Thread nD τ).loc main_arg1)), ?_, ?_⟩
  · exact (θ_run Cert.GluIdeal.defs _ _).mono (fun r h c => ⟨(h c).1.trans (array m c), (h c).2⟩) (Cert.GluIdeal.Value.run_blocks m g)
  · refine (θ_run Cert.GluRefIdeal.defs _ _).mono (fun r h c => ⟨(h c).1.trans ?_, (h c).2⟩) (Cert.GluRefIdeal.Value.run (F := Ideal) m' g')
    obtain ⟨e0, e1⟩ := hm c
    beta_reduce
    rw [← e0, ← e1]
    exact Cert.GluRefIdeal.Read.val_main_v3_eq _ _
end Cert.GluIdeal.Own
end
-- ==== Proof.Forget.lean ====
module
public import proofs.«01_k».proof.Defs
public import proofs.«01_k».proof.Proof.Gen.ForgetIdeal.Value
public import proofs.«01_k».proof.Proof.Gen.ForgetRefIdeal
public import proofs.«01_k».proof.Proof.Gen.ForgetRefIdeal.Run
public import proofs.«01_k».proof.Proof.Gen.ForgetRefIdeal.Read
public import Idealize.ShloMosaic.Lib.Pipeline.ValueKit
public import Idealize.ShloMosaic.Adequacy
public import Idealize.ShloMosaic.Init

/-! The forward product that gives the forget gates. -/

@[expose] public section
set_option maxRecDepth 16384
noncomputable section
namespace Cert.ForgetIdeal.Own
open Cert.ForgetIdeal Cert.ForgetIdeal.Gen Idealize.ShloMosaic Idealize.ShloMosaic.TcCoe Idealize.SL.Sem
open Idealize.ShloMosaic.Pipeline (Dat)
open scoped BigOperators

/-- Every window shows its whole array at the one point. -/
theorem tile : ∀ t : Fin cfg0.N, win0_0.index t = ![0, 0] ∧ win0_1.index t = ![0, 0] ∧ win0_2.index t = ![0, 0] :=
  (by decide +kernel : ∀ t : Fin grid0.N, _)

variable (m : (ℓ : Loc nD τ sig) → Buf (Elt Ideal) ℓ)

open Cert.ForgetRefIdeal.Read in
/-- The array the kernel leaves is the reference's product. -/
theorem array (c : Dev nD) : (dats m 0 c).arrAt 2 cfg0.N = val_main_v4
    (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, val_main_v4, val_main_v3, val_main_v2, val_main_v1, val_main_v0]
  refine Finset.sum_congr (M := EReal) rfl fun k _ => ?_
  refine (mul_comm (_ : EReal) _).trans ?_
  blk_point [iblk, V, tile t]

/-- The reference leaves its arguments, and it has no semaphore. -/
theorem frame_reference : Cert.quiescent_ForgetRefIdeal := fun m ρ _ =>
  (θ_run Cert.ForgetRefIdeal.defs _ _).mono (fun r h => ⟨fun c => (h c).2, sem_eq_zero_of_no_sems (by decide) r.2⟩)
    (Cert.ForgetRefIdeal.Value.run (F := Ideal) m ρ)

/-- The kernel and the reference end with the same array. -/
theorem algebraic : Cert.algebraic_ForgetIdeal_ForgetRefIdeal := by
  intro m g m' g' _ hm
  refine ⟨fun c => Cert.ForgetRefIdeal.Read.val_main_v4 (m ((c : Thread nD τ).loc main_arg0)) (m ((c : Thread nD τ).loc main_arg1)), ?_, ?_⟩
  · exact (θ_run Cert.ForgetIdeal.defs _ _).mono (fun r h c => ⟨(h c).1.trans (array m c), (h c).2⟩) (Cert.ForgetIdeal.Value.run_blocks m g)
  · refine (θ_run Cert.ForgetRefIdeal.defs _ _).mono (fun r h c => ⟨(h c).1.trans ?_, (h c).2⟩) (Cert.ForgetRefIdeal.Value.run (F := Ideal) m' g')
    obtain ⟨e0, e1⟩ := hm c
    beta_reduce
    rw [← e0, ← e1]
    exact Cert.ForgetRefIdeal.Read.val_main_v4_eq _ _
end Cert.ForgetIdeal.Own
end
-- ==== Proof.MixOut.lean ====
module
public import proofs.«01_k».proof.Defs
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import Idealize.ShloMosaic.Lib.Pipeline.ValueKit
public import Idealize.ShloMosaic.Adequacy
public import Idealize.ShloMosaic.Init

/-! The forward product that leaves the mixing, with the residual added. -/

@[expose] public section
set_option maxRecDepth 16384
noncomputable section
namespace Cert.MixOutIdeal.Own
open Cert.MixOutIdeal Cert.MixOutIdeal.Gen Idealize.ShloMosaic Idealize.ShloMosaic.TcCoe Idealize.SL.Sem
open Idealize.ShloMosaic.Pipeline (Dat)
open scoped BigOperators

/-- Which block every window shows at each of the two column tiles. -/
theorem tile : ∀ t : Fin cfg0.N, win0_0.index t = ![0, 0] ∧ win0_1.index t = ![0, t.val] ∧ win0_2.index t = ![0, t.val]
    ∧ win0_3.index t = ![0, t.val] := (by decide +kernel : ∀ t : Fin grid0.N, _)

variable (m : (ℓ : Loc nD τ sig) → Buf (Elt Ideal) ℓ)

/-- The array the kernel leaves is the reference's sum. -/
theorem array (c : Dev nD) : (dats m 0 c).arrAt 3 cfg0.N = Cert.MixOutRefIdeal.Read.val_main_v3
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  pointwise [k0_pay1, Cert.MixOutRefIdeal.Read.val_main_v3, Cert.MixOutRefIdeal.Read.val_main_v2, Cert.MixOutRefIdeal.Read.val_main_v1, Cert.MixOutRefIdeal.Read.val_main_v0]
  blk_point [iblk, V, tile t]

/-- The reference leaves its arguments, and it has no semaphore. -/
theorem frame_reference : Cert.quiescent_MixOutRefIdeal := fun m ρ _ =>
  (θ_run Cert.MixOutRefIdeal.defs _ _).mono (fun r h => ⟨fun c => (h c).2, sem_eq_zero_of_no_sems (by decide) r.2⟩)
    (Cert.MixOutRefIdeal.Value.run (F := Ideal) m ρ)

/-- The kernel and the reference end with the same array. -/
theorem algebraic : Cert.algebraic_MixOutIdeal_MixOutRefIdeal := by
  intro m g m' g' _ hm
  refine ⟨fun c => Cert.MixOutRefIdeal.Read.val_main_v3 (m ((c : Thread nD τ).loc main_arg0)) (m ((c : Thread nD τ).loc main_arg1)) (m ((c : Thread nD τ).loc main_arg2)), ?_, ?_⟩
  · exact (θ_run Cert.MixOutIdeal.defs _ _).mono (fun r h c => ⟨(h c).1.trans (array m c), (h c).2⟩) (Cert.MixOutIdeal.Value.run_blocks m g)
  · refine (θ_run Cert.MixOutRefIdeal.defs _ _).mono (fun r h c => ⟨(h c).1.trans ?_, (h c).2⟩) (Cert.MixOutRefIdeal.Value.run (F := Ideal) m' g')
    obtain ⟨e0, e1, e2⟩ := hm c
    beta_reduce
    rw [← e0, ← e1, ← e2]
    exact Cert.MixOutRefIdeal.Read.val_main_v3_eq _ _ _
end Cert.MixOutIdeal.Own
end
-- ==== Proof.DwOut.lean ====
module
public import proofs.«01_k».proof.Defs
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import Idealize.ShloMosaic.Lib.Pipeline.ValueKit
public import Idealize.ShloMosaic.Adequacy
public import Idealize.ShloMosaic.Init

/-! The gradient of the weight that leaves the mixing. -/

@[expose] public section
set_option maxRecDepth 16384
noncomputable section
namespace Cert.DwOutIdeal.Own
open Cert.DwOutIdeal Cert.DwOutIdeal.Gen Idealize.ShloMosaic Idealize.ShloMosaic.TcCoe Idealize.SL.Sem
open Idealize.ShloMosaic.Pipeline (Dat)
open scoped BigOperators

/-- Which block every window shows at each of the two row tiles. -/
theorem tile : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

open Cert.DwOutRefIdeal.Read in
/-- The array the kernel leaves is the reference's gradient. -/
theorem array (c : Dev nD) : (dats m 0 c).arrAt 2 cfg0.N = val_main_v7
    (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, val_main_v7, val_main_v6, val_main_v5, val_main_v4, val_main_v1, val_main_v0]
  refine Finset.sum_congr (M := EReal) rfl fun k _ => ?_
  refine (mul_comm (_ : EReal) _).trans ?_
  blk_point [iblk, V, tile t]

/-- The reference leaves its arguments, and it has no semaphore. -/
theorem frame_reference : Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)

/-- The kernel and the reference end with the same array. -/
theorem algebraic : Cert.algebraic_DwOutIdeal_DwOutRefIdeal := by
  intro m g m' g' _ hm
  refine ⟨fun c => Cert.DwOutRefIdeal.Read.val_main_v7 (m ((c : Thread nD τ).loc main_arg0)) (m ((c : Thread nD τ).loc main_arg1)), ?_, ?_⟩
  · exact (θ_run Cert.DwOutIdeal.defs _ _).mono (fun r h c => ⟨(h c).1.trans (array m c), (h c).2⟩) (Cert.DwOutIdeal.Value.run_blocks m g)
  · refine (θ_run Cert.DwOutRefIdeal.defs _ _).mono (fun r h c => ⟨(h c).1.trans ?_, (h c).2⟩) (Cert.DwOutRefIdeal.Value.run (F := Ideal) m' g')
    obtain ⟨e0, e1⟩ := hm c
    beta_reduce
    rw [← e0, ← e1]
    exact Cert.DwOutRefIdeal.Read.val_main_v7_eq _ _
end Cert.DwOutIdeal.Own
end
-- ==== Proof.DwPool.lean ====
module
public import proofs.«01_k».proof.Defs
public import proofs.«01_k».proof.Proof.Gen.DwPoolIdeal.Value
public import proofs.«01_k».proof.Proof.Gen.DwPoolRefIdeal
public import proofs.«01_k».proof.Proof.Gen.DwPoolRefIdeal.Run
public import proofs.«01_k».proof.Proof.Gen.DwPoolRefIdeal.Read
public import Idealize.ShloMosaic.Lib.Pipeline.ValueKit
public import Idealize.ShloMosaic.Adequacy
public import Idealize.ShloMosaic.Init

/-! The gradient of the pooling's weights, group by group. -/

@[expose] public section
set_option maxRecDepth 16384
noncomputable section
namespace Cert.DwPoolIdeal.Own
open Cert.DwPoolIdeal Cert.DwPoolIdeal.Gen Idealize.ShloMosaic Idealize.ShloMosaic.TcCoe Idealize.SL.Sem
open Idealize.ShloMosaic.Pipeline (Dat)
open scoped BigOperators

/-- Which block every window shows at each of the four groups. -/
theorem tile : ∀ t : Fin cfg0.N, win0_0.index t = ![t.val, 0] ∧ win0_1.index t = ![0, t.val] ∧ win0_2.index t = ![t.val, 0] :=
  (by decide +kernel : ∀ t : Fin grid0.N, _)

variable (m : (ℓ : Loc nD τ sig) → Buf (Elt Ideal) ℓ)

open Cert.DwPoolRefIdeal.Read in
/-- The array the kernel leaves is the reference's gradient. -/
theorem array (c : Dev nD) : (dats m 0 c).arrAt 2 cfg0.N = val_main_v12
    (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, val_main_v12, val_main_v11, val_main_v10, val_main_v9, val_main_v8, val_main_v4, val_main_v3, val_main_v2, val_main_v1, val_main_v0]
  refine Finset.sum_congr (M := EReal) rfl fun k _ => ?_
  refine (mul_comm (_ : EReal) _).trans ?_
  blk_point [iblk, V, tile t]

/-- The reference leaves its arguments, and it has no semaphore. -/
theorem frame_reference : Cert.quiescent_DwPoolRefIdeal := fun m ρ _ =>
  (θ_run Cert.DwPoolRefIdeal.defs _ _).mono (fun r h => ⟨fun c => (h c).2, sem_eq_zero_of_no_sems (by decide) r.2⟩)
    (Cert.DwPoolRefIdeal.Value.run (F := Ideal) m ρ)

/-- The kernel and the reference end with the same array. -/
theorem algebraic : Cert.algebraic_DwPoolIdeal_DwPoolRefIdeal := by
  intro m g m' g' _ hm
  refine ⟨fun c => Cert.DwPoolRefIdeal.Read.val_main_v12 (m ((c : Thread nD τ).loc main_arg0)) (m ((c : Thread nD τ).loc main_arg1)), ?_, ?_⟩
  · exact (θ_run Cert.DwPoolIdeal.defs _ _).mono (fun r h c => ⟨(h c).1.trans (array m c), (h c).2⟩) (Cert.DwPoolIdeal.Value.run_blocks m g)
  · refine (θ_run Cert.DwPoolRefIdeal.defs _ _).mono (fun r h c => ⟨(h c).1.trans ?_, (h c).2⟩) (Cert.DwPoolRefIdeal.Value.run (F := Ideal) m' g')
    obtain ⟨e0, e1⟩ := hm c
    beta_reduce
    rw [← e0, ← e1]
    exact Cert.DwPoolRefIdeal.Read.val_main_v12_eq _ _
end Cert.DwPoolIdeal.Own
end
-- ==== Proof.SumOf.lean ====
module
public import Idealize.ShloMosaic.Lib.Pipeline.ValueKit
public import Idealize.ShloMosaic.Init

/-! A device's own part and the seven received ones, added one after the other, against the sum of the received ones. -/

@[expose] public section
noncomputable section
namespace Cert.SumOf
open Idealize.ShloMosaic
open scoped BigOperators

theorem seven (a : EReal) (f : Fin 7 → EReal) : a + f 0 + f 1 + f 2 + f 3 + f 4 + f 5 + f 6 = a + ∑ k, f k := by
  rw [Fin.sum_univ_seven]
  simp only [add_assoc]
end Cert.SumOf
end
-- ==== Proof.AdamUp.lean ====
module
public import proofs.«01_k».proof.Defs
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.SumOf
public import Idealize.ShloMosaic.Lib.Pipeline.ValueKit
public import Idealize.ShloMosaic.Adequacy
public import Idealize.ShloMosaic.Init

/-! The optimiser on the two layers' ways up: the exchanged gradients summed, the moments and the steps. -/

@[expose] public section
set_option maxRecDepth 16384
noncomputable section
namespace Cert.AdamUpIdeal.Own
open Cert.AdamUpIdeal Cert.AdamUpIdeal.Gen Idealize.ShloMosaic Idealize.ShloMosaic.TcCoe Idealize.SL.Sem
open Idealize.ShloMosaic.Pipeline (Dat)
open scoped BigOperators

/-- Which block every window shows: the layer, and the row tile in it. A layer's own gradient and what was received for it move only while it is done. -/
theorem tile : ∀ t : Fin cfg0.N, win0_0.index t = ![t.val / 2, t.val % 2, 0] ∧ win0_1.index t = ![t.val / 2, t.val % 2, 0] ∧ win0_2.index t = ![t.val / 2, t.val % 2, 0] ∧ win0_7.index t = ![t.val / 2, t.val % 2, 0] ∧ win0_8.index t = ![t.val / 2, t.val % 2, 0] ∧ win0_9.index t = ![t.val / 2, t.val % 2, 0] ∧ win0_10.index t = ![t.val / 2, t.val % 2, 0]
    ∧ (t.val < 2 → win0_3.index t = ![t.val % 2, 0] ∧ win0_5.index t = ![0, t.val % 2, 0])
    ∧ (2 ≤ t.val → win0_4.index t = ![t.val % 2, 0] ∧ win0_6.index t = ![0, t.val % 2, 0]) :=
  (by decide +kernel : ∀ t : Fin grid0.N, _)

variable (m : (ℓ : Loc nD τ sig) → Buf (Elt Ideal) ℓ)

set_option maxHeartbeats 2000000 in
open Cert.AdamUpRefIdeal.Read in
/-- Result 0: the summed gradients. -/
theorem array7 (c : Dev nD) : (dats m 0 c).arrAt 7 cfg0.N = val_main_v10 (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  obtain ⟨e0, e1, e2, e7, e8, e9, e10, ea, eb⟩ := tile t
  have hN : t.val < 4 := lt_of_lt_of_eq t.isLt N_0
  have hy : (y 0).val < 1 := (y 0).isLt
  have hl : (((View.whole main_v0_0).slice (win0_7.rect t)).emb y 0).val = t.val / 2 := by
    blk_simp [e7] <;> omega
  blk_simp; rw [after0_7]
  by_cases ht : t.val < 2
  · obtain ⟨eo, el⟩ := ea ht
    have ho : iblk m c 3 t (ix2 (y 1) (y 2)) = m ((c : Thread nD τ).loc main_arg3) (ix2 (((View.whole main_v0_0).slice (win0_7.rect t)).emb y 1) (((View.whole main_v0_0).slice (win0_7.rect t)).emb y 2)) := by
      blk_point [iblk, V, eo, e7]
    have hr : ∀ k : Fin 7, iblk m c 5 t (ix3 k (y 1) (y 2)) = m ((c : Thread nD τ).loc main_arg5) (ix3 k (((View.whole main_v0_0).slice (win0_7.rect t)).emb y 1) (((View.whole main_v0_0).slice (win0_7.rect t)).emb y 2)) :=
      fun k => by blk_point [iblk, V, el, e7]
    rw [outsAt0_A m c t (by omega) (by omega)]; frame_out
    pointwise [k0_pay1, k0_pay2, k0_pay3, k0_pay4, k0_pay14, k0_pay13, k0_pay12, k0_pay9, k0_pay8, k0_pay7, k0_pay11, k0_pay10, k0_pay6, k0_pay5, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

    rw [ho, hr 0, hr 1, hr 2, hr 3, hr 4, hr 5, hr 6]
    rw [SumOf.seven _ fun k => m ((c : Thread nD τ).loc main_arg5) (ix3 k (((View.whole main_v0_0).slice (win0_7.rect t)).emb y 1) (((View.whole main_v0_0).slice (win0_7.rect t)).emb y 2)), dif_pos (show (((View.whole main_v0_0).slice (win0_7.rect t)).emb y 0).val < 1 by omega)]
  · obtain ⟨eo, el⟩ := eb (by omega)
    have ho : iblk m c 4 t (ix2 (y 1) (y 2)) = m ((c : Thread nD τ).loc main_arg4) (ix2 (((View.whole main_v0_0).slice (win0_7.rect t)).emb y 1) (((View.whole main_v0_0).slice (win0_7.rect t)).emb y 2)) := by
      blk_point [iblk, V, eo, e7]
    have hr : ∀ k : Fin 7, iblk m c 6 t (ix3 k (y 1) (y 2)) = m ((c : Thread nD τ).loc main_arg6) (ix3 k (((View.whole main_v0_0).slice (win0_7.rect t)).emb y 1) (((View.whole main_v0_0).slice (win0_7.rect t)).emb y 2)) :=
      fun k => by blk_point [iblk, V, el, e7]
    rw [outsAt0_B m c t (by omega) (by omega)]; frame_out
    pointwise [k0_pay1, k0_pay2, k0_pay3, k0_pay4, k0_pay14, k0_pay13, k0_pay12, k0_pay9, k0_pay8, k0_pay7, k0_pay11, k0_pay10, k0_pay6, k0_pay5, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

    rw [ho, hr 0, hr 1, hr 2, hr 3, hr 4, hr 5, hr 6]
    rw [SumOf.seven _ fun k => m ((c : Thread nD τ).loc main_arg6) (ix3 k (((View.whole main_v0_0).slice (win0_7.rect t)).emb y 1) (((View.whole main_v0_0).slice (win0_7.rect t)).emb y 2)), dif_neg (show ¬(((View.whole main_v0_0).slice (win0_7.rect t)).emb y 0).val < 1 by omega)]

set_option maxHeartbeats 2000000 in
open Cert.AdamUpRefIdeal.Read in
/-- Result 1: the steps of the weights. -/
theorem array8 (c : Dev nD) : (dats m 0 c).arrAt 8 cfg0.N = val_main_v34 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  obtain ⟨e0, e1, e2, e7, e8, e9, e10, ea, eb⟩ := tile t
  have hN : t.val < 4 := lt_of_lt_of_eq t.isLt N_0
  have hy : (y 0).val < 1 := (y 0).isLt
  have hl : (((View.whole main_v0_1).slice (win0_8.rect t)).emb y 0).val = t.val / 2 := by
    blk_simp [e8] <;> omega
  have h0 : iblk m c 0 t y = m ((c : Thread nD τ).loc main_arg0) (((View.whole main_v0_1).slice (win0_8.rect t)).emb y) := by blk_point [iblk, V, e0, e8]
  have h1 : iblk m c 1 t y = m ((c : Thread nD τ).loc main_arg1) (((View.whole main_v0_1).slice (win0_8.rect t)).emb y) := by blk_point [iblk, V, e1, e8]
  have h2 : iblk m c 2 t y = m ((c : Thread nD τ).loc main_arg2) (((View.whole main_v0_1).slice (win0_8.rect t)).emb y) := by blk_point [iblk, V, e2, e8]
  blk_simp; rw [after0_8]
  by_cases ht : t.val < 2
  · obtain ⟨eo, el⟩ := ea ht
    have ho : iblk m c 3 t (ix2 (y 1) (y 2)) = m ((c : Thread nD τ).loc main_arg3) (ix2 (((View.whole main_v0_1).slice (win0_8.rect t)).emb y 1) (((View.whole main_v0_1).slice (win0_8.rect t)).emb y 2)) := by
      blk_point [iblk, V, eo, e8]
    have hr : ∀ k : Fin 7, iblk m c 5 t (ix3 k (y 1) (y 2)) = m ((c : Thread nD τ).loc main_arg5) (ix3 k (((View.whole main_v0_1).slice (win0_8.rect t)).emb y 1) (((View.whole main_v0_1).slice (win0_8.rect t)).emb y 2)) :=
      fun k => by blk_point [iblk, V, el, e8]
    rw [outsAt0_A m c t (by omega) (by omega)]; frame_out
    pointwise [k0_pay1, k0_pay2, k0_pay3, k0_pay4, k0_pay14, k0_pay13, k0_pay12, k0_pay9, k0_pay8, k0_pay7, k0_pay11, k0_pay10, k0_pay6, k0_pay5, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

    rw [h0, h1, h2, ho, hr 0, hr 1, hr 2, hr 3, hr 4, hr 5, hr 6]
    rw [SumOf.seven _ fun k => m ((c : Thread nD τ).loc main_arg5) (ix3 k (((View.whole main_v0_1).slice (win0_8.rect t)).emb y 1) (((View.whole main_v0_1).slice (win0_8.rect t)).emb y 2)), dif_pos (show (((View.whole main_v0_1).slice (win0_8.rect t)).emb y 0).val < 1 by omega)]
  · obtain ⟨eo, el⟩ := eb (by omega)
    have ho : iblk m c 4 t (ix2 (y 1) (y 2)) = m ((c : Thread nD τ).loc main_arg4) (ix2 (((View.whole main_v0_1).slice (win0_8.rect t)).emb y 1) (((View.whole main_v0_1).slice (win0_8.rect t)).emb y 2)) := by
      blk_point [iblk, V, eo, e8]
    have hr : ∀ k : Fin 7, iblk m c 6 t (ix3 k (y 1) (y 2)) = m ((c : Thread nD τ).loc main_arg6) (ix3 k (((View.whole main_v0_1).slice (win0_8.rect t)).emb y 1) (((View.whole main_v0_1).slice (win0_8.rect t)).emb y 2)) :=
      fun k => by blk_point [iblk, V, el, e8]
    rw [outsAt0_B m c t (by omega) (by omega)]; frame_out
    pointwise [k0_pay1, k0_pay2, k0_pay3, k0_pay4, k0_pay14, k0_pay13, k0_pay12, k0_pay9, k0_pay8, k0_pay7, k0_pay11, k0_pay10, k0_pay6, k0_pay5, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

    rw [h0, h1, h2, ho, hr 0, hr 1, hr 2, hr 3, hr 4, hr 5, hr 6]
    rw [SumOf.seven _ fun k => m ((c : Thread nD τ).loc main_arg6) (ix3 k (((View.whole main_v0_1).slice (win0_8.rect t)).emb y 1) (((View.whole main_v0_1).slice (win0_8.rect t)).emb y 2)), dif_neg (show ¬(((View.whole main_v0_1).slice (win0_8.rect t)).emb y 0).val < 1 by omega)]

set_option maxHeartbeats 2000000 in
open Cert.AdamUpRefIdeal.Read in
/-- Result 2: the new first moments. -/
theorem array9 (c : Dev nD) : (dats m 0 c).arrAt 9 cfg0.N = val_main_v15 (m ((c : Thread nD τ).loc main_arg1)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  obtain ⟨e0, e1, e2, e7, e8, e9, e10, ea, eb⟩ := tile t
  have hN : t.val < 4 := lt_of_lt_of_eq t.isLt N_0
  have hy : (y 0).val < 1 := (y 0).isLt
  have hl : (((View.whole main_v0_2).slice (win0_9.rect t)).emb y 0).val = t.val / 2 := by
    blk_simp [e9] <;> omega
  have h1 : iblk m c 1 t y = m ((c : Thread nD τ).loc main_arg1) (((View.whole main_v0_2).slice (win0_9.rect t)).emb y) := by blk_point [iblk, V, e1, e9]
  blk_simp; rw [after0_9]
  by_cases ht : t.val < 2
  · obtain ⟨eo, el⟩ := ea ht
    have ho : iblk m c 3 t (ix2 (y 1) (y 2)) = m ((c : Thread nD τ).loc main_arg3) (ix2 (((View.whole main_v0_2).slice (win0_9.rect t)).emb y 1) (((View.whole main_v0_2).slice (win0_9.rect t)).emb y 2)) := by
      blk_point [iblk, V, eo, e9]
    have hr : ∀ k : Fin 7, iblk m c 5 t (ix3 k (y 1) (y 2)) = m ((c : Thread nD τ).loc main_arg5) (ix3 k (((View.whole main_v0_2).slice (win0_9.rect t)).emb y 1) (((View.whole main_v0_2).slice (win0_9.rect t)).emb y 2)) :=
      fun k => by blk_point [iblk, V, el, e9]
    rw [outsAt0_A m c t (by omega) (by omega)]; frame_out
    pointwise [k0_pay1, k0_pay2, k0_pay3, k0_pay4, k0_pay14, k0_pay13, k0_pay12, k0_pay9, k0_pay8, k0_pay7, k0_pay11, k0_pay10, k0_pay6, k0_pay5, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

    rw [h1, ho, hr 0, hr 1, hr 2, hr 3, hr 4, hr 5, hr 6]
    rw [SumOf.seven _ fun k => m ((c : Thread nD τ).loc main_arg5) (ix3 k (((View.whole main_v0_2).slice (win0_9.rect t)).emb y 1) (((View.whole main_v0_2).slice (win0_9.rect t)).emb y 2)), dif_pos (show (((View.whole main_v0_2).slice (win0_9.rect t)).emb y 0).val < 1 by omega)]
  · obtain ⟨eo, el⟩ := eb (by omega)
    have ho : iblk m c 4 t (ix2 (y 1) (y 2)) = m ((c : Thread nD τ).loc main_arg4) (ix2 (((View.whole main_v0_2).slice (win0_9.rect t)).emb y 1) (((View.whole main_v0_2).slice (win0_9.rect t)).emb y 2)) := by
      blk_point [iblk, V, eo, e9]
    have hr : ∀ k : Fin 7, iblk m c 6 t (ix3 k (y 1) (y 2)) = m ((c : Thread nD τ).loc main_arg6) (ix3 k (((View.whole main_v0_2).slice (win0_9.rect t)).emb y 1) (((View.whole main_v0_2).slice (win0_9.rect t)).emb y 2)) :=
      fun k => by blk_point [iblk, V, el, e9]
    rw [outsAt0_B m c t (by omega) (by omega)]; frame_out
    pointwise [k0_pay1, k0_pay2, k0_pay3, k0_pay4, k0_pay14, k0_pay13, k0_pay12, k0_pay9, k0_pay8, k0_pay7, k0_pay11, k0_pay10, k0_pay6, k0_pay5, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

    rw [h1, ho, hr 0, hr 1, hr 2, hr 3, hr 4, hr 5, hr 6]
    rw [SumOf.seven _ fun k => m ((c : Thread nD τ).loc main_arg6) (ix3 k (((View.whole main_v0_2).slice (win0_9.rect t)).emb y 1) (((View.whole main_v0_2).slice (win0_9.rect t)).emb y 2)), dif_neg (show ¬(((View.whole main_v0_2).slice (win0_9.rect t)).emb y 0).val < 1 by omega)]

set_option maxHeartbeats 2000000 in
open Cert.AdamUpRefIdeal.Read in
/-- Result 3: the new second moments. -/
theorem array10 (c : Dev nD) : (dats m 0 c).arrAt 10 cfg0.N = val_main_v21 (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  obtain ⟨e0, e1, e2, e7, e8, e9, e10, ea, eb⟩ := tile t
  have hN : t.val < 4 := lt_of_lt_of_eq t.isLt N_0
  have hy : (y 0).val < 1 := (y 0).isLt
  have hl : (((View.whole main_v0_3).slice (win0_10.rect t)).emb y 0).val = t.val / 2 := by
    blk_simp [e10] <;> omega
  have h2 : iblk m c 2 t y = m ((c : Thread nD τ).loc main_arg2) (((View.whole main_v0_3).slice (win0_10.rect t)).emb y) := by blk_point [iblk, V, e2, e10]
  blk_simp; rw [after0_10]
  by_cases ht : t.val < 2
  · obtain ⟨eo, el⟩ := ea ht
    have ho : iblk m c 3 t (ix2 (y 1) (y 2)) = m ((c : Thread nD τ).loc main_arg3) (ix2 (((View.whole main_v0_3).slice (win0_10.rect t)).emb y 1) (((View.whole main_v0_3).slice (win0_10.rect t)).emb y 2)) := by
      blk_point [iblk, V, eo, e10]
    have hr : ∀ k : Fin 7, iblk m c 5 t (ix3 k (y 1) (y 2)) = m ((c : Thread nD τ).loc main_arg5) (ix3 k (((View.whole main_v0_3).slice (win0_10.rect t)).emb y 1) (((View.whole main_v0_3).slice (win0_10.rect t)).emb y 2)) :=
      fun k => by blk_point [iblk, V, el, e10]
    rw [outsAt0_A m c t (by omega) (by omega)]; frame_out
    pointwise [k0_pay1, k0_pay2, k0_pay3, k0_pay4, k0_pay14, k0_pay13, k0_pay12, k0_pay9, k0_pay8, k0_pay7, k0_pay11, k0_pay10, k0_pay6, k0_pay5, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

    rw [h2, ho, hr 0, hr 1, hr 2, hr 3, hr 4, hr 5, hr 6]
    rw [SumOf.seven _ fun k => m ((c : Thread nD τ).loc main_arg5) (ix3 k (((View.whole main_v0_3).slice (win0_10.rect t)).emb y 1) (((View.whole main_v0_3).slice (win0_10.rect t)).emb y 2)), dif_pos (show (((View.whole main_v0_3).slice (win0_10.rect t)).emb y 0).val < 1 by omega)]
  · obtain ⟨eo, el⟩ := eb (by omega)
    have ho : iblk m c 4 t (ix2 (y 1) (y 2)) = m ((c : Thread nD τ).loc main_arg4) (ix2 (((View.whole main_v0_3).slice (win0_10.rect t)).emb y 1) (((View.whole main_v0_3).slice (win0_10.rect t)).emb y 2)) := by
      blk_point [iblk, V, eo, e10]
    have hr : ∀ k : Fin 7, iblk m c 6 t (ix3 k (y 1) (y 2)) = m ((c : Thread nD τ).loc main_arg6) (ix3 k (((View.whole main_v0_3).slice (win0_10.rect t)).emb y 1) (((View.whole main_v0_3).slice (win0_10.rect t)).emb y 2)) :=
      fun k => by blk_point [iblk, V, el, e10]
    rw [outsAt0_B m c t (by omega) (by omega)]; frame_out
    pointwise [k0_pay1, k0_pay2, k0_pay3, k0_pay4, k0_pay14, k0_pay13, k0_pay12, k0_pay9, k0_pay8, k0_pay7, k0_pay11, k0_pay10, k0_pay6, k0_pay5, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

    rw [h2, ho, hr 0, hr 1, hr 2, hr 3, hr 4, hr 5, hr 6]
    rw [SumOf.seven _ fun k => m ((c : Thread nD τ).loc main_arg6) (ix3 k (((View.whole main_v0_3).slice (win0_10.rect t)).emb y 1) (((View.whole main_v0_3).slice (win0_10.rect t)).emb y 2)), dif_neg (show ¬(((View.whole main_v0_3).slice (win0_10.rect t)).emb y 0).val < 1 by omega)]

/-- The reference leaves its arguments, and it has no semaphore. -/
theorem frame_reference : Cert.quiescent_AdamUpRefIdeal := fun m ρ _ =>
  (θ_run Cert.AdamUpRefIdeal.defs _ _).mono (fun r h => ⟨fun c => (h c).2.2.2.2, sem_eq_zero_of_no_sems (by decide) r.2⟩)
    (Cert.AdamUpRefIdeal.Value.run (F := Ideal) m ρ)

/-- The kernel and the reference end with the same four arrays. -/
theorem algebraic : Cert.algebraic_AdamUpIdeal_AdamUpRefIdeal := by
  intro m g m' g' _ hm
  refine ⟨fun c => Cert.AdamUpRefIdeal.Read.val_main_v10 (m ((c : Thread nD τ).loc main_arg3)) (m ((c : Thread nD τ).loc main_arg4)) (m ((c : Thread nD τ).loc main_arg5)) (m ((c : Thread nD τ).loc main_arg6)), fun c => Cert.AdamUpRefIdeal.Read.val_main_v34 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), fun c => Cert.AdamUpRefIdeal.Read.val_main_v15 (m ((c : Thread nD τ).loc main_arg1)) (m ((c : Thread nD τ).loc main_arg3)) (m ((c : Thread nD τ).loc main_arg4)) (m ((c : Thread nD τ).loc main_arg5)) (m ((c : Thread nD τ).loc main_arg6)), fun c => Cert.AdamUpRefIdeal.Read.val_main_v21 (m ((c : Thread nD τ).loc main_arg2)) (m ((c : Thread nD τ).loc main_arg3)) (m ((c : Thread nD τ).loc main_arg4)) (m ((c : Thread nD τ).loc main_arg5)) (m ((c : Thread nD τ).loc main_arg6)), ?_, ?_⟩
  · exact (θ_run Cert.AdamUpIdeal.defs _ _).mono (fun r h c => ⟨(h c).1.trans (array7 m c), (h c).2.1.trans (array8 m c),
      (h c).2.2.1.trans (array9 m c), (h c).2.2.2.1.trans (array10 m c), (h c).2.2.2.2⟩) (Cert.AdamUpIdeal.Value.run_blocks m g)
  · refine (θ_run Cert.AdamUpRefIdeal.defs _ _).mono (fun r h c => ⟨(h c).1.trans ?_, (h c).2.1.trans ?_, (h c).2.2.1.trans ?_, (h c).2.2.2.1.trans ?_, (h c).2.2.2.2⟩)
      (Cert.AdamUpRefIdeal.Value.run (F := Ideal) m' g')
    all_goals obtain ⟨e0, e1, e2, e3, e4, e5, e6⟩ := hm c; beta_reduce
    · rw [← e3, ← e4, ← e5, ← e6]; exact Cert.AdamUpRefIdeal.Read.val_main_v10_eq _ _ _ _
    · rw [← e0, ← e1, ← e2, ← e3, ← e4, ← e5, ← e6]; exact Cert.AdamUpRefIdeal.Read.val_main_v34_eq _ _ _ _ _ _ _
    · rw [← e1, ← e3, ← e4, ← e5, ← e6]; exact Cert.AdamUpRefIdeal.Read.val_main_v15_eq _ _ _ _ _
    · rw [← e2, ← e3, ← e4, ← e5, ← e6]; exact Cert.AdamUpRefIdeal.Read.val_main_v21_eq _ _ _ _ _
end Cert.AdamUpIdeal.Own
end
-- ==== Proof.AdamDown.lean ====
module
public import proofs.«01_k».proof.Defs
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.SumOf
public import Idealize.ShloMosaic.Lib.Pipeline.ValueKit
public import Idealize.ShloMosaic.Adequacy
public import Idealize.ShloMosaic.Init

/-! The optimiser on the two layers' ways down: the exchanged gradients summed, the moments and the steps. -/

@[expose] public section
set_option maxRecDepth 16384
noncomputable section
namespace Cert.AdamDownIdeal.Own
open Cert.AdamDownIdeal Cert.AdamDownIdeal.Gen Idealize.ShloMosaic Idealize.ShloMosaic.TcCoe Idealize.SL.Sem
open Idealize.ShloMosaic.Pipeline (Dat)
open scoped BigOperators

/-- Which block every window shows: the layer, and the row tile in it. A layer's own gradient and what was received for it move only while it is done. -/
theorem tile : ∀ t : Fin cfg0.N, win0_0.index t = ![t.val / 1, t.val % 1, 0] ∧ win0_1.index t = ![t.val / 1, t.val % 1, 0] ∧ win0_2.index t = ![t.val / 1, t.val % 1, 0] ∧ win0_7.index t = ![t.val / 1, t.val % 1, 0] ∧ win0_8.index t = ![t.val / 1, t.val % 1, 0] ∧ win0_9.index t = ![t.val / 1, t.val % 1, 0] ∧ win0_10.index t = ![t.val / 1, t.val % 1, 0]
    ∧ (t.val < 1 → win0_3.index t = ![t.val % 1, 0] ∧ win0_5.index t = ![0, t.val % 1, 0])
    ∧ (1 ≤ t.val → win0_4.index t = ![t.val % 1, 0] ∧ win0_6.index t = ![0, t.val % 1, 0]) :=
  (by decide +kernel : ∀ t : Fin grid0.N, _)

variable (m : (ℓ : Loc nD τ sig) → Buf (Elt Ideal) ℓ)

set_option maxHeartbeats 2000000 in
open Cert.AdamDownRefIdeal.Read in
/-- Result 0: the summed gradients. -/
theorem array7 (c : Dev nD) : (dats m 0 c).arrAt 7 cfg0.N = val_main_v10 (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  obtain ⟨e0, e1, e2, e7, e8, e9, e10, ea, eb⟩ := tile t
  have hN : t.val < 2 := lt_of_lt_of_eq t.isLt N_0
  have hy : (y 0).val < 1 := (y 0).isLt
  have hl : (((View.whole main_v0_0).slice (win0_7.rect t)).emb y 0).val = t.val / 1 := by
    blk_simp [e7] <;> omega
  blk_simp; rw [after0_7]
  by_cases ht : t.val < 1
  · obtain ⟨eo, el⟩ := ea ht
    have ho : iblk m c 3 t (ix2 (y 1) (y 2)) = m ((c : Thread nD τ).loc main_arg3) (ix2 (((View.whole main_v0_0).slice (win0_7.rect t)).emb y 1) (((View.whole main_v0_0).slice (win0_7.rect t)).emb y 2)) := by
      blk_point [iblk, V, eo, e7]
    have hr : ∀ k : Fin 7, iblk m c 5 t (ix3 k (y 1) (y 2)) = m ((c : Thread nD τ).loc main_arg5) (ix3 k (((View.whole main_v0_0).slice (win0_7.rect t)).emb y 1) (((View.whole main_v0_0).slice (win0_7.rect t)).emb y 2)) :=
      fun k => by blk_point [iblk, V, el, e7]
    rw [outsAt0_A m c t (by omega) (by omega)]; frame_out
    pointwise [k0_pay1, k0_pay2, k0_pay3, k0_pay4, k0_pay14, k0_pay13, k0_pay12, k0_pay9, k0_pay8, k0_pay7, k0_pay11, k0_pay10, k0_pay6, k0_pay5, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

    rw [ho, hr 0, hr 1, hr 2, hr 3, hr 4, hr 5, hr 6]
    rw [SumOf.seven _ fun k => m ((c : Thread nD τ).loc main_arg5) (ix3 k (((View.whole main_v0_0).slice (win0_7.rect t)).emb y 1) (((View.whole main_v0_0).slice (win0_7.rect t)).emb y 2)), dif_pos (show (((View.whole main_v0_0).slice (win0_7.rect t)).emb y 0).val < 1 by omega)]
  · obtain ⟨eo, el⟩ := eb (by omega)
    have ho : iblk m c 4 t (ix2 (y 1) (y 2)) = m ((c : Thread nD τ).loc main_arg4) (ix2 (((View.whole main_v0_0).slice (win0_7.rect t)).emb y 1) (((View.whole main_v0_0).slice (win0_7.rect t)).emb y 2)) := by
      blk_point [iblk, V, eo, e7]
    have hr : ∀ k : Fin 7, iblk m c 6 t (ix3 k (y 1) (y 2)) = m ((c : Thread nD τ).loc main_arg6) (ix3 k (((View.whole main_v0_0).slice (win0_7.rect t)).emb y 1) (((View.whole main_v0_0).slice (win0_7.rect t)).emb y 2)) :=
      fun k => by blk_point [iblk, V, el, e7]
    rw [outsAt0_B m c t (by omega) (by omega)]; frame_out
    pointwise [k0_pay1, k0_pay2, k0_pay3, k0_pay4, k0_pay14, k0_pay13, k0_pay12, k0_pay9, k0_pay8, k0_pay7, k0_pay11, k0_pay10, k0_pay6, k0_pay5, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

    rw [ho, hr 0, hr 1, hr 2, hr 3, hr 4, hr 5, hr 6]
    rw [SumOf.seven _ fun k => m ((c : Thread nD τ).loc main_arg6) (ix3 k (((View.whole main_v0_0).slice (win0_7.rect t)).emb y 1) (((View.whole main_v0_0).slice (win0_7.rect t)).emb y 2)), dif_neg (show ¬(((View.whole main_v0_0).slice (win0_7.rect t)).emb y 0).val < 1 by omega)]

set_option maxHeartbeats 2000000 in
open Cert.AdamDownRefIdeal.Read in
/-- Result 1: the steps of the weights. -/
theorem array8 (c : Dev nD) : (dats m 0 c).arrAt 8 cfg0.N = val_main_v34 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  obtain ⟨e0, e1, e2, e7, e8, e9, e10, ea, eb⟩ := tile t
  have hN : t.val < 2 := lt_of_lt_of_eq t.isLt N_0
  have hy : (y 0).val < 1 := (y 0).isLt
  have hl : (((View.whole main_v0_1).slice (win0_8.rect t)).emb y 0).val = t.val / 1 := by
    blk_simp [e8] <;> omega
  have h0 : iblk m c 0 t y = m ((c : Thread nD τ).loc main_arg0) (((View.whole main_v0_1).slice (win0_8.rect t)).emb y) := by blk_point [iblk, V, e0, e8]
  have h1 : iblk m c 1 t y = m ((c : Thread nD τ).loc main_arg1) (((View.whole main_v0_1).slice (win0_8.rect t)).emb y) := by blk_point [iblk, V, e1, e8]
  have h2 : iblk m c 2 t y = m ((c : Thread nD τ).loc main_arg2) (((View.whole main_v0_1).slice (win0_8.rect t)).emb y) := by blk_point [iblk, V, e2, e8]
  blk_simp; rw [after0_8]
  by_cases ht : t.val < 1
  · obtain ⟨eo, el⟩ := ea ht
    have ho : iblk m c 3 t (ix2 (y 1) (y 2)) = m ((c : Thread nD τ).loc main_arg3) (ix2 (((View.whole main_v0_1).slice (win0_8.rect t)).emb y 1) (((View.whole main_v0_1).slice (win0_8.rect t)).emb y 2)) := by
      blk_point [iblk, V, eo, e8]
    have hr : ∀ k : Fin 7, iblk m c 5 t (ix3 k (y 1) (y 2)) = m ((c : Thread nD τ).loc main_arg5) (ix3 k (((View.whole main_v0_1).slice (win0_8.rect t)).emb y 1) (((View.whole main_v0_1).slice (win0_8.rect t)).emb y 2)) :=
      fun k => by blk_point [iblk, V, el, e8]
    rw [outsAt0_A m c t (by omega) (by omega)]; frame_out
    pointwise [k0_pay1, k0_pay2, k0_pay3, k0_pay4, k0_pay14, k0_pay13, k0_pay12, k0_pay9, k0_pay8, k0_pay7, k0_pay11, k0_pay10, k0_pay6, k0_pay5, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

    rw [h0, h1, h2, ho, hr 0, hr 1, hr 2, hr 3, hr 4, hr 5, hr 6]
    rw [SumOf.seven _ fun k => m ((c : Thread nD τ).loc main_arg5) (ix3 k (((View.whole main_v0_1).slice (win0_8.rect t)).emb y 1) (((View.whole main_v0_1).slice (win0_8.rect t)).emb y 2)), dif_pos (show (((View.whole main_v0_1).slice (win0_8.rect t)).emb y 0).val < 1 by omega)]
  · obtain ⟨eo, el⟩ := eb (by omega)
    have ho : iblk m c 4 t (ix2 (y 1) (y 2)) = m ((c : Thread nD τ).loc main_arg4) (ix2 (((View.whole main_v0_1).slice (win0_8.rect t)).emb y 1) (((View.whole main_v0_1).slice (win0_8.rect t)).emb y 2)) := by
      blk_point [iblk, V, eo, e8]
    have hr : ∀ k : Fin 7, iblk m c 6 t (ix3 k (y 1) (y 2)) = m ((c : Thread nD τ).loc main_arg6) (ix3 k (((View.whole main_v0_1).slice (win0_8.rect t)).emb y 1) (((View.whole main_v0_1).slice (win0_8.rect t)).emb y 2)) :=
      fun k => by blk_point [iblk, V, el, e8]
    rw [outsAt0_B m c t (by omega) (by omega)]; frame_out
    pointwise [k0_pay1, k0_pay2, k0_pay3, k0_pay4, k0_pay14, k0_pay13, k0_pay12, k0_pay9, k0_pay8, k0_pay7, k0_pay11, k0_pay10, k0_pay6, k0_pay5, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

    rw [h0, h1, h2, ho, hr 0, hr 1, hr 2, hr 3, hr 4, hr 5, hr 6]
    rw [SumOf.seven _ fun k => m ((c : Thread nD τ).loc main_arg6) (ix3 k (((View.whole main_v0_1).slice (win0_8.rect t)).emb y 1) (((View.whole main_v0_1).slice (win0_8.rect t)).emb y 2)), dif_neg (show ¬(((View.whole main_v0_1).slice (win0_8.rect t)).emb y 0).val < 1 by omega)]

set_option maxHeartbeats 2000000 in
open Cert.AdamDownRefIdeal.Read in
/-- Result 2: the new first moments. -/
theorem array9 (c : Dev nD) : (dats m 0 c).arrAt 9 cfg0.N = val_main_v15 (m ((c : Thread nD τ).loc main_arg1)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  obtain ⟨e0, e1, e2, e7, e8, e9, e10, ea, eb⟩ := tile t
  have hN : t.val < 2 := lt_of_lt_of_eq t.isLt N_0
  have hy : (y 0).val < 1 := (y 0).isLt
  have hl : (((View.whole main_v0_2).slice (win0_9.rect t)).emb y 0).val = t.val / 1 := by
    blk_simp [e9] <;> omega
  have h1 : iblk m c 1 t y = m ((c : Thread nD τ).loc main_arg1) (((View.whole main_v0_2).slice (win0_9.rect t)).emb y) := by blk_point [iblk, V, e1, e9]
  blk_simp; rw [after0_9]
  by_cases ht : t.val < 1
  · obtain ⟨eo, el⟩ := ea ht
    have ho : iblk m c 3 t (ix2 (y 1) (y 2)) = m ((c : Thread nD τ).loc main_arg3) (ix2 (((View.whole main_v0_2).slice (win0_9.rect t)).emb y 1) (((View.whole main_v0_2).slice (win0_9.rect t)).emb y 2)) := by
      blk_point [iblk, V, eo, e9]
    have hr : ∀ k : Fin 7, iblk m c 5 t (ix3 k (y 1) (y 2)) = m ((c : Thread nD τ).loc main_arg5) (ix3 k (((View.whole main_v0_2).slice (win0_9.rect t)).emb y 1) (((View.whole main_v0_2).slice (win0_9.rect t)).emb y 2)) :=
      fun k => by blk_point [iblk, V, el, e9]
    rw [outsAt0_A m c t (by omega) (by omega)]; frame_out
    pointwise [k0_pay1, k0_pay2, k0_pay3, k0_pay4, k0_pay14, k0_pay13, k0_pay12, k0_pay9, k0_pay8, k0_pay7, k0_pay11, k0_pay10, k0_pay6, k0_pay5, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

    rw [h1, ho, hr 0, hr 1, hr 2, hr 3, hr 4, hr 5, hr 6]
    rw [SumOf.seven _ fun k => m ((c : Thread nD τ).loc main_arg5) (ix3 k (((View.whole main_v0_2).slice (win0_9.rect t)).emb y 1) (((View.whole main_v0_2).slice (win0_9.rect t)).emb y 2)), dif_pos (show (((View.whole main_v0_2).slice (win0_9.rect t)).emb y 0).val < 1 by omega)]
  · obtain ⟨eo, el⟩ := eb (by omega)
    have ho : iblk m c 4 t (ix2 (y 1) (y 2)) = m ((c : Thread nD τ).loc main_arg4) (ix2 (((View.whole main_v0_2).slice (win0_9.rect t)).emb y 1) (((View.whole main_v0_2).slice (win0_9.rect t)).emb y 2)) := by
      blk_point [iblk, V, eo, e9]
    have hr : ∀ k : Fin 7, iblk m c 6 t (ix3 k (y 1) (y 2)) = m ((c : Thread nD τ).loc main_arg6) (ix3 k (((View.whole main_v0_2).slice (win0_9.rect t)).emb y 1) (((View.whole main_v0_2).slice (win0_9.rect t)).emb y 2)) :=
      fun k => by blk_point [iblk, V, el, e9]
    rw [outsAt0_B m c t (by omega) (by omega)]; frame_out
    pointwise [k0_pay1, k0_pay2, k0_pay3, k0_pay4, k0_pay14, k0_pay13, k0_pay12, k0_pay9, k0_pay8, k0_pay7, k0_pay11, k0_pay10, k0_pay6, k0_pay5, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

    rw [h1, ho, hr 0, hr 1, hr 2, hr 3, hr 4, hr 5, hr 6]
    rw [SumOf.seven _ fun k => m ((c : Thread nD τ).loc main_arg6) (ix3 k (((View.whole main_v0_2).slice (win0_9.rect t)).emb y 1) (((View.whole main_v0_2).slice (win0_9.rect t)).emb y 2)), dif_neg (show ¬(((View.whole main_v0_2).slice (win0_9.rect t)).emb y 0).val < 1 by omega)]

set_option maxHeartbeats 2000000 in
open Cert.AdamDownRefIdeal.Read in
/-- Result 3: the new second moments. -/
theorem array10 (c : Dev nD) : (dats m 0 c).arrAt 10 cfg0.N = val_main_v21 (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  obtain ⟨e0, e1, e2, e7, e8, e9, e10, ea, eb⟩ := tile t
  have hN : t.val < 2 := lt_of_lt_of_eq t.isLt N_0
  have hy : (y 0).val < 1 := (y 0).isLt
  have hl : (((View.whole main_v0_3).slice (win0_10.rect t)).emb y 0).val = t.val / 1 := by
    blk_simp [e10] <;> omega
  have h2 : iblk m c 2 t y = m ((c : Thread nD τ).loc main_arg2) (((View.whole main_v0_3).slice (win0_10.rect t)).emb y) := by blk_point [iblk, V, e2, e10]
  blk_simp; rw [after0_10]
  by_cases ht : t.val < 1
  · obtain ⟨eo, el⟩ := ea ht
    have ho : iblk m c 3 t (ix2 (y 1) (y 2)) = m ((c : Thread nD τ).loc main_arg3) (ix2 (((View.whole main_v0_3).slice (win0_10.rect t)).emb y 1) (((View.whole main_v0_3).slice (win0_10.rect t)).emb y 2)) := by
      blk_point [iblk, V, eo, e10]
    have hr : ∀ k : Fin 7, iblk m c 5 t (ix3 k (y 1) (y 2)) = m ((c : Thread nD τ).loc main_arg5) (ix3 k (((View.whole main_v0_3).slice (win0_10.rect t)).emb y 1) (((View.whole main_v0_3).slice (win0_10.rect t)).emb y 2)) :=
      fun k => by blk_point [iblk, V, el, e10]
    rw [outsAt0_A m c t (by omega) (by omega)]; frame_out
    pointwise [k0_pay1, k0_pay2, k0_pay3, k0_pay4, k0_pay14, k0_pay13, k0_pay12, k0_pay9, k0_pay8, k0_pay7, k0_pay11, k0_pay10, k0_pay6, k0_pay5, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

    rw [h2, ho, hr 0, hr 1, hr 2, hr 3, hr 4, hr 5, hr 6]
    rw [SumOf.seven _ fun k => m ((c : Thread nD τ).loc main_arg5) (ix3 k (((View.whole main_v0_3).slice (win0_10.rect t)).emb y 1) (((View.whole main_v0_3).slice (win0_10.rect t)).emb y 2)), dif_pos (show (((View.whole main_v0_3).slice (win0_10.rect t)).emb y 0).val < 1 by omega)]
  · obtain ⟨eo, el⟩ := eb (by omega)
    have ho : iblk m c 4 t (ix2 (y 1) (y 2)) = m ((c : Thread nD τ).loc main_arg4) (ix2 (((View.whole main_v0_3).slice (win0_10.rect t)).emb y 1) (((View.whole main_v0_3).slice (win0_10.rect t)).emb y 2)) := by
      blk_point [iblk, V, eo, e10]
    have hr : ∀ k : Fin 7, iblk m c 6 t (ix3 k (y 1) (y 2)) = m ((c : Thread nD τ).loc main_arg6) (ix3 k (((View.whole main_v0_3).slice (win0_10.rect t)).emb y 1) (((View.whole main_v0_3).slice (win0_10.rect t)).emb y 2)) :=
      fun k => by blk_point [iblk, V, el, e10]
    rw [outsAt0_B m c t (by omega) (by omega)]; frame_out
    pointwise [k0_pay1, k0_pay2, k0_pay3, k0_pay4, k0_pay14, k0_pay13, k0_pay12, k0_pay9, k0_pay8, k0_pay7, k0_pay11, k0_pay10, k0_pay6, k0_pay5, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9]

    rw [h2, ho, hr 0, hr 1, hr 2, hr 3, hr 4, hr 5, hr 6]
    rw [SumOf.seven _ fun k => m ((c : Thread nD τ).loc main_arg6) (ix3 k (((View.whole main_v0_3).slice (win0_10.rect t)).emb y 1) (((View.whole main_v0_3).slice (win0_10.rect t)).emb y 2)), dif_neg (show ¬(((View.whole main_v0_3).slice (win0_10.rect t)).emb y 0).val < 1 by omega)]

/-- The reference leaves its arguments, and it has no semaphore. -/
theorem frame_reference : Cert.quiescent_AdamDownRefIdeal := fun m ρ _ =>
  (θ_run Cert.AdamDownRefIdeal.defs _ _).mono (fun r h => ⟨fun c => (h c).2.2.2.2, sem_eq_zero_of_no_sems (by decide) r.2⟩)
    (Cert.AdamDownRefIdeal.Value.run (F := Ideal) m ρ)

/-- The kernel and the reference end with the same four arrays. -/
theorem algebraic : Cert.algebraic_AdamDownIdeal_AdamDownRefIdeal := by
  intro m g m' g' _ hm
  refine ⟨fun c => Cert.AdamDownRefIdeal.Read.val_main_v10 (m ((c : Thread nD τ).loc main_arg3)) (m ((c : Thread nD τ).loc main_arg4)) (m ((c : Thread nD τ).loc main_arg5)) (m ((c : Thread nD τ).loc main_arg6)), fun c => Cert.AdamDownRefIdeal.Read.val_main_v34 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), fun c => Cert.AdamDownRefIdeal.Read.val_main_v15 (m ((c : Thread nD τ).loc main_arg1)) (m ((c : Thread nD τ).loc main_arg3)) (m ((c : Thread nD τ).loc main_arg4)) (m ((c : Thread nD τ).loc main_arg5)) (m ((c : Thread nD τ).loc main_arg6)), fun c => Cert.AdamDownRefIdeal.Read.val_main_v21 (m ((c : Thread nD τ).loc main_arg2)) (m ((c : Thread nD τ).loc main_arg3)) (m ((c : Thread nD τ).loc main_arg4)) (m ((c : Thread nD τ).loc main_arg5)) (m ((c : Thread nD τ).loc main_arg6)), ?_, ?_⟩
  · exact (θ_run Cert.AdamDownIdeal.defs _ _).mono (fun r h c => ⟨(h c).1.trans (array7 m c), (h c).2.1.trans (array8 m c),
      (h c).2.2.1.trans (array9 m c), (h c).2.2.2.1.trans (array10 m c), (h c).2.2.2.2⟩) (Cert.AdamDownIdeal.Value.run_blocks m g)
  · refine (θ_run Cert.AdamDownRefIdeal.defs _ _).mono (fun r h c => ⟨(h c).1.trans ?_, (h c).2.1.trans ?_, (h c).2.2.1.trans ?_, (h c).2.2.2.1.trans ?_, (h c).2.2.2.2⟩)
      (Cert.AdamDownRefIdeal.Value.run (F := Ideal) m' g')
    all_goals obtain ⟨e0, e1, e2, e3, e4, e5, e6⟩ := hm c; beta_reduce
    · rw [← e3, ← e4, ← e5, ← e6]; exact Cert.AdamDownRefIdeal.Read.val_main_v10_eq _ _ _ _
    · rw [← e0, ← e1, ← e2, ← e3, ← e4, ← e5, ← e6]; exact Cert.AdamDownRefIdeal.Read.val_main_v34_eq _ _ _ _ _ _ _
    · rw [← e1, ← e3, ← e4, ← e5, ← e6]; exact Cert.AdamDownRefIdeal.Read.val_main_v15_eq _ _ _ _ _
    · rw [← e2, ← e3, ← e4, ← e5, ← e6]; exact Cert.AdamDownRefIdeal.Read.val_main_v21_eq _ _ _ _ _
end Cert.AdamDownIdeal.Own
end
-- ==== Proof.AdamIn.lean ====
module
public import proofs.«01_k».proof.Defs
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.SumOf
public import Idealize.ShloMosaic.Lib.Pipeline.ValueKit
public import Idealize.ShloMosaic.Adequacy
public import Idealize.ShloMosaic.Init

/-! The optimiser on the projection in: the exchanged gradient summed, the moments and the step. -/

@[expose] public section
set_option maxRecDepth 16384
noncomputable section
namespace Cert.AdamInIdeal.Own
open Cert.AdamInIdeal Cert.AdamInIdeal.Gen Idealize.ShloMosaic Idealize.ShloMosaic.TcCoe Idealize.SL.Sem
open Idealize.ShloMosaic.Pipeline (Dat)
open scoped BigOperators

/-- Which block every window shows at each of the four row tiles. -/
theorem tile : ∀ t : Fin cfg0.N, win0_0.index t = ![0, t.val, 0] ∧ win0_1.index t = ![0, t.val, 0] ∧ win0_2.index t = ![0, t.val, 0] ∧ win0_3.index t = ![t.val, 0] ∧ win0_4.index t = ![0, t.val, 0] ∧ win0_5.index t = ![0, t.val, 0] ∧ win0_6.index t = ![0, t.val, 0] ∧ win0_7.index t = ![0, t.val, 0] ∧ win0_8.index t = ![0, t.val, 0] :=
  (by decide +kernel : ∀ t : Fin grid0.N, _)

variable (m : (ℓ : Loc nD τ sig) → Buf (Elt Ideal) ℓ)

open Cert.AdamInRefIdeal.Read in
/-- Result 0: the summed gradient. -/
theorem array5 (c : Dev nD) : (dats m 0 c).arrAt 5 cfg0.N = val_main_v4 (m ((c : Thread nD τ).loc main_arg3)) (m ((c : Thread nD τ).loc main_arg4)) := by
  refine (dats m 0 c).arrAt_eq_of_covers 5 _ (by decide +kernel) fun t hf y => ?_
  have e := tile t
  have h3 : iblk m c 3 t (ix2 (y 1) (y 2)) = m ((c : Thread nD τ).loc main_arg3) (ix2 (((View.whole main_v0_0).slice (win0_5.rect t)).emb y 1)
      (((View.whole main_v0_0).slice (win0_5.rect t)).emb y 2)) := by blk_point [iblk, V, e]
  have h4 : ∀ k : Fin 7, iblk m c 4 t (ix3 k (y 1) (y 2)) = m ((c : Thread nD τ).loc main_arg4) (ix3 k (((View.whole main_v0_0).slice (win0_5.rect t)).emb y 1)
      (((View.whole main_v0_0).slice (win0_5.rect t)).emb y 2)) := fun k => by blk_point [iblk, V, e]
  blk_simp; rw [after0_5]; simp only [outsAt0]; frame_out
  pointwise [k0_pay1, k0_pay2, k0_pay7, k0_pay6, k0_pay5, k0_pay4, k0_pay3, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  rw [h3, h4 0, h4 1, h4 2, h4 3, h4 4, h4 5, h4 6]
  rw [SumOf.seven _ fun k => m ((c : Thread nD τ).loc main_arg4) (ix3 k (((View.whole main_v0_0).slice (win0_5.rect t)).emb y 1)
      (((View.whole main_v0_0).slice (win0_5.rect t)).emb y 2))]

open Cert.AdamInRefIdeal.Read in
/-- Result 1: the step of the weight. -/
theorem array6 (c : Dev nD) : (dats m 0 c).arrAt 6 cfg0.N = val_main_v28 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have e := tile t
  have h3 : iblk m c 3 t (ix2 (y 1) (y 2)) = m ((c : Thread nD τ).loc main_arg3) (ix2 (((View.whole main_v0_1).slice (win0_6.rect t)).emb y 1)
      (((View.whole main_v0_1).slice (win0_6.rect t)).emb y 2)) := by blk_point [iblk, V, e]
  have h4 : ∀ k : Fin 7, iblk m c 4 t (ix3 k (y 1) (y 2)) = m ((c : Thread nD τ).loc main_arg4) (ix3 k (((View.whole main_v0_1).slice (win0_6.rect t)).emb y 1)
      (((View.whole main_v0_1).slice (win0_6.rect t)).emb y 2)) := fun k => by blk_point [iblk, V, e]
  have h0 : iblk m c 0 t y = m ((c : Thread nD τ).loc main_arg0) (((View.whole main_v0_1).slice (win0_6.rect t)).emb y) := by blk_point [iblk, V, e]
  have h1 : iblk m c 1 t y = m ((c : Thread nD τ).loc main_arg1) (((View.whole main_v0_1).slice (win0_6.rect t)).emb y) := by blk_point [iblk, V, e]
  have h2 : iblk m c 2 t y = m ((c : Thread nD τ).loc main_arg2) (((View.whole main_v0_1).slice (win0_6.rect t)).emb y) := by blk_point [iblk, V, e]
  blk_simp; rw [after0_6]; simp only [outsAt0]; frame_out
  pointwise [k0_pay1, k0_pay2, k0_pay7, k0_pay6, k0_pay5, k0_pay4, k0_pay3, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  rw [h0, h1, h2, h3, h4 0, h4 1, h4 2, h4 3, h4 4, h4 5, h4 6]
  rw [SumOf.seven _ fun k => m ((c : Thread nD τ).loc main_arg4) (ix3 k (((View.whole main_v0_1).slice (win0_6.rect t)).emb y 1)
      (((View.whole main_v0_1).slice (win0_6.rect t)).emb y 2))]

open Cert.AdamInRefIdeal.Read in
/-- Result 2: the new first moment. -/
theorem array7 (c : Dev nD) : (dats m 0 c).arrAt 7 cfg0.N = val_main_v9 (m ((c : Thread nD τ).loc main_arg1)) (m ((c : Thread nD τ).loc main_arg3)) (m ((c : Thread nD τ).loc main_arg4)) := by
  refine (dats m 0 c).arrAt_eq_of_covers 7 _ (by decide +kernel) fun t hf y => ?_
  have e := tile t
  have h3 : iblk m c 3 t (ix2 (y 1) (y 2)) = m ((c : Thread nD τ).loc main_arg3) (ix2 (((View.whole main_v0_2).slice (win0_7.rect t)).emb y 1)
      (((View.whole main_v0_2).slice (win0_7.rect t)).emb y 2)) := by blk_point [iblk, V, e]
  have h4 : ∀ k : Fin 7, iblk m c 4 t (ix3 k (y 1) (y 2)) = m ((c : Thread nD τ).loc main_arg4) (ix3 k (((View.whole main_v0_2).slice (win0_7.rect t)).emb y 1)
      (((View.whole main_v0_2).slice (win0_7.rect t)).emb y 2)) := fun k => by blk_point [iblk, V, e]
  have h1 : iblk m c 1 t y = m ((c : Thread nD τ).loc main_arg1) (((View.whole main_v0_2).slice (win0_7.rect t)).emb y) := by blk_point [iblk, V, e]
  blk_simp; rw [after0_7]; simp only [outsAt0]; frame_out
  pointwise [k0_pay1, k0_pay2, k0_pay7, k0_pay6, k0_pay5, k0_pay4, k0_pay3, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  rw [h1, h3, h4 0, h4 1, h4 2, h4 3, h4 4, h4 5, h4 6]
  rw [SumOf.seven _ fun k => m ((c : Thread nD τ).loc main_arg4) (ix3 k (((View.whole main_v0_2).slice (win0_7.rect t)).emb y 1)
      (((View.whole main_v0_2).slice (win0_7.rect t)).emb y 2))]

open Cert.AdamInRefIdeal.Read in
/-- Result 3: the new second moment. -/
theorem array8 (c : Dev nD) : (dats m 0 c).arrAt 8 cfg0.N = val_main_v15 (m ((c : Thread nD τ).loc main_arg2)) (m ((c : Thread nD τ).loc main_arg3)) (m ((c : Thread nD τ).loc main_arg4)) := by
  refine (dats m 0 c).arrAt_eq_of_covers 8 _ (by decide +kernel) fun t hf y => ?_
  have e := tile t
  have h3 : iblk m c 3 t (ix2 (y 1) (y 2)) = m ((c : Thread nD τ).loc main_arg3) (ix2 (((View.whole main_v0_3).slice (win0_8.rect t)).emb y 1)
      (((View.whole main_v0_3).slice (win0_8.rect t)).emb y 2)) := by blk_point [iblk, V, e]
  have h4 : ∀ k : Fin 7, iblk m c 4 t (ix3 k (y 1) (y 2)) = m ((c : Thread nD τ).loc main_arg4) (ix3 k (((View.whole main_v0_3).slice (win0_8.rect t)).emb y 1)
      (((View.whole main_v0_3).slice (win0_8.rect t)).emb y 2)) := fun k => by blk_point [iblk, V, e]
  have h2 : iblk m c 2 t y = m ((c : Thread nD τ).loc main_arg2) (((View.whole main_v0_3).slice (win0_8.rect t)).emb y) := by blk_point [iblk, V, e]
  blk_simp; rw [after0_8]; simp only [outsAt0]; frame_out
  pointwise [k0_pay1, k0_pay2, k0_pay7, k0_pay6, k0_pay5, k0_pay4, k0_pay3, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  rw [h2, h3, h4 0, h4 1, h4 2, h4 3, h4 4, h4 5, h4 6]
  rw [SumOf.seven _ fun k => m ((c : Thread nD τ).loc main_arg4) (ix3 k (((View.whole main_v0_3).slice (win0_8.rect t)).emb y 1)
      (((View.whole main_v0_3).slice (win0_8.rect t)).emb y 2))]

/-- The reference leaves its arguments, and it has no semaphore. -/
theorem frame_reference : Cert.quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

/-- The kernel and the reference end with the same four arrays. -/
theorem algebraic : Cert.algebraic_AdamInIdeal_AdamInRefIdeal := by
  intro m g m' g' _ hm
  refine ⟨fun c => Cert.AdamInRefIdeal.Read.val_main_v4 (m ((c : Thread nD τ).loc main_arg3)) (m ((c : Thread nD τ).loc main_arg4)), fun c => Cert.AdamInRefIdeal.Read.val_main_v28 (m ((c : Thread nD τ).loc main_arg0)) (m ((c : Thread nD τ).loc main_arg1)) (m ((c : Thread nD τ).loc main_arg2)) (m ((c : Thread nD τ).loc main_arg3)) (m ((c : Thread nD τ).loc main_arg4)), fun c => Cert.AdamInRefIdeal.Read.val_main_v9 (m ((c : Thread nD τ).loc main_arg1)) (m ((c : Thread nD τ).loc main_arg3)) (m ((c : Thread nD τ).loc main_arg4)), fun c => Cert.AdamInRefIdeal.Read.val_main_v15 (m ((c : Thread nD τ).loc main_arg2)) (m ((c : Thread nD τ).loc main_arg3)) (m ((c : Thread nD τ).loc main_arg4)), ?_, ?_⟩
  · exact (θ_run Cert.AdamInIdeal.defs _ _).mono (fun r h c => ⟨(h c).1.trans (array5 m c), (h c).2.1.trans (array6 m c),
      (h c).2.2.1.trans (array7 m c), (h c).2.2.2.1.trans (array8 m c), (h c).2.2.2.2⟩) (Cert.AdamInIdeal.Value.run_blocks m g)
  · refine (θ_run Cert.AdamInRefIdeal.defs _ _).mono (fun r h c => ⟨(h c).1.trans ?_, (h c).2.1.trans ?_, (h c).2.2.1.trans ?_, (h c).2.2.2.1.trans ?_, (h c).2.2.2.2⟩)
      (Cert.AdamInRefIdeal.Value.run (F := Ideal) m' g')
    all_goals obtain ⟨e0, e1, e2, e3, e4⟩ := hm c; beta_reduce
    · rw [← e3, ← e4]; exact Cert.AdamInRefIdeal.Read.val_main_v4_eq _ _
    · rw [← e0, ← e1, ← e2, ← e3, ← e4]; exact Cert.AdamInRefIdeal.Read.val_main_v28_eq _ _ _ _ _
    · rw [← e1, ← e3, ← e4]; exact Cert.AdamInRefIdeal.Read.val_main_v9_eq _ _ _
    · rw [← e2, ← e3, ← e4]; exact Cert.AdamInRefIdeal.Read.val_main_v15_eq _ _ _
end Cert.AdamInIdeal.Own
end
-- ==== Proof.AdamOut.lean ====
module
public import proofs.«01_k».proof.Defs
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.SumOf
public import Idealize.ShloMosaic.Lib.Pipeline.ValueKit
public import Idealize.ShloMosaic.Adequacy
public import Idealize.ShloMosaic.Init

/-! The optimiser on the projection out: the exchanged gradient summed, the moments and the step. -/

@[expose] public section
set_option maxRecDepth 16384
noncomputable section
namespace Cert.AdamOutIdeal.Own
open Cert.AdamOutIdeal Cert.AdamOutIdeal.Gen Idealize.ShloMosaic Idealize.ShloMosaic.TcCoe Idealize.SL.Sem
open Idealize.ShloMosaic.Pipeline (Dat)
open scoped BigOperators

/-- Every window shows the whole of its array. -/
theorem tile : ∀ t : Fin cfg0.N, win0_0.index t = ![0, 0, 0] ∧ win0_1.index t = ![0, 0, 0] ∧ win0_2.index t = ![0, 0, 0] ∧ win0_3.index t = ![0, 0] ∧ win0_4.index t = ![0, 0, 0] ∧ win0_5.index t = ![0, 0, 0] ∧ win0_6.index t = ![0, 0, 0] ∧ win0_7.index t = ![0, 0, 0] ∧ win0_8.index t = ![0, 0, 0] :=
  (by decide +kernel : ∀ t : Fin grid0.N, _)

variable (m : (ℓ : Loc nD τ sig) → Buf (Elt Ideal) ℓ)

open Cert.AdamOutRefIdeal.Read in
/-- Result 0: the summed gradient. -/
theorem array5 (c : Dev nD) : (dats m 0 c).arrAt 5 cfg0.N = val_main_v4 (m ((c : Thread nD τ).loc main_arg3)) (m ((c : Thread nD τ).loc main_arg4)) := by
  refine (dats m 0 c).arrAt_eq_of_covers 5 _ (by decide +kernel) fun t hf y => ?_
  have e := tile t
  have h3 : iblk m c 3 t (ix2 (y 1) (y 2)) = m ((c : Thread nD τ).loc main_arg3) (ix2 (((View.whole main_v0_0).slice (win0_5.rect t)).emb y 1)
      (((View.whole main_v0_0).slice (win0_5.rect t)).emb y 2)) := by blk_point [iblk, V, e]
  have h4 : ∀ k : Fin 7, iblk m c 4 t (ix3 k (y 1) (y 2)) = m ((c : Thread nD τ).loc main_arg4) (ix3 k (((View.whole main_v0_0).slice (win0_5.rect t)).emb y 1)
      (((View.whole main_v0_0).slice (win0_5.rect t)).emb y 2)) := fun k => by blk_point [iblk, V, e]
  blk_simp; rw [after0_5]; simp only [outsAt0]; frame_out
  pointwise [k0_pay1, k0_pay2, k0_pay7, k0_pay6, k0_pay5, k0_pay4, k0_pay3, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  rw [h3, h4 0, h4 1, h4 2, h4 3, h4 4, h4 5, h4 6]
  rw [SumOf.seven _ fun k => m ((c : Thread nD τ).loc main_arg4) (ix3 k (((View.whole main_v0_0).slice (win0_5.rect t)).emb y 1)
      (((View.whole main_v0_0).slice (win0_5.rect t)).emb y 2))]

open Cert.AdamOutRefIdeal.Read in
/-- Result 1: the step of the weight. -/
theorem array6 (c : Dev nD) : (dats m 0 c).arrAt 6 cfg0.N = val_main_v28 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have e := tile t
  have h3 : iblk m c 3 t (ix2 (y 1) (y 2)) = m ((c : Thread nD τ).loc main_arg3) (ix2 (((View.whole main_v0_1).slice (win0_6.rect t)).emb y 1)
      (((View.whole main_v0_1).slice (win0_6.rect t)).emb y 2)) := by blk_point [iblk, V, e]
  have h4 : ∀ k : Fin 7, iblk m c 4 t (ix3 k (y 1) (y 2)) = m ((c : Thread nD τ).loc main_arg4) (ix3 k (((View.whole main_v0_1).slice (win0_6.rect t)).emb y 1)
      (((View.whole main_v0_1).slice (win0_6.rect t)).emb y 2)) := fun k => by blk_point [iblk, V, e]
  have h0 : iblk m c 0 t y = m ((c : Thread nD τ).loc main_arg0) (((View.whole main_v0_1).slice (win0_6.rect t)).emb y) := by blk_point [iblk, V, e]
  have h1 : iblk m c 1 t y = m ((c : Thread nD τ).loc main_arg1) (((View.whole main_v0_1).slice (win0_6.rect t)).emb y) := by blk_point [iblk, V, e]
  have h2 : iblk m c 2 t y = m ((c : Thread nD τ).loc main_arg2) (((View.whole main_v0_1).slice (win0_6.rect t)).emb y) := by blk_point [iblk, V, e]
  blk_simp; rw [after0_6]; simp only [outsAt0]; frame_out
  pointwise [k0_pay1, k0_pay2, k0_pay7, k0_pay6, k0_pay5, k0_pay4, k0_pay3, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  rw [h0, h1, h2, h3, h4 0, h4 1, h4 2, h4 3, h4 4, h4 5, h4 6]
  rw [SumOf.seven _ fun k => m ((c : Thread nD τ).loc main_arg4) (ix3 k (((View.whole main_v0_1).slice (win0_6.rect t)).emb y 1)
      (((View.whole main_v0_1).slice (win0_6.rect t)).emb y 2))]

open Cert.AdamOutRefIdeal.Read in
/-- Result 2: the new first moment. -/
theorem array7 (c : Dev nD) : (dats m 0 c).arrAt 7 cfg0.N = val_main_v9 (m ((c : Thread nD τ).loc main_arg1)) (m ((c : Thread nD τ).loc main_arg3)) (m ((c : Thread nD τ).loc main_arg4)) := by
  refine (dats m 0 c).arrAt_eq_of_covers 7 _ (by decide +kernel) fun t hf y => ?_
  have e := tile t
  have h3 : iblk m c 3 t (ix2 (y 1) (y 2)) = m ((c : Thread nD τ).loc main_arg3) (ix2 (((View.whole main_v0_2).slice (win0_7.rect t)).emb y 1)
      (((View.whole main_v0_2).slice (win0_7.rect t)).emb y 2)) := by blk_point [iblk, V, e]
  have h4 : ∀ k : Fin 7, iblk m c 4 t (ix3 k (y 1) (y 2)) = m ((c : Thread nD τ).loc main_arg4) (ix3 k (((View.whole main_v0_2).slice (win0_7.rect t)).emb y 1)
      (((View.whole main_v0_2).slice (win0_7.rect t)).emb y 2)) := fun k => by blk_point [iblk, V, e]
  have h1 : iblk m c 1 t y = m ((c : Thread nD τ).loc main_arg1) (((View.whole main_v0_2).slice (win0_7.rect t)).emb y) := by blk_point [iblk, V, e]
  blk_simp; rw [after0_7]; simp only [outsAt0]; frame_out
  pointwise [k0_pay1, k0_pay2, k0_pay7, k0_pay6, k0_pay5, k0_pay4, k0_pay3, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  rw [h1, h3, h4 0, h4 1, h4 2, h4 3, h4 4, h4 5, h4 6]
  rw [SumOf.seven _ fun k => m ((c : Thread nD τ).loc main_arg4) (ix3 k (((View.whole main_v0_2).slice (win0_7.rect t)).emb y 1)
      (((View.whole main_v0_2).slice (win0_7.rect t)).emb y 2))]

open Cert.AdamOutRefIdeal.Read in
/-- Result 3: the new second moment. -/
theorem array8 (c : Dev nD) : (dats m 0 c).arrAt 8 cfg0.N = val_main_v15 (m ((c : Thread nD τ).loc main_arg2)) (m ((c : Thread nD τ).loc main_arg3)) (m ((c : Thread nD τ).loc main_arg4)) := by
  refine (dats m 0 c).arrAt_eq_of_covers 8 _ (by decide +kernel) fun t hf y => ?_
  have e := tile t
  have h3 : iblk m c 3 t (ix2 (y 1) (y 2)) = m ((c : Thread nD τ).loc main_arg3) (ix2 (((View.whole main_v0_3).slice (win0_8.rect t)).emb y 1)
      (((View.whole main_v0_3).slice (win0_8.rect t)).emb y 2)) := by blk_point [iblk, V, e]
  have h4 : ∀ k : Fin 7, iblk m c 4 t (ix3 k (y 1) (y 2)) = m ((c : Thread nD τ).loc main_arg4) (ix3 k (((View.whole main_v0_3).slice (win0_8.rect t)).emb y 1)
      (((View.whole main_v0_3).slice (win0_8.rect t)).emb y 2)) := fun k => by blk_point [iblk, V, e]
  have h2 : iblk m c 2 t y = m ((c : Thread nD τ).loc main_arg2) (((View.whole main_v0_3).slice (win0_8.rect t)).emb y) := by blk_point [iblk, V, e]
  blk_simp; rw [after0_8]; simp only [outsAt0]; frame_out
  pointwise [k0_pay1, k0_pay2, k0_pay7, k0_pay6, k0_pay5, k0_pay4, k0_pay3, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  rw [h2, h3, h4 0, h4 1, h4 2, h4 3, h4 4, h4 5, h4 6]
  rw [SumOf.seven _ fun k => m ((c : Thread nD τ).loc main_arg4) (ix3 k (((View.whole main_v0_3).slice (win0_8.rect t)).emb y 1)
      (((View.whole main_v0_3).slice (win0_8.rect t)).emb y 2))]

/-- The reference leaves its arguments, and it has no semaphore. -/
theorem frame_reference : Cert.quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run (F := Ideal) m ρ)

/-- The kernel and the reference end with the same four arrays. -/
theorem algebraic : Cert.algebraic_AdamOutIdeal_AdamOutRefIdeal := by
  intro m g m' g' _ hm
  refine ⟨fun c => Cert.AdamOutRefIdeal.Read.val_main_v4 (m ((c : Thread nD τ).loc main_arg3)) (m ((c : Thread nD τ).loc main_arg4)), fun c => Cert.AdamOutRefIdeal.Read.val_main_v28 (m ((c : Thread nD τ).loc main_arg0)) (m ((c : Thread nD τ).loc main_arg1)) (m ((c : Thread nD τ).loc main_arg2)) (m ((c : Thread nD τ).loc main_arg3)) (m ((c : Thread nD τ).loc main_arg4)), fun c => Cert.AdamOutRefIdeal.Read.val_main_v9 (m ((c : Thread nD τ).loc main_arg1)) (m ((c : Thread nD τ).loc main_arg3)) (m ((c : Thread nD τ).loc main_arg4)), fun c => Cert.AdamOutRefIdeal.Read.val_main_v15 (m ((c : Thread nD τ).loc main_arg2)) (m ((c : Thread nD τ).loc main_arg3)) (m ((c : Thread nD τ).loc main_arg4)), ?_, ?_⟩
  · exact (θ_run Cert.AdamOutIdeal.defs _ _).mono (fun r h c => ⟨(h c).1.trans (array5 m c), (h c).2.1.trans (array6 m c),
      (h c).2.2.1.trans (array7 m c), (h c).2.2.2.1.trans (array8 m c), (h c).2.2.2.2⟩) (Cert.AdamOutIdeal.Value.run_blocks m g)
  · refine (θ_run Cert.AdamOutRefIdeal.defs _ _).mono (fun r h c => ⟨(h c).1.trans ?_, (h c).2.1.trans ?_, (h c).2.2.1.trans ?_, (h c).2.2.2.1.trans ?_, (h c).2.2.2.2⟩)
      (Cert.AdamOutRefIdeal.Value.run (F := Ideal) m' g')
    all_goals obtain ⟨e0, e1, e2, e3, e4⟩ := hm c; beta_reduce
    · rw [← e3, ← e4]; exact Cert.AdamOutRefIdeal.Read.val_main_v4_eq _ _
    · rw [← e0, ← e1, ← e2, ← e3, ← e4]; exact Cert.AdamOutRefIdeal.Read.val_main_v28_eq _ _ _ _ _
    · rw [← e1, ← e3, ← e4]; exact Cert.AdamOutRefIdeal.Read.val_main_v9_eq _ _ _
    · rw [← e2, ← e3, ← e4]; exact Cert.AdamOutRefIdeal.Read.val_main_v15_eq _ _ _
end Cert.AdamOutIdeal.Own
end
-- ==== Proof.AdamPool.lean ====
module
public import proofs.«01_k».proof.Defs
public import proofs.«01_k».proof.Proof.Gen.AdamPoolIdeal.Value
public import proofs.«01_k».proof.Proof.Gen.AdamPoolRefIdeal
public import proofs.«01_k».proof.Proof.Gen.AdamPoolRefIdeal.Run
public import proofs.«01_k».proof.Proof.Gen.AdamPoolRefIdeal.Read
public import proofs.«01_k».proof.Proof.SumOf
public import Idealize.ShloMosaic.Lib.Pipeline.ValueKit
public import Idealize.ShloMosaic.Adequacy
public import Idealize.ShloMosaic.Init

/-! The optimiser on the pool's weight: the exchanged gradient summed, the moments and the step. -/

@[expose] public section
set_option maxRecDepth 16384
noncomputable section
namespace Cert.AdamPoolIdeal.Own
open Cert.AdamPoolIdeal Cert.AdamPoolIdeal.Gen Idealize.ShloMosaic Idealize.ShloMosaic.TcCoe Idealize.SL.Sem
open Idealize.ShloMosaic.Pipeline (Dat)
open scoped BigOperators

/-- Every window shows the whole of its array. -/
theorem tile : ∀ t : Fin cfg0.N, win0_0.index t = ![0, 0, 0] ∧ win0_1.index t = ![0, 0, 0] ∧ win0_2.index t = ![0, 0, 0] ∧ win0_3.index t = ![0, 0] ∧ win0_4.index t = ![0, 0, 0] ∧ win0_5.index t = ![0, 0, 0] ∧ win0_6.index t = ![0, 0, 0] ∧ win0_7.index t = ![0, 0, 0] ∧ win0_8.index t = ![0, 0, 0] :=
  (by decide +kernel : ∀ t : Fin grid0.N, _)

variable (m : (ℓ : Loc nD τ sig) → Buf (Elt Ideal) ℓ)

open Cert.AdamPoolRefIdeal.Read in
/-- Result 0: the summed gradient. -/
theorem array5 (c : Dev nD) : (dats m 0 c).arrAt 5 cfg0.N = val_main_v4 (m ((c : Thread nD τ).loc main_arg3)) (m ((c : Thread nD τ).loc main_arg4)) := by
  refine (dats m 0 c).arrAt_eq_of_covers 5 _ (by decide +kernel) fun t hf y => ?_
  have e := tile t
  have h3 : iblk m c 3 t (ix2 (y 1) (y 2)) = m ((c : Thread nD τ).loc main_arg3) (ix2 (((View.whole main_v0_0).slice (win0_5.rect t)).emb y 1)
      (((View.whole main_v0_0).slice (win0_5.rect t)).emb y 2)) := by blk_point [iblk, V, e]
  have h4 : ∀ k : Fin 7, iblk m c 4 t (ix3 k (y 1) (y 2)) = m ((c : Thread nD τ).loc main_arg4) (ix3 k (((View.whole main_v0_0).slice (win0_5.rect t)).emb y 1)
      (((View.whole main_v0_0).slice (win0_5.rect t)).emb y 2)) := fun k => by blk_point [iblk, V, e]
  blk_simp; rw [after0_5]; simp only [outsAt0]; frame_out
  pointwise [k0_pay1, k0_pay2, k0_pay7, k0_pay6, k0_pay5, k0_pay4, k0_pay3, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  rw [h3, h4 0, h4 1, h4 2, h4 3, h4 4, h4 5, h4 6]
  rw [SumOf.seven _ fun k => m ((c : Thread nD τ).loc main_arg4) (ix3 k (((View.whole main_v0_0).slice (win0_5.rect t)).emb y 1)
      (((View.whole main_v0_0).slice (win0_5.rect t)).emb y 2))]

open Cert.AdamPoolRefIdeal.Read in
/-- Result 1: the step of the weight. -/
theorem array6 (c : Dev nD) : (dats m 0 c).arrAt 6 cfg0.N = val_main_v28 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have e := tile t
  have h3 : iblk m c 3 t (ix2 (y 1) (y 2)) = m ((c : Thread nD τ).loc main_arg3) (ix2 (((View.whole main_v0_1).slice (win0_6.rect t)).emb y 1)
      (((View.whole main_v0_1).slice (win0_6.rect t)).emb y 2)) := by blk_point [iblk, V, e]
  have h4 : ∀ k : Fin 7, iblk m c 4 t (ix3 k (y 1) (y 2)) = m ((c : Thread nD τ).loc main_arg4) (ix3 k (((View.whole main_v0_1).slice (win0_6.rect t)).emb y 1)
      (((View.whole main_v0_1).slice (win0_6.rect t)).emb y 2)) := fun k => by blk_point [iblk, V, e]
  have h0 : iblk m c 0 t y = m ((c : Thread nD τ).loc main_arg0) (((View.whole main_v0_1).slice (win0_6.rect t)).emb y) := by blk_point [iblk, V, e]
  have h1 : iblk m c 1 t y = m ((c : Thread nD τ).loc main_arg1) (((View.whole main_v0_1).slice (win0_6.rect t)).emb y) := by blk_point [iblk, V, e]
  have h2 : iblk m c 2 t y = m ((c : Thread nD τ).loc main_arg2) (((View.whole main_v0_1).slice (win0_6.rect t)).emb y) := by blk_point [iblk, V, e]
  blk_simp; rw [after0_6]; simp only [outsAt0]; frame_out
  pointwise [k0_pay1, k0_pay2, k0_pay7, k0_pay6, k0_pay5, k0_pay4, k0_pay3, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  rw [h0, h1, h2, h3, h4 0, h4 1, h4 2, h4 3, h4 4, h4 5, h4 6]
  rw [SumOf.seven _ fun k => m ((c : Thread nD τ).loc main_arg4) (ix3 k (((View.whole main_v0_1).slice (win0_6.rect t)).emb y 1)
      (((View.whole main_v0_1).slice (win0_6.rect t)).emb y 2))]

open Cert.AdamPoolRefIdeal.Read in
/-- Result 2: the new first moment. -/
theorem array7 (c : Dev nD) : (dats m 0 c).arrAt 7 cfg0.N = val_main_v9 (m ((c : Thread nD τ).loc main_arg1)) (m ((c : Thread nD τ).loc main_arg3)) (m ((c : Thread nD τ).loc main_arg4)) := by
  refine (dats m 0 c).arrAt_eq_of_covers 7 _ (by decide +kernel) fun t hf y => ?_
  have e := tile t
  have h3 : iblk m c 3 t (ix2 (y 1) (y 2)) = m ((c : Thread nD τ).loc main_arg3) (ix2 (((View.whole main_v0_2).slice (win0_7.rect t)).emb y 1)
      (((View.whole main_v0_2).slice (win0_7.rect t)).emb y 2)) := by blk_point [iblk, V, e]
  have h4 : ∀ k : Fin 7, iblk m c 4 t (ix3 k (y 1) (y 2)) = m ((c : Thread nD τ).loc main_arg4) (ix3 k (((View.whole main_v0_2).slice (win0_7.rect t)).emb y 1)
      (((View.whole main_v0_2).slice (win0_7.rect t)).emb y 2)) := fun k => by blk_point [iblk, V, e]
  have h1 : iblk m c 1 t y = m ((c : Thread nD τ).loc main_arg1) (((View.whole main_v0_2).slice (win0_7.rect t)).emb y) := by blk_point [iblk, V, e]
  blk_simp; rw [after0_7]; simp only [outsAt0]; frame_out
  pointwise [k0_pay1, k0_pay2, k0_pay7, k0_pay6, k0_pay5, k0_pay4, k0_pay3, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  rw [h1, h3, h4 0, h4 1, h4 2, h4 3, h4 4, h4 5, h4 6]
  rw [SumOf.seven _ fun k => m ((c : Thread nD τ).loc main_arg4) (ix3 k (((View.whole main_v0_2).slice (win0_7.rect t)).emb y 1)
      (((View.whole main_v0_2).slice (win0_7.rect t)).emb y 2))]

open Cert.AdamPoolRefIdeal.Read in
/-- Result 3: the new second moment. -/
theorem array8 (c : Dev nD) : (dats m 0 c).arrAt 8 cfg0.N = val_main_v15 (m ((c : Thread nD τ).loc main_arg2)) (m ((c : Thread nD τ).loc main_arg3)) (m ((c : Thread nD τ).loc main_arg4)) := by
  refine (dats m 0 c).arrAt_eq_of_covers 8 _ (by decide +kernel) fun t hf y => ?_
  have e := tile t
  have h3 : iblk m c 3 t (ix2 (y 1) (y 2)) = m ((c : Thread nD τ).loc main_arg3) (ix2 (((View.whole main_v0_3).slice (win0_8.rect t)).emb y 1)
      (((View.whole main_v0_3).slice (win0_8.rect t)).emb y 2)) := by blk_point [iblk, V, e]
  have h4 : ∀ k : Fin 7, iblk m c 4 t (ix3 k (y 1) (y 2)) = m ((c : Thread nD τ).loc main_arg4) (ix3 k (((View.whole main_v0_3).slice (win0_8.rect t)).emb y 1)
      (((View.whole main_v0_3).slice (win0_8.rect t)).emb y 2)) := fun k => by blk_point [iblk, V, e]
  have h2 : iblk m c 2 t y = m ((c : Thread nD τ).loc main_arg2) (((View.whole main_v0_3).slice (win0_8.rect t)).emb y) := by blk_point [iblk, V, e]
  blk_simp; rw [after0_8]; simp only [outsAt0]; frame_out
  pointwise [k0_pay1, k0_pay2, k0_pay7, k0_pay6, k0_pay5, k0_pay4, k0_pay3, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  rw [h2, h3, h4 0, h4 1, h4 2, h4 3, h4 4, h4 5, h4 6]
  rw [SumOf.seven _ fun k => m ((c : Thread nD τ).loc main_arg4) (ix3 k (((View.whole main_v0_3).slice (win0_8.rect t)).emb y 1)
      (((View.whole main_v0_3).slice (win0_8.rect t)).emb y 2))]

/-- The reference leaves its arguments, and it has no semaphore. -/
theorem frame_reference : Cert.quiescent_AdamPoolRefIdeal := fun m ρ _ =>
  (θ_run Cert.AdamPoolRefIdeal.defs _ _).mono (fun r h => ⟨fun c => (h c).2.2.2.2, sem_eq_zero_of_no_sems (by decide) r.2⟩)
    (Cert.AdamPoolRefIdeal.Value.run (F := Ideal) m ρ)

/-- The kernel and the reference end with the same four arrays. -/
theorem algebraic : Cert.algebraic_AdamPoolIdeal_AdamPoolRefIdeal := by
  intro m g m' g' _ hm
  refine ⟨fun c => Cert.AdamPoolRefIdeal.Read.val_main_v4 (m ((c : Thread nD τ).loc main_arg3)) (m ((c : Thread nD τ).loc main_arg4)), fun c => Cert.AdamPoolRefIdeal.Read.val_main_v28 (m ((c : Thread nD τ).loc main_arg0)) (m ((c : Thread nD τ).loc main_arg1)) (m ((c : Thread nD τ).loc main_arg2)) (m ((c : Thread nD τ).loc main_arg3)) (m ((c : Thread nD τ).loc main_arg4)), fun c => Cert.AdamPoolRefIdeal.Read.val_main_v9 (m ((c : Thread nD τ).loc main_arg1)) (m ((c : Thread nD τ).loc main_arg3)) (m ((c : Thread nD τ).loc main_arg4)), fun c => Cert.AdamPoolRefIdeal.Read.val_main_v15 (m ((c : Thread nD τ).loc main_arg2)) (m ((c : Thread nD τ).loc main_arg3)) (m ((c : Thread nD τ).loc main_arg4)), ?_, ?_⟩
  · exact (θ_run Cert.AdamPoolIdeal.defs _ _).mono (fun r h c => ⟨(h c).1.trans (array5 m c), (h c).2.1.trans (array6 m c),
      (h c).2.2.1.trans (array7 m c), (h c).2.2.2.1.trans (array8 m c), (h c).2.2.2.2⟩) (Cert.AdamPoolIdeal.Value.run_blocks m g)
  · refine (θ_run Cert.AdamPoolRefIdeal.defs _ _).mono (fun r h c => ⟨(h c).1.trans ?_, (h c).2.1.trans ?_, (h c).2.2.1.trans ?_, (h c).2.2.2.1.trans ?_, (h c).2.2.2.2⟩)
      (Cert.AdamPoolRefIdeal.Value.run (F := Ideal) m' g')
    all_goals obtain ⟨e0, e1, e2, e3, e4⟩ := hm c; beta_reduce
    · rw [← e3, ← e4]; exact Cert.AdamPoolRefIdeal.Read.val_main_v4_eq _ _
    · rw [← e0, ← e1, ← e2, ← e3, ← e4]; exact Cert.AdamPoolRefIdeal.Read.val_main_v28_eq _ _ _ _ _
    · rw [← e1, ← e3, ← e4]; exact Cert.AdamPoolRefIdeal.Read.val_main_v9_eq _ _ _
    · rw [← e2, ← e3, ← e4]; exact Cert.AdamPoolRefIdeal.Read.val_main_v15_eq _ _ _
end Cert.AdamPoolIdeal.Own
end
-- ==== Proof.SumLittle.lean ====
module
public import proofs.«01_k».proof.Defs
public import proofs.«01_k».proof.Proof.Gen.SumLittleIdeal.Value
public import proofs.«01_k».proof.Proof.Gen.SumLittleRefIdeal
public import proofs.«01_k».proof.Proof.Gen.SumLittleRefIdeal.Run
public import proofs.«01_k».proof.Proof.Gen.SumLittleRefIdeal.Read
public import Idealize.ShloMosaic.Lib.Pipeline.ValueKit
public import Idealize.ShloMosaic.Adequacy
public import Idealize.ShloMosaic.Init

/-! The sum of the small layer gradients over the ring. -/

@[expose] public section
set_option maxRecDepth 16384
noncomputable section
namespace Cert.SumLittleIdeal.Own
open Cert.SumLittleIdeal Cert.SumLittleIdeal.Gen Idealize.ShloMosaic Idealize.ShloMosaic.TcCoe Idealize.SL.Sem
open Idealize.ShloMosaic.Pipeline (Dat)
open scoped BigOperators

/-- Every window shows the whole of its array. -/
theorem tile : ∀ t : Fin cfg0.N, win0_0.index t = ![0, 0] ∧ win0_1.index t = ![0, 0, 0] ∧ win0_2.index t = ![0, 0] :=
  (by decide +kernel : ∀ t : Fin grid0.N, _)

variable (m : (ℓ : Loc nD τ sig) → Buf (Elt Ideal) ℓ)

/-- The array the kernel leaves is the reference's sum. -/
theorem array (c : Dev nD) : (dats m 0 c).arrAt 2 cfg0.N = Cert.SumLittleRefIdeal.Read.val_main_v1 (m ((c : Thread nD τ).loc main_arg0)) (m ((c : Thread nD τ).loc main_arg1)) := by
  refine (dats m 0 c).arrAt_eq_of_covers 2 _ (by decide +kernel) fun t hf y => ?_
  blk_simp; rw [after0_2]; frame_out
  pointwise [k0_pay1, Cert.SumLittleRefIdeal.Read.val_main_v0, Cert.SumLittleRefIdeal.Read.val_main_v1, Cert.SumLittleRefIdeal.Read.val_main_cst]
  have h : ∀ k : Fin 7, iblk m c 1 t (ix3 k (y 0) (y 1)) = m ((c : Thread nD τ).loc main_arg1) (ix3 k (((View.whole main_v0).slice (win0_2.rect t)).emb y 0)
      (((View.whole main_v0).slice (win0_2.rect t)).emb y 1)) := fun k => by blk_point [iblk, V, tile t]
  have h' : iblk m c 0 t y = m ((c : Thread nD τ).loc main_arg0) (((View.whole main_v0).slice (win0_2.rect t)).emb y) := by blk_point [iblk, V, tile t]
  refine Eq.trans ?_ (congrArg (fun z : EReal => _ + z) (Fin.sum_univ_seven (M := EReal) _).symm)
  rw [h', h 0, h 1, h 2, h 3, h 4, h 5, h 6]
  simp only [add_assoc]

/-- The reference leaves its arguments, and it has no semaphore. -/
theorem frame_reference : Cert.quiescent_SumLittleRefIdeal := fun m ρ _ =>
  (θ_run Cert.SumLittleRefIdeal.defs _ _).mono (fun r h => ⟨fun c => (h c).2, sem_eq_zero_of_no_sems (by decide) r.2⟩)
    (Cert.SumLittleRefIdeal.Value.run (F := Ideal) m ρ)

/-- The kernel and the reference end with the same array. -/
theorem algebraic : Cert.algebraic_SumLittleIdeal_SumLittleRefIdeal := by
  intro m g m' g' _ hm
  refine ⟨fun c => Cert.SumLittleRefIdeal.Read.val_main_v1 (m ((c : Thread nD τ).loc main_arg0)) (m ((c : Thread nD τ).loc main_arg1)), ?_, ?_⟩
  · exact (θ_run Cert.SumLittleIdeal.defs _ _).mono (fun r h c => ⟨(h c).1.trans (array m c), (h c).2⟩) (Cert.SumLittleIdeal.Value.run_blocks m g)
  · refine (θ_run Cert.SumLittleRefIdeal.defs _ _).mono (fun r h c => ⟨(h c).1.trans ?_, (h c).2⟩) (Cert.SumLittleRefIdeal.Value.run (F := Ideal) m' g')
    obtain ⟨e0, e1⟩ := hm c
    beta_reduce
    rw [← e0, ← e1]
    exact Cert.SumLittleRefIdeal.Read.val_main_v1_eq _ _
end Cert.SumLittleIdeal.Own
end
-- ==== Proof.SumSmall.lean ====
module
public import proofs.«01_k».proof.Defs
public import proofs.«01_k».proof.Proof.Gen.SumSmallIdeal.Value
public import proofs.«01_k».proof.Proof.Gen.SumSmallRefIdeal
public import proofs.«01_k».proof.Proof.Gen.SumSmallRefIdeal.Run
public import proofs.«01_k».proof.Proof.Gen.SumSmallRefIdeal.Read
public import Idealize.ShloMosaic.Lib.Pipeline.ValueKit
public import Idealize.ShloMosaic.Adequacy
public import Idealize.ShloMosaic.Init

/-! The sum of everything small over the devices. -/

@[expose] public section
set_option maxRecDepth 16384
noncomputable section
namespace Cert.SumSmallIdeal.Own
open Cert.SumSmallIdeal Cert.SumSmallIdeal.Gen Idealize.ShloMosaic Idealize.ShloMosaic.TcCoe Idealize.SL.Sem
open Idealize.ShloMosaic.Pipeline (Dat)
open scoped BigOperators

/-- Every window shows the whole of its array. -/
theorem tile : ∀ t : Fin cfg0.N, win0_0.index t = ![0, 0, 0] ∧ win0_1.index t = ![0, 0] :=
  (by decide +kernel : ∀ t : Fin grid0.N, _)

variable (m : (ℓ : Loc nD τ sig) → Buf (Elt Ideal) ℓ)

/-- The array the kernel leaves is the reference's sum. -/
theorem array (c : Dev nD) : (dats m 0 c).arrAt 1 cfg0.N = Cert.SumSmallRefIdeal.Read.val_main_v0 (m ((c : Thread nD τ).loc main_arg0)) := by
  refine (dats m 0 c).arrAt_eq_of_covers 1 _ (by decide +kernel) fun t hf y => ?_
  blk_simp; rw [after0_1]; frame_out
  pointwise [k0_pay1, Cert.SumSmallRefIdeal.Read.val_main_v0, Cert.SumSmallRefIdeal.Read.val_main_v0, Cert.SumSmallRefIdeal.Read.val_main_cst]
  have h : ∀ k : Fin 8, iblk m c 0 t (ix3 k (y 0) (y 1)) = m ((c : Thread nD τ).loc main_arg0) (ix3 k (((View.whole main_v0).slice (win0_1.rect t)).emb y 0)
      (((View.whole main_v0).slice (win0_1.rect t)).emb y 1)) := fun k => by blk_point [iblk, V, tile t]
  refine Eq.trans ?_ (Fin.sum_univ_eight (M := EReal) _).symm
  rw [h 0, h 1, h 2, h 3, h 4, h 5, h 6, h 7]

/-- The reference leaves its arguments, and it has no semaphore. -/
theorem frame_reference : Cert.quiescent_SumSmallRefIdeal := fun m ρ _ =>
  (θ_run Cert.SumSmallRefIdeal.defs _ _).mono (fun r h => ⟨fun c => (h c).2, sem_eq_zero_of_no_sems (by decide) r.2⟩)
    (Cert.SumSmallRefIdeal.Value.run (F := Ideal) m ρ)

/-- The kernel and the reference end with the same array. -/
theorem algebraic : Cert.algebraic_SumSmallIdeal_SumSmallRefIdeal := by
  intro m g m' g' _ hm
  refine ⟨fun c => Cert.SumSmallRefIdeal.Read.val_main_v0 (m ((c : Thread nD τ).loc main_arg0)), ?_, ?_⟩
  · exact (θ_run Cert.SumSmallIdeal.defs _ _).mono (fun r h c => ⟨(h c).1.trans (array m c), (h c).2⟩) (Cert.SumSmallIdeal.Value.run_blocks m g)
  · refine (θ_run Cert.SumSmallRefIdeal.defs _ _).mono (fun r h c => ⟨(h c).1.trans ?_, (h c).2⟩) (Cert.SumSmallRefIdeal.Value.run (F := Ideal) m' g')
    obtain e0 := hm c
    beta_reduce
    rw [← e0]
    exact Cert.SumSmallRefIdeal.Read.val_main_v0_eq _
end Cert.SumSmallIdeal.Own
end
-- ==== Proof.AttnFwdArray.lean ====
module
public import proofs.«01_k».proof.Proof.AttnFinite
public import proofs.«01_k».proof.Proof.Gen.AttnFwdIdeal.Value

/-! What the forward attention leaves in its result, when the query, key, value and gate arrays are real. Its blocks are
    named, and its operations read, as those of the attention gradient. -/

@[expose] public section
set_option maxRecDepth 16384
noncomputable section
namespace Cert.AttnFwdIdeal.Own
open Cert.Attn Cert.AttnFwdIdeal Cert.AttnFwdIdeal.Gen Idealize.ShloMosaic.TcCoe Idealize.SL.Sem
open Idealize.ShloMosaic hiding T
open Idealize.ShloMosaic.Pipeline (Dat)
open scoped BigOperators

/-! ## The operations the gradient's call has too -/

theorem same_κ : κ = Cert.KernelIdeal.κ := rfl
theorem same_S544x128_S512x128_S544x512_1_1_0_0_n_n : dot_S544x128_S512x128_S544x512_1_1_0_0_n_n = Cert.KernelIdeal.dot_S544x128_S512x128_S544x512_1_1_0_0_n_n := rfl
theorem same_S544x512_S512x128_S544x128_1_0_0_1_n_n : dot_S544x512_S512x128_S544x128_1_0_0_1_n_n = Cert.KernelIdeal.dot_S544x512_S512x128_S544x128_1_0_0_1_n_n := rfl
theorem same_S544x128_S640x128_S544x640_1_1_0_0_n_n : dot_S544x128_S640x128_S544x640_1_1_0_0_n_n = Cert.KernelIdeal.dot_S544x128_S640x128_S544x640_1_1_0_0_n_n := rfl
theorem same_S544x640_S640x128_S544x128_1_0_0_1_n_n : dot_S544x640_S640x128_S544x128_1_0_0_1_n_n = Cert.KernelIdeal.dot_S544x640_S640x128_S544x128_1_0_0_1_n_n := rfl
theorem same_S544x128_S1024x128_S544x1024_1_1_0_0_n_n : dot_S544x128_S1024x128_S544x1024_1_1_0_0_n_n = Cert.KernelIdeal.dot_S544x128_S1024x128_S544x1024_1_1_0_0_n_n := rfl
theorem same_S544x1024_S1024x128_S544x128_1_0_0_1_n_n : dot_S544x1024_S1024x128_S544x128_1_0_0_1_n_n = Cert.KernelIdeal.dot_S544x1024_S1024x128_S544x128_1_0_0_1_n_n := rfl
theorem same_S544x128_S1536x128_S544x1536_1_1_0_0_n_n : dot_S544x128_S1536x128_S544x1536_1_1_0_0_n_n = Cert.KernelIdeal.dot_S544x128_S1536x128_S544x1536_1_1_0_0_n_n := rfl
theorem same_S544x1536_S1536x128_S544x128_1_0_0_1_n_n : dot_S544x1536_S1536x128_S544x128_1_0_0_1_n_n = Cert.KernelIdeal.dot_S544x1536_S1536x128_S544x128_1_0_0_1_n_n := rfl

/-! ## The heads -/

theorem pay4_R (f : ℕ → ℕ → ℝ) : k0_pay4 (F := Ideal) (R .bf16 2176 128 (sh f 0 0)) = T .bf16 1 2176 128 (fun _ => hd f 0) := by
  funext j
  pointwise [R, T, sh, hd, k0_pay4, k0_pay2]
  rw [lane_lt _ (j 2).isLt]
  split <;> rfl
theorem pay5_R (f : ℕ → ℕ → ℝ) : k0_pay5 (F := Ideal) (R .bf16 2176 128 (sh f 0 0)) = T .bf16 1 2176 128 (fun _ => hd f 0) := by
  funext j
  pointwise [R, T, sh, hd, k0_pay5, k0_pay2]
  rw [lane_lt _ (j 2).isLt]
  split <;> rfl
theorem pay6_R (f : ℕ → ℕ → ℝ) : k0_pay6 (F := Ideal) (R .bf16 2176 128 (sh f 0 0)) = T .bf16 1 2176 128 (fun _ => hd f 1) := by
  funext j
  pointwise [R, T, sh, hd, k0_pay6, k0_pay3]
  rw [lane_ge _ (j 2).isLt]
  split <;> rfl
theorem pay9_R (f : ℕ → ℕ → ℝ) :
    k0_pay9 (F := Ideal) (R .bf16 2176 128 (sh f 0 0)) k0_pay7 k0_pay8 = T .bf16 1 2176 128 (fun _ => hd f 1) := by
  funext j
  pointwise [R, T, sh, hd, k0_pay9, k0_pay8, k0_pay7, k0_pay3]
  rw [lane_ge _ (j 2).isLt]
  split <;> rfl

theorem slt_R (f : ℕ → ℕ → ℝ) (ax : List (Fin S1x128.rank)) (ha : ax = [1]) (hi) (hb) (hs) :
    shapeCast S1x2176x128 (select (broadcastTo S2176x128 (cmpi .slt (iota .tc S1x128 32 ax hi) (broadcast S1x128 64#32)) hb)
      (R .bf16 2176 128 (sh f 0 0)) (broadcast S2176x128 (Scalar.ofBits .bf16 0x0000#16 : Ideal .bf16))) hs = T .bf16 1 2176 128 (fun _ => hd f 0) := by
  subst ha
  refine Eq.trans ?_ (pay4_R f)
  rw [k0_pay4, Cert.Attn.shapeCast_id]; rfl
theorem sge_R (f : ℕ → ℕ → ℝ) (ax : List (Fin S1x128.rank)) (ha : ax = [1]) (hi) (hb) (hs) :
    shapeCast S1x2176x128 (select (broadcastTo S2176x128 (cmpi .sge (iota .tc S1x128 32 ax hi) (broadcast S1x128 64#32)) hb)
      (R .bf16 2176 128 (sh f 0 0)) (broadcast S2176x128 (Scalar.ofBits .bf16 0x0000#16 : Ideal .bf16))) hs = T .bf16 1 2176 128 (fun _ => hd f 1) := by
  subst ha
  refine Eq.trans ?_ (pay6_R f)
  rw [k0_pay6, Cert.Attn.shapeCast_id]; rfl

/-- The columns past a row's block add nothing. -/
theorem mm_past (f g : ℕ → ℕ → ℝ) (n i j : ℕ) (h : i < n) (hn : n ≤ 2176) : mm (P f) g 0 n i j = mm (P f) g 0 2176 i j := by
  simp only [mm, Nat.zero_add]
  refine Finset.sum_subset (fun s hs => Finset.mem_range.2 (by have := Finset.mem_range.1 hs; omega)) fun s _ hs => ?_
  rw [P_after _ _ _ (h.trans_le (not_lt.1 (mt Finset.mem_range.2 hs))), zero_mul]

/-! ## A grid point -/

variable (m : (ℓ : Loc nD τ sig) → Buf (Elt Ideal) ℓ)

theorem point (d : Dev nD) (t : Fin cfg0.N) (q k v c : ℕ → ℕ → ℝ)
    (h0 : iblk m d 0 t = R .bf16 2176 128 q) (h1 : iblk m d 1 t = R .bf16 2176 128 k) (h2 : iblk m d 2 t = R .bf16 2176 128 v)
    (h3 : iblk m d 3 t = T .f32 1 2 2176 (fun _ => c)) :
    outsAt0 m d t = R .bf16 2176 128 (mm (P (Lg q k c 0)) (hd v 0) 0 2176 + mm (P (Lg q k c 1)) (hd v 1) 0 2176) := by
  unfold outsAt0
  unfold out0_A_4
  frame_open
  simp (disch := decide) only [multiReduction, View.read_writes_junk_eq_canon, h0, h1, h2, h3, mulf_R, addf_R, subf_R, maximumf_R,
    truncf_R, zero_R, eighth_R, eighth_R', sh_mul, sh_add, sh_sub_row, sh_sub_col, col_add, col_sup, row_sub,
    eighth_sh, Z_add, softmax_R, inv_R, mask_R, exp_ML, exp_R, Cert.Attn.shapeCast_id, column_V, rowmaxM_640, zero_add,
    readAt_ldr, readCov_ldr, canon_overlay, ldr_R, ldr_slot, kv4_0, kv4_1, kv4_2, kv4_3, ldr_T, overlay_whole_R,
    overlay_rows, mm_two, mm_two', overlay_kv, trow_1152, trow_1664, trow_2176, slice_1152_0, slice_1152_512,
    slice_1664_0, slice_1664_1024, slice_2176_0, slice_2176_1536, mmT_512, mmB_512, rowsumE_512, rowmax_512, brow_512,
    bcol_512, vrow_512, trow_512, kvcast_512, mmT_640, mmB_640, rowsumE_640, rowmax_640, brow_640, bcol_640, vrow_640,
    trow_640, kvcast_640, mmT_1024, mmB_1024, rowsumE_1024, rowmax_1024, brow_1024, bcol_1024, vrow_1024, trow_1024,
    kvcast_1024, mmT_1536, mmB_1536, rowsumE_1536, rowmax_1536, brow_1536, bcol_1536, vrow_1536, trow_1536,
    kvcast_1536, same_κ, same_S544x128_S512x128_S544x512_1_1_0_0_n_n, same_S544x512_S512x128_S544x128_1_0_0_1_n_n,
    same_S544x128_S640x128_S544x640_1_1_0_0_n_n, same_S544x640_S640x128_S544x128_1_0_0_1_n_n,
    same_S544x128_S1024x128_S544x1024_1_1_0_0_n_n, same_S544x1024_S1024x128_S544x128_1_0_0_1_n_n,
    same_S544x128_S1536x128_S544x1536_1_1_0_0_n_n, same_S544x1536_S1536x128_S544x128_1_0_0_1_n_n, k0_pay1, k0_pay2,
    k0_pay3, k0_pay10, k0_pay11, k0_pay12, k0_pay13, k0_pay14, k0_pay15, k0_pay16, k0_pay17, k0_pay18, k0_pay19,
    k0_pay20, k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40, k0_pay41,
    k0_pay42, k0_pay43, k0_pay44, k0_pay45, k0_pay46, k0_pay47, k0_pay48, k0_pay49, k0_pay50, k0_pay51, k0_pay52,
    k0_pay53, k0_pay54, k0_pay55, k0_pay56, k0_pay57, k0_pay58, k0_pay59, k0_pay60, k0_pay61, k0_pay62, k0_pay63,
    k0_pay64, k0_pay65, k0_pay66, k0_pay67, k0_pay68, k0_pay69, k0_pay70, k0_pay71, k0_pay72, k0_pay73, k0_pay74,
    k0_pay9, slt_R, sge_R]
  refine R_congr _ _ fun i j hi hj => ?_
  show ite _ _ _ = mm (P (Lg q k c 0)) (hd v 0) 0 2176 i j + mm (P (Lg q k c 1)) (hd v 1) 0 2176 i j
  by_cases c1 : i < 544
  · rw [if_pos c1, ← mm_past _ _ 640 i j (by omega) (by omega), ← mm_past _ _ 640 i j (by omega) (by omega)]; rfl
  by_cases c2 : i < 1088
  · rw [if_neg c1, if_pos c2, ← mm_past _ _ 1152 i j (by omega) (by omega), ← mm_past _ _ 1152 i j (by omega) (by omega)]; rfl
  by_cases c3 : i < 1632
  · rw [if_neg c1, if_neg c2, if_pos c3, ← mm_past _ _ 1664 i j (by omega) (by omega), ← mm_past _ _ 1664 i j (by omega) (by omega)]; rfl
  rw [if_neg c1, if_neg c2, if_neg c3]; rfl

/-! ## The array -/

variable (d : Dev nD) (Q : ℕ → ℕ → ℝ) (C : ℕ → ℕ → ℕ → ℝ)

/-- The values weighed by the probabilities. -/
def OF (t j : ℕ) : ℝ := ∑ s ∈ Finset.range 2176, P (Sn Q C (j / 64)) t s * Q s (1024 + j)

theorem point_of (p i j : ℕ) (hj : j < 128) :
    (mm (P (Sn Q C (2 * p + 0))) (hd (pr Q 1024 p) 0) 0 2176 + mm (P (Sn Q C (2 * p + 1))) (hd (pr Q 1024 p) 1) 0 2176) i j
      = OF Q C i (128 * p + j) := by
  show mm (P (Sn Q C (2 * p + 0))) (hd (pr Q 1024 p) 0) 0 2176 i j + mm (P (Sn Q C (2 * p + 1))) (hd (pr Q 1024 p) 1) 0 2176 i j = _
  rw [OF, pair_div]
  refine two_heads (fun h => ∑ s ∈ Finset.range 2176, P (Sn Q C (2 * p + h)) i s * Q s (1024 + (128 * p + j))) j hj
    (fun h => mm (P (Sn Q C (2 * p + h))) (hd (pr Q 1024 p) h) 0 2176 i j) fun h _ => ?_
  simp only [mm, hd, pr, Nat.zero_add]
  split <;> simp

/-- Which block every window shows at each pair of heads. -/
theorem at_pair : ∀ t : Fin cfg0.N, (win0_0.index t = ![0, t.val] ∧ win0_1.index t = ![0, 4 + t.val] ∧ win0_2.index t = ![0, 8 + t.val])
    ∧ win0_3.index t = ![t.val, 0, 0] ∧ win0_4.index t = ![0, t.val] := (by decide +kernel : ∀ t : Fin grid0.N, _)

theorem blk_q (t : Fin cfg0.N) (hQ : m ((d : Thread nD τ).loc main_arg0) = R .bf16 2176 1536 Q) :
    iblk m d 0 t = R .bf16 2176 128 (pr Q 0 t.val) := by
  funext y
  have e := at_pair t
  blk_simp [iblk]
  rw [V_main_arg0, hQ]
  refine congrArg Real.toEReal (congrArg₂ Q ?_ ?_) <;> blk_simp [e] <;> idx_bounds <;> omega
theorem blk_k (t : Fin cfg0.N) (hQ : m ((d : Thread nD τ).loc main_arg0) = R .bf16 2176 1536 Q) :
    iblk m d 1 t = R .bf16 2176 128 (pr Q 512 t.val) := by
  funext y
  have e := at_pair t
  blk_simp [iblk]
  rw [V_main_arg0, hQ]
  refine congrArg Real.toEReal (congrArg₂ Q ?_ ?_) <;> blk_simp [e] <;> idx_bounds <;> omega
theorem blk_v (t : Fin cfg0.N) (hQ : m ((d : Thread nD τ).loc main_arg0) = R .bf16 2176 1536 Q) :
    iblk m d 2 t = R .bf16 2176 128 (pr Q 1024 t.val) := by
  funext y
  have e := at_pair t
  blk_simp [iblk]
  rw [V_main_arg0, hQ]
  refine congrArg Real.toEReal (congrArg₂ Q ?_ ?_) <;> blk_simp [e] <;> idx_bounds <;> omega
theorem blk_c (t : Fin cfg0.N) (hC : m ((d : Thread nD τ).loc main_arg1) = T .f32 4 2 2176 C) :
    iblk m d 3 t = T .f32 1 2 2176 (fun _ => C t.val) := by
  funext y
  have e := at_pair t
  blk_simp [iblk]
  rw [V_main_arg1, hC]
  refine congrArg Real.toEReal (congr (congr (congrArg C ?_) ?_) ?_) <;> blk_simp [e] <;> idx_bounds <;> omega

theorem array4 (hQ : m ((d : Thread nD τ).loc main_arg0) = R .bf16 2176 1536 Q)
    (hC : m ((d : Thread nD τ).loc main_arg1) = T .f32 4 2 2176 C) :
    (dats m 0 d).arrAt 4 cfg0.N = R .bf16 2176 512 (OF Q C) := by
  refine (dats m 0 d).arrAt_eq_of_covers 4 _ (by decide +kernel) fun t _ y => ?_
  have e := at_pair t
  have hy : (y 1).val < 128 := (y 1).isLt
  have leaves := point m d t _ _ _ _ (blk_q m d Q t hQ) (blk_k m d Q t hQ) (blk_v m d Q t hQ) (blk_c m d C t hC)
  rw [P_eq Q C _ 0 (by omega), P_eq Q C _ 1 (by omega)] at leaves
  have leaves := leaves.trans (R_congr _ (fun i j => OF Q C i (128 * t.val + j)) fun i j _ hj => point_of Q C _ i j hj)
  blk_simp
  rw [after0_4, leaves]
  refine congrArg Real.toEReal (congrArg₂ (OF Q C) ?_ ?_) <;> blk_simp [e] <;> idx_bounds <;> omega

end Cert.AttnFwdIdeal.Own
end
-- ==== Proof.AttnFwd.lean ====
module
public import proofs.«01_k».proof.Defs
public import proofs.«01_k».proof.Proof.AttnFwdArray
public import proofs.«01_k».proof.Proof.AttnRef
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.Pre_finite_attn
public import Idealize.ShloMosaic.Lib.ReduceAll
public import Idealize.ShloMosaic.Adequacy
public import Idealize.ShloMosaic.Init

/-! The forgetting attention: its reference, operation by operation, on arguments whose entries are real numbers, and the
    claims of the call. -/

@[expose] public section
set_option maxRecDepth 16384
noncomputable section

namespace Cert.AttnFwdRefIdeal.Own
open Cert.Attn (R T coe_dot coe_sum coe_div ofBits_eighth_f32 ofBits_negInf sup_real P Sn Cn qk Ex Zx Zx_pos Ex_eq mx)
open Cert.AttnFwdIdeal.Own (OF)
open Cert.AttnFwdRefIdeal Cert.AttnFwdRefIdeal.Gen Cert.AttnFwdRefIdeal.Read Idealize.ShloMosaic.TcCoe Idealize.SL.Sem
open Idealize.ShloMosaic hiding T
open scoped BigOperators

variable (Q : ℕ → ℕ → ℝ) (C : ℕ → ℕ → ℕ → ℝ)

/-- The two arguments. -/
abbrev X0 : FVec Ideal S2176x1536 .bf16 := R .bf16 2176 1536 Q
abbrev X1 : FVec Ideal S4x2x2176 .f32 := T .f32 4 2 2176 C

theorem v4 : val_main_v4 (F := Ideal) (X0 Q) = T .f32 2176 8 64 (fun t n e => Q t (64 * n + e)) := by
  funext i
  have h0 : (i 0).val < 2176 := (i 0).isLt
  have h1 : (i 1).val < 8 := (i 1).isLt
  have h2 : (i 2).val < 64 := (i 2).isLt
  rw [val_main_v4_apply, val_main_v3_apply, val_main_v0_apply]
  refine congrArg Real.toEReal ?_
  show Q ((((i 0).val * 8 + (i 1).val) * 64 + (i 2).val) / 512) ((((i 0).val * 8 + (i 1).val) * 64 + (i 2).val) % 512) = Q (i 0).val (64 * (i 1).val + (i 2).val)
  congr 1 <;> omega

theorem v6 : val_main_v6 (F := Ideal) (X0 Q) = T .f32 2176 8 64 (fun t n e => Q t (512 + (64 * n + e))) := by
  funext i
  have h0 : (i 0).val < 2176 := (i 0).isLt
  have h1 : (i 1).val < 8 := (i 1).isLt
  have h2 : (i 2).val < 64 := (i 2).isLt
  rw [val_main_v6_apply, val_main_v5_apply, val_main_v1_apply]
  refine congrArg Real.toEReal ?_
  show Q ((((i 0).val * 8 + (i 1).val) * 64 + (i 2).val) / 512) (512 + (((i 0).val * 8 + (i 1).val) * 64 + (i 2).val) % 512) = Q (i 0).val (512 + (64 * (i 1).val + (i 2).val))
  congr 1 <;> omega

theorem v8 : val_main_v8 (F := Ideal) (X0 Q) = T .f32 2176 8 64 (fun t n e => Q t (1024 + (64 * n + e))) := by
  funext i
  have h0 : (i 0).val < 2176 := (i 0).isLt
  have h1 : (i 1).val < 8 := (i 1).isLt
  have h2 : (i 2).val < 64 := (i 2).isLt
  rw [val_main_v8_apply, val_main_v7_apply, val_main_v2_apply]
  refine congrArg Real.toEReal ?_
  show Q ((((i 0).val * 8 + (i 1).val) * 64 + (i 2).val) / 512) (1024 + (((i 0).val * 8 + (i 1).val) * 64 + (i 2).val) % 512) = Q (i 0).val (1024 + (64 * (i 1).val + (i 2).val))
  congr 1 <;> omega

theorem v9 : val_main_v9 (F := Ideal) (X1 C) = R .f32 8 2176 (fun n t => Cn C n t) := by
  funext i
  have h0 : (i 0).val < 8 := (i 0).isLt
  have h1 : (i 1).val < 2176 := (i 1).isLt
  rw [val_main_v9_apply]
  refine congrArg Real.toEReal ?_
  show C (((i 0).val * 2176 + (i 1).val) / 4352) (((i 0).val * 2176 + (i 1).val) / 2176 % 2) (((i 0).val * 2176 + (i 1).val) % 2176) = C ((i 0).val / 2) ((i 0).val % 2) (i 1).val
  congr 1 <;> omega

theorem v11 : val_main_v11 (F := Ideal) (X0 Q) = T .f32 8 2176 2176 (qk Q) := by
  funext i
  rw [val_main_v11_apply, v4, v6]
  exact coe_dot (fun e => Q (i 1).val (64 * (i 0).val + e)) (fun e => Q (i 2).val (512 + (64 * (i 0).val + e)))

theorem v19 : val_main_v19 (F := Ideal) (X0 Q) (X1 C) = T .f32 8 2176 2176 (Sn Q C) := by
  funext i
  rw [val_main_v19_apply, val_main_v16_apply, val_main_v13_apply, v11, val_main_v12_apply, val_main_cst_apply, val_main_v15_apply,
    val_main_v14_apply, val_main_v18_apply, val_main_v17_apply, v9]
  show ((qk Q _ _ _ : ℝ) : EReal) * Ideal.ofBits .f32 0x3E000000#32 + ((Cn C _ _ : ℝ) : EReal) - ((Cn C _ _ : ℝ) : EReal) = _
  rw [ofBits_eighth_f32, ← EReal.coe_mul, ← EReal.coe_add, ← EReal.coe_sub]
  rfl

theorem mask_at (i : S8x2176x2176.Idx) : val_main_call0_v1 (F := Ideal) i = if (i 2).val ≤ (i 1).val then 1#1 else 0#1 := by
  have h1 : (i 1).val < 2176 := (i 1).isLt
  have h2 : (i 2).val < 2176 := (i 2).isLt
  rw [val_main_call0_v1_apply, val_main_v24_apply, val_main_v22_apply, val_main_v20_apply, val_main_v23_apply, val_main_v21_apply,
    val_main_v10_apply, val_main_v10_apply]
  show IntOp.cmpi .sle (BitVec.ofNat 32 (i 2).val) (BitVec.ofNat 32 (i 1).val) = _
  rw [WordCmp.cmpi_sle_ofNat (by omega) (by omega)]
  by_cases h : (i 2).val ≤ (i 1).val <;> simp [h]

theorem v25 (i : S8x2176x2176.Idx) :
    val_main_v25 (F := Ideal) (X0 Q) (X1 C) i = if (i 2).val ≤ (i 1).val then ((Sn Q C (i 0).val (i 1).val (i 2).val : ℝ) : EReal) else ⊥ := by
  rw [val_main_v25_apply, mask_at, v19, val_main_call0_v2_apply, val_main_call0_v0_apply, val_main_cst_0_apply]
  split
  · rfl
  · exact ofBits_negInf

theorem v26 : val_main_v26 (F := Ideal) (X0 Q) (X1 C) = R .f32 8 2176 (mx Q C) := by
  funext i
  pointwise [val_main_v26, val_main_cst_1]
  simp only [v25]
  rw [ofBits_negInf]
  exact (sup_real Finset.univ (fun x : Fin 2176 => if x.val ≤ (i 1).val then ((Sn Q C (i 0).val (i 1).val x.val : ℝ) : EReal) else ⊥)
    (fun x _ => by split; exacts [EReal.coe_ne_top _, bot_ne_top]) (0 : Fin 2176) (Finset.mem_univ _)
    (ne_of_eq_of_ne (if_pos (Nat.zero_le _)) (EReal.coe_ne_bot _))).symm

theorem v28 : val_main_v28 (F := Ideal) (X0 Q) (X1 C) = R .f32 8 2176 (mx Q C) := by
  funext i
  rw [val_main_v28_apply, v26, val_main_v27_apply, val_main_cst_2_apply]
  show max (Ideal.ofBits .f32 0xFF800000#32) _ = _
  rw [ofBits_negInf]
  exact max_eq_right bot_le

theorem v32 : val_main_v32 (F := Ideal) (X0 Q) (X1 C) = T .f32 8 2176 2176 (fun n t s => Ex (Sn Q C n) (mx Q C n) t s) := by
  funext i
  rw [val_main_v32_apply, val_main_v31_apply, v25, val_main_v30_apply, val_main_v29_apply, v28]
  show Ideal.exp ((if _ then _ else _) - ((mx Q C _ _ : ℝ) : EReal)) = ((Ex _ _ _ _ : ℝ) : EReal)
  unfold Ex
  split
  · rw [← EReal.coe_sub]; rfl
  · rw [EReal.bot_sub]; rfl

theorem v33 : val_main_v33 (F := Ideal) (X0 Q) (X1 C) = R .f32 8 2176 (fun n t => Zx (Sn Q C n) (mx Q C n) t) := by
  funext i
  rw [val_main_v33_apply, v32, val_main_cst_3_apply]
  refine (congrArg (· + _) Ideal.ofBits_zero_f32).trans ((zero_add _).trans ?_)
  exact coe_sum (fun s => Ex (Sn Q C (i 0).val) (mx Q C (i 0).val) (i 1).val s)

theorem v34 (i : S8x2176x1.Idx) : val_main_v34 (F := Ideal) (X0 Q) (X1 C) i
    = ((Zx (Sn Q C (i 0).val) (mx Q C (i 0).val) (i 1).val : ℝ) : EReal) := by
  rw [val_main_v34_apply, v33]
  rfl

theorem v36 : val_main_v36 (F := Ideal) (X0 Q) (X1 C) = T .f32 8 2176 2176 (fun n t s => P (Sn Q C n) t s) := by
  funext i
  have h1 : (i 1).val < 2176 := (i 1).isLt
  rw [val_main_v36_apply, v32, val_main_v35_apply, v34]
  refine (coe_div _ _ (Zx_pos _ _ _).ne').trans (congrArg Real.toEReal ?_)
  show Ex _ _ _ _ / _ = P _ (i 1).val (i 2).val
  rw [Ex_eq _ _ _ _ h1]
  exact mul_div_cancel_right₀ _ (Zx_pos _ _ _).ne'

theorem v37 : val_main_v37 (F := Ideal) (X0 Q) (X1 C) = T .f32 8 64 2176 (fun n e t => ∑ s ∈ Finset.range 2176, Q s (1024 + (64 * n + e)) * P (Sn Q C n) t s) := by
  funext i
  rw [val_main_v37_apply, v8, v36]
  exact coe_dot (fun s => Q s (1024 + (64 * (i 0).val + (i 1).val))) (fun s => P (Sn Q C (i 0).val) (i 2).val s)

theorem v40 : val_main_v40 (F := Ideal) (X0 Q) (X1 C) = R .bf16 2176 512 (OF Q C) := by
  funext i
  have h0 : (i 0).val < 2176 := (i 0).isLt
  have h1 : (i 1).val < 512 := (i 1).isLt
  rw [val_main_v40_apply, val_main_v39_apply, val_main_v38_apply, v37]
  refine congrArg Real.toEReal ?_
  have e : ∀ a b c a' b' c' : ℕ, a = a' → b = b' → c = c' → ∀ F : ℕ → ℕ → ℕ → ℝ, F a b c = F a' b' c' := by
    rintro a b c _ _ _ rfl rfl rfl F; rfl
  refine (e _ _ _ ((i 1).val / 64) ((i 1).val % 64) (i 0).val ?_ ?_ ?_
    (fun n e t => ∑ s ∈ Finset.range 2176, Q s (1024 + (64 * n + e)) * P (Sn Q C n) t s)).trans ?_
  · show ((i 0).val * 512 + (i 1).val) / 64 % 8 = (i 1).val / 64
    omega
  · show ((i 0).val * 512 + (i 1).val) % 64 = (i 1).val % 64
    omega
  · show ((i 0).val * 512 + (i 1).val) / 512 = (i 0).val
    omega
  show ∑ _ ∈ _, _ = OF Q C (i 0).val (i 1).val
  rw [OF, show 64 * ((i 1).val / 64) + (i 1).val % 64 = (i 1).val by omega]
  exact Finset.sum_congr rfl fun s _ => mul_comm _ _

end Cert.AttnFwdRefIdeal.Own

namespace Cert.AttnFwdIdeal.Own
open Cert.Attn Cert.AttnFwdIdeal Cert.AttnFwdIdeal.Gen Idealize.ShloMosaic.TcCoe Idealize.SL.Sem
open Idealize.ShloMosaic hiding T

attribute [local instance] Cert.Pre_finite_attn.Gen.facts

/-- The precondition gives real arrays. -/
theorem real_args (x0 : FVec Ideal ⟨2, ![2176, 1536]⟩ .bf16) (x1 : FVec Ideal ⟨3, ![4, 2, 2176]⟩ .f32)
    (h : Cert.Pre_finite_attn.fn (F := Ideal) x0 x1 = fun _ => 1#1) :
    x0 = R .bf16 2176 1536 (at2 x0) ∧ x1 = T .f32 4 2 2176 (at3 x1) := by
  dsimp only [Cert.Pre_finite_attn.fn] at h
  obtain ⟨h0, h1⟩ := both_one _ _ (congrFun h ix0)
  haveI : Subsingleton Cert.Pre_finite_attn.S_.Idx := ⟨fun a b => funext fun k => k.elim0⟩
  exact ⟨real2 x0 fun i => real_of_lt (x0 i) (Host.reduce_andi_all _ _ _ _ _ h0 i),
    real3 x1 fun i => real_of_lt (x1 i) (Host.reduce_andi_all _ _ _ _ _ h1 i)⟩

/-- The idealization names one constant, the mask's, and reads it as minus infinity. -/
theorem preserves : Cert.preserves_AttnFwd_AttnFwdIdeal :=
  IdealRules.named_const.statement Cert.AttnFwdIdeal.κ "mask" .f32 0xF149F2CA#32 ⊥ rfl

/-- The reference leaves its arguments, and it has no semaphore. -/
theorem frame_reference : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run (F := Ideal) m ρ)

/-- Both frames hold of all arguments, so of those the precondition admits. -/
theorem frame_finite : Cert.quiescent_AttnFwdIdeal_pre_finite_attn := fun m ρ _ => Cert.AttnFwdIdeal.Gen.frame m ρ
theorem frame_reference_finite : Cert.quiescent_AttnFwdRefIdeal_pre_finite_attn := fun m ρ _ => frame_reference m ρ trivial

/-- The attention and the reference end with the same array. -/
theorem algebraic : Cert.algebraic_AttnFwdIdeal_AttnFwdRefIdeal_pre_finite_attn := by
  intro m g m' g' hp hm
  have real := fun c => real_args _ _ (hp c)
  let Q := fun c : Dev nD => at2 (n := 2176) (w := 1536) (m ((c.tc : Thread nD τ).loc main_arg0))
  let C := fun c : Dev nD => at3 (m := 4) (n := 2) (w := 2176) (m ((c.tc : Thread nD τ).loc main_arg1))
  refine ⟨fun c => R .bf16 2176 512 (OF (Q c) (C c)), ?_, ?_⟩
  · refine (θ_run Cert.AttnFwdIdeal.defs _ _).mono (fun r h c => ?_) (Cert.AttnFwdIdeal.Value.run_blocks m g)
    obtain ⟨rQ, rC⟩ := real c
    exact ⟨(h c).1.trans (array4 m c _ _ rQ rC), (h c).2⟩
  · refine (θ_run Cert.AttnFwdRefIdeal.defs _ _).mono (fun r h c => ?_) (Cert.AttnFwdRefIdeal.Value.run (F := Ideal) m' g')
    obtain ⟨rQ, rC⟩ := real c
    obtain ⟨e0, e1⟩ := hm c
    have e0 := e0.trans rQ
    have e1 := e1.trans rC
    refine ⟨(h c).1.trans ?_, (h c).2⟩
    rw [Cert.AttnFwdRefIdeal.Read.val_main_v40_eq, e0, e1]; exact Cert.AttnFwdRefIdeal.Own.v40 (Q c) (C c)

end Cert.AttnFwdIdeal.Own
end
-- ==== Proof.RmsEven.lean ====
module
public import proofs.«01_k».proof.Defs
public import proofs.«01_k».proof.Proof.Gen.RmsEvenIdeal.Value
public import proofs.«01_k».proof.Proof.Gen.RmsEvenRefIdeal
public import proofs.«01_k».proof.Proof.Gen.RmsEvenRefIdeal.Run
public import proofs.«01_k».proof.Proof.Gen.RmsEvenRefIdeal.Read
public import proofs.«01_k».proof.Proof.RmsRow
public import Idealize.ShloMosaic.Lib.Pipeline.ValueKit
public import Idealize.ShloMosaic.Adequacy
public import Idealize.ShloMosaic.Init

/-! The norm before the even mixing layer, by rows and by columns. -/

@[expose] public section
set_option maxRecDepth 16384
noncomputable section
namespace Cert.RmsEvenIdeal.Own
open Cert.RmsEvenIdeal Cert.RmsEvenIdeal.Gen Idealize.ShloMosaic Idealize.ShloMosaic.TcCoe Idealize.SL.Sem
open Idealize.ShloMosaic.Pipeline (Dat)
open scoped BigOperators

/-- Which block every window shows at each of the seventeen row tiles. -/
theorem tile : ∀ t : Fin cfg0.N, win0_0.index t = ![t.val, 0] ∧ win0_1.index t = ![0, 0] ∧ win0_2.index t = ![t.val, 0] ∧ win0_3.index t = ![0, t.val] :=
  (by decide +kernel : ∀ t : Fin grid0.N, _)

variable (m : (ℓ : Loc nD τ sig) → Buf (Elt Ideal) ℓ)

/-- A normalised row of a tile. -/
theorem pay1 (x : Vec Ideal S128x1024 .f32) (g : Vec Ideal S1x1024 .f32) (j : S128x1024.Idx) :
    k0_pay1 x g j = x j * Ideal.rsqrt (RmsRow.ms RmsRow.eps fun k => x (ix2 (j 0) k)) * g (ix2 0 (j 1)) := by
  obtain ⟨p, q, rfl⟩ : ∃ p q, j = ix2 p q := ⟨j 0, j 1, funext fun d => by fin_cases d <;> rfl⟩
  pointwise [k0_pay1]
  rw [RmsRow.bits_n, RmsRow.bits_eps]
  rfl

open Cert.RmsEvenRefIdeal.Read in
/-- A normalised row of the reference. -/
theorem ref (x0 : (⟨Cert.RmsEvenRefIdeal.S2176x1024, .f32⟩ : BufTy).Contents (Elt Ideal)) (x1 : (⟨Cert.RmsEvenRefIdeal.S1x1024, .f32⟩ : BufTy).Contents (Elt Ideal)) (i : Cert.RmsEvenRefIdeal.S2176x1024.Idx) :
    val_main_v14 x0 x1 i = x0 i * Ideal.rsqrt (RmsRow.ms RmsRow.eps fun k => x0 (ix2 (i 0) k)) * x1 (ix2 0 (i 1)) := by
  unfold val_main_v14 val_main_v13 val_main_v12 val_main_v11 val_main_v10 val_main_v9 val_main_v8 val_main_v7 val_main_v6 val_main_v5 val_main_v4 val_main_v3 val_main_v2 val_main_v1 val_main_v0
    val_main_cst_1 val_main_cst_0 val_main_cst
  pointwise
  rw [RmsRow.bits_n, RmsRow.bits_eps]
  simp only [RmsRow.ms]

/-- A row tile's normalised rows are the reference's. -/
theorem rows (c : Dev nD) (t : Fin cfg0.N) (j : S128x1024.Idx) (i : Cert.RmsEvenRefIdeal.S2176x1024.Idx)
    (h0 : (i 0).val = 128 * t.val + (j 0).val) (h1 : (i 1).val = (j 1).val) :
    k0_pay1 (iblk m c 0 t) (iblk m c 1 t) j = Cert.RmsEvenRefIdeal.Read.val_main_v14 (m ((c : Thread nD τ).loc main_arg0)) (m ((c : Thread nD τ).loc main_arg1)) i := by
  have hN : t.val < 17 := lt_of_lt_of_eq t.isLt N_0
  have b0 : (j 0).val < 128 := (j 0).isLt
  obtain rfl : i = ix2 ⟨128 * t.val + (j 0).val, by clear h0 h1; omega⟩ (j 1) := funext fun a => Fin.ext (by fin_cases a; exacts [h0, h1])
  refine (pay1 _ _ _).trans (Eq.trans ?_ (ref _ _ _).symm)
  have hx : ∀ k : Fin 1024, iblk m c 0 t (ix2 (j 0) k) = m ((c : Thread nD τ).loc main_arg0) (ix2 ⟨128 * t.val + (j 0).val, by clear h0 h1; omega⟩ k) :=
    fun k => by blk_point [iblk, V, tile t]
  have hx' : iblk m c 0 t j = m ((c : Thread nD τ).loc main_arg0) (ix2 ⟨128 * t.val + (j 0).val, by clear h0 h1; omega⟩ (j 1)) := by
    blk_point [iblk, V, tile t]
  have hg : iblk m c 1 t (ix2 0 (j 1)) = m ((c : Thread nD τ).loc main_arg1) (ix2 0 (j 1)) := by blk_point [iblk, V, tile t]
  rw [hx', hg]
  simp only [hx]
  rfl

/-- The first array the kernel leaves: the normalised rows. -/
theorem array2 (c : Dev nD) : (dats m 0 c).arrAt 2 cfg0.N = Cert.RmsEvenRefIdeal.Read.val_main_v14 (m ((c : Thread nD τ).loc main_arg0)) (m ((c : Thread nD τ).loc main_arg1)) := by
  refine (dats m 0 c).arrAt_eq_of_covers 2 _ (by decide +kernel) fun t hf y => ?_
  refine Eq.trans ?_ (rows m c t y _ ?_ ?_)
  · blk_simp; rw [after0_2]; simp only [outsAt0]; frame_out
  · have e := tile t
    blk_simp [e]; omega
  · have e := tile t
    blk_simp [e]

/-- The second array: the same rows, laid out as columns. -/
theorem array3 (c : Dev nD) : (dats m 0 c).arrAt 3 cfg0.N = Cert.RmsEvenRefIdeal.Read.val_main_v15 (m ((c : Thread nD τ).loc main_arg0)) (m ((c : Thread nD τ).loc main_arg1)) := by
  refine (dats m 0 c).arrAt_eq_of_covers 3 _ (by decide +kernel) fun t hf y => ?_
  have hy : ∀ y : S1024x128.Idx, k0_pay2 (iblk m c 0 t) (iblk m c 1 t) y = k0_pay1 (iblk m c 0 t) (iblk m c 1 t) (ix2 (y 1) (y 0)) := fun y => by
    unfold k0_pay2; generalize k0_pay1 (iblk m c 0 t) (iblk m c 1 t) = z; pointwise
  have hr : ∀ i : Cert.RmsEvenRefIdeal.S1024x2176.Idx, Cert.RmsEvenRefIdeal.Read.val_main_v15 (m ((c : Thread nD τ).loc main_arg0)) (m ((c : Thread nD τ).loc main_arg1)) i
      = Cert.RmsEvenRefIdeal.Read.val_main_v14 (m ((c : Thread nD τ).loc main_arg0)) (m ((c : Thread nD τ).loc main_arg1)) (ix2 (i 1) (i 0)) := fun i => by
    unfold Cert.RmsEvenRefIdeal.Read.val_main_v15; generalize Cert.RmsEvenRefIdeal.Read.val_main_v14 (m ((c : Thread nD τ).loc main_arg0)) (m ((c : Thread nD τ).loc main_arg1)) = z; pointwise
  refine Eq.trans ?_ ((rows m c t (ix2 (y 1) (y 0)) _ ?_ ?_).trans (hr _).symm)
  · refine Eq.trans ?_ (hy y)
    blk_simp; rw [after0_3]; simp only [outsAt0]; frame_out
  · have e := tile t
    blk_simp [e]; dsimp only; omega
  · have e := tile t
    blk_simp [e]

/-- The reference leaves its arguments, and it has no semaphore. -/
theorem frame_reference : Cert.quiescent_RmsEvenRefIdeal := fun m ρ _ =>
  (θ_run Cert.RmsEvenRefIdeal.defs _ _).mono (fun r h => ⟨fun c => (h c).2.2, sem_eq_zero_of_no_sems (by decide) r.2⟩)
    (Cert.RmsEvenRefIdeal.Value.run (F := Ideal) m ρ)

/-- The kernel and the reference end with the same two arrays. -/
theorem algebraic : Cert.algebraic_RmsEvenIdeal_RmsEvenRefIdeal := by
  intro m g m' g' _ hm
  refine ⟨fun c => Cert.RmsEvenRefIdeal.Read.val_main_v14 (m ((c : Thread nD τ).loc main_arg0)) (m ((c : Thread nD τ).loc main_arg1)),
    fun c => Cert.RmsEvenRefIdeal.Read.val_main_v15 (m ((c : Thread nD τ).loc main_arg0)) (m ((c : Thread nD τ).loc main_arg1)), ?_, ?_⟩
  · exact (θ_run Cert.RmsEvenIdeal.defs _ _).mono (fun r h c => ⟨(h c).1.trans (array2 m c), (h c).2.1.trans (array3 m c), (h c).2.2⟩)
      (Cert.RmsEvenIdeal.Value.run_blocks m g)
  · refine (θ_run Cert.RmsEvenRefIdeal.defs _ _).mono (fun r h c => ⟨(h c).1.trans ?_, (h c).2.1.trans ?_, (h c).2.2⟩)
      (Cert.RmsEvenRefIdeal.Value.run (F := Ideal) m' g')
    all_goals obtain ⟨e0, e1, e2⟩ := hm c; beta_reduce; rw [← e0, ← e1]
    · exact Cert.RmsEvenRefIdeal.Read.val_main_v14_eq _ _
    · exact Cert.RmsEvenRefIdeal.Read.val_main_v15_eq _ _
end Cert.RmsEvenIdeal.Own
end
-- ==== Proof.RmsFfn.lean ====
module
public import proofs.«01_k».proof.Defs
public import proofs.«01_k».proof.Proof.Gen.RmsFfnIdeal.Value
public import proofs.«01_k».proof.Proof.Gen.RmsFfnRefIdeal
public import proofs.«01_k».proof.Proof.Gen.RmsFfnRefIdeal.Run
public import proofs.«01_k».proof.Proof.Gen.RmsFfnRefIdeal.Read
public import proofs.«01_k».proof.Proof.RmsRow
public import Idealize.ShloMosaic.Lib.Pipeline.ValueKit
public import Idealize.ShloMosaic.Adequacy
public import Idealize.ShloMosaic.Init

/-! The norm before a feed-forward layer, by rows and by columns. -/

@[expose] public section
set_option maxRecDepth 16384
noncomputable section
namespace Cert.RmsFfnIdeal.Own
open Cert.RmsFfnIdeal Cert.RmsFfnIdeal.Gen Idealize.ShloMosaic Idealize.ShloMosaic.TcCoe Idealize.SL.Sem
open Idealize.ShloMosaic.Pipeline (Dat)
open scoped BigOperators

/-- Which block every window shows at each of the seventeen row tiles. -/
theorem tile : ∀ t : Fin cfg0.N, win0_0.index t = ![t.val, 0] ∧ win0_1.index t = ![0, 0] ∧ win0_2.index t = ![t.val, 0] ∧ win0_3.index t = ![0, t.val] :=
  (by decide +kernel : ∀ t : Fin grid0.N, _)

variable (m : (ℓ : Loc nD τ sig) → Buf (Elt Ideal) ℓ)

/-- A normalised row of a tile. -/
theorem pay1 (x : Vec Ideal S128x1024 .f32) (g : Vec Ideal S1x1024 .f32) (j : S128x1024.Idx) :
    k0_pay1 x g j = x j * Ideal.rsqrt (RmsRow.ms RmsRow.eps fun k => x (ix2 (j 0) k)) * g (ix2 0 (j 1)) := by
  obtain ⟨p, q, rfl⟩ : ∃ p q, j = ix2 p q := ⟨j 0, j 1, funext fun d => by fin_cases d <;> rfl⟩
  pointwise [k0_pay1]
  rw [RmsRow.bits_n, RmsRow.bits_eps]
  rfl

open Cert.RmsFfnRefIdeal.Read in
/-- A normalised row of the reference. -/
theorem ref (x0 : (⟨Cert.RmsFfnRefIdeal.S2176x1024, .f32⟩ : BufTy).Contents (Elt Ideal)) (x1 : (⟨Cert.RmsFfnRefIdeal.S1x1024, .f32⟩ : BufTy).Contents (Elt Ideal)) (i : Cert.RmsFfnRefIdeal.S2176x1024.Idx) :
    val_main_v14 x0 x1 i = x0 i * Ideal.rsqrt (RmsRow.ms RmsRow.eps fun k => x0 (ix2 (i 0) k)) * x1 (ix2 0 (i 1)) := by
  unfold val_main_v14 val_main_v13 val_main_v12 val_main_v11 val_main_v10 val_main_v9 val_main_v8 val_main_v7 val_main_v6 val_main_v5 val_main_v4 val_main_v3 val_main_v2 val_main_v1 val_main_v0
    val_main_cst_1 val_main_cst_0 val_main_cst
  pointwise
  rw [RmsRow.bits_n, RmsRow.bits_eps]
  simp only [RmsRow.ms]

/-- A row tile's normalised rows are the reference's. -/
theorem rows (c : Dev nD) (t : Fin cfg0.N) (j : S128x1024.Idx) (i : Cert.RmsFfnRefIdeal.S2176x1024.Idx)
    (h0 : (i 0).val = 128 * t.val + (j 0).val) (h1 : (i 1).val = (j 1).val) :
    k0_pay1 (iblk m c 0 t) (iblk m c 1 t) j = Cert.RmsFfnRefIdeal.Read.val_main_v14 (m ((c : Thread nD τ).loc main_arg0)) (m ((c : Thread nD τ).loc main_arg1)) i := by
  have hN : t.val < 17 := lt_of_lt_of_eq t.isLt N_0
  have b0 : (j 0).val < 128 := (j 0).isLt
  obtain rfl : i = ix2 ⟨128 * t.val + (j 0).val, by clear h0 h1; omega⟩ (j 1) := funext fun a => Fin.ext (by fin_cases a; exacts [h0, h1])
  refine (pay1 _ _ _).trans (Eq.trans ?_ (ref _ _ _).symm)
  have hx : ∀ k : Fin 1024, iblk m c 0 t (ix2 (j 0) k) = m ((c : Thread nD τ).loc main_arg0) (ix2 ⟨128 * t.val + (j 0).val, by clear h0 h1; omega⟩ k) :=
    fun k => by blk_point [iblk, V, tile t]
  have hx' : iblk m c 0 t j = m ((c : Thread nD τ).loc main_arg0) (ix2 ⟨128 * t.val + (j 0).val, by clear h0 h1; omega⟩ (j 1)) := by
    blk_point [iblk, V, tile t]
  have hg : iblk m c 1 t (ix2 0 (j 1)) = m ((c : Thread nD τ).loc main_arg1) (ix2 0 (j 1)) := by blk_point [iblk, V, tile t]
  rw [hx', hg]
  simp only [hx]
  rfl

/-- The first array the kernel leaves: the normalised rows. -/
theorem array2 (c : Dev nD) : (dats m 0 c).arrAt 2 cfg0.N = Cert.RmsFfnRefIdeal.Read.val_main_v14 (m ((c : Thread nD τ).loc main_arg0)) (m ((c : Thread nD τ).loc main_arg1)) := by
  refine (dats m 0 c).arrAt_eq_of_covers 2 _ (by decide +kernel) fun t hf y => ?_
  refine Eq.trans ?_ (rows m c t y _ ?_ ?_)
  · blk_simp; rw [after0_2]; frame_out
  · have e := tile t
    blk_simp [e]; omega
  · have e := tile t
    blk_simp [e]

/-- The second array: the same rows, laid out as columns. -/
theorem array3 (c : Dev nD) : (dats m 0 c).arrAt 3 cfg0.N = Cert.RmsFfnRefIdeal.Read.val_main_v15 (m ((c : Thread nD τ).loc main_arg0)) (m ((c : Thread nD τ).loc main_arg1)) := by
  refine (dats m 0 c).arrAt_eq_of_covers 3 _ (by decide +kernel) fun t hf y => ?_
  have hy : ∀ y : S1024x128.Idx, k0_pay2 (iblk m c 0 t) (iblk m c 1 t) y = k0_pay1 (iblk m c 0 t) (iblk m c 1 t) (ix2 (y 1) (y 0)) := fun y => by
    unfold k0_pay2; generalize k0_pay1 (iblk m c 0 t) (iblk m c 1 t) = z; pointwise
  have hr : ∀ i : Cert.RmsFfnRefIdeal.S1024x2176.Idx, Cert.RmsFfnRefIdeal.Read.val_main_v15 (m ((c : Thread nD τ).loc main_arg0)) (m ((c : Thread nD τ).loc main_arg1)) i
      = Cert.RmsFfnRefIdeal.Read.val_main_v14 (m ((c : Thread nD τ).loc main_arg0)) (m ((c : Thread nD τ).loc main_arg1)) (ix2 (i 1) (i 0)) := fun i => by
    unfold Cert.RmsFfnRefIdeal.Read.val_main_v15; generalize Cert.RmsFfnRefIdeal.Read.val_main_v14 (m ((c : Thread nD τ).loc main_arg0)) (m ((c : Thread nD τ).loc main_arg1)) = z; pointwise
  refine Eq.trans ?_ ((rows m c t (ix2 (y 1) (y 0)) _ ?_ ?_).trans (hr _).symm)
  · refine Eq.trans ?_ (hy y)
    blk_simp; rw [after0_3]; frame_out
  · have e := tile t
    blk_simp [e]; dsimp only; omega
  · have e := tile t
    blk_simp [e]

/-- The reference leaves its arguments, and it has no semaphore. -/
theorem frame_reference : Cert.quiescent_RmsFfnRefIdeal := fun m ρ _ =>
  (θ_run Cert.RmsFfnRefIdeal.defs _ _).mono (fun r h => ⟨fun c => (h c).2.2, sem_eq_zero_of_no_sems (by decide) r.2⟩)
    (Cert.RmsFfnRefIdeal.Value.run (F := Ideal) m ρ)

/-- The kernel and the reference end with the same two arrays. -/
theorem algebraic : Cert.algebraic_RmsFfnIdeal_RmsFfnRefIdeal := by
  intro m g m' g' _ hm
  refine ⟨fun c => Cert.RmsFfnRefIdeal.Read.val_main_v14 (m ((c : Thread nD τ).loc main_arg0)) (m ((c : Thread nD τ).loc main_arg1)),
    fun c => Cert.RmsFfnRefIdeal.Read.val_main_v15 (m ((c : Thread nD τ).loc main_arg0)) (m ((c : Thread nD τ).loc main_arg1)), ?_, ?_⟩
  · exact (θ_run Cert.RmsFfnIdeal.defs _ _).mono (fun r h c => ⟨(h c).1.trans (array2 m c), (h c).2.1.trans (array3 m c), (h c).2.2⟩)
      (Cert.RmsFfnIdeal.Value.run_blocks m g)
  · refine (θ_run Cert.RmsFfnRefIdeal.defs _ _).mono (fun r h c => ⟨(h c).1.trans ?_, (h c).2.1.trans ?_, (h c).2.2⟩)
      (Cert.RmsFfnRefIdeal.Value.run (F := Ideal) m' g')
    all_goals obtain ⟨e0, e1⟩ := hm c; beta_reduce; rw [← e0, ← e1]
    · exact Cert.RmsFfnRefIdeal.Read.val_main_v14_eq _ _
    · exact Cert.RmsFfnRefIdeal.Read.val_main_v15_eq _ _
end Cert.RmsFfnIdeal.Own
end
-- ==== Proof.RmsOdd.lean ====
module
public import proofs.«01_k».proof.Defs
public import proofs.«01_k».proof.Proof.Gen.RmsOddIdeal.Value
public import proofs.«01_k».proof.Proof.Gen.RmsOddRefIdeal
public import proofs.«01_k».proof.Proof.Gen.RmsOddRefIdeal.Run
public import proofs.«01_k».proof.Proof.Gen.RmsOddRefIdeal.Read
public import proofs.«01_k».proof.Proof.RmsRow
public import Idealize.ShloMosaic.Lib.Pipeline.ValueKit
public import Idealize.ShloMosaic.Adequacy
public import Idealize.ShloMosaic.Init

/-! The norm before the odd mixing layer. -/

@[expose] public section
set_option maxRecDepth 16384
noncomputable section
namespace Cert.RmsOddIdeal.Own
open Cert.RmsOddIdeal Cert.RmsOddIdeal.Gen Idealize.ShloMosaic Idealize.ShloMosaic.TcCoe Idealize.SL.Sem
open Idealize.ShloMosaic.Pipeline (Dat)
open scoped BigOperators

/-- Which block every window shows at each of the four row tiles. -/
theorem tile : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- A normalised row of a tile. -/
theorem pay1 (x : Vec Ideal S544x1024 .f32) (g : Vec Ideal S1x1024 .f32) (j : S544x1024.Idx) :
    k0_pay1 x g j = x j * Ideal.rsqrt (RmsRow.ms RmsRow.eps fun k => x (ix2 (j 0) k)) * g (ix2 0 (j 1)) := by
  obtain ⟨p, q, rfl⟩ : ∃ p q, j = ix2 p q := ⟨j 0, j 1, funext fun d => by fin_cases d <;> rfl⟩
  pointwise [k0_pay1]
  rw [RmsRow.bits_n, RmsRow.bits_eps]
  rfl

open Cert.RmsOddRefIdeal.Read in
/-- A normalised row of the reference. -/
theorem ref (x0 : (⟨Cert.RmsOddRefIdeal.S2176x1024, .f32⟩ : BufTy).Contents (Elt Ideal)) (x1 : (⟨Cert.RmsOddRefIdeal.S1x1024, .f32⟩ : BufTy).Contents (Elt Ideal)) (i : Cert.RmsOddRefIdeal.S2176x1024.Idx) :
    val_main_v13 x0 x1 i = x0 i * Ideal.rsqrt (RmsRow.ms RmsRow.eps fun k => x0 (ix2 (i 0) k)) * x1 (ix2 0 (i 1)) := by
  unfold val_main_v13 val_main_v12 val_main_v11 val_main_v10 val_main_v9 val_main_v8 val_main_v7 val_main_v6 val_main_v5 val_main_v4 val_main_v3 val_main_v2 val_main_v1 val_main_v0
    val_main_cst_1 val_main_cst_0 val_main_cst
  pointwise
  rw [RmsRow.bits_n, RmsRow.bits_eps]
  simp only [RmsRow.ms]

/-- A row tile's normalised rows are the reference's. -/
theorem rows (c : Dev nD) (t : Fin cfg0.N) (j : S544x1024.Idx) (i : Cert.RmsOddRefIdeal.S2176x1024.Idx)
    (h0 : (i 0).val = 544 * t.val + (j 0).val) (h1 : (i 1).val = (j 1).val) :
    k0_pay1 (iblk m c 0 t) (iblk m c 1 t) j = Cert.RmsOddRefIdeal.Read.val_main_v13 (m ((c : Thread nD τ).loc main_arg0)) (m ((c : Thread nD τ).loc main_arg1)) i := by
  have hN : t.val < 4 := lt_of_lt_of_eq t.isLt N_0
  have b0 : (j 0).val < 544 := (j 0).isLt
  obtain rfl : i = ix2 ⟨544 * t.val + (j 0).val, by clear h0 h1; omega⟩ (j 1) := funext fun a => Fin.ext (by fin_cases a; exacts [h0, h1])
  refine (pay1 _ _ _).trans (Eq.trans ?_ (ref _ _ _).symm)
  have hx : ∀ k : Fin 1024, iblk m c 0 t (ix2 (j 0) k) = m ((c : Thread nD τ).loc main_arg0) (ix2 ⟨544 * t.val + (j 0).val, by clear h0 h1; omega⟩ k) :=
    fun k => by blk_point [iblk, V, tile t]
  have hx' : iblk m c 0 t j = m ((c : Thread nD τ).loc main_arg0) (ix2 ⟨544 * t.val + (j 0).val, by clear h0 h1; omega⟩ (j 1)) := by
    blk_point [iblk, V, tile t]
  have hg : iblk m c 1 t (ix2 0 (j 1)) = m ((c : Thread nD τ).loc main_arg1) (ix2 0 (j 1)) := by blk_point [iblk, V, tile t]
  rw [hx', hg]
  simp only [hx]
  rfl

/-- The array the kernel leaves: the normalised rows. -/
theorem array (c : Dev nD) : (dats m 0 c).arrAt 2 cfg0.N = Cert.RmsOddRefIdeal.Read.val_main_v13 (m ((c : Thread nD τ).loc main_arg0)) (m ((c : Thread nD τ).loc main_arg1)) := by
  refine (dats m 0 c).arrAt_eq_of_covers 2 _ (by decide +kernel) fun t hf y => ?_
  refine Eq.trans ?_ (rows m c t y _ ?_ ?_)
  · blk_simp; rw [after0_2]; frame_out
  · have e := tile t
    blk_simp [e]; omega
  · have e := tile t
    blk_simp [e]

/-- The reference leaves its arguments, and it has no semaphore. -/
theorem frame_reference : Cert.quiescent_RmsOddRefIdeal := fun m ρ _ =>
  (θ_run Cert.RmsOddRefIdeal.defs _ _).mono (fun r h => ⟨fun c => (h c).2, sem_eq_zero_of_no_sems (by decide) r.2⟩)
    (Cert.RmsOddRefIdeal.Value.run (F := Ideal) m ρ)

/-- The kernel and the reference end with the same array. -/
theorem algebraic : Cert.algebraic_RmsOddIdeal_RmsOddRefIdeal := by
  intro m g m' g' _ hm
  refine ⟨fun c => Cert.RmsOddRefIdeal.Read.val_main_v13 (m ((c : Thread nD τ).loc main_arg0)) (m ((c : Thread nD τ).loc main_arg1)), ?_, ?_⟩
  · exact (θ_run Cert.RmsOddIdeal.defs _ _).mono (fun r h c => ⟨(h c).1.trans (array m c), (h c).2⟩) (Cert.RmsOddIdeal.Value.run_blocks m g)
  · refine (θ_run Cert.RmsOddRefIdeal.defs _ _).mono (fun r h c => ⟨(h c).1.trans ?_, (h c).2⟩) (Cert.RmsOddRefIdeal.Value.run (F := Ideal) m' g')
    obtain ⟨e0, e1⟩ := hm c
    beta_reduce
    rw [← e0, ← e1]
    exact Cert.RmsOddRefIdeal.Read.val_main_v13_eq _ _
end Cert.RmsOddIdeal.Own
end
-- ==== Proof.RmsBwd.lean ====
module
public import proofs.«01_k».proof.Defs
public import proofs.«01_k».proof.Proof.Gen.RmsBwdIdeal.Value
public import proofs.«01_k».proof.Proof.Gen.RmsBwdRefIdeal
public import proofs.«01_k».proof.Proof.Gen.RmsBwdRefIdeal.Run
public import proofs.«01_k».proof.Proof.Gen.RmsBwdRefIdeal.Read
public import proofs.«01_k».proof.Proof.RmsRow
public import Idealize.ShloMosaic.Lib.Pipeline.ValueKit
public import Idealize.ShloMosaic.Adequacy
public import Idealize.ShloMosaic.Init

/-! The gradient through the norm before the odd mixing layer. -/

@[expose] public section
set_option maxRecDepth 16384
noncomputable section
namespace Cert.RmsBwdIdeal.Own
open Cert.RmsBwdIdeal Cert.RmsBwdIdeal.Gen Idealize.ShloMosaic Idealize.ShloMosaic.TcCoe Idealize.SL.Sem
open Idealize.ShloMosaic.Pipeline (Dat)
open scoped BigOperators

/-- Which block every window shows at each of the four row tiles. -/
theorem tile : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] := (by decide +kernel : ∀ t : Fin grid0.N, _)

variable (m : (ℓ : Loc nD τ sig) → Buf (Elt Ideal) ℓ)

/-- What a row tile writes, on the gradient `a`, the rows `x`, the norm's weight `g` and the gradient `h` added. -/
theorem pay6 (a x : Vec Ideal S544x1024 .f32) (g : Vec Ideal S1x1024 .f32) (h : Vec Ideal S544x1024 .f32) (j : S544x1024.Idx) :
    k0_pay6 a x g h j = h j + (a j * g (ix2 0 (j 1)) * Ideal.rsqrt (RmsRow.ms RmsRow.eps fun k => x (ix2 (j 0) k))
      + x j * Ideal.div ((∑ k, x (ix2 (j 0) k) * (a (ix2 (j 0) k) * g (ix2 0 k))) * (((-0.5 : ℝ) : EReal)
          * Ideal.div (Ideal.rsqrt (RmsRow.ms RmsRow.eps fun k => x (ix2 (j 0) k))) (RmsRow.ms RmsRow.eps fun k => x (ix2 (j 0) k)))) ((1024 : ℝ) : EReal)
      + Ideal.div ((∑ k, x (ix2 (j 0) k) * (a (ix2 (j 0) k) * g (ix2 0 k))) * (((-0.5 : ℝ) : EReal)
          * Ideal.div (Ideal.rsqrt (RmsRow.ms RmsRow.eps fun k => x (ix2 (j 0) k))) (RmsRow.ms RmsRow.eps fun k => x (ix2 (j 0) k)))) ((1024 : ℝ) : EReal) * x j) := by
  obtain ⟨p, q, rfl⟩ : ∃ p q, j = ix2 p q := ⟨j 0, j 1, funext fun d => by fin_cases d <;> rfl⟩
  pointwise [k0_pay6, k0_pay3, k0_pay2]
  rw [RmsRow.bits_n, RmsRow.bits_eps]
  exact congrArg (fun z : EReal => h (ix2 p q) + z) (RmsRow.row RmsRow.eps_pos (fun k => x (ix2 p k)) (fun k => a (ix2 p k) * g (ix2 0 k)) q)

open Cert.RmsBwdRefIdeal.Read in
/-- The reference's gradient with the two terms through the mean square. -/
theorem ref37 (x0 : (⟨Cert.RmsBwdRefIdeal.S2176x1024, .f32⟩ : BufTy).Contents (Elt Ideal)) (x1 : (⟨Cert.RmsBwdRefIdeal.S1x1024, .f32⟩ : BufTy).Contents (Elt Ideal)) (x2 x3 : (⟨Cert.RmsBwdRefIdeal.S2176x1024, .f32⟩ : BufTy).Contents (Elt Ideal)) (i : Cert.RmsBwdRefIdeal.S2176x1024.Idx) :
    val_main_v37 x0 x1 x2 x3 i = x3 i + (x2 i * x1 (ix2 0 (i 1)) * Ideal.rsqrt (RmsRow.ms RmsRow.eps fun k => x0 (ix2 (i 0) k))
      + x0 i * Ideal.div ((∑ k, x0 (ix2 (i 0) k) * (x2 (ix2 (i 0) k) * x1 (ix2 0 k))) * (((-0.5 : ℝ) : EReal)
          * Ideal.div (Ideal.rsqrt (RmsRow.ms RmsRow.eps fun k => x0 (ix2 (i 0) k))) (RmsRow.ms RmsRow.eps fun k => x0 (ix2 (i 0) k)))) ((1024 : ℝ) : EReal)
      + Ideal.div ((∑ k, x0 (ix2 (i 0) k) * (x2 (ix2 (i 0) k) * x1 (ix2 0 k))) * (((-0.5 : ℝ) : EReal)
          * Ideal.div (Ideal.rsqrt (RmsRow.ms RmsRow.eps fun k => x0 (ix2 (i 0) k))) (RmsRow.ms RmsRow.eps fun k => x0 (ix2 (i 0) k)))) ((1024 : ℝ) : EReal) * x0 i) := by
  unfold val_main_v37 val_main_v36 val_main_v35 val_main_v34 val_main_v33 val_main_v32 val_main_v31 val_main_v30 val_main_v29 val_main_v28
    val_main_v27 val_main_v26 val_main_v25 val_main_v24 val_main_v23 val_main_v21 val_main_v20 val_main_v14 val_main_v11 val_main_v10
    val_main_v9 val_main_v8 val_main_v7 val_main_v6 val_main_v5 val_main_v4 val_main_v3 val_main_v2 val_main_v1 val_main_v0
    val_main_cst_7 val_main_cst_6 val_main_cst_5 val_main_cst_2 val_main_cst_1 val_main_cst_0 val_main_cst
  pointwise
  rw [RmsRow.bits_n, RmsRow.bits_eps, RmsRow.bits_half]
  simp only [Finset.univ_unique, Finset.sum_singleton, RmsRow.ms]

open Cert.RmsBwdRefIdeal.Read in
/-- The reference's gradient of the norm's weight: the normalised rows against the gradient, summed over the rows. -/
theorem ref40 (x0 x2 : (⟨Cert.RmsBwdRefIdeal.S2176x1024, .f32⟩ : BufTy).Contents (Elt Ideal)) (i : Cert.RmsBwdRefIdeal.S1x1024.Idx) :
    val_main_v40 x0 x2 i = ∑ p : Fin 2176, x2 (ix2 p (i 1)) * (x0 (ix2 p (i 1)) * Ideal.rsqrt (RmsRow.ms RmsRow.eps fun k => x0 (ix2 p k))) := by
  unfold val_main_v40 val_main_v22 val_main_v19 val_main_v18 val_main_v17 val_main_v13 val_main_v12 val_main_v8
    val_main_v7 val_main_v6 val_main_v5 val_main_v4 val_main_v3 val_main_v2 val_main_v1 val_main_cst_4 val_main_cst_3 val_main_cst_1 val_main_cst_0 val_main_cst
  pointwise
  rw [RmsRow.bits_n, RmsRow.bits_eps]
  simp only [Finset.univ_unique, Finset.sum_singleton]
  exact Finset.sum_congr (M := EReal) rfl fun p _ => mul_comm (_ : EReal) _

/-- The rows of the new gradient, before they are rounded. -/
theorem rows (c : Dev nD) (t : Fin cfg0.N) (j : S544x1024.Idx) (i : Cert.RmsBwdRefIdeal.S2176x1024.Idx)
    (h0 : (i 0).val = 544 * t.val + (j 0).val) (h1 : (i 1).val = (j 1).val) :
    k0_pay6 (iblk m c 2 t) (iblk m c 0 t) (iblk m c 1 t) (iblk m c 3 t) j
      = Cert.RmsBwdRefIdeal.Read.val_main_v37 (m ((c : Thread nD τ).loc main_arg0)) (m ((c : Thread nD τ).loc main_arg1)) (m ((c : Thread nD τ).loc main_arg2)) (m ((c : Thread nD τ).loc main_arg3)) i := by
  have hN : t.val < 4 := lt_of_lt_of_eq t.isLt N_0
  have b0 : (j 0).val < 544 := (j 0).isLt
  obtain rfl : i = ix2 ⟨544 * t.val + (j 0).val, by clear h0 h1; omega⟩ (j 1) := funext fun a => Fin.ext (by fin_cases a; exacts [h0, h1])
  refine (pay6 _ _ _ _ _).trans (Eq.trans ?_ (ref37 _ _ _ _ _).symm)
  have ha : ∀ k : Fin 1024, iblk m c 2 t (ix2 (j 0) k) = m ((c : Thread nD τ).loc main_arg2) (ix2 ⟨544 * t.val + (j 0).val, by clear h0 h1; omega⟩ k) :=
    fun k => by blk_point [iblk, V, tile t]
  have ha' : iblk m c 2 t j = m ((c : Thread nD τ).loc main_arg2) (ix2 ⟨544 * t.val + (j 0).val, by clear h0 h1; omega⟩ (j 1)) := by
    blk_point [iblk, V, tile t]
  have hx : ∀ k : Fin 1024, iblk m c 0 t (ix2 (j 0) k) = m ((c : Thread nD τ).loc main_arg0) (ix2 ⟨544 * t.val + (j 0).val, by clear h0 h1; omega⟩ k) :=
    fun k => by blk_point [iblk, V, tile t]
  have hx' : iblk m c 0 t j = m ((c : Thread nD τ).loc main_arg0) (ix2 ⟨544 * t.val + (j 0).val, by clear h0 h1; omega⟩ (j 1)) := by
    blk_point [iblk, V, tile t]
  have hg : ∀ k : Fin 1024, iblk m c 1 t (ix2 0 k) = m ((c : Thread nD τ).loc main_arg1) (ix2 0 k) := fun k => by blk_point [iblk, V, tile t]
  have hg' : iblk m c 1 t (ix2 0 (j 1)) = m ((c : Thread nD τ).loc main_arg1) (ix2 0 (j 1)) := hg (j 1)
  have hh : iblk m c 3 t j = m ((c : Thread nD τ).loc main_arg3) (ix2 ⟨544 * t.val + (j 0).val, by clear h0 h1; omega⟩ (j 1)) := by
    blk_point [iblk, V, tile t]
  rw [ha', hx', hh, hg']
  simp only [ha, hx, hg]
  rfl

/-- The first result: the rows of the new gradient. -/
theorem array4 (c : Dev nD) : (dats m 0 c).arrAt 4 cfg0.N = Cert.RmsBwdRefIdeal.Read.val_main_v37 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  refine Eq.trans ?_ (rows m c t y _ ?_ ?_)
  · blk_simp; rw [after0_4]
    by_cases h0 : t.val % 4 = 0
    · rw [outsAt0_A m c t h0]; frame_out
    · rw [outsAt0_B m c t h0]; frame_out
  · have e := tile t
    blk_simp [e]; omega
  · have e := tile t
    blk_simp [e]

/-- The second result: the same rows, rounded. -/
theorem array5 (c : Dev nD) : (dats m 0 c).arrAt 5 cfg0.N = Cert.RmsBwdRefIdeal.Read.val_main_v39 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  refine Eq.trans ?_ (rows m c t y _ ?_ ?_)
  · blk_simp; rw [after0_5]
    by_cases h0 : t.val % 4 = 0
    · rw [outsAt0_A m c t h0]; frame_out
      pointwise [k0_pay1]
    · rw [outsAt0_B m c t h0]; frame_out
      pointwise [k0_pay1]
  · have e := tile t
    blk_simp [e]; omega
  · have e := tile t
    blk_simp [e]

/-- One row's part of the gradient of the norm's weight, zero past the last row. -/
def part (x0 x2 : (⟨Cert.RmsBwdRefIdeal.S2176x1024, .f32⟩ : BufTy).Contents (Elt Ideal)) (q : Fin 1024) (r : ℕ) : EReal := if h : r < 2176 then
    x2 (ix2 ⟨r, h⟩ q) * (x0 (ix2 ⟨r, h⟩ q) * Ideal.rsqrt (RmsRow.ms RmsRow.eps fun k => x0 (ix2 ⟨r, h⟩ k))) else 0

/-- A row tile adds its 544 rows' parts to what the weight's gradient already holds. -/
theorem pay5 (c : Dev nD) (t : Fin cfg0.N) (g : Vec Ideal S1x1024 .f32) (j : S1x1024.Idx) :
    k0_pay5 (iblk m c 2 t) (iblk m c 0 t) g j = g j + ∑ p : Fin 544, part (m ((c : Thread nD τ).loc main_arg0)) (m ((c : Thread nD τ).loc main_arg2)) (j 1) (t.val * 544 + p.val) := by
  have hN : t.val < 4 := lt_of_lt_of_eq t.isLt N_0
  pointwise [k0_pay5, k0_pay3, k0_pay2]
  rw [RmsRow.bits_n, RmsRow.bits_eps]
  refine congrArg (fun z : EReal => g j + z) (Finset.sum_congr (M := EReal) rfl fun p _ => ?_)
  have hr : t.val * 544 + p.val < 2176 := by omega
  have ha : iblk m c 2 t (ix2 p (j 1)) = m ((c : Thread nD τ).loc main_arg2) (ix2 ⟨t.val * 544 + p.val, hr⟩ (j 1)) := by
    blk_point [iblk, V, tile t]
  have hx : ∀ k : Fin 1024, iblk m c 0 t (ix2 p k) = m ((c : Thread nD τ).loc main_arg0) (ix2 ⟨t.val * 544 + p.val, hr⟩ k) :=
    fun k => by blk_point [iblk, V, tile t]
  unfold part
  rw [dif_pos hr, ha, hx (j 1)]
  simp only [hx, RmsRow.ms]

/-- After every point the weight's gradient holds the parts of the rows that are done. -/
theorem sofar (c : Dev nD) (j : S1x1024.Idx) (n : ℕ) : ∀ hn : n < cfg0.N,
    (outsAt0 m c n hn).2.2 j = ∑ b ∈ Finset.range (n + 1), ∑ p : Fin 544, part (m ((c : Thread nD τ).loc main_arg0)) (m ((c : Thread nD τ).loc main_arg2)) (j 1) (b * 544 + p.val) := by
  induction n with
  | zero =>
    intro hn
    have e := outsAt0_A m c ⟨0, hn⟩ rfl
    have hp := pay5 m c ⟨0, hn⟩ (k0_pay4 (F := Ideal)) j
    have : (outsAt0 m c 0 hn).2.2 j = k0_pay5 (iblk m c 2 ⟨0, hn⟩) (iblk m c 0 ⟨0, hn⟩) (k0_pay4 (F := Ideal)) j := by
      dsimp only at e ⊢
      rw [e]; frame_out
    rw [this, hp, show (k0_pay4 (F := Ideal)) j = (0 : EReal) by pointwise [k0_pay4], zero_add, Finset.sum_range_one]
  | succ n ih =>
    intro hn
    have hN : n + 1 < 4 := lt_of_lt_of_eq hn N_0
    have e := outsAt0_B m c ⟨n + 1, hn⟩ (by dsimp only; omega)
    have hp := pay5 m c ⟨n + 1, hn⟩
    have : (outsAt0 m c (n + 1) hn).2.2 j
        = k0_pay5 (iblk m c 2 ⟨n + 1, hn⟩) (iblk m c 0 ⟨n + 1, hn⟩) (outsAt0 m c n (Nat.lt_of_succ_lt hn)).2.2 j := by
      dsimp only at e ⊢
      rw [e]; frame_out
      rfl
    rw [this, hp, ih, Finset.sum_range_succ (n := n + 1)]

/-- The third result: the gradient of the norm's weight. -/
theorem array6 (c : Dev nD) : (dats m 0 c).arrAt 6 cfg0.N = Cert.RmsBwdRefIdeal.Read.val_main_v40 (m ((c : Thread nD τ).loc main_arg0)) (m ((c : Thread nD τ).loc main_arg2)) := by
  refine (dats m 0 c).arrAt_eq_of_covers 6 _ (by decide +kernel) fun t hf y => ?_
  have ht := (flush0_6 t).mp hf
  have hN : t.val < 4 := lt_of_lt_of_eq t.isLt N_0
  refine Eq.trans (b := Cert.RmsBwdRefIdeal.Read.val_main_v40 (m ((c : Thread nD τ).loc main_arg0)) (m ((c : Thread nD τ).loc main_arg2)) (y : S1x1024.Idx)) ?_ ?_
  · blk_simp; rw [after0_6, sofar m c y t.val t.isLt, ref40, show t.val + 1 = 4 by omega, Finset.sum_range]
    refine Fin.sum_mul_add_congr fun s k hl => ?_
    unfold part
    rw [dif_pos hl]
  · refine congrArg _ (funext fun a => Fin.ext ?_)
    have e := tile t
    fin_cases a <;> blk_simp [e]

/-- The reference leaves its arguments, and it has no semaphore. -/
theorem frame_reference : Cert.quiescent_RmsBwdRefIdeal := fun m ρ _ =>
  (θ_run Cert.RmsBwdRefIdeal.defs _ _).mono (fun r h => ⟨fun c => (h c).2.2.2, sem_eq_zero_of_no_sems (by decide) r.2⟩)
    (Cert.RmsBwdRefIdeal.Value.run (F := Ideal) m ρ)

/-- The kernel and the reference end with the same three arrays. -/
theorem algebraic : Cert.algebraic_RmsBwdIdeal_RmsBwdRefIdeal := by
  intro m g m' g' _ hm
  refine ⟨fun c => Cert.RmsBwdRefIdeal.Read.val_main_v37 (m ((c : Thread nD τ).loc main_arg0)) (m ((c : Thread nD τ).loc main_arg1)) (m ((c : Thread nD τ).loc main_arg2)) (m ((c : Thread nD τ).loc main_arg3)),
    fun c => Cert.RmsBwdRefIdeal.Read.val_main_v39 (m ((c : Thread nD τ).loc main_arg0)) (m ((c : Thread nD τ).loc main_arg1)) (m ((c : Thread nD τ).loc main_arg2)) (m ((c : Thread nD τ).loc main_arg3)),
    fun c => Cert.RmsBwdRefIdeal.Read.val_main_v40 (m ((c : Thread nD τ).loc main_arg0)) (m ((c : Thread nD τ).loc main_arg2)), ?_, ?_⟩
  · exact (θ_run Cert.RmsBwdIdeal.defs _ _).mono (fun r h c => ⟨(h c).1.trans (array4 m c), (h c).2.1.trans (array5 m c),
      (h c).2.2.1.trans (array6 m c), (h c).2.2.2⟩) (Cert.RmsBwdIdeal.Value.run_blocks m g)
  · refine (θ_run Cert.RmsBwdRefIdeal.defs _ _).mono (fun r h c => ⟨(h c).1.trans ?_, (h c).2.1.trans ?_, (h c).2.2.1.trans ?_, (h c).2.2.2⟩)
      (Cert.RmsBwdRefIdeal.Value.run (F := Ideal) m' g')
    all_goals obtain ⟨e0, e1, e2, e3⟩ := hm c; beta_reduce
    · rw [← e0, ← e1, ← e2, ← e3]; exact Cert.RmsBwdRefIdeal.Read.val_main_v37_eq _ _
    · rw [← e0, ← e1, ← e2, ← e3]; exact Cert.RmsBwdRefIdeal.Read.val_main_v39_eq _ _
    · rw [← e0, ← e2]; exact Cert.RmsBwdRefIdeal.Read.val_main_v40_eq _ _
end Cert.RmsBwdIdeal.Own
end
-- ==== Proof.TCat.lean ====
module
public import proofs.«01_k».proof.Defs
public import proofs.«01_k».proof.Proof.Gen.TCatIdeal.Value
public import proofs.«01_k».proof.Proof.Gen.TCatRefIdeal
public import proofs.«01_k».proof.Proof.Gen.TCatRefIdeal.Run
public import proofs.«01_k».proof.Proof.Gen.TCatRefIdeal.Read
public import Idealize.ShloMosaic.Lib.Pipeline.ValueKit
public import Idealize.ShloMosaic.Adequacy
public import Idealize.ShloMosaic.Init

/-! The mixing's rows laid out as columns, tile by tile. -/

@[expose] public section
set_option maxRecDepth 16384
noncomputable section
namespace Cert.TCatIdeal.Own
open Cert.TCatIdeal Cert.TCatIdeal.Gen Idealize.ShloMosaic Idealize.ShloMosaic.TcCoe Idealize.SL.Sem
open Idealize.ShloMosaic.Pipeline (Dat)
open scoped BigOperators

/-- Which block every window shows at each of the seventeen row tiles. -/
theorem tile : ∀ t : Fin cfg0.N, win0_0.index t = ![t.val, 0] ∧ win0_1.index t = ![0, t.val] :=
  (by decide +kernel : ∀ t : Fin grid0.N, _)

variable (m : (ℓ : Loc nD τ sig) → Buf (Elt Ideal) ℓ)

open Cert.TCatRefIdeal.Read in
/-- The array the kernel leaves is the reference's. -/
theorem array (c : Dev nD) : (dats m 0 c).arrAt 1 cfg0.N = val_main_v0 (m ((c : Thread nD τ).loc main_arg0)) := by
  refine (dats m 0 c).arrAt_eq_of_covers 1 _ (by decide +kernel) fun t hf y => ?_
  blk_simp; rw [after0_1]; frame_out
  pointwise [k0_pay1, val_main_v0]
  blk_point [iblk, V, tile t]

/-- The reference leaves its argument, and it has no semaphore. -/
theorem frame_reference : Cert.quiescent_TCatRefIdeal := fun m ρ _ =>
  (θ_run Cert.TCatRefIdeal.defs _ _).mono (fun r h => ⟨fun c => (h c).2, sem_eq_zero_of_no_sems (by decide) r.2⟩)
    (Cert.TCatRefIdeal.Value.run (F := Ideal) m ρ)

/-- The kernel and the reference end with the same array. -/
theorem algebraic : Cert.algebraic_TCatIdeal_TCatRefIdeal := by
  intro m g m' g' _ hm
  refine ⟨fun c => Cert.TCatRefIdeal.Read.val_main_v0 (m ((c : Thread nD τ).loc main_arg0)), ?_, ?_⟩
  · exact (θ_run Cert.TCatIdeal.defs _ _).mono (fun r h c => ⟨(h c).1.trans (array m c), (h c).2⟩) (Cert.TCatIdeal.Value.run_blocks m g)
  · refine (θ_run Cert.TCatRefIdeal.defs _ _).mono (fun r h c => ⟨(h c).1.trans ?_, (h c).2⟩) (Cert.TCatRefIdeal.Value.run (F := Ideal) m' g')
    obtain e0 := hm c
    beta_reduce
    rw [← e0]
    exact Cert.TCatRefIdeal.Read.val_main_v0_eq _
end Cert.TCatIdeal.Own
end
-- ==== Proof.TDf.lean ====
module
public import proofs.«01_k».proof.Defs
public import proofs.«01_k».proof.Proof.Gen.TDfIdeal.Value
public import proofs.«01_k».proof.Proof.Gen.TDfRefIdeal
public import proofs.«01_k».proof.Proof.Gen.TDfRefIdeal.Run
public import proofs.«01_k».proof.Proof.Gen.TDfRefIdeal.Read
public import Idealize.ShloMosaic.Lib.Pipeline.ValueKit
public import Idealize.ShloMosaic.Adequacy
public import Idealize.ShloMosaic.Init

/-! The gradient of the forget gate's sums, laid out row by row and rounded. -/

@[expose] public section
set_option maxRecDepth 16384
noncomputable section
namespace Cert.TDfIdeal.Own
open Cert.TDfIdeal Cert.TDfIdeal.Gen Idealize.ShloMosaic Idealize.ShloMosaic.TcCoe Idealize.SL.Sem
open Idealize.ShloMosaic.Pipeline (Dat)
open scoped BigOperators

/-- The one block every window shows. -/
theorem tile : ∀ t : Fin cfg0.N, win0_0.index t = ![0, 0] ∧ win0_1.index t = ![0, 0] :=
  (by decide +kernel : ∀ t : Fin grid0.N, _)

variable (m : (ℓ : Loc nD τ sig) → Buf (Elt Ideal) ℓ)

open Cert.TDfRefIdeal.Read in
/-- The array the kernel leaves is the reference's. -/
theorem array (c : Dev nD) : (dats m 0 c).arrAt 1 cfg0.N = val_main_v1 (m ((c : Thread nD τ).loc main_arg0)) := by
  refine (dats m 0 c).arrAt_eq_of_covers 1 _ (by decide +kernel) fun t hf y => ?_
  blk_simp; rw [after0_1]; frame_out
  pointwise [k0_pay1, val_main_v1, val_main_v0]
  blk_point [iblk, V, tile t]

/-- The reference leaves its argument, and it has no semaphore. -/
theorem frame_reference : Cert.quiescent_TDfRefIdeal := fun m ρ _ =>
  (θ_run Cert.TDfRefIdeal.defs _ _).mono (fun r h => ⟨fun c => (h c).2, sem_eq_zero_of_no_sems (by decide) r.2⟩)
    (Cert.TDfRefIdeal.Value.run (F := Ideal) m ρ)

/-- The kernel and the reference end with the same array. -/
theorem algebraic : Cert.algebraic_TDfIdeal_TDfRefIdeal := by
  intro m g m' g' _ hm
  refine ⟨fun c => Cert.TDfRefIdeal.Read.val_main_v1 (m ((c : Thread nD τ).loc main_arg0)), ?_, ?_⟩
  · exact (θ_run Cert.TDfIdeal.defs _ _).mono (fun r h c => ⟨(h c).1.trans (array m c), (h c).2⟩) (Cert.TDfIdeal.Value.run_blocks m g)
  · refine (θ_run Cert.TDfRefIdeal.defs _ _).mono (fun r h c => ⟨(h c).1.trans ?_, (h c).2⟩) (Cert.TDfRefIdeal.Value.run (F := Ideal) m' g')
    obtain e0 := hm c
    beta_reduce
    rw [← e0]
    exact Cert.TDfRefIdeal.Read.val_main_v1_eq _
end Cert.TDfIdeal.Own
end
-- ==== Proof.LossHead.lean ====
module
public import proofs.«01_k».proof.Defs
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.RmsRow
public import Idealize.ShloMosaic.Lib.Pipeline.ValueKit
public import Idealize.ShloMosaic.Adequacy
public import Idealize.ShloMosaic.Init

/-! The loss and the gradient through the last norm. -/

@[expose] public section
set_option maxRecDepth 16384
noncomputable section
namespace Cert.LossHeadIdeal.Own
open Cert.LossHeadIdeal Cert.LossHeadIdeal.Gen Idealize.ShloMosaic Idealize.ShloMosaic.TcCoe Idealize.SL.Sem
open Idealize.ShloMosaic.Pipeline (Dat)
open scoped BigOperators

/-- Which block every window shows at each of the four row tiles. -/
theorem tile : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] := (by decide +kernel : ∀ t : Fin grid0.N, _)

theorem coord : ∀ t : Fin cfg0.N, (grid0.coords t 0).val = t.val := (by decide +kernel : ∀ t : Fin grid0.N, _)

/-- The constants: one half, two, and one over the length of a row. -/
theorem bits_half : Ideal.ofBits .f32 0x3F000000#32 = ((0.5 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_inv : Ideal.ofBits .f32 0x3A800000#32 = ((1 / 1024 : ℝ) : EReal) := by
  simp [Ideal.ofBits, Ideal.ieee, -EReal.coe_mul]; norm_num

/-- What a row misses of its target, zero in the rows that are not the sequence's. -/
def err (x0 : (⟨Cert.LossHeadRefIdeal.S2176x1024, .f32⟩ : BufTy).Contents (Elt Ideal)) (x1 : (⟨Cert.LossHeadRefIdeal.S1x1024, .f32⟩ : BufTy).Contents (Elt Ideal)) (x2 : (⟨Cert.LossHeadRefIdeal.S2176x1024, .f32⟩ : BufTy).Contents (Elt Ideal)) (i : Cert.LossHeadRefIdeal.S2176x1024.Idx) : EReal :=
  if 16 ≤ (i 0).val ∧ (i 0).val < 2064 then
    x0 i * Ideal.rsqrt (RmsRow.ms RmsRow.eps fun k => x0 (ix2 (i 0) k)) * x1 (ix2 0 (i 1)) - x2 i
  else 0

theorem err_row (x0 : (⟨Cert.LossHeadRefIdeal.S2176x1024, .f32⟩ : BufTy).Contents (Elt Ideal)) (x1 : (⟨Cert.LossHeadRefIdeal.S1x1024, .f32⟩ : BufTy).Contents (Elt Ideal)) (x2 : (⟨Cert.LossHeadRefIdeal.S2176x1024, .f32⟩ : BufTy).Contents (Elt Ideal)) (p : Fin 2176) (q : Fin 1024) : err x0 x1 x2 (ix2 p q) = if 16 ≤ p.val ∧ p.val < 2064 then
    x0 (ix2 p q) * Ideal.rsqrt (RmsRow.ms RmsRow.eps fun k => x0 (ix2 p k)) * x1 (ix2 0 q) - x2 (ix2 p q) else 0 := rfl

variable (m : (ℓ : Loc nD τ sig) → Buf (Elt Ideal) ℓ)

/-- The kernel's choice of the sequence's rows. -/
theorem valid (n p : ℕ) (hn : n < 4) (hp : p < 544) (a b : EReal) :
    Scalar.select
      (IntOp.andi (IntOp.cmpi .sge (IntOp.addi (Scalar.muli (BitVec.ofNat 32 n) 544#32) (BitVec.ofNat 32 p)) 16#32)
        (IntOp.cmpi .slt (IntOp.addi (Scalar.muli (BitVec.ofNat 32 n) 544#32) (BitVec.ofNat 32 p)) 2064#32)) a b
      = if 16 ≤ 544 * n + p ∧ 544 * n + p < 2064 then a else b := by
  have e : IntOp.addi (Scalar.muli (BitVec.ofNat 32 n) 544#32) (BitVec.ofNat 32 p) = BitVec.ofNat 32 (544 * n + p) := by
    refine BitVec.eq_of_toNat_eq ?_
    simp only [IntOp.addi, Scalar.muli, IntOp.muli, BitVec.toNat_add, BitVec.toNat_mul, BitVec.toNat_ofNat]
    omega
  rw [e, WordCmp.cmpi_sge_ofNat (by omega) (by omega), WordCmp.cmpi_slt_ofNat (by omega) (by omega)]
  by_cases h1 : 16 ≤ 544 * n + p <;> by_cases h2 : 544 * n + p < 2064 <;> simp [h1, h2, IntOp.andi, Scalar.select]

/-- A row tile's misses, the tile starting at row `544 * n`. -/
theorem pay8 (i : grid0.Coords) (n : ℕ) (hn : (i 0).val = n) (h4 : n < 4) (x : Vec Ideal S544x1024 .f32) (g : Vec Ideal S1x1024 .f32) (y : Vec Ideal S544x1024 .f32) (j : S544x1024.Idx) :
    k0_pay8 i x g y j = if 16 ≤ 544 * n + (j 0).val ∧ 544 * n + (j 0).val < 2064 then
      x j * Ideal.rsqrt (RmsRow.ms RmsRow.eps fun k => x (ix2 (j 0) k)) * g (ix2 0 (j 1)) - y j else 0 := by
  obtain ⟨p, q, rfl⟩ : ∃ p q, j = ix2 p q := ⟨j 0, j 1, funext fun d => by fin_cases d <;> rfl⟩
  pointwise [k0_pay8, k0_pay7, k0_pay6]
  rw [RmsRow.bits_n, RmsRow.bits_eps]
  rw [hn, valid n p.val h4 p.isLt]
  rfl

/-- The gradient of a row tile's misses, through the norm. -/
theorem pay4 (x : Vec Ideal S544x1024 .f32) (g : Vec Ideal S1x1024 .f32) (z : Vec Ideal S544x1024 .f32) (j : S544x1024.Idx) :
    k0_pay4 (k0_pay6 x) (k0_pay7 x) g z j = (z j * ((1 / 1024 : ℝ) : EReal)) * g (ix2 0 (j 1)) * Ideal.rsqrt (RmsRow.ms RmsRow.eps fun k => x (ix2 (j 0) k))
      + x j * Ideal.div ((∑ k, x (ix2 (j 0) k) * ((z (ix2 (j 0) k) * ((1 / 1024 : ℝ) : EReal)) * g (ix2 0 k))) * (((-0.5 : ℝ) : EReal)
          * Ideal.div (Ideal.rsqrt (RmsRow.ms RmsRow.eps fun k => x (ix2 (j 0) k))) (RmsRow.ms RmsRow.eps fun k => x (ix2 (j 0) k)))) ((1024 : ℝ) : EReal)
      + Ideal.div ((∑ k, x (ix2 (j 0) k) * ((z (ix2 (j 0) k) * ((1 / 1024 : ℝ) : EReal)) * g (ix2 0 k))) * (((-0.5 : ℝ) : EReal)
          * Ideal.div (Ideal.rsqrt (RmsRow.ms RmsRow.eps fun k => x (ix2 (j 0) k))) (RmsRow.ms RmsRow.eps fun k => x (ix2 (j 0) k)))) ((1024 : ℝ) : EReal) * x j := by
  obtain ⟨p, q, rfl⟩ : ∃ p q, j = ix2 p q := ⟨j 0, j 1, funext fun d => by fin_cases d <;> rfl⟩
  pointwise [k0_pay4, k0_pay2, k0_pay7, k0_pay6]
  rw [RmsRow.bits_n, RmsRow.bits_eps, bits_inv]
  exact RmsRow.row RmsRow.eps_pos (fun k => x (ix2 p k)) (fun k => z (ix2 p k) * ((1 / 1024 : ℝ) : EReal) * g (ix2 0 k)) q

/-- A row tile's part of the gradient of the norm's weight, added to what that holds. -/
theorem pay3 (x : Vec Ideal S544x1024 .f32) (z : Vec Ideal S544x1024 .f32) (w : Vec Ideal S1x1024 .f32) (j : S1x1024.Idx) :
    k0_pay3 (k0_pay7 x) z w j = w j + ∑ p : Fin 544, z (ix2 p (j 1)) * ((1 / 1024 : ℝ) : EReal)
      * (x (ix2 p (j 1)) * Ideal.rsqrt (RmsRow.ms RmsRow.eps fun k => x (ix2 p k))) := by
  pointwise [k0_pay3, k0_pay2, k0_pay7, k0_pay6]
  rw [RmsRow.bits_n, RmsRow.bits_eps, bits_inv]
  rfl

/-- A row tile's part of the loss, added to what that holds. -/
theorem pay1 (i : grid0.Coords) (x : Vec Ideal S544x1024 .f32) (g : Vec Ideal S1x1024 .f32) (y : Vec Ideal S544x1024 .f32) (w : Vec Ideal S1x128 .f32) (j : S1x128.Idx) :
    k0_pay1 (k0_pay11 i x g y) (Scalar.ofBits .f32 0x3F000000#32) w j = w j + ((0.5 : ℝ) : EReal)
      * ∑ p : Fin 544, (∑ k : Fin 1024, k0_pay8 i x g y (ix2 p k) * k0_pay8 i x g y (ix2 p k)) * ((1 / 1024 : ℝ) : EReal) := by
  unfold k0_pay11
  generalize k0_pay8 i x g y = z
  pointwise [k0_pay1]
  rw [bits_half, bits_inv]

open Cert.LossHeadRefIdeal.Read in
/-- The reference's gradient of a miss. -/
theorem ref34 (x0 : (⟨Cert.LossHeadRefIdeal.S2176x1024, .f32⟩ : BufTy).Contents (Elt Ideal)) (x1 : (⟨Cert.LossHeadRefIdeal.S1x1024, .f32⟩ : BufTy).Contents (Elt Ideal)) (x2 : (⟨Cert.LossHeadRefIdeal.S2176x1024, .f32⟩ : BufTy).Contents (Elt Ideal)) (i : Cert.LossHeadRefIdeal.S2176x1024.Idx) : val_main_v34 x0 x1 x2 i = err x0 x1 x2 i * ((1 / 1024 : ℝ) : EReal) := by
  unfold val_main_v34 val_main_v33 val_main_v32 val_main_v31 val_main_v30 val_main_v29 val_main_v28 val_main_v22 val_main_v21 val_main_v19
    val_main_v18 val_main_v17 val_main_v16 val_main_v15 val_main_v14 val_main_v13 val_main_v12 val_main_v8 val_main_v7 val_main_v6
    val_main_v5 val_main_v4 val_main_v3 val_main_v2 val_main_v1 val_main_v0
    val_main_cst_11 val_main_cst_10 val_main_cst_9 val_main_cst_8 val_main_cst_3 val_main_cst_1 val_main_cst_0 val_main_cst
  obtain ⟨p, q, rfl⟩ : ∃ p q, i = ix2 p q := ⟨i 0, i 1, funext fun d => by fin_cases d <;> rfl⟩
  pointwise
  rw [err_row]
  by_cases h : 16 ≤ p.val ∧ p.val < 2064
  · have e : (⟨16 + (p.val - 16), by omega⟩ : Fin 2176) = p := Fin.ext (by dsimp only; omega)
    rw [dif_pos ⟨h.1, by omega⟩, if_pos h, RmsRow.bits_n, RmsRow.bits_eps, bits_half, bits_two]
    simp only [e]
    rw [← mul_assoc, mul_comm, show Ideal.div ((0.5 : ℝ) : EReal) ((1024 : ℝ) : EReal) * ((2 : ℝ) : EReal) = ((1 / 1024 : ℝ) : EReal) by
      rw [Ideal.div_coe (by norm_num), ← EReal.coe_mul, ← EReal.coe_mul]; norm_num]
    rfl
  · rw [dif_neg (by omega), if_neg h, zero_mul]

open Cert.LossHeadRefIdeal.Read in
/-- The reference's gradient of the block's output, with the two terms through the mean square. -/
theorem ref54 (x0 : (⟨Cert.LossHeadRefIdeal.S2176x1024, .f32⟩ : BufTy).Contents (Elt Ideal)) (x1 : (⟨Cert.LossHeadRefIdeal.S1x1024, .f32⟩ : BufTy).Contents (Elt Ideal)) (x2 : (⟨Cert.LossHeadRefIdeal.S2176x1024, .f32⟩ : BufTy).Contents (Elt Ideal)) (i : Cert.LossHeadRefIdeal.S2176x1024.Idx) :
    val_main_v54 x0 x1 x2 i = (err x0 x1 x2 i * ((1 / 1024 : ℝ) : EReal)) * x1 (ix2 0 (i 1)) * Ideal.rsqrt (RmsRow.ms RmsRow.eps fun k => x0 (ix2 (i 0) k))
      + x0 i * Ideal.div ((∑ k, x0 (ix2 (i 0) k) * ((err x0 x1 x2 (ix2 (i 0) k) * ((1 / 1024 : ℝ) : EReal)) * x1 (ix2 0 k))) * (((-0.5 : ℝ) : EReal)
          * Ideal.div (Ideal.rsqrt (RmsRow.ms RmsRow.eps fun k => x0 (ix2 (i 0) k))) (RmsRow.ms RmsRow.eps fun k => x0 (ix2 (i 0) k)))) ((1024 : ℝ) : EReal)
      + Ideal.div ((∑ k, x0 (ix2 (i 0) k) * ((err x0 x1 x2 (ix2 (i 0) k) * ((1 / 1024 : ℝ) : EReal)) * x1 (ix2 0 k))) * (((-0.5 : ℝ) : EReal)
          * Ideal.div (Ideal.rsqrt (RmsRow.ms RmsRow.eps fun k => x0 (ix2 (i 0) k))) (RmsRow.ms RmsRow.eps fun k => x0 (ix2 (i 0) k)))) ((1024 : ℝ) : EReal) * x0 i := by
  have h := ref34 x0 x1 x2
  unfold val_main_v54 val_main_v53 val_main_v52 val_main_v51 val_main_v50 val_main_v49 val_main_v48 val_main_v47 val_main_v46 val_main_v45
    val_main_v44 val_main_v43 val_main_v42 val_main_v41 val_main_v39 val_main_v38 val_main_v14 val_main_v11 val_main_v10
    val_main_v9 val_main_v8 val_main_v7 val_main_v6 val_main_v5 val_main_v4 val_main_v3 val_main_v2 val_main_v1 val_main_v0
    val_main_cst_16 val_main_cst_15 val_main_cst_14 val_main_cst_2 val_main_cst_1 val_main_cst_0 val_main_cst
  generalize val_main_v34 x0 x1 x2 = D at h ⊢
  pointwise
  rw [RmsRow.bits_n, RmsRow.bits_eps, RmsRow.bits_half]
  simp only [Finset.univ_unique, Finset.sum_singleton, RmsRow.ms, ← h]

open Cert.LossHeadRefIdeal.Read in
/-- The reference's gradient of the norm's weight. -/
theorem ref57 (x0 : (⟨Cert.LossHeadRefIdeal.S2176x1024, .f32⟩ : BufTy).Contents (Elt Ideal)) (x1 : (⟨Cert.LossHeadRefIdeal.S1x1024, .f32⟩ : BufTy).Contents (Elt Ideal)) (x2 : (⟨Cert.LossHeadRefIdeal.S2176x1024, .f32⟩ : BufTy).Contents (Elt Ideal)) (i : Cert.LossHeadRefIdeal.S1x1024.Idx) :
    val_main_v57 x0 x1 x2 i = ∑ p : Fin 2176, err x0 x1 x2 (ix2 p (i 1)) * ((1 / 1024 : ℝ) : EReal)
      * (x0 (ix2 p (i 1)) * Ideal.rsqrt (RmsRow.ms RmsRow.eps fun k => x0 (ix2 p k))) := by
  have h := ref34 x0 x1 x2
  unfold val_main_v57 val_main_v40 val_main_v37 val_main_v36 val_main_v35 val_main_v13 val_main_v12 val_main_v8
    val_main_v7 val_main_v6 val_main_v5 val_main_v4 val_main_v3 val_main_v2 val_main_v1 val_main_cst_13 val_main_cst_12 val_main_cst_1 val_main_cst_0 val_main_cst
  generalize val_main_v34 x0 x1 x2 = D at h ⊢
  pointwise
  rw [RmsRow.bits_n, RmsRow.bits_eps]
  simp only [Finset.univ_unique, Finset.sum_singleton, ← h]
  exact Finset.sum_congr (M := EReal) rfl fun p _ => mul_comm (_ : EReal) _

open Cert.LossHeadRefIdeal.Read in
/-- The reference's loss. -/
theorem ref55 (x0 : (⟨Cert.LossHeadRefIdeal.S2176x1024, .f32⟩ : BufTy).Contents (Elt Ideal)) (x1 : (⟨Cert.LossHeadRefIdeal.S1x1024, .f32⟩ : BufTy).Contents (Elt Ideal)) (x2 : (⟨Cert.LossHeadRefIdeal.S2176x1024, .f32⟩ : BufTy).Contents (Elt Ideal)) (i : Cert.LossHeadRefIdeal.S1x128.Idx) :
    val_main_v55 x0 x1 x2 i = ((0.5 : ℝ) : EReal) * ∑ p : Fin 2048, (∑ k : Fin 1024, err x0 x1 x2 (ix2 ⟨16 + p.val, by omega⟩ k)
      * err x0 x1 x2 (ix2 ⟨16 + p.val, by omega⟩ k)) * ((1 / 1024 : ℝ) : EReal) := by
  have h : ∀ (p : Fin 2048) (k : Fin 1024), val_main_v19 x0 x1 x2 (ix2 p k) = err x0 x1 x2 (ix2 ⟨16 + p.val, by omega⟩ k) := fun p k => by
    unfold val_main_v19
      val_main_v18 val_main_v17 val_main_v16 val_main_v15 val_main_v14 val_main_v13 val_main_v12 val_main_v8 val_main_v7 val_main_v6
      val_main_v5 val_main_v4 val_main_v3 val_main_v2 val_main_v1 val_main_v0
      val_main_cst_1 val_main_cst_0 val_main_cst
    pointwise
    rw [RmsRow.bits_n, RmsRow.bits_eps]
    rw [err_row, if_pos (by dsimp only; omega)]
    rfl
  unfold val_main_v55 val_main_v27 val_main_v26 val_main_v25 val_main_v24 val_main_v23 val_main_v20 val_main_cst_7 val_main_cst_6 val_main_cst_5 val_main_cst_4
  simp only [← h]
  generalize val_main_v19 x0 x1 x2 = D
  pointwise
  rw [bits_half, RmsRow.bits_n]
  simp only [Ideal.div_coe (show (1024 : ℝ) ≠ 0 by norm_num)]

/-- A row tile's misses are those of its rows of the arrays. -/
theorem miss (c : Dev nD) (t : Fin cfg0.N) (j : S544x1024.Idx) (i : Cert.LossHeadRefIdeal.S2176x1024.Idx)
    (h0 : (i 0).val = 544 * t.val + (j 0).val) (h1 : (i 1).val = (j 1).val) :
    k0_pay8 (grid0.coords t) (iblk m c 0 t) (iblk m c 1 t) (iblk m c 2 t) j = err (m ((c : Thread nD τ).loc main_arg0)) (m ((c : Thread nD τ).loc main_arg1)) (m ((c : Thread nD τ).loc main_arg2)) i := by
  have hN : t.val < 4 := lt_of_lt_of_eq t.isLt N_0
  have b0 : (j 0).val < 544 := (j 0).isLt
  obtain rfl : i = ix2 ⟨544 * t.val + (j 0).val, by clear h0 h1; omega⟩ (j 1) := funext fun a => Fin.ext (by fin_cases a; exacts [h0, h1])
  have hx : ∀ k : Fin 1024, iblk m c 0 t (ix2 (j 0) k) = m ((c : Thread nD τ).loc main_arg0) (ix2 ⟨544 * t.val + (j 0).val, by clear h0 h1; omega⟩ k) :=
    fun k => by blk_point [iblk, V, tile t]
  have hx' : iblk m c 0 t j = m ((c : Thread nD τ).loc main_arg0) (ix2 ⟨544 * t.val + (j 0).val, by clear h0 h1; omega⟩ (j 1)) := by
    blk_point [iblk, V, tile t]
  have hg : iblk m c 1 t (ix2 0 (j 1)) = m ((c : Thread nD τ).loc main_arg1) (ix2 0 (j 1)) := by blk_point [iblk, V, tile t]
  have hy : iblk m c 2 t j = m ((c : Thread nD τ).loc main_arg2) (ix2 ⟨544 * t.val + (j 0).val, by clear h0 h1; omega⟩ (j 1)) := by
    blk_point [iblk, V, tile t]
  rw [pay8 _ t.val (coord t) hN, hx', hg, hy]
  simp only [hx]
  rfl

/-- The rows of the gradient, before they are rounded. -/
theorem rows (c : Dev nD) (t : Fin cfg0.N) (j : S544x1024.Idx) (i : Cert.LossHeadRefIdeal.S2176x1024.Idx)
    (h0 : (i 0).val = 544 * t.val + (j 0).val) (h1 : (i 1).val = (j 1).val) :
    k0_pay4 (k0_pay6 (iblk m c 0 t)) (k0_pay7 (iblk m c 0 t)) (iblk m c 1 t) (k0_pay8 (grid0.coords t) (iblk m c 0 t) (iblk m c 1 t) (iblk m c 2 t)) j
      = Cert.LossHeadRefIdeal.Read.val_main_v54 (m ((c : Thread nD τ).loc main_arg0)) (m ((c : Thread nD τ).loc main_arg1)) (m ((c : Thread nD τ).loc main_arg2)) i := by
  have hN : t.val < 4 := lt_of_lt_of_eq t.isLt N_0
  have b0 : (j 0).val < 544 := (j 0).isLt
  obtain rfl : i = ix2 ⟨544 * t.val + (j 0).val, by clear h0 h1; omega⟩ (j 1) := funext fun a => Fin.ext (by fin_cases a; exacts [h0, h1])
  have hz : ∀ k : Fin 1024, (k0_pay8 (grid0.coords t) (iblk m c 0 t) (iblk m c 1 t) (iblk m c 2 t)) (ix2 (j 0) k) = err (m ((c : Thread nD τ).loc main_arg0)) (m ((c : Thread nD τ).loc main_arg1)) (m ((c : Thread nD τ).loc main_arg2)) (ix2 ⟨544 * t.val + (j 0).val, by clear h0 h1; omega⟩ k) := fun k => miss m c t _ _ rfl rfl
  have hz' : (k0_pay8 (grid0.coords t) (iblk m c 0 t) (iblk m c 1 t) (iblk m c 2 t)) j = err (m ((c : Thread nD τ).loc main_arg0)) (m ((c : Thread nD τ).loc main_arg1)) (m ((c : Thread nD τ).loc main_arg2)) (ix2 ⟨544 * t.val + (j 0).val, by clear h0 h1; omega⟩ (j 1)) := miss m c t _ _ rfl rfl
  refine (pay4 _ _ _ _).trans (Eq.trans ?_ (ref54 _ _ _ _).symm)
  have hx : ∀ k : Fin 1024, iblk m c 0 t (ix2 (j 0) k) = m ((c : Thread nD τ).loc main_arg0) (ix2 ⟨544 * t.val + (j 0).val, by clear h0 h1; omega⟩ k) :=
    fun k => by blk_point [iblk, V, tile t]
  have hx' : iblk m c 0 t j = m ((c : Thread nD τ).loc main_arg0) (ix2 ⟨544 * t.val + (j 0).val, by clear h0 h1; omega⟩ (j 1)) := by
    blk_point [iblk, V, tile t]
  have hg : ∀ k : Fin 1024, iblk m c 1 t (ix2 0 k) = m ((c : Thread nD τ).loc main_arg1) (ix2 0 k) := fun k => by blk_point [iblk, V, tile t]
  have hg' : iblk m c 1 t (ix2 0 (j 1)) = m ((c : Thread nD τ).loc main_arg1) (ix2 0 (j 1)) := hg (j 1)
  rw [hx', hz', hg']
  simp only [hz, hx, hg]
  rfl

/-- The second result: the rows of the gradient. -/
theorem array4 (c : Dev nD) : (dats m 0 c).arrAt 4 cfg0.N = Cert.LossHeadRefIdeal.Read.val_main_v54 (m ((c : Thread nD τ).loc main_arg0)) (m ((c : Thread nD τ).loc main_arg1)) (m ((c : Thread nD τ).loc main_arg2)) := by
  refine (dats m 0 c).arrAt_eq_of_covers 4 _ (by decide +kernel) fun t hf y => ?_
  refine Eq.trans ?_ (rows m c t y _ ?_ ?_)
  · blk_simp; rw [after0_4]
    by_cases h0 : t.val % 4 = 0
    · rw [outsAt0_A m c t h0]; frame_out
    · rw [outsAt0_B m c t h0]; frame_out
  · have e := tile t
    blk_simp [e]; omega
  · have e := tile t
    blk_simp [e]

/-- The third result: the same rows, rounded. -/
theorem array5 (c : Dev nD) : (dats m 0 c).arrAt 5 cfg0.N = Cert.LossHeadRefIdeal.Read.val_main_v56 (m ((c : Thread nD τ).loc main_arg0)) (m ((c : Thread nD τ).loc main_arg1)) (m ((c : Thread nD τ).loc main_arg2)) := by
  refine (dats m 0 c).arrAt_eq_of_covers 5 _ (by decide +kernel) fun t hf y => ?_
  refine Eq.trans ?_ (rows m c t y _ ?_ ?_)
  · blk_simp; rw [after0_5]
    by_cases h0 : t.val % 4 = 0
    · rw [outsAt0_A m c t h0]; frame_out
      pointwise [k0_pay5]
    · rw [outsAt0_B m c t h0]; frame_out
      pointwise [k0_pay5]
  · have e := tile t
    blk_simp [e]; omega
  · have e := tile t
    blk_simp [e]

/-- One row's part of the gradient of the norm's weight, zero past the last row. -/
def part (x0 : (⟨Cert.LossHeadRefIdeal.S2176x1024, .f32⟩ : BufTy).Contents (Elt Ideal)) (x1 : (⟨Cert.LossHeadRefIdeal.S1x1024, .f32⟩ : BufTy).Contents (Elt Ideal)) (x2 : (⟨Cert.LossHeadRefIdeal.S2176x1024, .f32⟩ : BufTy).Contents (Elt Ideal)) (q : Fin 1024) (r : ℕ) : EReal := if h : r < 2176 then
    err x0 x1 x2 (ix2 ⟨r, h⟩ q) * ((1 / 1024 : ℝ) : EReal)
      * (x0 (ix2 ⟨r, h⟩ q) * Ideal.rsqrt (RmsRow.ms RmsRow.eps fun k => x0 (ix2 ⟨r, h⟩ k))) else 0

/-- One row's part of the loss, zero past the last row. -/
def lost (x0 : (⟨Cert.LossHeadRefIdeal.S2176x1024, .f32⟩ : BufTy).Contents (Elt Ideal)) (x1 : (⟨Cert.LossHeadRefIdeal.S1x1024, .f32⟩ : BufTy).Contents (Elt Ideal)) (x2 : (⟨Cert.LossHeadRefIdeal.S2176x1024, .f32⟩ : BufTy).Contents (Elt Ideal)) (r : ℕ) : EReal := if h : r < 2176 then
    (∑ k : Fin 1024, err x0 x1 x2 (ix2 ⟨r, h⟩ k) * err x0 x1 x2 (ix2 ⟨r, h⟩ k)) * ((1 / 1024 : ℝ) : EReal) else 0

/-- The sequence's rows have all of the loss. -/
theorem lost_sum (x0 : (⟨Cert.LossHeadRefIdeal.S2176x1024, .f32⟩ : BufTy).Contents (Elt Ideal)) (x1 : (⟨Cert.LossHeadRefIdeal.S1x1024, .f32⟩ : BufTy).Contents (Elt Ideal)) (x2 : (⟨Cert.LossHeadRefIdeal.S2176x1024, .f32⟩ : BufTy).Contents (Elt Ideal)) : ∑ r ∈ Finset.range 2176, lost x0 x1 x2 r
    = ∑ p : Fin 2048, (∑ k : Fin 1024, err x0 x1 x2 (ix2 ⟨16 + p.val, by omega⟩ k)
      * err x0 x1 x2 (ix2 ⟨16 + p.val, by omega⟩ k)) * ((1 / 1024 : ℝ) : EReal) := by
  have off : ∀ r, ¬(16 ≤ r ∧ r < 2064) → lost x0 x1 x2 r = 0 := fun r hr => by
    unfold lost
    split
    · simp only [err_row, if_neg hr, mul_zero, zero_mul, Finset.sum_const_zero]
    · rfl
  rw [show Finset.range 2176 = Finset.range (16 + 2048 + 112) from rfl, Finset.sum_range_add, Finset.sum_range_add,
    Finset.sum_eq_zero (s := Finset.range 16) fun r hr => off r (by have := Finset.mem_range.mp hr; omega),
    Finset.sum_eq_zero (s := Finset.range 112) fun r hr => off (16 + 2048 + r) (by omega), zero_add, add_zero, Finset.sum_range]
  refine Finset.sum_congr (M := EReal) rfl fun p _ => ?_
  unfold lost
  rw [dif_pos]

/-- A row tile adds its 544 rows' parts to what the weight's gradient already holds. -/
theorem next6 (c : Dev nD) (t : Fin cfg0.N) (g : Vec Ideal S1x1024 .f32) (j : S1x1024.Idx) :
    k0_pay3 (k0_pay7 (iblk m c 0 t)) (k0_pay8 (grid0.coords t) (iblk m c 0 t) (iblk m c 1 t) (iblk m c 2 t)) g j = g j + ∑ p : Fin 544, part (m ((c : Thread nD τ).loc main_arg0)) (m ((c : Thread nD τ).loc main_arg1)) (m ((c : Thread nD τ).loc main_arg2)) (j 1) (t.val * 544 + p.val) := by
  have hN : t.val < 4 := lt_of_lt_of_eq t.isLt N_0
  rw [pay3]
  refine congrArg (fun z : EReal => g j + z) (Finset.sum_congr (M := EReal) rfl fun p _ => ?_)
  have hr : t.val * 544 + p.val < 2176 := by omega
  have hz := miss m c t (ix2 p (j 1)) (ix2 ⟨t.val * 544 + p.val, hr⟩ (j 1)) (congrArg (· + p.val) (mul_comm _ _)) rfl
  have hx : ∀ k : Fin 1024, iblk m c 0 t (ix2 p k) = m ((c : Thread nD τ).loc main_arg0) (ix2 ⟨t.val * 544 + p.val, hr⟩ k) :=
    fun k => by blk_point [iblk, V, tile t]
  unfold part
  rw [dif_pos hr, hz, hx (j 1)]
  simp only [hx]

/-- A row tile adds its 544 rows' parts to the loss. -/
theorem next3 (c : Dev nD) (t : Fin cfg0.N) (g : Vec Ideal S1x128 .f32) (j : S1x128.Idx) :
    k0_pay1 (k0_pay11 (grid0.coords t) (iblk m c 0 t) (iblk m c 1 t) (iblk m c 2 t)) (Scalar.ofBits .f32 0x3F000000#32) g j
      = g j + ((0.5 : ℝ) : EReal) * ∑ p : Fin 544, lost (m ((c : Thread nD τ).loc main_arg0)) (m ((c : Thread nD τ).loc main_arg1)) (m ((c : Thread nD τ).loc main_arg2)) (t.val * 544 + p.val) := by
  have hN : t.val < 4 := lt_of_lt_of_eq t.isLt N_0
  rw [pay1]
  refine congrArg (fun z : EReal => g j + ((0.5 : ℝ) : EReal) * z) (Finset.sum_congr (M := EReal) rfl fun p _ => ?_)
  have hr : t.val * 544 + p.val < 2176 := by omega
  have hz : ∀ k : Fin 1024, (k0_pay8 (grid0.coords t) (iblk m c 0 t) (iblk m c 1 t) (iblk m c 2 t)) (ix2 p k) = err (m ((c : Thread nD τ).loc main_arg0)) (m ((c : Thread nD τ).loc main_arg1)) (m ((c : Thread nD τ).loc main_arg2)) (ix2 ⟨t.val * 544 + p.val, hr⟩ k) :=
    fun k => miss m c t (ix2 p k) (ix2 ⟨t.val * 544 + p.val, hr⟩ k) (congrArg (· + p.val) (mul_comm _ _)) rfl
  unfold lost
  rw [dif_pos hr]
  simp only [hz]

/-- After every point the weight's gradient holds the parts of the rows that are done. -/
theorem sofar6 (c : Dev nD) (j : S1x1024.Idx) (n : ℕ) : ∀ hn : n < cfg0.N,
    (outsAt0 m c n hn).2.2.2 j = ∑ b ∈ Finset.range (n + 1), ∑ p : Fin 544, part (m ((c : Thread nD τ).loc main_arg0)) (m ((c : Thread nD τ).loc main_arg1)) (m ((c : Thread nD τ).loc main_arg2)) (j 1) (b * 544 + p.val) := by
  induction n with
  | zero =>
    intro hn
    have e := outsAt0_A m c ⟨0, hn⟩ rfl
    have hp := next6 m c ⟨0, hn⟩ (k0_pay10 (F := Ideal)) j
    have : (outsAt0 m c 0 hn).2.2.2 j
        = k0_pay3 (k0_pay7 (iblk m c 0 (⟨0, hn⟩))) (k0_pay8 (grid0.coords (⟨0, hn⟩)) (iblk m c 0 (⟨0, hn⟩)) (iblk m c 1 (⟨0, hn⟩)) (iblk m c 2 (⟨0, hn⟩))) (k0_pay10 (F := Ideal)) j := by
      dsimp only at e ⊢
      rw [e]; frame_out
    rw [this, hp, show (k0_pay10 (F := Ideal)) j = (0 : EReal) by pointwise [k0_pay10], zero_add, Finset.sum_range_one]
  | succ n ih =>
    intro hn
    have hN : n + 1 < 4 := lt_of_lt_of_eq hn N_0
    have e := outsAt0_B m c ⟨n + 1, hn⟩ (by dsimp only; omega)
    have hp := next6 m c ⟨n + 1, hn⟩
    have : (outsAt0 m c (n + 1) hn).2.2.2 j
        = k0_pay3 (k0_pay7 (iblk m c 0 (⟨n + 1, hn⟩))) (k0_pay8 (grid0.coords (⟨n + 1, hn⟩)) (iblk m c 0 (⟨n + 1, hn⟩)) (iblk m c 1 (⟨n + 1, hn⟩)) (iblk m c 2 (⟨n + 1, hn⟩))) (outsAt0 m c n (Nat.lt_of_succ_lt hn)).2.2.2 j := by
      dsimp only at e ⊢
      rw [e]; frame_out
      rfl
    rw [this, hp, ih, Finset.sum_range_succ (n := n + 1)]

/-- After every point the loss holds the parts of the rows that are done. -/
theorem sofar3 (c : Dev nD) (j : S1x128.Idx) (n : ℕ) : ∀ hn : n < cfg0.N,
    (outsAt0 m c n hn).1 j = ∑ b ∈ Finset.range (n + 1), ((0.5 : ℝ) : EReal) * ∑ p : Fin 544, lost (m ((c : Thread nD τ).loc main_arg0)) (m ((c : Thread nD τ).loc main_arg1)) (m ((c : Thread nD τ).loc main_arg2)) (b * 544 + p.val) := by
  induction n with
  | zero =>
    intro hn
    have e := outsAt0_A m c ⟨0, hn⟩ rfl
    have hp := next3 m c ⟨0, hn⟩ (k0_pay9 (F := Ideal)) j
    have : (outsAt0 m c 0 hn).1 j
        = k0_pay1 (k0_pay11 (grid0.coords (⟨0, hn⟩)) (iblk m c 0 (⟨0, hn⟩)) (iblk m c 1 (⟨0, hn⟩)) (iblk m c 2 (⟨0, hn⟩))) (Scalar.ofBits .f32 0x3F000000#32) (k0_pay9 (F := Ideal)) j := by
      dsimp only at e ⊢
      rw [e]; frame_out
    rw [this, hp, show (k0_pay9 (F := Ideal)) j = (0 : EReal) by pointwise [k0_pay9], zero_add, Finset.sum_range_one]
  | succ n ih =>
    intro hn
    have hN : n + 1 < 4 := lt_of_lt_of_eq hn N_0
    have e := outsAt0_B m c ⟨n + 1, hn⟩ (by dsimp only; omega)
    have hp := next3 m c ⟨n + 1, hn⟩
    have : (outsAt0 m c (n + 1) hn).1 j
        = k0_pay1 (k0_pay11 (grid0.coords (⟨n + 1, hn⟩)) (iblk m c 0 (⟨n + 1, hn⟩)) (iblk m c 1 (⟨n + 1, hn⟩)) (iblk m c 2 (⟨n + 1, hn⟩))) (Scalar.ofBits .f32 0x3F000000#32) (outsAt0 m c n (Nat.lt_of_succ_lt hn)).1 j := by
      dsimp only at e ⊢
      rw [e]; frame_out
      rfl
    rw [this, hp, ih, Finset.sum_range_succ (n := n + 1)]

/-- The last result: the gradient of the norm's weight. -/
theorem array6 (c : Dev nD) : (dats m 0 c).arrAt 6 cfg0.N = Cert.LossHeadRefIdeal.Read.val_main_v57 (m ((c : Thread nD τ).loc main_arg0)) (m ((c : Thread nD τ).loc main_arg1)) (m ((c : Thread nD τ).loc main_arg2)) := by
  refine (dats m 0 c).arrAt_eq_of_covers 6 _ (by decide +kernel) fun t hf y => ?_
  have ht := (flush0_6 t).mp hf
  have hN : t.val < 4 := lt_of_lt_of_eq t.isLt N_0
  refine Eq.trans (b := Cert.LossHeadRefIdeal.Read.val_main_v57 (m ((c : Thread nD τ).loc main_arg0)) (m ((c : Thread nD τ).loc main_arg1)) (m ((c : Thread nD τ).loc main_arg2)) (y : S1x1024.Idx)) ?_ ?_
  · blk_simp; rw [after0_6, sofar6 m c y t.val t.isLt, ref57, show t.val + 1 = 4 by omega, Finset.sum_range]
    refine Fin.sum_mul_add_congr fun s k hl => ?_
    unfold part
    rw [dif_pos hl]
  · refine congrArg _ (funext fun a => Fin.ext ?_)
    have e := tile t
    fin_cases a <;> blk_simp [e]

/-- The first result: the loss. -/
theorem array3 (c : Dev nD) : (dats m 0 c).arrAt 3 cfg0.N = Cert.LossHeadRefIdeal.Read.val_main_v55 (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (flush0_3 t).mp hf
  have hN : t.val < 4 := lt_of_lt_of_eq t.isLt N_0
  refine Eq.trans (b := Cert.LossHeadRefIdeal.Read.val_main_v55 (m ((c : Thread nD τ).loc main_arg0)) (m ((c : Thread nD τ).loc main_arg1)) (m ((c : Thread nD τ).loc main_arg2)) (y : S1x128.Idx)) ?_ ?_
  · blk_simp; rw [after0_3, sofar3 m c y t.val t.isLt, ref55, show t.val + 1 = 4 by omega, ← lost_sum, Finset.sum_range,
      Finset.sum_range]
    refine (RmsRow.pull _ (by norm_num) _).trans ?_
    refine congrArg (fun z : EReal => ((0.5 : ℝ) : EReal) * z) (Fin.sum_mul_add_congr fun s k hl => rfl)
  · refine congrArg _ (funext fun a => Fin.ext ?_)
    have e := tile t
    fin_cases a <;> blk_simp [e]

/-- The reference leaves its arguments, and it has no semaphore. -/
theorem frame_reference : Cert.quiescent_LossHeadRefIdeal := fun m ρ _ =>
  (θ_run Cert.LossHeadRefIdeal.defs _ _).mono (fun r h => ⟨fun c => (h c).2.2.2.2, sem_eq_zero_of_no_sems (by decide) r.2⟩)
    (Cert.LossHeadRefIdeal.Value.run (F := Ideal) m ρ)

/-- The kernel and the reference end with the same four arrays. -/
theorem algebraic : Cert.algebraic_LossHeadIdeal_LossHeadRefIdeal := by
  intro m g m' g' _ hm
  refine ⟨fun c => Cert.LossHeadRefIdeal.Read.val_main_v55 (m ((c : Thread nD τ).loc main_arg0)) (m ((c : Thread nD τ).loc main_arg1)) (m ((c : Thread nD τ).loc main_arg2)),
    fun c => Cert.LossHeadRefIdeal.Read.val_main_v54 (m ((c : Thread nD τ).loc main_arg0)) (m ((c : Thread nD τ).loc main_arg1)) (m ((c : Thread nD τ).loc main_arg2)),
    fun c => Cert.LossHeadRefIdeal.Read.val_main_v56 (m ((c : Thread nD τ).loc main_arg0)) (m ((c : Thread nD τ).loc main_arg1)) (m ((c : Thread nD τ).loc main_arg2)),
    fun c => Cert.LossHeadRefIdeal.Read.val_main_v57 (m ((c : Thread nD τ).loc main_arg0)) (m ((c : Thread nD τ).loc main_arg1)) (m ((c : Thread nD τ).loc main_arg2)), ?_, ?_⟩
  · exact (θ_run Cert.LossHeadIdeal.defs _ _).mono (fun r h c => ⟨(h c).1.trans (array3 m c), (h c).2.1.trans (array4 m c), (h c).2.2.1.trans (array5 m c),
      (h c).2.2.2.1.trans (array6 m c), (h c).2.2.2.2⟩) (Cert.LossHeadIdeal.Value.run_blocks m g)
  · refine (θ_run Cert.LossHeadRefIdeal.defs _ _).mono (fun r h c => ⟨(h c).1.trans ?_, (h c).2.1.trans ?_, (h c).2.2.1.trans ?_, (h c).2.2.2.1.trans ?_, (h c).2.2.2.2⟩)
      (Cert.LossHeadRefIdeal.Value.run (F := Ideal) m' g')
    all_goals obtain ⟨e0, e1, e2⟩ := hm c; beta_reduce
    · rw [← e0, ← e1, ← e2]; exact Cert.LossHeadRefIdeal.Read.val_main_v55_eq _ _ _
    · rw [← e0, ← e1, ← e2]; exact Cert.LossHeadRefIdeal.Read.val_main_v54_eq _ _
    · rw [← e0, ← e1, ← e2]; exact Cert.LossHeadRefIdeal.Read.val_main_v56_eq _ _
    · rw [← e0, ← e1, ← e2]; exact Cert.LossHeadRefIdeal.Read.val_main_v57_eq _ _ _

end Cert.LossHeadIdeal.Own
end
-- ==== Proof.WIn.lean ====
module
public import proofs.«01_k».proof.Defs
public import proofs.«01_k».proof.Proof.Gen.WInIdeal.Value
public import proofs.«01_k».proof.Proof.Gen.WInRefIdeal
public import proofs.«01_k».proof.Proof.Gen.WInRefIdeal.Run
public import proofs.«01_k».proof.Proof.Gen.WInRefIdeal.Read
public import Idealize.ShloMosaic.Lib.Pipeline.ValueKit
public import Idealize.ShloMosaic.Adequacy
public import Idealize.ShloMosaic.Init

/-! The input projection put together from its shares. -/

@[expose] public section
set_option maxRecDepth 16384
noncomputable section
namespace Cert.WInIdeal.Own
open Cert.WInIdeal Cert.WInIdeal.Gen Idealize.ShloMosaic Idealize.ShloMosaic.TcCoe Idealize.SL.Sem
open Idealize.ShloMosaic.Pipeline (Dat)
open scoped BigOperators

/-- Which block every window shows at each of the four row tiles. -/
theorem tile : ∀ t : Fin cfg0.N, win0_0.index t = ![0, t.val, 0] ∧ win0_1.index t = ![t.val, 0] :=
  (by decide +kernel : ∀ t : Fin grid0.N, _)

/-- The eight shares side by side: column `n` is column `n % 321` of share `n / 321`. -/
theorem pick (f : Fin 8 → Fin 321 → EReal) (n : ℕ) (hn : n < 2568) :
    (if h0 : n < 321 then f 0 ⟨n, h0⟩ else
      if h1 : n - 321 < 321 then f 1 ⟨n - 321, h1⟩ else
      if h2 : n - 321 - 321 < 321 then f 2 ⟨n - 321 - 321, h2⟩ else
      if h3 : n - 321 - 321 - 321 < 321 then f 3 ⟨n - 321 - 321 - 321, h3⟩ else
      if h4 : n - 321 - 321 - 321 - 321 < 321 then f 4 ⟨n - 321 - 321 - 321 - 321, h4⟩ else
      if h5 : n - 321 - 321 - 321 - 321 - 321 < 321 then f 5 ⟨n - 321 - 321 - 321 - 321 - 321, h5⟩ else
      if h6 : n - 321 - 321 - 321 - 321 - 321 - 321 < 321 then f 6 ⟨n - 321 - 321 - 321 - 321 - 321 - 321, h6⟩ else
      f 7 ⟨n - 321 - 321 - 321 - 321 - 321 - 321 - 321, by omega⟩)
      = f ⟨n / 321, by omega⟩ ⟨n % 321, by omega⟩ := by
  split_ifs <;> exact congrArg₂ f (Fin.ext (by dsimp only; omega)) (Fin.ext (by dsimp only; omega))

variable (m : (ℓ : Loc nD τ sig) → Buf (Elt Ideal) ℓ)

/-- The columns as the step keeps them: the gates' eight last, and 120 of zeros after them. -/
def place (f : Fin 8 → Fin 321 → EReal) (n : ℕ) : EReal :=
  if h : n < 1536 then f ⟨n / 321, by omega⟩ ⟨n % 321, by omega⟩
  else if h : n - 1536 < 1024 then f ⟨(1544 + (n - 1536)) / 321, by omega⟩ ⟨(1544 + (n - 1536)) % 321, by omega⟩
  else if h : n - 1536 - 1024 < 8 then f ⟨(1536 + (n - 1536 - 1024)) / 321, by omega⟩ ⟨(1536 + (n - 1536 - 1024)) % 321, by omega⟩
  else 0

set_option maxHeartbeats 4000000 in
/-- What a row tile writes. -/
theorem pay1 (b : Vec Ideal S8x256x321 .bf16) (y : S256x2688.Idx) :
    k0_pay1 (View.ld b r0_0) (View.ld b r0_1) (View.ld b r0_2) (View.ld b r0_3) (View.ld b r0_4) (View.ld b r0_5) (View.ld b r0_6) (View.ld b r0_7) y
      = place (fun k q => b (ix3 k (y 0) q)) (y 1).val := by
  obtain ⟨p, q, rfl⟩ : ∃ p q, y = ix2 p q := ⟨y 0, y 1, funext fun d => by fin_cases d <;> rfl⟩
  pointwise [k0_pay1]
  have hq : q.val < 2688 := q.isLt
  show _ = place (fun k q => b (ix3 k p q)) q.val
  generalize q.val = n at hq ⊢
  unfold place
  by_cases h1 : n < 1536
  · rw [dif_pos h1, dif_pos h1]
    exact pick (fun k q => b (ix3 k p q)) _ (by omega)
  · rw [dif_neg h1, dif_neg h1]
    by_cases h2 : n - 1536 < 1024
    · rw [dif_pos h2, dif_pos h2]
      exact pick (fun k q => b (ix3 k p q)) _ (by omega)
    · rw [dif_neg h2, dif_neg h2]
      by_cases h3 : n - 1536 - 1024 < 8
      · rw [dif_pos h3, dif_pos h3]
        exact pick (fun k q => b (ix3 k p q)) _ (by omega)
      · rw [dif_neg h3, dif_neg h3]

/-- The same with the zeros given as a number known to be zero. -/
theorem spread (f : Fin 8 → Fin 321 → EReal) (n : ℕ) (hn : n < 2688) (z : EReal) (hz : z = 0) :
    (if h : n < 1536 then f ⟨n / 321, by omega⟩ ⟨n % 321, by omega⟩
      else if h : n - 1536 < 1024 then f ⟨(1544 + (n - 1536)) / 321, by omega⟩ ⟨(1544 + (n - 1536)) % 321, by omega⟩
      else if h : n - 1536 - 1024 < 8 then f ⟨(1536 + (n - 1536 - 1024)) / 321, by omega⟩ ⟨(1536 + (n - 1536 - 1024)) % 321, by omega⟩
      else z) = place f n := by
  subst hz
  rfl

set_option maxHeartbeats 1000000 in
open Cert.WInRefIdeal.Read in
/-- The reference's entries. -/
theorem ref (x : (⟨Cert.WInRefIdeal.S8x1024x321, .bf16⟩ : BufTy).Contents (Elt Ideal)) (i : Cert.WInRefIdeal.S1024x2688.Idx) :
    val_main_v6 x i = place (fun k q => x (ix3 k (i 0) q)) (i 1).val := by
  obtain ⟨p, q, rfl⟩ : ∃ p q, i = ix2 p q := ⟨i 0, i 1, funext fun d => by fin_cases d <;> rfl⟩
  pointwise [val_main_v6, val_main_v5, val_main_v4, val_main_v3, val_main_call0_v0, val_main_c, val_main_v2, val_main_v1, val_main_v0]
  exact spread (fun k q => x (ix3 k p q)) q.val q.isLt _ (by simp [FloatOps.sitofp])

/-- The array the kernel leaves is the reference's. -/
theorem array (c : Dev nD) : (dats m 0 c).arrAt 1 cfg0.N = Cert.WInRefIdeal.Read.val_main_v6 (m ((c : Thread nD τ).loc main_arg0)) := by
  refine (dats m 0 c).arrAt_eq_of_covers 1 _ (by decide +kernel) fun t hf y => ?_
  have e := tile t
  rw [ref]
  blk_simp [e]; rw [after0_1]; frame_out
  refine (pay1 (iblk m c 0 t) y).trans ?_
  congr 1
  funext k q
  blk_point [iblk, V, tile t]

/-- The reference leaves its argument, and it has no semaphore. -/
theorem frame_reference : Cert.quiescent_WInRefIdeal := fun m ρ _ =>
  (θ_run Cert.WInRefIdeal.defs _ _).mono (fun r h => ⟨fun c => (h c).2, sem_eq_zero_of_no_sems (by decide) r.2⟩)
    (Cert.WInRefIdeal.Value.run (F := Ideal) m ρ)

/-- The kernel and the reference end with the same array. -/
theorem algebraic : Cert.algebraic_WInIdeal_WInRefIdeal := by
  intro m g m' g' _ hm
  refine ⟨fun c => Cert.WInRefIdeal.Read.val_main_v6 (m ((c : Thread nD τ).loc main_arg0)), ?_, ?_⟩
  · exact (θ_run Cert.WInIdeal.defs _ _).mono (fun r h c => ⟨(h c).1.trans (array m c), (h c).2⟩) (Cert.WInIdeal.Value.run_blocks m g)
  · refine (θ_run Cert.WInRefIdeal.defs _ _).mono (fun r h c => ⟨(h c).1.trans ?_, (h c).2⟩) (Cert.WInRefIdeal.Value.run (F := Ideal) m' g')
    obtain e0 := hm c
    beta_reduce
    rw [← e0]
    exact Cert.WInRefIdeal.Read.val_main_v6_eq _
end Cert.WInIdeal.Own
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpRefIdeal
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownRefIdeal
public import proofs.«01_k».proof.Proof.Gen.DAct
public import proofs.«01_k».proof.Proof.Gen.DAct.Skeleton
public import proofs.«01_k».proof.Proof.Gen.DAct.Launch
public import proofs.«01_k».proof.Proof.Gen.DAct.Points
public import proofs.«01_k».proof.Proof.Gen.DAct.Frame
public import proofs.«01_k».proof.Proof.Gen.DActIdeal
public import proofs.«01_k».proof.Proof.Gen.DActIdeal.Skeleton
public import proofs.«01_k».proof.Proof.Gen.DActIdeal.Launch
public import proofs.«01_k».proof.Proof.Gen.DActIdeal.Points
public import proofs.«01_k».proof.Proof.Gen.DActIdeal.Frame
public import proofs.«01_k».proof.Proof.Gen.DActRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DnFfn
public import proofs.«01_k».proof.Proof.Gen.DnFfn.Skeleton
public import proofs.«01_k».proof.Proof.Gen.DnFfn.Launch
public import proofs.«01_k».proof.Proof.Gen.DnFfn.Points
public import proofs.«01_k».proof.Proof.Gen.DnFfn.Frame
public import proofs.«01_k».proof.Proof.Gen.DnFfnIdeal
public import proofs.«01_k».proof.Proof.Gen.DnFfnIdeal.Skeleton
public import proofs.«01_k».proof.Proof.Gen.DnFfnIdeal.Launch
public import proofs.«01_k».proof.Proof.Gen.DnFfnIdeal.Points
public import proofs.«01_k».proof.Proof.Gen.DnFfnIdeal.Frame
public import proofs.«01_k».proof.Proof.Gen.DnFfnRefIdeal
public import proofs.«01_k».proof.Proof.Gen.DnIn
public import proofs.«01_k».proof.Proof.Gen.DnIn.Skeleton
public import proofs.«01_k».proof.Proof.Gen.DnIn.Launch
public import proofs.«01_k».proof.Proof.Gen.DnIn.Points
public import proofs.«01_k».proof.Proof.Gen.DnIn.Frame
public import proofs.«01_k».proof.Proof.Gen.DnInIdeal
public import proofs.«01_k».proof.Proof.Gen.DnInIdeal.Skeleton
public import proofs.«01_k».proof.Proof.Gen.DnInIdeal.Launch
public import proofs.«01_k».proof.Proof.Gen.DnInIdeal.Points
public import proofs.«01_k».proof.Proof.Gen.DnInIdeal.Frame
public import proofs.«01_k».proof.Proof.Gen.DnInRefIdeal
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluRefIdeal
public import proofs.«01_k».proof.Proof.Gen.Forget
public import proofs.«01_k».proof.Proof.Gen.Forget.Skeleton
public import proofs.«01_k».proof.Proof.Gen.Forget.Launch
public import proofs.«01_k».proof.Proof.Gen.Forget.Points
public import proofs.«01_k».proof.Proof.Gen.Forget.Frame
public import proofs.«01_k».proof.Proof.Gen.ForgetIdeal
public import proofs.«01_k».proof.Proof.Gen.ForgetIdeal.Skeleton
public import proofs.«01_k».proof.Proof.Gen.ForgetIdeal.Launch
public import proofs.«01_k».proof.Proof.Gen.ForgetIdeal.Points
public import proofs.«01_k».proof.Proof.Gen.ForgetIdeal.Frame
public import proofs.«01_k».proof.Proof.Gen.ForgetRefIdeal
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.DwPool
public import proofs.«01_k».proof.Proof.Gen.DwPool.Skeleton
public import proofs.«01_k».proof.Proof.Gen.DwPool.Launch
public import proofs.«01_k».proof.Proof.Gen.DwPool.Points
public import proofs.«01_k».proof.Proof.Gen.DwPool.Frame
public import proofs.«01_k».proof.Proof.Gen.DwPoolIdeal
public import proofs.«01_k».proof.Proof.Gen.DwPoolIdeal.Skeleton
public import proofs.«01_k».proof.Proof.Gen.DwPoolIdeal.Launch
public import proofs.«01_k».proof.Proof.Gen.DwPoolIdeal.Points
public import proofs.«01_k».proof.Proof.Gen.DwPoolIdeal.Frame
public import proofs.«01_k».proof.Proof.Gen.DwPoolRefIdeal
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpRefIdeal
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamPool
public import proofs.«01_k».proof.Proof.Gen.AdamPool.Skeleton
public import proofs.«01_k».proof.Proof.Gen.AdamPool.Launch
public import proofs.«01_k».proof.Proof.Gen.AdamPool.Points
public import proofs.«01_k».proof.Proof.Gen.AdamPool.Frame
public import proofs.«01_k».proof.Proof.Gen.AdamPoolIdeal
public import proofs.«01_k».proof.Proof.Gen.AdamPoolIdeal.Skeleton
public import proofs.«01_k».proof.Proof.Gen.AdamPoolIdeal.Launch
public import proofs.«01_k».proof.Proof.Gen.AdamPoolIdeal.Points
public import proofs.«01_k».proof.Proof.Gen.AdamPoolIdeal.Frame
public import proofs.«01_k».proof.Proof.Gen.AdamPoolRefIdeal
public import proofs.«01_k».proof.Proof.Gen.SumLittle
public import proofs.«01_k».proof.Proof.Gen.SumLittle.Skeleton
public import proofs.«01_k».proof.Proof.Gen.SumLittle.Launch
public import proofs.«01_k».proof.Proof.Gen.SumLittle.Points
public import proofs.«01_k».proof.Proof.Gen.SumLittle.Frame
public import proofs.«01_k».proof.Proof.Gen.SumLittleIdeal
public import proofs.«01_k».proof.Proof.Gen.SumLittleIdeal.Skeleton
public import proofs.«01_k».proof.Proof.Gen.SumLittleIdeal.Launch
public import proofs.«01_k».proof.Proof.Gen.SumLittleIdeal.Points
public import proofs.«01_k».proof.Proof.Gen.SumLittleIdeal.Frame
public import proofs.«01_k».proof.Proof.Gen.SumLittleRefIdeal
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallRefIdeal
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdRefIdeal
public import proofs.«01_k».proof.Proof.Gen.Pre_finite
public import proofs.«01_k».proof.Proof.Gen.Pre_finite_attn
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DwUpIdeal.Value
public import proofs.«01_k».proof.Proof.Gen.DwUpRefIdeal.Run
public import proofs.«01_k».proof.Proof.Gen.DwUpRefIdeal.Read
public import proofs.«01_k».proof.Proof.Gen.DwDownIdeal.Value
public import proofs.«01_k».proof.Proof.Gen.DwDownRefIdeal.Run
public import proofs.«01_k».proof.Proof.Gen.DwDownRefIdeal.Read
public import proofs.«01_k».proof.Proof.Gen.DActIdeal.Value
public import proofs.«01_k».proof.Proof.Gen.DActRefIdeal.Run
public import proofs.«01_k».proof.Proof.Gen.DActRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.DnFfnIdeal.Value
public import proofs.«01_k».proof.Proof.Gen.DnFfnRefIdeal.Run
public import proofs.«01_k».proof.Proof.Gen.DnFfnRefIdeal.Read
public import proofs.«01_k».proof.Proof.Gen.DnInIdeal.Value
public import proofs.«01_k».proof.Proof.Gen.DnInRefIdeal.Run
public import proofs.«01_k».proof.Proof.Gen.DnInRefIdeal.Read
public import proofs.«01_k».proof.Proof.Gen.DwInIdeal.Value
public import proofs.«01_k».proof.Proof.Gen.DwInRefIdeal.Run
public import proofs.«01_k».proof.Proof.Gen.DwInRefIdeal.Read
public import proofs.«01_k».proof.Proof.Gen.GluIdeal.Value
public import proofs.«01_k».proof.Proof.Gen.GluRefIdeal.Run
public import proofs.«01_k».proof.Proof.Gen.GluRefIdeal.Read
public import proofs.«01_k».proof.Proof.Gen.ForgetIdeal.Value
public import proofs.«01_k».proof.Proof.Gen.ForgetRefIdeal.Run
public import proofs.«01_k».proof.Proof.Gen.ForgetRefIdeal.Read
public import proofs.«01_k».proof.Proof.Gen.MixOutIdeal.Value
public import proofs.«01_k».proof.Proof.Gen.MixOutRefIdeal.Run
public import proofs.«01_k».proof.Proof.Gen.MixOutRefIdeal.Read
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Gen.DwPoolIdeal.Value
public import proofs.«01_k».proof.Proof.Gen.DwPoolRefIdeal.Run
public import proofs.«01_k».proof.Proof.Gen.DwPoolRefIdeal.Read
public import proofs.«01_k».proof.Proof.Gen.AdamUpIdeal.Value
public import proofs.«01_k».proof.Proof.Gen.AdamUpRefIdeal.Run
public import proofs.«01_k».proof.Proof.Gen.AdamUpRefIdeal.Read
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamPoolIdeal.Value
public import proofs.«01_k».proof.Proof.Gen.AdamPoolRefIdeal.Run
public import proofs.«01_k».proof.Proof.Gen.AdamPoolRefIdeal.Read
public import proofs.«01_k».proof.Proof.Gen.SumLittleIdeal.Value
public import proofs.«01_k».proof.Proof.Gen.SumLittleRefIdeal.Run
public import proofs.«01_k».proof.Proof.Gen.SumLittleRefIdeal.Read
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.AttnFinite
public import proofs.«01_k».proof.Proof.AttnRef
public import proofs.«01_k».proof.Proof.DwUp
public import proofs.«01_k».proof.Proof.DwDown
public import proofs.«01_k».proof.Proof.DAct
public import proofs.«01_k».proof.Proof.Down
public import proofs.«01_k».proof.Proof.DnFfn
public import proofs.«01_k».proof.Proof.DnIn
public import proofs.«01_k».proof.Proof.DwIn
public import proofs.«01_k».proof.Proof.Glu
public import proofs.«01_k».proof.Proof.Forget
public import proofs.«01_k».proof.Proof.MixOut
public import proofs.«01_k».proof.Proof.DwOut
public import proofs.«01_k».proof.Proof.DwPool
public import proofs.«01_k».proof.Proof.AdamUp
public import proofs.«01_k».proof.Proof.AdamDown
public import proofs.«01_k».proof.Proof.AdamIn
public import proofs.«01_k».proof.Proof.AdamOut
public import proofs.«01_k».proof.Proof.AdamPool
public import proofs.«01_k».proof.Proof.SumLittle
public import proofs.«01_k».proof.Proof.SumSmall
public import Idealize.ShloMosaic.Adequacy
public import Idealize.ShloMosaic.Init
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.AttnFwd
public import proofs.«01_k».proof.Proof.Gen.RmsEven
public import proofs.«01_k».proof.Proof.Gen.RmsEven.Skeleton
public import proofs.«01_k».proof.Proof.Gen.RmsEven.Launch
public import proofs.«01_k».proof.Proof.Gen.RmsEven.Points
public import proofs.«01_k».proof.Proof.Gen.RmsEven.Frame
public import proofs.«01_k».proof.Proof.Gen.RmsEvenIdeal
public import proofs.«01_k».proof.Proof.Gen.RmsEvenIdeal.Skeleton
public import proofs.«01_k».proof.Proof.Gen.RmsEvenIdeal.Launch
public import proofs.«01_k».proof.Proof.Gen.RmsEvenIdeal.Points
public import proofs.«01_k».proof.Proof.Gen.RmsEvenIdeal.Frame
public import proofs.«01_k».proof.Proof.Gen.RmsEvenRefIdeal
public import proofs.«01_k».proof.Proof.Gen.RmsEvenIdeal.Value
public import proofs.«01_k».proof.Proof.Gen.RmsEvenRefIdeal.Run
public import proofs.«01_k».proof.Proof.Gen.RmsEvenRefIdeal.Read
public import proofs.«01_k».proof.Proof.RmsEven
public import proofs.«01_k».proof.Proof.Gen.RmsFfn
public import proofs.«01_k».proof.Proof.Gen.RmsFfn.Skeleton
public import proofs.«01_k».proof.Proof.Gen.RmsFfn.Launch
public import proofs.«01_k».proof.Proof.Gen.RmsFfn.Points
public import proofs.«01_k».proof.Proof.Gen.RmsFfn.Frame
public import proofs.«01_k».proof.Proof.Gen.RmsFfnIdeal
public import proofs.«01_k».proof.Proof.Gen.RmsFfnIdeal.Skeleton
public import proofs.«01_k».proof.Proof.Gen.RmsFfnIdeal.Launch
public import proofs.«01_k».proof.Proof.Gen.RmsFfnIdeal.Points
public import proofs.«01_k».proof.Proof.Gen.RmsFfnIdeal.Frame
public import proofs.«01_k».proof.Proof.Gen.RmsFfnRefIdeal
public import proofs.«01_k».proof.Proof.Gen.RmsFfnIdeal.Value
public import proofs.«01_k».proof.Proof.Gen.RmsFfnRefIdeal.Run
public import proofs.«01_k».proof.Proof.Gen.RmsFfnRefIdeal.Read
public import proofs.«01_k».proof.Proof.RmsFfn
public import proofs.«01_k».proof.Proof.Gen.RmsOdd
public import proofs.«01_k».proof.Proof.Gen.RmsOdd.Skeleton
public import proofs.«01_k».proof.Proof.Gen.RmsOdd.Launch
public import proofs.«01_k».proof.Proof.Gen.RmsOdd.Points
public import proofs.«01_k».proof.Proof.Gen.RmsOdd.Frame
public import proofs.«01_k».proof.Proof.Gen.RmsOddIdeal
public import proofs.«01_k».proof.Proof.Gen.RmsOddIdeal.Skeleton
public import proofs.«01_k».proof.Proof.Gen.RmsOddIdeal.Launch
public import proofs.«01_k».proof.Proof.Gen.RmsOddIdeal.Points
public import proofs.«01_k».proof.Proof.Gen.RmsOddIdeal.Frame
public import proofs.«01_k».proof.Proof.Gen.RmsOddRefIdeal
public import proofs.«01_k».proof.Proof.Gen.RmsOddIdeal.Value
public import proofs.«01_k».proof.Proof.Gen.RmsOddRefIdeal.Run
public import proofs.«01_k».proof.Proof.Gen.RmsOddRefIdeal.Read
public import proofs.«01_k».proof.Proof.RmsOdd
public import proofs.«01_k».proof.Proof.Gen.RmsBwd
public import proofs.«01_k».proof.Proof.Gen.RmsBwd.Skeleton
public import proofs.«01_k».proof.Proof.Gen.RmsBwd.Launch
public import proofs.«01_k».proof.Proof.Gen.RmsBwd.Points
public import proofs.«01_k».proof.Proof.Gen.RmsBwd.Frame
public import proofs.«01_k».proof.Proof.Gen.RmsBwdIdeal
public import proofs.«01_k».proof.Proof.Gen.RmsBwdIdeal.Skeleton
public import proofs.«01_k».proof.Proof.Gen.RmsBwdIdeal.Launch
public import proofs.«01_k».proof.Proof.Gen.RmsBwdIdeal.Points
public import proofs.«01_k».proof.Proof.Gen.RmsBwdIdeal.Frame
public import proofs.«01_k».proof.Proof.Gen.RmsBwdRefIdeal
public import proofs.«01_k».proof.Proof.Gen.RmsBwdIdeal.Value
public import proofs.«01_k».proof.Proof.Gen.RmsBwdRefIdeal.Run
public import proofs.«01_k».proof.Proof.Gen.RmsBwdRefIdeal.Read
public import proofs.«01_k».proof.Proof.RmsBwd
public import proofs.«01_k».proof.Proof.Gen.TCat
public import proofs.«01_k».proof.Proof.Gen.TCat.Skeleton
public import proofs.«01_k».proof.Proof.Gen.TCat.Launch
public import proofs.«01_k».proof.Proof.Gen.TCat.Points
public import proofs.«01_k».proof.Proof.Gen.TCat.Frame
public import proofs.«01_k».proof.Proof.Gen.TCatIdeal
public import proofs.«01_k».proof.Proof.Gen.TCatIdeal.Skeleton
public import proofs.«01_k».proof.Proof.Gen.TCatIdeal.Launch
public import proofs.«01_k».proof.Proof.Gen.TCatIdeal.Points
public import proofs.«01_k».proof.Proof.Gen.TCatIdeal.Frame
public import proofs.«01_k».proof.Proof.Gen.TCatRefIdeal
public import proofs.«01_k».proof.Proof.Gen.TCatIdeal.Value
public import proofs.«01_k».proof.Proof.Gen.TCatRefIdeal.Run
public import proofs.«01_k».proof.Proof.Gen.TCatRefIdeal.Read
public import proofs.«01_k».proof.Proof.TCat
public import proofs.«01_k».proof.Proof.Gen.TDf
public import proofs.«01_k».proof.Proof.Gen.TDf.Skeleton
public import proofs.«01_k».proof.Proof.Gen.TDf.Launch
public import proofs.«01_k».proof.Proof.Gen.TDf.Points
public import proofs.«01_k».proof.Proof.Gen.TDf.Frame
public import proofs.«01_k».proof.Proof.Gen.TDfIdeal
public import proofs.«01_k».proof.Proof.Gen.TDfIdeal.Skeleton
public import proofs.«01_k».proof.Proof.Gen.TDfIdeal.Launch
public import proofs.«01_k».proof.Proof.Gen.TDfIdeal.Points
public import proofs.«01_k».proof.Proof.Gen.TDfIdeal.Frame
public import proofs.«01_k».proof.Proof.Gen.TDfRefIdeal
public import proofs.«01_k».proof.Proof.Gen.TDfIdeal.Value
public import proofs.«01_k».proof.Proof.Gen.TDfRefIdeal.Run
public import proofs.«01_k».proof.Proof.Gen.TDfRefIdeal.Read
public import proofs.«01_k».proof.Proof.TDf
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadRefIdeal
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.LossHead
public import proofs.«01_k».proof.Proof.Gen.WIn
public import proofs.«01_k».proof.Proof.Gen.WIn.Skeleton
public import proofs.«01_k».proof.Proof.Gen.WIn.Launch
public import proofs.«01_k».proof.Proof.Gen.WIn.Points
public import proofs.«01_k».proof.Proof.Gen.WIn.Frame
public import proofs.«01_k».proof.Proof.Gen.WInIdeal
public import proofs.«01_k».proof.Proof.Gen.WInIdeal.Skeleton
public import proofs.«01_k».proof.Proof.Gen.WInIdeal.Launch
public import proofs.«01_k».proof.Proof.Gen.WInIdeal.Points
public import proofs.«01_k».proof.Proof.Gen.WInIdeal.Frame
public import proofs.«01_k».proof.Proof.Gen.WInRefIdeal
public import proofs.«01_k».proof.Proof.Gen.WInIdeal.Value
public import proofs.«01_k».proof.Proof.Gen.WInRefIdeal.Run
public import proofs.«01_k».proof.Proof.Gen.WInRefIdeal.Read
public import proofs.«01_k».proof.Proof.WIn

@[expose] public section

set_option maxRecDepth 16384

noncomputable section

namespace Cert.Proof

open Idealize.ShloMosaic Idealize.SL.Sem Cert.Kernel

/-- The kernel's frame. -/
theorem frame_kernel : Cert.quiescent_Kernel := fun m ρ _ => Cert.Kernel.Gen.frame m ρ

/-- The idealized kernel's frame. -/
theorem frame_kernelIdeal : Cert.quiescent_KernelIdeal := fun m ρ _ => Cert.KernelIdeal.Gen.frame m ρ

/-- The reference's frame: its run keeps the arguments, and it declares no semaphore. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The idealization names one constant, the mask's, and reads it as minus infinity. -/
theorem preserves : Cert.preserves_Kernel_KernelIdeal :=
  IdealRules.named_const.statement Cert.KernelIdeal.κ "mask" .f32 0xF149F2CA#32 ⊥ rfl

attribute [local instance] Cert.Pre_finite.Gen.facts

/-- Both frames hold of all arguments, so of those the precondition admits. -/
theorem frame_kernelIdeal_finite : Cert.quiescent_KernelIdeal_pre_finite := fun m ρ _ => Cert.KernelIdeal.Gen.frame m ρ
theorem frame_reference_finite : Cert.quiescent_ReferenceIdeal_pre_finite := fun m ρ _ => frame_reference m ρ trivial

open Cert.Attn in
/-- The attention gradient and the reference end with the same four arrays. -/
theorem algebraic : Cert.algebraic_KernelIdeal_ReferenceIdeal_pre_finite := by
  intro m g m' g' hp hm
  have real := fun c => real_args _ _ _ _ (hp c)
  let Q := fun c : Dev Cert.KernelIdeal.nD => at2 (n := 2176) (w := 1536) (m ((c.tc : Thread Cert.KernelIdeal.nD Cert.KernelIdeal.τ).loc Cert.KernelIdeal.main_arg0))
  let O := fun c : Dev Cert.KernelIdeal.nD => at2 (n := 2176) (w := 1024) (m ((c.tc : Thread Cert.KernelIdeal.nD Cert.KernelIdeal.τ).loc Cert.KernelIdeal.main_arg1))
  let C := fun c : Dev Cert.KernelIdeal.nD => at3 (m := 4) (n := 2) (w := 2176) (m ((c.tc : Thread Cert.KernelIdeal.nD Cert.KernelIdeal.τ).loc Cert.KernelIdeal.main_arg2))
  refine ⟨fun c => R .bf16 2176 512 (DQ (Q c) (O c) (C c)), fun c => R .bf16 2176 512 (DK (Q c) (O c) (C c)),
    fun c => R .bf16 2176 512 (DV (Q c) (O c) (C c)), fun c => T .f32 4 2 2176 (DC (Q c) (O c) (C c)), ?_, ?_⟩
  · refine (θ_run Cert.KernelIdeal.defs _ _).mono (fun r h c => ?_) (Cert.KernelIdeal.Value.run_blocks m g)
    obtain ⟨h7, h8, h9, h10, hs⟩ := h c
    obtain ⟨rQ, rO, rC⟩ := real c
    exact ⟨h7.trans (array7 m c _ _ _ rQ rO rC), h8.trans (array8 m c _ _ _ rQ rO rC), h9.trans (array9 m c _ _ _ rQ rO rC),
      h10.trans (array10 m c _ _ _ rQ rO rC), hs⟩
  · refine (θ_run Cert.ReferenceIdeal.defs _ _).mono (fun r h c => ?_) (Cert.ReferenceIdeal.Value.run (F := Ideal) m' g')
    obtain ⟨h7, h8, h9, h10, hs⟩ := h c
    obtain ⟨rQ, rO, rC⟩ := real c
    obtain ⟨e0, e1, e2, _⟩ := hm c
    have e0 := e0.trans rQ
    have e2 := e2.trans rC
    haveI : Reads (m' ((c.tc : Thread Cert.ReferenceIdeal.nD Cert.ReferenceIdeal.τ).loc Cert.ReferenceIdeal.main_arg1)) (O c) := ⟨fun i hi => (congrFun e1 i).trans (rO i hi)⟩
    refine ⟨h7.trans ?_, h8.trans ?_, h9.trans ?_, h10.trans ?_, hs⟩
    · rw [Cert.ReferenceIdeal.Read.val_main_v92_eq, e0, e2]; exact v92 (Q c) (O c) (C c) _
    · rw [Cert.ReferenceIdeal.Read.val_main_v94_eq, e0, e2]; exact v94 (Q c) (O c) (C c) _
    · rw [Cert.ReferenceIdeal.Read.val_main_v96_eq, e0, e2]; exact v96 (Q c) (O c) (C c) _
    · rw [Cert.ReferenceIdeal.Read.val_main_v97_eq, e0, e2]; exact v97 (Q c) (O c) (C c) _

/-- Everything claimed. -/
theorem claim : Cert.Claim := ⟨Cert.Kernel.Gen.facts, Cert.KernelIdeal.Gen.facts, Cert.ReferenceIdeal.Gen.facts, Cert.DwUp.Gen.facts, Cert.DwUpIdeal.Gen.facts, Cert.DwUpRefIdeal.Gen.facts, Cert.DwDown.Gen.facts, Cert.DwDownIdeal.Gen.facts, Cert.DwDownRefIdeal.Gen.facts, Cert.DAct.Gen.facts, Cert.DActIdeal.Gen.facts, Cert.DActRefIdeal.Gen.facts, Cert.Down.Gen.facts, Cert.DownIdeal.Gen.facts, Cert.DownRefIdeal.Gen.facts, Cert.DnFfn.Gen.facts, Cert.DnFfnIdeal.Gen.facts, Cert.DnFfnRefIdeal.Gen.facts, Cert.DnIn.Gen.facts, Cert.DnInIdeal.Gen.facts, Cert.DnInRefIdeal.Gen.facts, Cert.DwIn.Gen.facts, Cert.DwInIdeal.Gen.facts, Cert.DwInRefIdeal.Gen.facts, Cert.Glu.Gen.facts, Cert.GluIdeal.Gen.facts, Cert.GluRefIdeal.Gen.facts, Cert.Forget.Gen.facts, Cert.ForgetIdeal.Gen.facts, Cert.ForgetRefIdeal.Gen.facts, Cert.MixOut.Gen.facts, Cert.MixOutIdeal.Gen.facts, Cert.MixOutRefIdeal.Gen.facts, Cert.DwOut.Gen.facts, Cert.DwOutIdeal.Gen.facts, Cert.DwOutRefIdeal.Gen.facts, Cert.DwPool.Gen.facts, Cert.DwPoolIdeal.Gen.facts, Cert.DwPoolRefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.AdamIn.Gen.facts, Cert.AdamInIdeal.Gen.facts, Cert.AdamInRefIdeal.Gen.facts, Cert.AdamOut.Gen.facts, Cert.AdamOutIdeal.Gen.facts, Cert.AdamOutRefIdeal.Gen.facts, Cert.AdamPool.Gen.facts, Cert.AdamPoolIdeal.Gen.facts, Cert.AdamPoolRefIdeal.Gen.facts, Cert.SumLittle.Gen.facts, Cert.SumLittleIdeal.Gen.facts, Cert.SumLittleRefIdeal.Gen.facts, Cert.SumSmall.Gen.facts, Cert.SumSmallIdeal.Gen.facts, Cert.SumSmallRefIdeal.Gen.facts, Cert.AttnFwd.Gen.facts, Cert.AttnFwdIdeal.Gen.facts, Cert.AttnFwdRefIdeal.Gen.facts, Cert.RmsEven.Gen.facts, Cert.RmsEvenIdeal.Gen.facts, Cert.RmsEvenRefIdeal.Gen.facts, Cert.RmsFfn.Gen.facts, Cert.RmsFfnIdeal.Gen.facts, Cert.RmsFfnRefIdeal.Gen.facts, Cert.RmsOdd.Gen.facts, Cert.RmsOddIdeal.Gen.facts, Cert.RmsOddRefIdeal.Gen.facts, Cert.RmsBwd.Gen.facts, Cert.RmsBwdIdeal.Gen.facts, Cert.RmsBwdRefIdeal.Gen.facts, Cert.TCat.Gen.facts, Cert.TCatIdeal.Gen.facts, Cert.TCatRefIdeal.Gen.facts, Cert.TDf.Gen.facts, Cert.TDfIdeal.Gen.facts, Cert.TDfRefIdeal.Gen.facts, Cert.LossHead.Gen.facts, Cert.LossHeadIdeal.Gen.facts, Cert.LossHeadRefIdeal.Gen.facts, Cert.WIn.Gen.facts, Cert.WInIdeal.Gen.facts, Cert.WInRefIdeal.Gen.facts, Cert.Pre_finite.Gen.facts, Cert.Pre_finite_attn.Gen.facts,
  frame_kernel, frame_kernelIdeal, frame_kernelIdeal_finite, frame_reference, frame_reference_finite,
  fun m ρ _ => Cert.DwUp.Gen.frame m ρ, fun m ρ _ => Cert.DwUpIdeal.Gen.frame m ρ, Cert.DwUpIdeal.Own.frame_reference,
  fun m ρ _ => Cert.DwDown.Gen.frame m ρ, fun m ρ _ => Cert.DwDownIdeal.Gen.frame m ρ, Cert.DwDownIdeal.Own.frame_reference,
  fun m ρ _ => Cert.DAct.Gen.frame m ρ, fun m ρ _ => Cert.DActIdeal.Gen.frame m ρ, Cert.DActIdeal.Own.frame_reference,
  fun m ρ _ => Cert.Down.Gen.frame m ρ, fun m ρ _ => Cert.DownIdeal.Gen.frame m ρ, Cert.DownIdeal.Own.frame_reference,
  fun m ρ _ => Cert.DnFfn.Gen.frame m ρ, fun m ρ _ => Cert.DnFfnIdeal.Gen.frame m ρ, Cert.DnFfnIdeal.Own.frame_reference,
  fun m ρ _ => Cert.DnIn.Gen.frame m ρ, fun m ρ _ => Cert.DnInIdeal.Gen.frame m ρ, Cert.DnInIdeal.Own.frame_reference,
  fun m ρ _ => Cert.DwIn.Gen.frame m ρ, fun m ρ _ => Cert.DwInIdeal.Gen.frame m ρ, Cert.DwInIdeal.Own.frame_reference,
  fun m ρ _ => Cert.Glu.Gen.frame m ρ, fun m ρ _ => Cert.GluIdeal.Gen.frame m ρ, Cert.GluIdeal.Own.frame_reference,
  fun m ρ _ => Cert.Forget.Gen.frame m ρ, fun m ρ _ => Cert.ForgetIdeal.Gen.frame m ρ, Cert.ForgetIdeal.Own.frame_reference,
  fun m ρ _ => Cert.MixOut.Gen.frame m ρ, fun m ρ _ => Cert.MixOutIdeal.Gen.frame m ρ, Cert.MixOutIdeal.Own.frame_reference,
  fun m ρ _ => Cert.DwOut.Gen.frame m ρ, fun m ρ _ => Cert.DwOutIdeal.Gen.frame m ρ, Cert.DwOutIdeal.Own.frame_reference,
  fun m ρ _ => Cert.DwPool.Gen.frame m ρ, fun m ρ _ => Cert.DwPoolIdeal.Gen.frame m ρ, Cert.DwPoolIdeal.Own.frame_reference,
  fun m ρ _ => Cert.AdamUp.Gen.frame m ρ, fun m ρ _ => Cert.AdamUpIdeal.Gen.frame m ρ, Cert.AdamUpIdeal.Own.frame_reference,
  fun m ρ _ => Cert.AdamDown.Gen.frame m ρ, fun m ρ _ => Cert.AdamDownIdeal.Gen.frame m ρ, Cert.AdamDownIdeal.Own.frame_reference,
  fun m ρ _ => Cert.AdamIn.Gen.frame m ρ, fun m ρ _ => Cert.AdamInIdeal.Gen.frame m ρ, Cert.AdamInIdeal.Own.frame_reference,
  fun m ρ _ => Cert.AdamOut.Gen.frame m ρ, fun m ρ _ => Cert.AdamOutIdeal.Gen.frame m ρ, Cert.AdamOutIdeal.Own.frame_reference,
  fun m ρ _ => Cert.AdamPool.Gen.frame m ρ, fun m ρ _ => Cert.AdamPoolIdeal.Gen.frame m ρ, Cert.AdamPoolIdeal.Own.frame_reference,
  fun m ρ _ => Cert.SumLittle.Gen.frame m ρ, fun m ρ _ => Cert.SumLittleIdeal.Gen.frame m ρ, Cert.SumLittleIdeal.Own.frame_reference,
  fun m ρ _ => Cert.SumSmall.Gen.frame m ρ, fun m ρ _ => Cert.SumSmallIdeal.Gen.frame m ρ, Cert.SumSmallIdeal.Own.frame_reference,
  fun m ρ _ => Cert.AttnFwd.Gen.frame m ρ, fun m ρ _ => Cert.AttnFwdIdeal.Gen.frame m ρ, Cert.AttnFwdIdeal.Own.frame_finite,
  Cert.AttnFwdIdeal.Own.frame_reference, Cert.AttnFwdIdeal.Own.frame_reference_finite,
  fun m ρ _ => Cert.RmsEven.Gen.frame m ρ, fun m ρ _ => Cert.RmsEvenIdeal.Gen.frame m ρ, Cert.RmsEvenIdeal.Own.frame_reference,
  fun m ρ _ => Cert.RmsFfn.Gen.frame m ρ, fun m ρ _ => Cert.RmsFfnIdeal.Gen.frame m ρ, Cert.RmsFfnIdeal.Own.frame_reference,
  fun m ρ _ => Cert.RmsOdd.Gen.frame m ρ, fun m ρ _ => Cert.RmsOddIdeal.Gen.frame m ρ, Cert.RmsOddIdeal.Own.frame_reference,
  fun m ρ _ => Cert.RmsBwd.Gen.frame m ρ, fun m ρ _ => Cert.RmsBwdIdeal.Gen.frame m ρ, Cert.RmsBwdIdeal.Own.frame_reference,
  fun m ρ _ => Cert.TCat.Gen.frame m ρ, fun m ρ _ => Cert.TCatIdeal.Gen.frame m ρ, Cert.TCatIdeal.Own.frame_reference,
  fun m ρ _ => Cert.TDf.Gen.frame m ρ, fun m ρ _ => Cert.TDfIdeal.Gen.frame m ρ, Cert.TDfIdeal.Own.frame_reference,
  fun m ρ _ => Cert.LossHead.Gen.frame m ρ, fun m ρ _ => Cert.LossHeadIdeal.Gen.frame m ρ, Cert.LossHeadIdeal.Own.frame_reference,
  fun m ρ _ => Cert.WIn.Gen.frame m ρ, fun m ρ _ => Cert.WInIdeal.Gen.frame m ρ, Cert.WInIdeal.Own.frame_reference,
  preserves, algebraic,
  trivial, Cert.DwUpIdeal.Own.algebraic,
  trivial, Cert.DwDownIdeal.Own.algebraic,
  trivial, Cert.DActIdeal.Own.algebraic,
  trivial, Cert.DownIdeal.Own.algebraic,
  trivial, Cert.DnFfnIdeal.Own.algebraic,
  trivial, Cert.DnInIdeal.Own.algebraic,
  trivial, Cert.DwInIdeal.Own.algebraic,
  trivial, Cert.GluIdeal.Own.algebraic,
  trivial, Cert.ForgetIdeal.Own.algebraic,
  trivial, Cert.MixOutIdeal.Own.algebraic,
  trivial, Cert.DwOutIdeal.Own.algebraic,
  trivial, Cert.DwPoolIdeal.Own.algebraic,
  trivial, Cert.AdamUpIdeal.Own.algebraic,
  trivial, Cert.AdamDownIdeal.Own.algebraic,
  trivial, Cert.AdamInIdeal.Own.algebraic,
  trivial, Cert.AdamOutIdeal.Own.algebraic,
  trivial, Cert.AdamPoolIdeal.Own.algebraic,
  trivial, Cert.SumLittleIdeal.Own.algebraic,
  trivial, Cert.SumSmallIdeal.Own.algebraic,
  Cert.AttnFwdIdeal.Own.preserves, Cert.AttnFwdIdeal.Own.algebraic,
  trivial, Cert.RmsEvenIdeal.Own.algebraic,
  trivial, Cert.RmsFfnIdeal.Own.algebraic,
  trivial, Cert.RmsOddIdeal.Own.algebraic,
  trivial, Cert.RmsBwdIdeal.Own.algebraic,
  trivial, Cert.TCatIdeal.Own.algebraic,
  trivial, Cert.TDfIdeal.Own.algebraic,
  trivial, Cert.LossHeadIdeal.Own.algebraic,
  trivial, Cert.WInIdeal.Own.algebraic⟩

end Cert.Proof

end
